-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "score_to_log2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x896x4096 : Shape := ⟨3, ![2, 896, 4096]⟩
abbrev S2x896x1024 : Shape := ⟨3, ![2, 896, 1024]⟩
abbrev S_ : Shape := ⟨0, ![]⟩

class Facts : Prop where
  bcast_S_S2x896x4096 : S_.BroadcastsInDim S2x896x4096 (![] : Fin 0 → Fin S2x896x4096.rank)
  reducesTo_S2x896x4096_S_d0_1_2 : S2x896x4096.ReducesTo [0, 1, 2] S_
  h_S_ : 0 < S_.numel
  bcast_S_S2x896x1024 : S_.BroadcastsInDim S2x896x1024 (![] : Fin 0 → Fin S2x896x1024.rank)
  reducesTo_S2x896x1024_S_d0_1_2 : S2x896x1024.ReducesTo [0, 1, 2] S_

variable [Facts]

def fn {F : FTy → Type} [FloatOps F] (main_arg0 : FVec F S2x896x4096 .bf16) (main_arg1 : FVec F S2x896x1024 .bf16) (main_arg2 : FVec F S2x896x1024 .bf16) : IVec S_ 1 :=
  let main_v0 : FVec F S2x896x4096 .bf16 := Host.absf main_arg0
  let main_cst : FVec F S_ .bf16 := constant S_ .bf16 0x7F7F#16
  let main_v1 : FVec F S2x896x4096 .bf16 := broadcastInDim S2x896x4096 ![] bcast_S_S2x896x4096 main_cst
  let main_v2 : IVec S2x896x4096 1 := cmpf .ole main_v0 main_v1
  let main_c : IVec S_ 1 := constantI S_ 1 1#1
  let main_v3 : IVec S_ 1 := (fun x v => Host.reduce IntOp.andi x v reducesTo_S2x896x4096_S_d0_1_2 h_S_) main_v2 main_c
  let main_v4 : FVec F S2x896x1024 .bf16 := Host.absf main_arg1
  let main_cst_0 : FVec F S_ .bf16 := constant S_ .bf16 0x7F7F#16
  let main_v5 : FVec F S2x896x1024 .bf16 := broadcastInDim S2x896x1024 ![] bcast_S_S2x896x1024 main_cst_0
  let main_v6 : IVec S2x896x1024 1 := cmpf .ole main_v4 main_v5
  let main_c_1 : IVec S_ 1 := constantI S_ 1 1#1
  let main_v7 : IVec S_ 1 := (fun x v => Host.reduce IntOp.andi x v reducesTo_S2x896x1024_S_d0_1_2 h_S_) main_v6 main_c_1
  let main_v8 : IVec S_ 1 := andi main_v3 main_v7
  let main_v9 : FVec F S2x896x1024 .bf16 := Host.absf main_arg2
  let main_cst_2 : FVec F S_ .bf16 := constant S_ .bf16 0x7F7F#16
  let main_v10 : FVec F S2x896x1024 .bf16 := broadcastInDim S2x896x1024 ![] bcast_S_S2x896x1024 main_cst_2
  let main_v11 : IVec S2x896x1024 1 := cmpf .ole main_v9 main_v10
  let main_c_3 : IVec S_ 1 := constantI S_ 1 1#1
  let main_v12 : IVec S_ 1 := (fun x v => Host.reduce IntOp.andi x v reducesTo_S2x896x1024_S_d0_1_2 h_S_) main_v11 main_c_3
  let main_v13 : IVec S_ 1 := andi main_v8 main_v12
  main_v13
-- ==== Kernel.lean ====
abbrev S2x896x4096 : Shape := ⟨3, ![2, 896, 4096]⟩
abbrev S2x896x1024 : Shape := ⟨3, ![2, 896, 1024]⟩
abbrev S128 : Shape := ⟨1, ![128]⟩
abbrev S16 : Shape := ⟨1, ![16]⟩
abbrev S896x128 : Shape := ⟨2, ![896, 128]⟩
abbrev S_ : Shape := ⟨0, ![]⟩
abbrev S8x14x16x256 : Shape := ⟨4, ![8, 14, 16, 256]⟩
abbrev S2x896x32x128 : Shape := ⟨4, ![2, 896, 32, 128]⟩
abbrev S2x32x4x896 : Shape := ⟨4, ![2, 32, 4, 896]⟩
abbrev S2x896x8x128 : Shape := ⟨4, ![2, 896, 8, 128]⟩
abbrev S2x8x4x896 : Shape := ⟨4, ![2, 8, 4, 896]⟩
abbrev S2x8x896 : Shape := ⟨3, ![2, 8, 896]⟩
abbrev S1x896x512 : Shape := ⟨3, ![1, 896, 512]⟩
abbrev S1x896x128 : Shape := ⟨3, ![1, 896, 128]⟩
abbrev S1x14x16x256 : Shape := ⟨4, ![1, 14, 16, 256]⟩
abbrev S1x896x32x128 : Shape := ⟨4, ![1, 896, 32, 128]⟩
abbrev S1x4x4x896 : Shape := ⟨4, ![1, 4, 4, 896]⟩
abbrev S1x896x8x128 : Shape := ⟨4, ![1, 896, 8, 128]⟩
abbrev S1x1x4x896 : Shape := ⟨4, ![1, 1, 4, 896]⟩
abbrev S1x8x896 : Shape := ⟨3, ![1, 8, 896]⟩
abbrev S896x256 : Shape := ⟨2, ![896, 256]⟩
abbrev S128x896 : Shape := ⟨2, ![128, 896]⟩
abbrev S256x256 : Shape := ⟨2, ![256, 256]⟩
abbrev S896x4x128 : Shape := ⟨3, ![896, 4, 128]⟩
abbrev S4x32x896 : Shape := ⟨3, ![4, 32, 896]⟩
abbrev S4x896 : Shape := ⟨2, ![4, 896]⟩
abbrev S255x4x896 : Shape := ⟨3, ![255, 4, 896]⟩
abbrev S1x4x896 : Shape := ⟨3, ![1, 4, 896]⟩
abbrev S4x1x896 : Shape := ⟨3, ![4, 1, 896]⟩
abbrev S1x896x4x128 : Shape := ⟨4, ![1, 896, 4, 128]⟩
abbrev S896x1x128 : Shape := ⟨3, ![896, 1, 128]⟩
abbrev S1x896 : Shape := ⟨2, ![1, 896]⟩
abbrev S896 : Shape := ⟨1, ![896]⟩
abbrev S896x1 : Shape := ⟨2, ![896, 1]⟩
abbrev S255x896x1 : Shape := ⟨3, ![255, 896, 1]⟩
abbrev S1x896x1 : Shape := ⟨3, ![1, 896, 1]⟩
abbrev S255x1x896 : Shape := ⟨3, ![255, 1, 896]⟩
abbrev S1x1x896 : Shape := ⟨3, ![1, 1, 896]⟩
abbrev S112x256 : Shape := ⟨2, ![112, 256]⟩
abbrev S64x256 : Shape := ⟨2, ![64, 256]⟩
abbrev S1x64x128 : Shape := ⟨3, ![1, 64, 128]⟩
abbrev S64x128 : Shape := ⟨2, ![64, 128]⟩
abbrev S256x128 : Shape := ⟨2, ![256, 128]⟩
abbrev S128x256 : Shape := ⟨2, ![128, 256]⟩
abbrev S4x32x256 : Shape := ⟨3, ![4, 32, 256]⟩
abbrev S4x256 : Shape := ⟨2, ![4, 256]⟩
abbrev S255x4x256 : Shape := ⟨3, ![255, 4, 256]⟩
abbrev S1x4x256 : Shape := ⟨3, ![1, 4, 256]⟩
abbrev S4x1x256 : Shape := ⟨3, ![4, 1, 256]⟩
abbrev S64x1x128 : Shape := ⟨3, ![64, 1, 128]⟩
abbrev S64x4x128 : Shape := ⟨3, ![64, 4, 128]⟩
abbrev S1x64x4x128 : Shape := ⟨4, ![1, 64, 4, 128]⟩
abbrev S1x256 : Shape := ⟨2, ![1, 256]⟩
abbrev S1x64 : Shape := ⟨2, ![1, 64]⟩
abbrev S4x64 : Shape := ⟨2, ![4, 64]⟩
abbrev S1x1x4x64 : Shape := ⟨4, ![1, 1, 4, 64]⟩
abbrev S1x1x16x256 : Shape := ⟨4, ![1, 1, 16, 256]⟩
abbrev S16x256 : Shape := ⟨2, ![16, 256]⟩
abbrev S256 : Shape := ⟨1, ![256]⟩
abbrev S255x1x256 : Shape := ⟨3, ![255, 1, 256]⟩
abbrev S1x1x256 : Shape := ⟨3, ![1, 1, 256]⟩
abbrev S128x128 : Shape := ⟨2, ![128, 128]⟩
abbrev S192x256 : Shape := ⟨2, ![192, 256]⟩
abbrev S192x128 : Shape := ⟨2, ![192, 128]⟩
abbrev S320x256 : Shape := ⟨2, ![320, 256]⟩
abbrev S320x128 : Shape := ⟨2, ![320, 128]⟩
abbrev S384x256 : Shape := ⟨2, ![384, 256]⟩
abbrev S128x384 : Shape := ⟨2, ![128, 384]⟩
abbrev S384x128 : Shape := ⟨2, ![384, 128]⟩
abbrev S448x256 : Shape := ⟨2, ![448, 256]⟩
abbrev S448x128 : Shape := ⟨2, ![448, 128]⟩
abbrev S512x256 : Shape := ⟨2, ![512, 256]⟩
abbrev S128x512 : Shape := ⟨2, ![128, 512]⟩
abbrev S512x128 : Shape := ⟨2, ![512, 128]⟩
abbrev S576x256 : Shape := ⟨2, ![576, 256]⟩
abbrev S576x128 : Shape := ⟨2, ![576, 128]⟩
abbrev S640x256 : Shape := ⟨2, ![640, 256]⟩
abbrev S128x640 : Shape := ⟨2, ![128, 640]⟩
abbrev S640x128 : Shape := ⟨2, ![640, 128]⟩
abbrev S704x256 : Shape := ⟨2, ![704, 256]⟩
abbrev S704x128 : Shape := ⟨2, ![704, 128]⟩
abbrev S768x256 : Shape := ⟨2, ![768, 256]⟩
abbrev S128x768 : Shape := ⟨2, ![128, 768]⟩
abbrev S768x128 : Shape := ⟨2, ![768, 128]⟩
abbrev S832x256 : Shape := ⟨2, ![832, 256]⟩
abbrev S832x128 : Shape := ⟨2, ![832, 128]⟩

abbrev nBuf : Space → Nat
  | .hbm => 110
  | .vmem => 27
  | .smem => 0
  | _ => 0

abbrev bufTy : (tb : Table) → Fin (tcTables nBuf tb) → BufTy
  | .hbm, ⟨0, _⟩ => ⟨S2x896x4096, .bf16⟩
  | .hbm, ⟨1, _⟩ => ⟨S2x896x1024, .bf16⟩
  | .hbm, ⟨2, _⟩ => ⟨S2x896x1024, .bf16⟩
  | .hbm, ⟨3, _⟩ => ⟨S128, .i32⟩
  | .hbm, ⟨4, _⟩ => ⟨S16, .i32⟩
  | .hbm, ⟨5, _⟩ => ⟨S16, .i32⟩
  | .hbm, ⟨6, _⟩ => ⟨S896x128, .i32⟩
  | .hbm, ⟨7, _⟩ => ⟨S896x128, .i32⟩
  | .hbm, ⟨8, _⟩ => ⟨S_, .i32⟩
  | .hbm, ⟨9, _⟩ => ⟨S896x128, .i32⟩
  | .hbm, ⟨10, _⟩ => ⟨S896x128, .i1⟩
  | .hbm, ⟨11, _⟩ => ⟨S_, .i32⟩
  | .hbm, ⟨12, _⟩ => ⟨S896x128, .i32⟩
  | .hbm, ⟨13, _⟩ => ⟨S896x128, .i32⟩
  | .hbm, ⟨14, _⟩ => ⟨S896x128, .f32⟩
  | .hbm, ⟨15, _⟩ => ⟨S_, .i32⟩
  | .hbm, ⟨16, _⟩ => ⟨S896x128, .i32⟩
  | .hbm, ⟨17, _⟩ => ⟨S896x128, .i1⟩
  | .hbm, ⟨18, _⟩ => ⟨S_, .i32⟩
  | .hbm, ⟨19, _⟩ => ⟨S896x128, .i32⟩
  | .hbm, ⟨20, _⟩ => ⟨S896x128, .i32⟩
  | .hbm, ⟨21, _⟩ => ⟨S896x128, .f32⟩
  | .hbm, ⟨22, _⟩ => ⟨S_, .i32⟩
  | .hbm, ⟨23, _⟩ => ⟨S896x128, .i32⟩
  | .hbm, ⟨24, _⟩ => ⟨S896x128, .i1⟩
  | .hbm, ⟨25, _⟩ => ⟨S896x128, .f32⟩
  | .hbm, ⟨26, _⟩ => ⟨S896x128, .f32⟩
  | .hbm, ⟨27, _⟩ => ⟨S896x128, .f32⟩
  | .hbm, ⟨28, _⟩ => ⟨S896x128, .bf16⟩
  | .hbm, ⟨29, _⟩ => ⟨S8x14x16x256, .i32⟩
  | .hbm, ⟨30, _⟩ => ⟨S_, .i32⟩
  | .hbm, ⟨31, _⟩ => ⟨S8x14x16x256, .i32⟩
  | .hbm, ⟨32, _⟩ => ⟨S8x14x16x256, .i32⟩
  | .hbm, ⟨33, _⟩ => ⟨S8x14x16x256, .i32⟩
  | .hbm, ⟨34, _⟩ => ⟨S_, .i32⟩
  | .hbm, ⟨35, _⟩ => ⟨S8x14x16x256, .i32⟩
  | .hbm, ⟨36, _⟩ => ⟨S8x14x16x256, .i32⟩
  | .hbm, ⟨37, _⟩ => ⟨S8x14x16x256, .i32⟩
  | .hbm, ⟨38, _⟩ => ⟨S_, .i32⟩
  | .hbm, ⟨39, _⟩ => ⟨S8x14x16x256, .i32⟩
  | .hbm, ⟨40, _⟩ => ⟨S8x14x16x256, .i32⟩
  | .hbm, ⟨41, _⟩ => ⟨S8x14x16x256, .f32⟩
  | .hbm, ⟨42, _⟩ => ⟨S_, .f32⟩
  | .hbm, ⟨43, _⟩ => ⟨S8x14x16x256, .f32⟩
  | .hbm, ⟨44, _⟩ => ⟨S8x14x16x256, .f32⟩
  | .hbm, ⟨45, _⟩ => ⟨S_, .f32⟩
  | .hbm, ⟨46, _⟩ => ⟨S8x14x16x256, .f32⟩
  | .hbm, ⟨47, _⟩ => ⟨S8x14x16x256, .f32⟩
  | .hbm, ⟨48, _⟩ => ⟨S8x14x16x256, .f32⟩
  | .hbm, ⟨49, _⟩ => ⟨S_, .f32⟩
  | .hbm, ⟨50, _⟩ => ⟨S_, .f32⟩
  | .hbm, ⟨51, _⟩ => ⟨S8x14x16x256, .f32⟩
  | .hbm, ⟨52, _⟩ => ⟨S8x14x16x256, .f32⟩
  | .hbm, ⟨53, _⟩ => ⟨S8x14x16x256, .i32⟩
  | .hbm, ⟨54, _⟩ => ⟨S_, .i32⟩
  | .hbm, ⟨55, _⟩ => ⟨S8x14x16x256, .i32⟩
  | .hbm, ⟨56, _⟩ => ⟨S8x14x16x256, .i32⟩
  | .hbm, ⟨57, _⟩ => ⟨S8x14x16x256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x14x16x256, .f32⟩
  | .hbm, ⟨64, _⟩ => ⟨S8x14x16x256, .i32⟩
  | .hbm, ⟨65, _⟩ => ⟨S_, .i32⟩
  | .hbm, ⟨66, _⟩ => ⟨S8x14x16x256, .i32⟩
  | .hbm, ⟨67, _⟩ => ⟨S8x14x16x256, .i1⟩
  | .hbm, ⟨68, _⟩ => ⟨S_, .i32⟩
  | .hbm, ⟨69, _⟩ => ⟨S8x14x16x256, .i32⟩
  | .hbm, ⟨70, _⟩ => ⟨S8x14x16x256, .i1⟩
  | .hbm, ⟨71, _⟩ => ⟨S8x14x16x256, .i1⟩
  | .hbm, ⟨72, _⟩ => ⟨S_, .i32⟩
  | .hbm, ⟨73, _⟩ => ⟨S8x14x16x256, .i32⟩
  | .hbm, ⟨74, _⟩ => ⟨S8x14x16x256, .i1⟩
  | .hbm, ⟨75, _⟩ => ⟨S8x14x16x256, .f32⟩
  | .hbm, ⟨76, _⟩ => ⟨S8x14x16x256, .f32⟩
  | .hbm, ⟨77, _⟩ => ⟨S_, .i32⟩
  | .hbm, ⟨78, _⟩ => ⟨S8x14x16x256, .i32⟩
  | .hbm, ⟨79, _⟩ => ⟨S8x14x16x256, .i1⟩
  | .hbm, ⟨80, _⟩ => ⟨S_, .f32⟩
  | .hbm, ⟨81, _⟩ => ⟨S8x14x16x256, .f32⟩
  | .hbm, ⟨82, _⟩ => ⟨S8x14x16x256, .f32⟩
  | .hbm, ⟨83, _⟩ => ⟨S8x14x16x256, .f32⟩
  | .hbm, ⟨84, _⟩ => ⟨S8x14x16x256, .f32⟩
  | .hbm, ⟨85, _⟩ => ⟨S8x14x16x256, .bf16⟩
  | .hbm, ⟨86, _⟩ => ⟨S8x14x16x256, .f32⟩
  | .hbm, ⟨87, _⟩ => ⟨S8x14x16x256, .f32⟩
  | .hbm, ⟨88, _⟩ => ⟨S8x14x16x256, .bf16⟩
  | .hbm, ⟨89, _⟩ => ⟨S8x14x16x256, .f32⟩
  | .hbm, ⟨90, _⟩ => ⟨S8x14x16x256, .f32⟩
  | .hbm, ⟨91, _⟩ => ⟨S8x14x16x256, .bf16⟩
  | .hbm, ⟨92, _⟩ => ⟨S8x14x16x256, .f32⟩
  | .hbm, ⟨93, _⟩ => ⟨S8x14x16x256, .f32⟩
  | .hbm, ⟨94, _⟩ => ⟨S8x14x16x256, .i32⟩
  | .hbm, ⟨95, _⟩ => ⟨S_, .i32⟩
  | .hbm, ⟨96, _⟩ => ⟨S8x14x16x256, .i32⟩
  | .hbm, ⟨97, _⟩ => ⟨S8x14x16x256, .i1⟩
  | .hbm, ⟨98, _⟩ => ⟨S_, .i32⟩
  | .hbm, ⟨99, _⟩ => ⟨S8x14x16x256, .i32⟩
  | .hbm, ⟨100, _⟩ => ⟨S8x14x16x256, .i1⟩
  | .hbm, ⟨101, _⟩ => ⟨S8x14x16x256, .bf16⟩
  | .hbm, ⟨102, _⟩ => ⟨S8x14x16x256, .bf16⟩
  | .hbm, ⟨103, _⟩ => ⟨S2x896x4096, .bf16⟩
  | .hbm, ⟨104, _⟩ => ⟨S2x896x32x128, .fp8e4m3⟩
  | .hbm, ⟨105, _⟩ => ⟨S2x32x4x896, .i8⟩
  | .hbm, ⟨106, _⟩ => ⟨S2x896x8x128, .fp8e4m3⟩
  | .hbm, ⟨107, _⟩ => ⟨S2x8x4x896, .i8⟩
  | .hbm, ⟨108, _⟩ => ⟨S2x896x8x128, .fp8e4m3⟩
  | .hbm, ⟨109, _⟩ => ⟨S2x8x896, .f32⟩
  | .local _ .vmem, ⟨0, _⟩ => ⟨S1x896x512, .bf16⟩
  | .local _ .vmem, ⟨1, _⟩ => ⟨S1x896x512, .bf16⟩
  | .local _ .vmem, ⟨2, _⟩ => ⟨S1x896x128, .bf16⟩
  | .local _ .vmem, ⟨3, _⟩ => ⟨S1x896x128, .bf16⟩
  | .local _ .vmem, ⟨4, _⟩ => ⟨S1x896x128, .bf16⟩
  | .local _ .vmem, ⟨5, _⟩ => ⟨S1x896x128, .bf16⟩
  | .local _ .vmem, ⟨6, _⟩ => ⟨S896x128, .bf16⟩
  | .local _ .vmem, ⟨7, _⟩ => ⟨S1x14x16x256, .bf16⟩
  | .local _ .vmem, ⟨8, _⟩ => ⟨S1x14x16x256, .bf16⟩
  | .local _ .vmem, ⟨9, _⟩ => ⟨S1x896x512, .bf16⟩
  | .local _ .vmem, ⟨10, _⟩ => ⟨S1x896x512, .bf16⟩
  | .local _ .vmem, ⟨11, _⟩ => ⟨S1x896x32x128, .fp8e4m3⟩
  | .local _ .vmem, ⟨12, _⟩ => ⟨S1x896x32x128, .fp8e4m3⟩
  | .local _ .vmem, ⟨13, _⟩ => ⟨S1x4x4x896, .i8⟩
  | .local _ .vmem, ⟨14, _⟩ => ⟨S1x4x4x896, .i8⟩
  | .local _ .vmem, ⟨15, _⟩ => ⟨S1x896x8x128, .fp8e4m3⟩
  | .local _ .vmem, ⟨16, _⟩ => ⟨S1x896x8x128, .fp8e4m3⟩
  | .local _ .vmem, ⟨17, _⟩ => ⟨S1x1x4x896, .i8⟩
  | .local _ .vmem, ⟨18, _⟩ => ⟨S1x1x4x896, .i8⟩
  | .local _ .vmem, ⟨19, _⟩ => ⟨S1x896x8x128, .fp8e4m3⟩
  | .local _ .vmem, ⟨20, _⟩ => ⟨S1x896x8x128, .fp8e4m3⟩
  | .local _ .vmem, ⟨21, _⟩ => ⟨S1x8x896, .f32⟩
  | .local _ .vmem, ⟨22, _⟩ => ⟨S1x8x896, .f32⟩
  | .local _ .vmem, ⟨23, _⟩ => ⟨S896x256, .bf16⟩
  | .local _ .vmem, ⟨24, _⟩ => ⟨S128x896, .fp8e4m3⟩
  | .local _ .vmem, ⟨25, _⟩ => ⟨S896x128, .f32⟩
  | .local _ .vmem, ⟨26, _⟩ => ⟨S256x256, .bf16⟩
  | _, _ => ⟨S2x896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_c_2 : Ref sig .tc := ⟨.hbm, 8, rfl⟩
abbrev main_v2 : Ref sig .tc := ⟨.hbm, 9, rfl⟩
abbrev main_v3 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_4 : Ref sig .tc := ⟨.hbm, 15, rfl⟩
abbrev main_v7 : Ref sig .tc := ⟨.hbm, 16, rfl⟩
abbrev main_v8 : Ref sig .tc := ⟨.hbm, 17, rfl⟩
abbrev main_c_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_15 : Ref sig .tc := ⟨.hbm, 65, rfl⟩
abbrev main_v45 : Ref sig .tc := ⟨.hbm, 66, rfl⟩
abbrev main_v46 : Ref sig .tc := ⟨.hbm, 67, rfl⟩
abbrev main_c_16 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_17 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_18 : Ref sig .tc := ⟨.hbm, 77, rfl⟩
abbrev main_v54 : Ref sig .tc := ⟨.hbm, 78, rfl⟩
abbrev main_v55 : Ref sig .tc := ⟨.hbm, 79, rfl⟩
abbrev main_cst_19 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_20 : Ref sig .tc := ⟨.hbm, 95, rfl⟩
abbrev main_v70 : Ref sig .tc := ⟨.hbm, 96, rfl⟩
abbrev main_v71 : Ref sig .tc := ⟨.hbm, 97, rfl⟩
abbrev main_c_21 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76_0 : Ref sig .tc := ⟨.hbm, 103, rfl⟩
abbrev main_v76_1 : Ref sig .tc := ⟨.hbm, 104, rfl⟩
abbrev main_v76_2 : Ref sig .tc := ⟨.hbm, 105, rfl⟩
abbrev main_v76_3 : Ref sig .tc := ⟨.hbm, 106, rfl⟩
abbrev main_v76_4 : Ref sig .tc := ⟨.hbm, 107, rfl⟩
abbrev main_v76_5 : Ref sig .tc := ⟨.hbm, 108, rfl⟩
abbrev main_v76_6 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let c0_16 : Index := 0#32
  let c0_17 : Index := 0#32
  let arg1 : BitVec 32 := BitVec.ofNat 32 (i 1).val
  let c4_i32 : BitVec 32 := 4#32
  let v0 : BitVec 32 := Scalar.divsi arg1 c4_i32
  let c4_i32_15 : BitVec 32 := 4#32
  let v70 : BitVec 32 := Scalar.muli v0 c4_i32_15
  let v71 : Index := Scalar.indexCast v70
  let c0_18 : Index := 0#32
  ![0, 0, v71.toNat, 0]
def k0_off2 (i : grid0.Coords) : Fin 3 → Nat :=
  let c0_96 : Index := 0#32
  let arg1 : BitVec 32 := BitVec.ofNat 32 (i 1).val
  let v259 : Index := Scalar.indexCast arg1
  let c0_97 : Index := 0#32
  ![0, v259.toNat, 0]
def k0_off3 (i : grid0.Coords) : Fin 4 → Nat :=
  let c0_130 : Index := 0#32
  let c0_131 : Index := 0#32
  let arg1 : BitVec 32 := BitVec.ofNat 32 (i 1).val
  let c4_i32_129 : BitVec 32 := 4#32
  let v353 : BitVec 32 := Scalar.muli arg1 c4_i32_129
  let v354 : Index := Scalar.indexCast v353
  let c0_132 : Index := 0#32
  ![0, 0, v354.toNat, 0]
def k0_off4 (i : grid0.Coords) : Fin 4 → Nat :=
  let c0_235 : Index := 0#32
  let c64_236 : Index := 64#32
  let arg1 : BitVec 32 := BitVec.ofNat 32 (i 1).val
  let c4_i32_234 : BitVec 32 := 4#32
  let v572 : BitVec 32 := Scalar.muli arg1 c4_i32_234
  let v573 : Index := Scalar.indexCast v572
  let c0_237 : Index := 0#32
  ![0, 64, v573.toNat, 0]
def k0_off5 (i : grid0.Coords) : Fin 4 → Nat :=
  let c0_343 : Index := 0#32
  let c128_344 : Index := 128#32
  let arg1 : BitVec 32 := BitVec.ofNat 32 (i 1).val
  let c4_i32_342 : BitVec 32 := 4#32
  let v792 : BitVec 32 := Scalar.muli arg1 c4_i32_342
  let v793 : Index := Scalar.indexCast v792
  let c0_345 : Index := 0#32
  ![0, 128, v793.toNat, 0]
def k0_off6 (i : grid0.Coords) : Fin 4 → Nat :=
  let c0_451 : Index := 0#32
  let c192_452 : Index := 192#32
  let arg1 : BitVec 32 := BitVec.ofNat 32 (i 1).val
  let c4_i32_450 : BitVec 32 := 4#32
  let v1014 : BitVec 32 := Scalar.muli arg1 c4_i32_450
  let v1015 : Index := Scalar.indexCast v1014
  let c0_453 : Index := 0#32
  ![0, 192, v1015.toNat, 0]
def k0_off7 (i : grid0.Coords) : Fin 4 → Nat :=
  let c0_559 : Index := 0#32
  let c256_560 : Index := 256#32
  let arg1 : BitVec 32 := BitVec.ofNat 32 (i 1).val
  let c4_i32_558 : BitVec 32 := 4#32
  let v1234 : BitVec 32 := Scalar.muli arg1 c4_i32_558
  let v1235 : Index := Scalar.indexCast v1234
  let c0_561 : Index := 0#32
  ![0, 256, v1235.toNat, 0]
def k0_off8 (i : grid0.Coords) : Fin 4 → Nat :=
  let c0_666 : Index := 0#32
  let c320_667 : Index := 320#32
  let arg1 : BitVec 32 := BitVec.ofNat 32 (i 1).val
  let c4_i32_665 : BitVec 32 := 4#32
  let v1456 : BitVec 32 := Scalar.muli arg1 c4_i32_665
  let v1457 : Index := Scalar.indexCast v1456
  let c0_668 : Index := 0#32
  ![0, 320, v1457.toNat, 0]
def k0_off9 (i : grid0.Coords) : Fin 4 → Nat :=
  let c0_773 : Index := 0#32
  let c384_774 : Index := 384#32
  let arg1 : BitVec 32 := BitVec.ofNat 32 (i 1).val
  let c4_i32_772 : BitVec 32 := 4#32
  let v1676 : BitVec 32 := Scalar.muli arg1 c4_i32_772
  let v1677 : Index := Scalar.indexCast v1676
  let c0_775 : Index := 0#32
  ![0, 384, v1677.toNat, 0]
def k0_off10 (i : grid0.Coords) : Fin 4 → Nat :=
  let c0_880 : Index := 0#32
  let c448_881 : Index := 448#32
  let arg1 : BitVec 32 := BitVec.ofNat 32 (i 1).val
  let c4_i32_879 : BitVec 32 := 4#32
  let v1898 : BitVec 32 := Scalar.muli arg1 c4_i32_879
  let v1899 : Index := Scalar.indexCast v1898
  let c0_882 : Index := 0#32
  ![0, 448, v1899.toNat, 0]
def k0_off11 (i : grid0.Coords) : Fin 4 → Nat :=
  let c0_986 : Index := 0#32
  let c512_987 : Index := 512#32
  let arg1 : BitVec 32 := BitVec.ofNat 32 (i 1).val
  let c4_i32_985 : BitVec 32 := 4#32
  let v2118 : BitVec 32 := Scalar.muli arg1 c4_i32_985
  let v2119 : Index := Scalar.indexCast v2118
  let c0_988 : Index := 0#32
  ![0, 512, v2119.toNat, 0]
def k0_off12 (i : grid0.Coords) : Fin 4 → Nat :=
  let c0_1093 : Index := 0#32
  let c576_1094 : Index := 576#32
  let arg1 : BitVec 32 := BitVec.ofNat 32 (i 1).val
  let c4_i32_1092 : BitVec 32 := 4#32
  let v2340 : BitVec 32 := Scalar.muli arg1 c4_i32_1092
  let v2341 : Index := Scalar.indexCast v2340
  let c0_1095 : Index := 0#32
  ![0, 576, v2341.toNat, 0]
def k0_off13 (i : grid0.Coords) : Fin 4 → Nat :=
  let c0_1199 : Index := 0#32
  let c640_1200 : Index := 640#32
  let arg1 : BitVec 32 := BitVec.ofNat 32 (i 1).val
  let c4_i32_1198 : BitVec 32 := 4#32
  let v2560 : BitVec 32 := Scalar.muli arg1 c4_i32_1198
  let v2561 : Index := Scalar.indexCast v2560
  let c0_1201 : Index := 0#32
  ![0, 640, v2561.toNat, 0]
def k0_off14 (i : grid0.Coords) : Fin 4 → Nat :=
  let c0_1306 : Index := 0#32
  let c704_1307 : Index := 704#32
  let arg1 : BitVec 32 := BitVec.ofNat 32 (i 1).val
  let c4_i32_1305 : BitVec 32 := 4#32
  let v2782 : BitVec 32 := Scalar.muli arg1 c4_i32_1305
  let v2783 : Index := Scalar.indexCast v2782
  let c0_1308 : Index := 0#32
  ![0, 704, v2783.toNat, 0]
def k0_off15 (i : grid0.Coords) : Fin 4 → Nat :=
  let c0_1412 : Index := 0#32
  let c768_1413 : Index := 768#32
  let arg1 : BitVec 32 := BitVec.ofNat 32 (i 1).val
  let c4_i32_1411 : BitVec 32 := 4#32
  let v3002 : BitVec 32 := Scalar.muli arg1 c4_i32_1411
  let v3003 : Index := Scalar.indexCast v3002
  let c0_1414 : Index := 0#32
  ![0, 768, v3003.toNat, 0]
def k0_off16 (i : grid0.Coords) : Fin 4 → Nat :=
  let c0_1519 : Index := 0#32
  let c832_1520 : Index := 832#32
  let arg1 : BitVec 32 := BitVec.ofNat 32 (i 1).val
  let c4_i32_1518 : BitVec 32 := 4#32
  let v3224 : BitVec 32 := Scalar.muli arg1 c4_i32_1518
  let v3225 : Index := Scalar.indexCast v3224
  let c0_1521 : Index := 0#32
  ![0, 832, v3225.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x896x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x896x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S896x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x14x16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x896x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x896x32x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x4x896 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x896x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x896 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x896x8x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | "score_to_log2" => some (((Real.sqrt 128)⁻¹ * (Real.log 2)⁻¹ : ℝ) : EReal)
  | _ => none
-- ==== ReferenceIdeal.lean ====
abbrev S2x896x4096 : Shape := ⟨3, ![2, 896, 4096]⟩
abbrev S2x896x1024 : Shape := ⟨3, ![2, 896, 1024]⟩
abbrev S2x896x32x128 : Shape := ⟨4, ![2, 896, 32, 128]⟩
abbrev S2x896x8x128 : Shape := ⟨4, ![2, 896, 8, 128]⟩
abbrev S2x896x32x4x32 : Shape := ⟨5, ![2, 896, 32, 4, 32]⟩
abbrev S_ : Shape := ⟨0, ![]⟩
abbrev S2x896x32x4 : Shape := ⟨4, ![2, 896, 32, 4]⟩
abbrev S2x896x32x4x1 : Shape := ⟨5, ![2, 896, 32, 4, 1]⟩
abbrev S2x896x8x4x32 : Shape := ⟨5, ![2, 896, 8, 4, 32]⟩
abbrev S2x896x8x4 : Shape := ⟨4, ![2, 896, 8, 4]⟩
abbrev S2x896x8x4x1 : Shape := ⟨5, ![2, 896, 8, 4, 1]⟩
abbrev S2x896x8 : Shape := ⟨3, ![2, 896, 8]⟩
abbrev S2x896x8x1 : Shape := ⟨4, ![2, 896, 8, 1]⟩
abbrev S2x896x8x4x128 : Shape := ⟨5, ![2, 896, 8, 4, 128]⟩
abbrev S32 : Shape := ⟨1, ![32]⟩
abbrev S8x4 : Shape := ⟨2, ![8, 4]⟩
abbrev S896 : Shape := ⟨1, ![896]⟩
abbrev S2x8x896x896x4 : Shape := ⟨5, ![2, 8, 896, 896, 4]⟩
abbrev S2x8x4x896x896 : Shape := ⟨5, ![2, 8, 4, 896, 896]⟩
abbrev S896x1 : Shape := ⟨2, ![896, 1]⟩
abbrev S1x896 : Shape := ⟨2, ![1, 896]⟩
abbrev S896x896 : Shape := ⟨2, ![896, 896]⟩
abbrev S1x8x4x1x1 : Shape := ⟨5, ![1, 8, 4, 1, 1]⟩
abbrev S1x1x1x896x896 : Shape := ⟨5, ![1, 1, 1, 896, 896]⟩
abbrev S1x8x4x896x896 : Shape := ⟨5, ![1, 8, 4, 896, 896]⟩
abbrev S2x8x4x896 : Shape := ⟨4, ![2, 8, 4, 896]⟩
abbrev S2x8x4x896x1 : Shape := ⟨5, ![2, 8, 4, 896, 1]⟩
abbrev S2x8x896 : Shape := ⟨3, ![2, 8, 896]⟩
abbrev S2x8x1x1x896 : Shape := ⟨5, ![2, 8, 1, 1, 896]⟩
abbrev S2x8x128x4x896 : Shape := ⟨5, ![2, 8, 128, 4, 896]⟩

abbrev nBuf : Space → Nat
  | .hbm => 272
  | .vmem => 0
  | .smem => 0
  | _ => 0

abbrev hbmTy0_0 (i : Nat) : BufTy := match i % 128 with
  | 0 => ⟨S2x896x4096, .bf16⟩
  | 1 => ⟨S2x896x1024, .bf16⟩
  | 2 => ⟨S2x896x1024, .bf16⟩
  | 3 => ⟨S2x896x32x128, .bf16⟩
  | 4 => ⟨S2x896x8x128, .bf16⟩
  | 5 => ⟨S2x896x8x128, .bf16⟩
  | 6 => ⟨S2x896x32x128, .f32⟩
  | 7 => ⟨S2x896x32x4x32, .f32⟩
  | 8 => ⟨S2x896x32x4x32, .f32⟩
  | 9 => ⟨S_, .f32⟩
  | 10 => ⟨S2x896x32x4, .f32⟩
  | 11 => ⟨S2x896x32x4x1, .f32⟩
  | 12 => ⟨S_, .f32⟩
  | 13 => ⟨S2x896x32x4x1, .f32⟩
  | 14 => ⟨S2x896x32x4x1, .f32⟩
  | 15 => ⟨S2x896x32x4x1, .f32⟩
  | 16 => ⟨S_, .f32⟩
  | 17 => ⟨S_, .f32⟩
  | 18 => ⟨S2x896x32x4x1, .f32⟩
  | 19 => ⟨S2x896x32x4x1, .f32⟩
  | 20 => ⟨S2x896x32x4x1, .f32⟩
  | 21 => ⟨S_, .f32⟩
  | 22 => ⟨S2x896x32x4x1, .f32⟩
  | 23 => ⟨S2x896x32x4x1, .f32⟩
  | 24 => ⟨S_, .f32⟩
  | 25 => ⟨S2x896x32x4x1, .f32⟩
  | 26 => ⟨S2x896x32x4x1, .i1⟩
  | 27 => ⟨S_, .f32⟩
  | 28 => ⟨S_, .f32⟩
  | 29 => ⟨S2x896x32x4x1, .f32⟩
  | 30 => ⟨S2x896x32x4x1, .f32⟩
  | 31 => ⟨S2x896x32x4x1, .f32⟩
  | 32 => ⟨S_, .f32⟩
  | 33 => ⟨S_, .f32⟩
  | 34 => ⟨S2x896x32x4x1, .f32⟩
  | 35 => ⟨S2x896x32x4x1, .f32⟩
  | 36 => ⟨S2x896x32x4x1, .f32⟩
  | 37 => ⟨S2x896x32x4x32, .f32⟩
  | 38 => ⟨S2x896x32x4x32, .f32⟩
  | 39 => ⟨S_, .f32⟩
  | 40 => ⟨S_, .f32⟩
  | 41 => ⟨S_, .f32⟩
  | 42 => ⟨S2x896x32x4x32, .f32⟩
  | 43 => ⟨S2x896x32x4x32, .f32⟩
  | 44 => ⟨S_, .f32⟩
  | 45 => ⟨S2x896x32x4x32, .f32⟩
  | 46 => ⟨S2x896x32x4x32, .f32⟩
  | 47 => ⟨S2x896x32x128, .f32⟩
  | 48 => ⟨S2x896x32x4, .f32⟩
  | 49 => ⟨S2x896x8x128, .f32⟩
  | 50 => ⟨S2x896x8x4x32, .f32⟩
  | 51 => ⟨S2x896x8x4x32, .f32⟩
  | 52 => ⟨S_, .f32⟩
  | 53 => ⟨S2x896x8x4, .f32⟩
  | 54 => ⟨S2x896x8x4x1, .f32⟩
  | 55 => ⟨S_, .f32⟩
  | 56 => ⟨S2x896x8x4x1, .f32⟩
  | 57 => ⟨S2x896x8x4x1, .f32⟩
  | 58 => ⟨S2x896x8x4x1, .f32⟩
  | 59 => ⟨S_, .f32⟩
  | 60 => ⟨S_, .f32⟩
  | 61 => ⟨S2x896x8x4x1, .f32⟩
  | 62 => ⟨S2x896x8x4x1, .f32⟩
  | 63 => ⟨S2x896x8x4x1, .f32⟩
  | 64 => ⟨S_, .f32⟩
  | 65 => ⟨S2x896x8x4x1, .f32⟩
  | 66 => ⟨S2x896x8x4x1, .f32⟩
  | 67 => ⟨S_, .f32⟩
  | 68 => ⟨S2x896x8x4x1, .f32⟩
  | 69 => ⟨S2x896x8x4x1, .i1⟩
  | 70 => ⟨S_, .f32⟩
  | 71 => ⟨S_, .f32⟩
  | 72 => ⟨S2x896x8x4x1, .f32⟩
  | 73 => ⟨S2x896x8x4x1, .f32⟩
  | 74 => ⟨S2x896x8x4x1, .f32⟩
  | 75 => ⟨S_, .f32⟩
  | 76 => ⟨S_, .f32⟩
  | 77 => ⟨S2x896x8x4x1, .f32⟩
  | 78 => ⟨S2x896x8x4x1, .f32⟩
  | 79 => ⟨S2x896x8x4x1, .f32⟩
  | 80 => ⟨S2x896x8x4x32, .f32⟩
  | 81 => ⟨S2x896x8x4x32, .f32⟩
  | 82 => ⟨S_, .f32⟩
  | 83 => ⟨S_, .f32⟩
  | 84 => ⟨S_, .f32⟩
  | 85 => ⟨S2x896x8x4x32, .f32⟩
  | 86 => ⟨S2x896x8x4x32, .f32⟩
  | 87 => ⟨S_, .f32⟩
  | 88 => ⟨S2x896x8x4x32, .f32⟩
  | 89 => ⟨S2x896x8x4x32, .f32⟩
  | 90 => ⟨S2x896x8x128, .f32⟩
  | 91 => ⟨S2x896x8x4, .f32⟩
  | 92 => ⟨S2x896x8x128, .f32⟩
  | 93 => ⟨S2x896x8x128, .f32⟩
  | 94 => ⟨S_, .f32⟩
  | 95 => ⟨S2x896x8, .f32⟩
  | 96 => ⟨S2x896x8x1, .f32⟩
  | 97 => ⟨S_, .f32⟩
  | 98 => ⟨S2x896x8x1, .f32⟩
  | 99 => ⟨S2x896x8x1, .f32⟩
  | 100 => ⟨S2x896x8x1, .f32⟩
  | 101 => ⟨S_, .f32⟩
  | 102 => ⟨S_, .f32⟩
  | 103 => ⟨S2x896x8x1, .f32⟩
  | 104 => ⟨S2x896x8x1, .f32⟩
  | 105 => ⟨S2x896x8x1, .f32⟩
  | 106 => ⟨S_, .f32⟩
  | 107 => ⟨S2x896x8x1, .f32⟩
  | 108 => ⟨S2x896x8x1, .f32⟩
  | 109 => ⟨S_, .f32⟩
  | 110 => ⟨S2x896x8x1, .f32⟩
  | 111 => ⟨S2x896x8x1, .i1⟩
  | 112 => ⟨S_, .f32⟩
  | 113 => ⟨S_, .f32⟩
  | 114 => ⟨S2x896x8x1, .f32⟩
  | 115 => ⟨S2x896x8x1, .f32⟩
  | 116 => ⟨S2x896x8x1, .f32⟩
  | 117 => ⟨S_, .f32⟩
  | 118 => ⟨S_, .f32⟩
  | 119 => ⟨S2x896x8x1, .f32⟩
  | 120 => ⟨S2x896x8x1, .f32⟩
  | 121 => ⟨S2x896x8x1, .f32⟩
  | 122 => ⟨S2x896x8x128, .f32⟩
  | 123 => ⟨S2x896x8x128, .f32⟩
  | 124 => ⟨S_, .f32⟩
  | 125 => ⟨S_, .f32⟩
  | 126 => ⟨S_, .f32⟩
  | 127 => ⟨S2x896x8x128, .f32⟩
  | _ => ⟨S2x896x4096, .bf16⟩

abbrev hbmTy0_1 (i : Nat) : BufTy := match i % 128 with
  | 0 => ⟨S2x896x8x128, .f32⟩
  | 1 => ⟨S_, .f32⟩
  | 2 => ⟨S2x896x8x128, .f32⟩
  | 3 => ⟨S2x896x8x128, .f32⟩
  | 4 => ⟨S_, .f32⟩
  | 5 => ⟨S_, .f32⟩
  | 6 => ⟨S2x896x8x1, .f32⟩
  | 7 => ⟨S2x896x8x1, .f32⟩
  | 8 => ⟨S2x896x8x1, .f32⟩
  | 9 => ⟨S2x896x8, .f32⟩
  | 10 => ⟨S_, .f32⟩
  | 11 => ⟨S_, .f32⟩
  | 12 => ⟨S2x896x32x4, .f32⟩
  | 13 => ⟨S2x896x32x4, .f32⟩
  | 14 => ⟨S2x896x32x4, .f32⟩
  | 15 => ⟨S2x896x32x4, .bf16⟩
  | 16 => ⟨S2x896x32x128, .bf16⟩
  | 17 => ⟨S2x896x32x4x32, .bf16⟩
  | 18 => ⟨S2x896x32x128, .bf16⟩
  | 19 => ⟨S2x896x32x128, .bf16⟩
  | 20 => ⟨S2x896x8x4x128, .bf16⟩
  | 21 => ⟨S_, .f32⟩
  | 22 => ⟨S_, .f32⟩
  | 23 => ⟨S2x896x8x4, .f32⟩
  | 24 => ⟨S2x896x8x4, .f32⟩
  | 25 => ⟨S2x896x8x4, .f32⟩
  | 26 => ⟨S2x896x8x4, .bf16⟩
  | 27 => ⟨S2x896x8x128, .bf16⟩
  | 28 => ⟨S2x896x8x4x32, .bf16⟩
  | 29 => ⟨S2x896x8x128, .bf16⟩
  | 30 => ⟨S2x896x8x128, .bf16⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S8x4, .f32⟩
  | 43 => ⟨S896, .i32⟩
  | 44 => ⟨S2x8x896x896x4, .f32⟩
  | 45 => ⟨S2x8x4x896x896, .f32⟩
  | 46 => ⟨S_, .f32⟩
  | 47 => ⟨S_, .f32⟩
  | 48 => ⟨S2x8x4x896x896, .f32⟩
  | 49 => ⟨S2x8x4x896x896, .f32⟩
  | 50 => ⟨S896x1, .i32⟩
  | 51 => ⟨S1x896, .i32⟩
  | 52 => ⟨S896x896, .i32⟩
  | 53 => ⟨S896x896, .i32⟩
  | 54 => ⟨S896x896, .i32⟩
  | 55 => ⟨S896x896, .f32⟩
  | 56 => ⟨S1x8x4x1x1, .f32⟩
  | 57 => ⟨S1x1x1x896x896, .f32⟩
  | 58 => ⟨S1x8x4x896x896, .f32⟩
  | 59 => ⟨S1x8x4x896x896, .f32⟩
  | 60 => ⟨S1x8x4x896x896, .f32⟩
  | 61 => ⟨S2x8x4x896x896, .f32⟩
  | 62 => ⟨S2x8x4x896x896, .f32⟩
  | 63 => ⟨S1x896, .i32⟩
  | 64 => ⟨S896x1, .i32⟩
  | 65 => ⟨S896x896, .i32⟩
  | 66 => ⟨S896x896, .i32⟩
  | 67 => ⟨S896x896, .i1⟩
  | 68 => ⟨S_, .f32⟩
  | 69 => ⟨S_, .f32⟩
  | 70 => ⟨S2x8x4x896x896, .i1⟩
  | 71 => ⟨S2x8x4x896x896, .f32⟩
  | 72 => ⟨S2x8x4x896x896, .f32⟩
  | 73 => ⟨S_, .f32⟩
  | 74 => ⟨S2x8x4x896, .f32⟩
  | 75 => ⟨S_, .f32⟩
  | 76 => ⟨S2x8x4x896, .f32⟩
  | 77 => ⟨S2x8x4x896, .f32⟩
  | 78 => ⟨S2x8x4x896x1, .f32⟩
  | 79 => ⟨S2x8x4x896x896, .f32⟩
  | 80 => ⟨S2x8x4x896x896, .f32⟩
  | 81 => ⟨S2x8x4x896x896, .f32⟩
  | 82 => ⟨S_, .f32⟩
  | 83 => ⟨S2x8x4x896, .f32⟩
  | 84 => ⟨S2x8x4x896x1, .f32⟩
  | 85 => ⟨S2x8x4x896x896, .f32⟩
  | 86 => ⟨S2x8x4x896x896, .f32⟩
  | 87 => ⟨S2x8x896, .f32⟩
  | 88 => ⟨S2x8x1x1x896, .f32⟩
  | 89 => ⟨S2x8x4x896x896, .f32⟩
  | 90 => ⟨S2x8x4x896x896, .f32⟩
  | 91 => ⟨S2x8x4x896x896, .f32⟩
  | 92 => ⟨S_, .f32⟩
  | 93 => ⟨S2x8x4x896, .f32⟩
  | 94 => ⟨S2x8x4x896x1, .f32⟩
  | 95 => ⟨S_, .f32⟩
  | 96 => ⟨S2x8x4x896x1, .f32⟩
  | 97 => ⟨S2x8x4x896x1, .f32⟩
  | 98 => ⟨S2x8x4x896x1, .f32⟩
  | 99 => ⟨S_, .f32⟩
  | 100 => ⟨S_, .f32⟩
  | 101 => ⟨S2x8x4x896x1, .f32⟩
  | 102 => ⟨S2x8x4x896x1, .f32⟩
  | 103 => ⟨S2x8x4x896x1, .f32⟩
  | 104 => ⟨S_, .f32⟩
  | 105 => ⟨S2x8x4x896x1, .f32⟩
  | 106 => ⟨S2x8x4x896x1, .f32⟩
  | 107 => ⟨S_, .f32⟩
  | 108 => ⟨S2x8x4x896x1, .f32⟩
  | 109 => ⟨S2x8x4x896x1, .i1⟩
  | 110 => ⟨S_, .f32⟩
  | 111 => ⟨S_, .f32⟩
  | 112 => ⟨S2x8x4x896x1, .f32⟩
  | 113 => ⟨S2x8x4x896x1, .f32⟩
  | 114 => ⟨S2x8x4x896x1, .f32⟩
  | 115 => ⟨S_, .f32⟩
  | 116 => ⟨S_, .f32⟩
  | 117 => ⟨S2x8x4x896x1, .f32⟩
  | 118 => ⟨S2x8x4x896x1, .f32⟩
  | 119 => ⟨S2x8x4x896x1, .f32⟩
  | 120 => ⟨S2x8x4x896x896, .f32⟩
  | 121 => ⟨S2x8x4x896x896, .f32⟩
  | 122 => ⟨S_, .f32⟩
  | 123 => ⟨S_, .f32⟩
  | 124 => ⟨S_, .f32⟩
  | 125 => ⟨S2x8x4x896x896, .f32⟩
  | 126 => ⟨S2x8x4x896x896, .f32⟩
  | 127 => ⟨S_, .f32⟩
  | _ => ⟨S2x896x4096, .bf16⟩

abbrev hbmTy0_2 (i : Nat) : BufTy := match i % 128 with
  | 0 => ⟨S2x8x4x896x896, .f32⟩
  | 1 => ⟨S2x8x4x896x896, .f32⟩
  | 2 => ⟨S_, .f32⟩
  | 3 => ⟨S_, .f32⟩
  | 4 => ⟨S2x8x4x896x1, .f32⟩
  | 5 => ⟨S2x8x4x896x1, .f32⟩
  | 6 => ⟨S2x8x4x896x1, .f32⟩
  | 7 => ⟨S2x8x4x896, .f32⟩
  | 8 => ⟨S2x8x128x4x896, .f32⟩
  | 9 => ⟨S2x896x8x4x128, .f32⟩
  | 10 => ⟨S2x896x8x4, .f32⟩
  | 11 => ⟨S2x896x8x4x1, .f32⟩
  | 12 => ⟨S2x896x8x4x128, .f32⟩
  | 13 => ⟨S2x896x8x4x128, .f32⟩
  | 14 => ⟨S2x896x4096, .f32⟩
  | 15 => ⟨S2x896x4096, .bf16⟩
  | _ => ⟨S2x896x4096, .bf16⟩

abbrev hbmTy (i : Nat) : BufTy := match i / 128 with
  | 0 => hbmTy0_0 i
  | 1 => hbmTy0_1 i
  | 2 => hbmTy0_2 i
  | _ => ⟨S2x896x4096, .bf16⟩

abbrev bufTy : (tb : Table) → Fin (tcTables nBuf tb) → BufTy
  | .hbm, ⟨i, _⟩ => hbmTy i
  | _, _ => ⟨S2x896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_call2_v0 : Ref sig .tc := ⟨.hbm, 71, rfl⟩
abbrev main_call2_v1 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_cst_16 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_17 : Ref sig .tc := ⟨.hbm, 94, rfl⟩
abbrev main_v59 : Ref sig .tc := ⟨.hbm, 95, rfl⟩
abbrev main_v60 : Ref sig .tc := ⟨.hbm, 96, rfl⟩
abbrev main_cst_18 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_19 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_20 : Ref sig .tc := ⟨.hbm, 106, rfl⟩
abbrev main_v68 : Ref sig .tc := ⟨.hbm, 107, rfl⟩
abbrev main_v69 : Ref sig .tc := ⟨.hbm, 108, rfl⟩
abbrev main_cst_21 : Ref sig .tc := ⟨.hbm, 109, rfl⟩
abbrev main_v70 : Ref sig .tc := ⟨.hbm, 110, rfl⟩
abbrev main_v71 : Ref sig .tc := ⟨.hbm, 111, rfl⟩
abbrev main_cst_22 : Ref sig .tc := ⟨.hbm, 112, rfl⟩
abbrev main_call4_v0 : Ref sig .tc := ⟨.hbm, 113, rfl⟩
abbrev main_call4_v1 : Ref sig .tc := ⟨.hbm, 114, rfl⟩
abbrev main_v72 : Ref sig .tc := ⟨.hbm, 115, rfl⟩
abbrev main_v73 : Ref sig .tc := ⟨.hbm, 116, rfl⟩
abbrev main_cst_23 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_24 : Ref sig .tc := ⟨.hbm, 124, rfl⟩
abbrev main_cst_25 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v80 : Ref sig .tc := ⟨.hbm, 131, rfl⟩
abbrev main_cst_26 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_27 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_28 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_29 : Ref sig .tc := ⟨.hbm, 160, rfl⟩
abbrev main_v106 : Ref sig .tc := ⟨.hbm, 161, rfl⟩
abbrev main_v107 : Ref sig .tc := ⟨.hbm, 162, rfl⟩
abbrev main_cst_30 : Ref sig .tc := ⟨.hbm, 163, rfl⟩
abbrev main_v108 : Ref sig .tc := ⟨.hbm, 164, rfl⟩
abbrev main_v109 : Ref sig .tc := ⟨.hbm, 165, rfl⟩
abbrev main_cst_31 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_32 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_33 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_v138 : Ref sig .tc := ⟨.hbm, 200, rfl⟩
abbrev main_cst_34 : Ref sig .tc := ⟨.hbm, 201, rfl⟩
abbrev main_v139 : Ref sig .tc := ⟨.hbm, 202, rfl⟩
abbrev main_cst_35 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_36 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_37 : Ref sig .tc := ⟨.hbm, 220, rfl⟩
abbrev main_v155 : Ref sig .tc := ⟨.hbm, 221, rfl⟩
abbrev main_v156 : Ref sig .tc := ⟨.hbm, 222, rfl⟩
abbrev main_cst_38 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_cst_39 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_40 : Ref sig .tc := ⟨.hbm, 232, rfl⟩
abbrev main_v164 : Ref sig .tc := ⟨.hbm, 233, rfl⟩
abbrev main_v165 : Ref sig .tc := ⟨.hbm, 234, rfl⟩
abbrev main_cst_41 : Ref sig .tc := ⟨.hbm, 235, rfl⟩
abbrev main_v166 : Ref sig .tc := ⟨.hbm, 236, rfl⟩
abbrev main_v167 : Ref sig .tc := ⟨.hbm, 237, rfl⟩
abbrev main_cst_42 : Ref sig .tc := ⟨.hbm, 238, rfl⟩
abbrev main_call7_v0 : Ref sig .tc := ⟨.hbm, 239, rfl⟩
abbrev main_call7_v1 : Ref sig .tc := ⟨.hbm, 240, rfl⟩
abbrev main_v168 : Ref sig .tc := ⟨.hbm, 241, rfl⟩
abbrev main_v169 : Ref sig .tc := ⟨.hbm, 242, rfl⟩
abbrev main_cst_43 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_44 : Ref sig .tc := ⟨.hbm, 250, rfl⟩
abbrev main_cst_45 : Ref sig .tc := ⟨.hbm, 251, rfl⟩
abbrev main_call8_v0 : Ref sig .tc := ⟨.hbm, 252, rfl⟩
abbrev main_call8_v1 : Ref sig .tc := ⟨.hbm, 253, rfl⟩
abbrev main_call8_v2 : Ref sig .tc := ⟨.hbm, 254, rfl⟩
abbrev main_call8_v3 : Ref sig .tc := ⟨.hbm, 255, rfl⟩
abbrev main_call8_v4 : Ref sig .tc := ⟨.hbm, 256, rfl⟩
abbrev main_v176 : Ref sig .tc := ⟨.hbm, 257, rfl⟩
abbrev main_cst_46 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩

abbrev nD : Nat := 1
abbrev τ : Topo := Topo.v7x

variable {F : FTy → Type} [FloatOps F]
-- ==== Proof.PRun.lean ====
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! One run of the kernel's body on any whole staging memrefs: what it stores into the block of `out` and into the two
blocks of scale bytes is named, as a list of pieces; the other output blocks and the scratch are handed back at some
contents. -/

@[expose] public section

-- membership in a rectangle of production extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer of output window 5, through which what it holds is read. -/
abbrev VO0_5 : View sig .tc .vmem S1x896x512 .bf16 := (Memref.whole cc0_stg5_0 : Memref sig .tc .vmem S1x896x512 .bf16).view
/-- A staging buffer of output window 7, through which what it holds is read. -/
abbrev VO0_7 : View sig .tc .vmem S1x4x4x896 .i8 := (Memref.whole cc0_stg7_0 : Memref sig .tc .vmem S1x4x4x896 .i8).view
/-- A staging buffer of output window 9, through which what it holds is read. -/
abbrev VO0_9 : View sig .tc .vmem S1x1x4x896 .i8 := (Memref.whole cc0_stg9_0 : Memref sig .tc .vmem S1x1x4x896 .i8).view
/-- Each window's current staging memref at point `t`, spelled as the pipeline passes it (`bodyAt0`), and its wholeness. -/
abbrev ms0_0 (t : Fin cfg0.N) : Memref sig .tc .vmem S1x896x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14x16x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x896x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x896x32x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x4x896 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x896x8x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x896 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x896x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x896 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S896x256 .bf16 := Memref.whole cc0_scratch0
abbrev scM0_1 : Memref sig .tc .vmem S128x896 .fp8e4m3 := Memref.whole cc0_scratch1
abbrev scM0_2 : Memref sig .tc .vmem S896x128 .f32 := Memref.whole cc0_scratch2
abbrev scM0_3 : Memref sig .tc .vmem S256x256 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 4000000 in
/-- What the body's stores leave in the named blocks, as pieces (last first), with the proof that on whole staging memrefs
    (the inputs' at their contents, everything else at anything) the body runs to the continuation holding the inputs'
    as they were, the named blocks with their pieces written over some contents, the rest at some contents. -/
noncomputable def kernelRun0_A (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) :
    Σ' (L5 : List (View.Piece (Elt F) S1x896x512 .bf16)), Σ' (L7 : List (View.Piece (Elt F) S1x4x4x896 .i8)), { L9 : List (View.Piece (Elt F) S1x1x4x896 .i8) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_alibi_gqa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_alibi_gqa_eq_skeleton]; unfold cc0_alibi_gqa_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]; · iexists _; iexact H7
    isplitl [H8]
    · iexists _, _; isplitr; swap; · iexact H8
      ipureintro; rfl
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.PFrame.lean ====
module

public import proofs.«01_k».proof.Proof.PRun
public import Idealize.ShloMosaic.Lib.Pipeline.Value
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the whole program with the arrays of the named windows named after the run. -/

@[expose] public section

-- membership in a rectangle of production extents (`View.cover_of_tiled`): the structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 5 tile its block, so they cover it. -/
theorem cover0_A_5 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x896x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1 S1x64x128.size (by sl_kernel_rfl) y

/-- What the run leaves in output 5's staging buffer. -/
def out0_A_5 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x896x512 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1)

/-- The run's pieces for output 7 tile its block, so they cover it. -/
theorem cover0_A_7 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x4x4x896.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1 S1x1x4x64.size (by sl_kernel_rfl) y

/-- What the run leaves in output 7's staging buffer. -/
def out0_A_7 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x4x4x896 .i8 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1)

/-- The run's pieces for output 9 tile its block, so they cover it. -/
theorem cover0_A_9 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x1x4x896.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1 S1x1x4x896.size (by sl_kernel_rfl) y

/-- What the run leaves in output 9's staging buffer. -/
def out0_A_9 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x1x4x896 .i8 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1)

/-- What point `t` leaves in output 5's staging buffer. -/
def outAt0_5 (c : Dev nD) (t : Fin cfg0.N) : Vec F S1x896x512 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- What point `t` leaves in output 7's staging buffer. -/
def outAt0_7 (c : Dev nD) (t : Fin cfg0.N) : Vec F S1x4x4x896 .i8 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- What point `t` leaves in output 9's staging buffer. -/
def outAt0_9 (c : Dev nD) (t : Fin cfg0.N) : Vec F S1x1x4x896 .i8 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-! ## The pipeline's proof data -/

/-- The output windows this certificate FORGETS (6, 8, 10, 11): nothing reads what the kernel leaves in them, so nothing
    of it is named (Lib/Pipeline/Dat.lean `Dat.toRForget`). -/
def forgets0 : Fin 12 → Bool := fun w => w.val == 6 || w.val == 8 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0_5 m c t
    | ⟨6, h⟩ => Pipeline.Dat.unnamed (cfg := cfg0) ⟨6, h⟩ t
    | ⟨7, _⟩ => outAt0_7 m c t
    | ⟨8, h⟩ => Pipeline.Dat.unnamed (cfg := cfg0) ⟨8, h⟩ t
    | ⟨9, _⟩ => outAt0_9 m c t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0_5 m c t := by dsimp only [dats]
theorem after0_7 (c : Dev nD) (t : Fin cfg0.N) : (dats m 0 c).after 7 t = outAt0_7 m c t := by dsimp only [dats]
theorem after0_9 (c : Dev nD) (t : Fin cfg0.N) : (dats m 0 c).after 9 t = outAt0_9 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ owns (c : Thread nD τ) (ms0_7 t) fullShare ((dats m 0 c).after 7 t)
    ∗ (∃ d, owns (c : Thread nD τ) (ms0_8 t) fullShare d)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_7, after0_9]
  rw [show (dats m 0 c).Φ t.castSucc = Pipeline.ΦA spec0 c from rfl, PhiA0_eq]
  unfold outAt0_5 outAt0_7 outAt0_9 out0_A_5 out0_A_7 out0_A_9
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, ⟨%f5, H5⟩, H6, ⟨%f7, H7⟩, H8, ⟨%f9, H9⟩, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _)
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _)
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _)
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 8, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KRun.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! One run of the kernel's body on any whole staging memrefs: what it stores into the block of `out` and into the two
blocks of scale bytes is named, as a list of pieces; the other output blocks and the scratch are handed back at some
contents. -/

@[expose] public section

-- membership in a rectangle of production extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A staging buffer of output window 5, through which what it holds is read. -/
abbrev VO0_5 : View sig .tc .vmem S1x896x512 .bf16 := (Memref.whole cc0_stg5_0 : Memref sig .tc .vmem S1x896x512 .bf16).view
/-- A staging buffer of output window 7, through which what it holds is read. -/
abbrev VO0_7 : View sig .tc .vmem S1x4x4x896 .i8 := (Memref.whole cc0_stg7_0 : Memref sig .tc .vmem S1x4x4x896 .i8).view
/-- A staging buffer of output window 9, through which what it holds is read. -/
abbrev VO0_9 : View sig .tc .vmem S1x1x4x896 .i8 := (Memref.whole cc0_stg9_0 : Memref sig .tc .vmem S1x1x4x896 .i8).view
/-- Each window's current staging memref at point `t`, spelled as the pipeline passes it (`bodyAt0`), and its wholeness. -/
abbrev ms0_0 (t : Fin cfg0.N) : Memref sig .tc .vmem S1x896x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x896x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x896x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S896x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x14x16x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x896x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x896x32x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x4x896 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x896x8x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x896 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x896x8x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x896 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S896x256 .bf16 := Memref.whole cc0_scratch0
abbrev scM0_1 : Memref sig .tc .vmem S128x896 .fp8e4m3 := Memref.whole cc0_scratch1
abbrev scM0_2 : Memref sig .tc .vmem S896x128 .f32 := Memref.whole cc0_scratch2
abbrev scM0_3 : Memref sig .tc .vmem S256x256 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 4000000 in
/-- What the body's stores leave in the named blocks, as pieces (last first), with the proof that on whole staging memrefs
    (the inputs' at their contents, everything else at anything) the body runs to the continuation holding the inputs'
    as they were, the named blocks with their pieces written over some contents, the rest at some contents. -/
noncomputable def kernelRun0_A (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) :
    Σ' (L5 : List (View.Piece (Elt F) S1x896x512 .bf16)), Σ' (L7 : List (View.Piece (Elt F) S1x4x4x896 .i8)), { L9 : List (View.Piece (Elt F) S1x1x4x896 .i8) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ f, arg9.view.loc (c : Thread nD τ) ↦[arg9.view.set]{fullShare} arg9.view.writes (Elt F) f L7) ∗ (∃ d, owns (c : Thread nD τ) arg10 fullShare d) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_alibi_gqa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_alibi_gqa_eq_skeleton]; unfold cc0_alibi_gqa_skel
    simp only [k0_part87_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]; · iexists _; iexact H7
    isplitl [H8]
    · iexists _, _; isplitr; swap; · iexact H8
      ipureintro; rfl
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.KFrame.lean ====
module

public import proofs.«01_k».proof.Proof.KRun
public import Idealize.ShloMosaic.Lib.Pipeline.Value
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the whole program with the arrays of the named windows named after the run. -/

@[expose] public section

-- membership in a rectangle of production extents (`View.cover_of_tiled`): the structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run's pieces for output 5 tile its block, so they cover it. -/
theorem cover0_A_5 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x896x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1 S1x64x128.size (by sl_kernel_rfl) y

/-- What the run leaves in output 5's staging buffer. -/
def out0_A_5 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x896x512 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1)

/-- The run's pieces for output 7 tile its block, so they cover it. -/
theorem cover0_A_7 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x4x4x896.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1 S1x1x4x64.size (by sl_kernel_rfl) y

/-- What the run leaves in output 7's staging buffer. -/
def out0_A_7 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x4x4x896 .i8 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1)

/-- The run's pieces for output 9 tile its block, so they cover it. -/
theorem cover0_A_9 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) (y : S1x1x4x896.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1 S1x1x4x896.size (by sl_kernel_rfl) y

/-- What the run leaves in output 9's staging buffer. -/
def out0_A_9 (c : Dev nD) (i : grid0.Coords) (arg2 : Memref sig .tc .vmem S1x896x512 .bf16) (harg2 : arg2.IsWhole) (arg3 : Memref sig .tc .vmem S1x896x128 .bf16) (harg3 : arg3.IsWhole) (arg4 : Memref sig .tc .vmem S1x896x128 .bf16) (harg4 : arg4.IsWhole) (arg5 : Memref sig .tc .vmem S896x128 .bf16) (harg5 : arg5.IsWhole) (arg6 : Memref sig .tc .vmem S1x14x16x256 .bf16) (harg6 : arg6.IsWhole) (arg7 : Memref sig .tc .vmem S1x896x512 .bf16) (harg7 : arg7.IsWhole) (arg8 : Memref sig .tc .vmem S1x896x32x128 .fp8e4m3) (harg8 : arg8.IsWhole) (arg9 : Memref sig .tc .vmem S1x4x4x896 .i8) (harg9 : arg9.IsWhole) (arg10 : Memref sig .tc .vmem S1x896x8x128 .fp8e4m3) (harg10 : arg10.IsWhole) (arg11 : Memref sig .tc .vmem S1x1x4x896 .i8) (harg11 : arg11.IsWhole) (arg12 : Memref sig .tc .vmem S1x896x8x128 .fp8e4m3) (harg12 : arg12.IsWhole) (arg13 : Memref sig .tc .vmem S1x8x896 .f32) (harg13 : arg13.IsWhole) (arg14 : Memref sig .tc .vmem S896x256 .bf16) (harg14 : arg14.IsWhole) (arg15 : Memref sig .tc .vmem S128x896 .fp8e4m3) (harg15 : arg15.IsWhole) (arg16 : Memref sig .tc .vmem S896x128 .f32) (harg16 : arg16.IsWhole) (arg17 : Memref sig .tc .vmem S256x256 .bf16) (harg17 : arg17.IsWhole)
    (x0 : Vec F S1x896x512 .bf16) (x1 : Vec F S1x896x128 .bf16) (x2 : Vec F S1x896x128 .bf16) (x3 : Vec F S896x128 .bf16) (x4 : Vec F S1x14x16x256 .bf16) : Vec F S1x1x4x896 .i8 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1)

/-- What point `t` leaves in output 5's staging buffer. -/
def outAt0_5 (c : Dev nD) (t : Fin cfg0.N) : Vec F S1x896x512 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- What point `t` leaves in output 7's staging buffer. -/
def outAt0_7 (c : Dev nD) (t : Fin cfg0.N) : Vec F S1x4x4x896 .i8 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- What point `t` leaves in output 9's staging buffer. -/
def outAt0_9 (c : Dev nD) (t : Fin cfg0.N) : Vec F S1x1x4x896 .i8 :=
  out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-! ## The pipeline's proof data -/

/-- The output windows this certificate FORGETS (6, 8, 10, 11): nothing reads what the kernel leaves in them, so nothing
    of it is named (Lib/Pipeline/Dat.lean `Dat.toRForget`). -/
def forgets0 : Fin 12 → Bool := fun w => w.val == 6 || w.val == 8 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt0_5 m c t
    | ⟨6, h⟩ => Pipeline.Dat.unnamed (cfg := cfg0) ⟨6, h⟩ t
    | ⟨7, _⟩ => outAt0_7 m c t
    | ⟨8, h⟩ => Pipeline.Dat.unnamed (cfg := cfg0) ⟨8, h⟩ t
    | ⟨9, _⟩ => outAt0_9 m c t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt0_5 m c t := by dsimp only [dats]
theorem after0_7 (c : Dev nD) (t : Fin cfg0.N) : (dats m 0 c).after 7 t = outAt0_7 m c t := by dsimp only [dats]
theorem after0_9 (c : Dev nD) (t : Fin cfg0.N) : (dats m 0 c).after 9 t = outAt0_9 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ owns (c : Thread nD τ) (ms0_7 t) fullShare ((dats m 0 c).after 7 t)
    ∗ (∃ d, owns (c : Thread nD τ) (ms0_8 t) fullShare d)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_7, after0_9]
  rw [show (dats m 0 c).Φ t.castSucc = Pipeline.ΦA spec0 c from rfl, PhiA0_eq]
  unfold outAt0_5 outAt0_7 outAt0_9 out0_A_5 out0_A_7 out0_A_9
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, ⟨%f5, H5⟩, H6, ⟨%f7, H7⟩, H8, ⟨%f9, H9⟩, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _)
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _)
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _)
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 8, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The index map of window 5 sends distinct grid points to distinct blocks. -/
theorem idx_inj5 : ∀ t t' : Fin cfg0.N, win0_5.index t = win0_5.index t' → t = t' :=
  (by decide +kernel : ∀ t t' : Fin grid0.N, win0_5.index t = win0_5.index t' → t = t')

/-- So two of its blocks share no index of the array. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote back. -/
theorem blocks5 (c : Dev nD) (t : Fin cfg0.N) (hf : (cfg0.win 5).flush t = true) :
    ((cfg0.win 5).blk t).view.read (Elt F) ((dats m 0 c).arrAt 5 cfg0.N) = (cfg0.win 5).cut (grid0.coords t) (outAt0_5 m c t) := by
  rw [(dats m 0 c).read_blk_arrAt_eq_flushed 5 disjoint5 cfg0.N t t.isLt hf]
  show (cfg0.win 5).cut (grid0.coords t) ((dats m 0 c).after 5 t) = _
  rw [after0_5]

end Cert.KernelIdeal.Gen

end
-- ==== Proof.KOps.lean ====
module

public import proofs.«01_k».proof.Proof.Gen.KernelIdeal.Skeleton

/-! The arrays of the kernel body, stage by stage: the quantised keys, values and queries, and for the first `n` keys the
scores, their weights, the sums and the weighted values. -/

@[expose] public section

set_option maxRecDepth 16384

noncomputable section

namespace Cert.KernelIdeal.Gen

open Idealize.ShloMosaic Idealize.SL.Sem

variable {F : FTy → Type} [FloatOps F] [Named F]

/-- The keys, quantised and scaled back, key by channel. -/
def kxLA (v5 : Vec F S1x896x128 .bf16) : FVec F S896x128 .bf16 :=
  have v47 : FVec F S4x32x896 .f32 := broadcast S4x32x896 (Scalar.ofBits .f32 0x43E00000#32)
  have v45 : FVec F S4x32x896 .f32 := broadcast S4x32x896 (Scalar.ofBits .f32 0xC3E00000#32)
  have v6 : FVec F S896x128 .bf16 := shapeCast S896x128 v5 shapeCasts_S1x896x128_S896x128
  have v7 : FVec F S128x896 .bf16 := transpose S128x896 [1, 0] v6 transposes_S896x128_p1_0_S128x896
  have v8 : FVec F S128x896 .f32 := extf .f32 v7 bitsLt_bf16_f32
  have v9 : FVec F S4x32x896 .f32 := shapeCast S4x32x896 v8 shapeCasts_S128x896_S4x32x896
  have v37 : IVec S4x896 32 := broadcast S4x896 255#32
  have v35 : IVec S4x896 32 := broadcast S4x896 0#32
  have v31 : IVec S4x896 32 := broadcast S4x896 0#32
  have v10 : FVec F S4x32x896 .f32 := absf v9
  have v11 : FVec F S4x896 .f32 := multiReduction .maximumf [1] S4x896 v10 0xFF800000#32 reduces_S4x32x896_S4x896 (.inl rfl) rfl
  have v25 : FVec F S4x896 .f32 := broadcast S4x896 (Scalar.ofBits .f32 0x00000000#32)
  have v26 : IVec S4x896 1 := cmpf .oeq v11 v25
  have v29 : IVec S4x896 32 := broadcast S4x896 0#32
  have v12 : FVec F S4x896 .f32 := broadcast S4x896 (Scalar.ofBits .f32 0x3B124925#32)
  have v13 : FVec F S4x896 .f32 := mulf v11 v12
  have v20 : FVec F S1x4x896 .f32 := shapeCast S1x4x896 v13 shapeCasts_S4x896_S1x4x896
  have v21 : FVec F S255x4x896 .f32 := broadcastTo S255x4x896 v20 broadcasts_S1x4x896_S255x4x896
  have v14 : IVec S255x4x896 32 := iota .tc S255x4x896 32 [0] iota_S255x4x896_d0_w32
  have v15 : IVec S255x4x896 32 := broadcast S255x4x896 1#32
  have v16 : IVec S255x4x896 32 := addi v14 v15
  have v17 : IVec S255x4x896 32 := broadcast S255x4x896 23#32
  have v18 : IVec S255x4x896 32 := shli v16 v17
  have v19 : FVec F S255x4x896 .f32 := bitcastToFloat .f32 v18
  have v22 : IVec S255x4x896 1 := cmpf .oge v21 v19
  have v23 : IVec S255x4x896 32 := extui 32 v22 natLt_1_32
  have v24 : IVec S4x896 32 := multiReductionI .add [0] S4x896 v23 0#32 reduces_S255x4x896_S4x896 rfl
  have v27 : IVec S4x896 32 := broadcast S4x896 126#32
  have v28 : IVec S4x896 32 := subi v24 v27
  have v30 : IVec S4x896 32 := select v26 v29 v28
  have v32 : IVec S4x896 32 := subi v31 v30
  have v33 : IVec S4x896 32 := broadcast S4x896 127#32
  have v34 : IVec S4x896 32 := addi v32 v33
  have v36 : IVec S4x896 32 := maxsi v35 v34
  have v38 : IVec S4x896 32 := minsi v37 v36
  have v39 : IVec S4x896 32 := broadcast S4x896 23#32
  have v40 : IVec S4x896 32 := shli v38 v39
  have v41 : FVec F S4x896 .f32 := bitcastToFloat .f32 v40
  have v42 : FVec F S4x1x896 .f32 := shapeCast S4x1x896 v41 shapeCasts_S4x896_S4x1x896
  have v43 : FVec F S4x32x896 .f32 := broadcastTo S4x32x896 v42 broadcasts_S4x1x896_S4x32x896
  have v44 : FVec F S4x32x896 .f32 := mulf v9 v43
  have v46 : FVec F S4x32x896 .f32 := maximumf v45 v44
  have v48 : FVec F S4x32x896 .f32 := minimumf v47 v46
  have v49 : FVec F S4x32x896 .fp8e4m3 := truncf .fp8e4m3 v48 bitsLt_fp8e4m3_f32
  have v50 : FVec F S128x896 .fp8e4m3 := shapeCast S128x896 v49 shapeCasts_S4x32x896_S128x896
  have v64 : FVec F S128x896 .bf16 := extf .bf16 v50 bitsLt_fp8e4m3_bf16
  have v55 : IVec S4x896 32 := broadcast S4x896 255#32
  have v53 : IVec S4x896 32 := broadcast S4x896 0#32
  have v51 : IVec S4x896 32 := broadcast S4x896 127#32
  have v52 : IVec S4x896 32 := addi v30 v51
  have v54 : IVec S4x896 32 := maxsi v53 v52
  have v56 : IVec S4x896 32 := minsi v55 v54
  have v57 : IVec S4x896 32 := broadcast S4x896 23#32
  have v58 : IVec S4x896 32 := shli v56 v57
  have v59 : FVec F S4x896 .f32 := bitcastToFloat .f32 v58
  have v60 : FVec F S4x1x896 .f32 := shapeCast S4x1x896 v59 shapeCasts_S4x896_S4x1x896
  have v61 : FVec F S4x1x896 .f32 := shapeCast S4x1x896 v60 shapeCasts_S4x1x896_S4x1x896
  have v62 : FVec F S4x32x896 .f32 := broadcastTo S4x32x896 v61 broadcasts_S4x1x896_S4x32x896
  have v63 : FVec F S128x896 .f32 := shapeCast S128x896 v62 shapeCasts_S4x32x896_S128x896
  have v65 : FVec F S128x896 .bf16 := truncf .bf16 v63 bitsLt_bf16_f32
  have v66 : FVec F S128x896 .bf16 := mulf v64 v65
  have v107 : FVec F S896x128 .bf16 := transpose S896x128 [1, 0] v66 transposes_S128x896_p1_0_S896x128
  have v110 : FVec F S896x128 .bf16 := shapeCast S896x128 v107 shapeCasts_S896x128_S896x128
  v110

/-- The exponent of each row of values. -/
def veA (v111 : Vec F S1x896x128 .bf16) : IVec S896x1 32 :=
  have v112 : FVec F S896x128 .bf16 := shapeCast S896x128 v111 shapeCasts_S1x896x128_S896x128
  have v113 : FVec F S896x128 .f32 := extf .f32 v112 bitsLt_bf16_f32
  have v114 : FVec F S896x128 .f32 := absf v113
  have v115 : FVec F S896 .f32 := multiReduction .maximumf [1] S896 v114 0xFF800000#32 reduces_S896x128_S896 (.inl rfl) rfl
  have v116 : FVec F S896x1 .f32 := shapeCast S896x1 v115 shapeCasts_S896_S896x1
  have v130 : FVec F S896x1 .f32 := broadcast S896x1 (Scalar.ofBits .f32 0x00000000#32)
  have v131 : IVec S896x1 1 := cmpf .oeq v116 v130
  have v134 : IVec S896x1 32 := broadcast S896x1 0#32
  have v117 : FVec F S896x1 .f32 := broadcast S896x1 (Scalar.ofBits .f32 0x3B124925#32)
  have v118 : FVec F S896x1 .f32 := mulf v116 v117
  have v125 : FVec F S1x896x1 .f32 := shapeCast S1x896x1 v118 shapeCasts_S896x1_S1x896x1
  have v126 : FVec F S255x896x1 .f32 := broadcastTo S255x896x1 v125 broadcasts_S1x896x1_S255x896x1
  have v119 : IVec S255x896x1 32 := iota .tc S255x896x1 32 [0] iota_S255x896x1_d0_w32
  have v120 : IVec S255x896x1 32 := broadcast S255x896x1 1#32
  have v121 : IVec S255x896x1 32 := addi v119 v120
  have v122 : IVec S255x896x1 32 := broadcast S255x896x1 23#32
  have v123 : IVec S255x896x1 32 := shli v121 v122
  have v124 : FVec F S255x896x1 .f32 := bitcastToFloat .f32 v123
  have v127 : IVec S255x896x1 1 := cmpf .oge v126 v124
  have v128 : IVec S255x896x1 32 := extui 32 v127 natLt_1_32
  have v129 : IVec S896x1 32 := multiReductionI .add [0] S896x1 v128 0#32 reduces_S255x896x1_S896x1 rfl
  have v132 : IVec S896x1 32 := broadcast S896x1 126#32
  have v133 : IVec S896x1 32 := subi v129 v132
  have v135 : IVec S896x1 32 := select v131 v134 v133
  v135

/-- The extra columns beside the keys. -/
def kxRA (v111 : Vec F S1x896x128 .bf16) (v195 : Vec F S896x128 .bf16) : FVec F S896x128 .bf16 :=
  have v186 : IVec S896x128 32 := iota .tc S896x128 32 [1] iota_S896x128_d1_w32
  have v190 : IVec S896x128 32 := broadcast S896x128 8#32
  have v191 : IVec S896x128 1 := cmpi .sge v186 v190
  have v192 : IVec S896x128 32 := broadcast S896x128 11#32
  have v193 : IVec S896x128 1 := cmpi .slt v186 v192
  have v194 : IVec S896x128 1 := andi v191 v193
  have v112 : FVec F S896x128 .bf16 := shapeCast S896x128 v111 shapeCasts_S1x896x128_S896x128
  have v113 : FVec F S896x128 .f32 := extf .f32 v112 bitsLt_bf16_f32
  have v114 : FVec F S896x128 .f32 := absf v113
  have v115 : FVec F S896 .f32 := multiReduction .maximumf [1] S896 v114 0xFF800000#32 reduces_S896x128_S896 (.inl rfl) rfl
  have v116 : FVec F S896x1 .f32 := shapeCast S896x1 v115 shapeCasts_S896_S896x1
  have v130 : FVec F S896x1 .f32 := broadcast S896x1 (Scalar.ofBits .f32 0x00000000#32)
  have v131 : IVec S896x1 1 := cmpf .oeq v116 v130
  have v134 : IVec S896x1 32 := broadcast S896x1 0#32
  have v117 : FVec F S896x1 .f32 := broadcast S896x1 (Scalar.ofBits .f32 0x3B124925#32)
  have v118 : FVec F S896x1 .f32 := mulf v116 v117
  have v125 : FVec F S1x896x1 .f32 := shapeCast S1x896x1 v118 shapeCasts_S896x1_S1x896x1
  have v126 : FVec F S255x896x1 .f32 := broadcastTo S255x896x1 v125 broadcasts_S1x896x1_S255x896x1
  have v119 : IVec S255x896x1 32 := iota .tc S255x896x1 32 [0] iota_S255x896x1_d0_w32
  have v120 : IVec S255x896x1 32 := broadcast S255x896x1 1#32
  have v121 : IVec S255x896x1 32 := addi v119 v120
  have v122 : IVec S255x896x1 32 := broadcast S255x896x1 23#32
  have v123 : IVec S255x896x1 32 := shli v121 v122
  have v124 : FVec F S255x896x1 .f32 := bitcastToFloat .f32 v123
  have v127 : IVec S255x896x1 1 := cmpf .oge v126 v124
  have v128 : IVec S255x896x1 32 := extui 32 v127 natLt_1_32
  have v129 : IVec S896x1 32 := multiReductionI .add [0] S896x1 v128 0#32 reduces_S255x896x1_S896x1 rfl
  have v132 : IVec S896x1 32 := broadcast S896x1 126#32
  have v133 : IVec S896x1 32 := subi v129 v132
  have v135 : IVec S896x1 32 := select v131 v134 v133
  have v187 : IVec S896x1 32 := shapeCast S896x1 v135 shapeCasts_S896x1_S896x1
  have v188 : IVec S896x128 32 := broadcastTo S896x128 v187 broadcasts_S896x1_S896x128
  have v189 : FVec F S896x128 .f32 := sitofp .f32 v188
  have v196 : FVec F S896x128 .bf16 := shapeCast S896x128 v195 shapeCasts_S896x128_S896x128
  have v197 : FVec F S896x128 .f32 := extf .f32 v196 bitsLt_bf16_f32
  have v198 : FVec F S896x128 .f32 := select v194 v189 v197
  have v199 : FVec F S896x128 .bf16 := truncf .bf16 v198 bitsLt_bf16_f32
  have v202 : FVec F S896x128 .bf16 := shapeCast S896x128 v199 shapeCasts_S896x128_S896x128
  v202

/-- One over the scale of each row of values, repeated along the row. -/
def vinvA (v111 : Vec F S1x896x128 .bf16) : FVec F S896x128 .f32 :=
  have v176 : IVec S896x1 32 := broadcast S896x1 255#32
  have v174 : IVec S896x1 32 := broadcast S896x1 0#32
  have v170 : IVec S896x1 32 := broadcast S896x1 0#32
  have v112 : FVec F S896x128 .bf16 := shapeCast S896x128 v111 shapeCasts_S1x896x128_S896x128
  have v113 : FVec F S896x128 .f32 := extf .f32 v112 bitsLt_bf16_f32
  have v114 : FVec F S896x128 .f32 := absf v113
  have v115 : FVec F S896 .f32 := multiReduction .maximumf [1] S896 v114 0xFF800000#32 reduces_S896x128_S896 (.inl rfl) rfl
  have v116 : FVec F S896x1 .f32 := shapeCast S896x1 v115 shapeCasts_S896_S896x1
  have v130 : FVec F S896x1 .f32 := broadcast S896x1 (Scalar.ofBits .f32 0x00000000#32)
  have v131 : IVec S896x1 1 := cmpf .oeq v116 v130
  have v134 : IVec S896x1 32 := broadcast S896x1 0#32
  have v117 : FVec F S896x1 .f32 := broadcast S896x1 (Scalar.ofBits .f32 0x3B124925#32)
  have v118 : FVec F S896x1 .f32 := mulf v116 v117
  have v125 : FVec F S1x896x1 .f32 := shapeCast S1x896x1 v118 shapeCasts_S896x1_S1x896x1
  have v126 : FVec F S255x896x1 .f32 := broadcastTo S255x896x1 v125 broadcasts_S1x896x1_S255x896x1
  have v119 : IVec S255x896x1 32 := iota .tc S255x896x1 32 [0] iota_S255x896x1_d0_w32
  have v120 : IVec S255x896x1 32 := broadcast S255x896x1 1#32
  have v121 : IVec S255x896x1 32 := addi v119 v120
  have v122 : IVec S255x896x1 32 := broadcast S255x896x1 23#32
  have v123 : IVec S255x896x1 32 := shli v121 v122
  have v124 : FVec F S255x896x1 .f32 := bitcastToFloat .f32 v123
  have v127 : IVec S255x896x1 1 := cmpf .oge v126 v124
  have v128 : IVec S255x896x1 32 := extui 32 v127 natLt_1_32
  have v129 : IVec S896x1 32 := multiReductionI .add [0] S896x1 v128 0#32 reduces_S255x896x1_S896x1 rfl
  have v132 : IVec S896x1 32 := broadcast S896x1 126#32
  have v133 : IVec S896x1 32 := subi v129 v132
  have v135 : IVec S896x1 32 := select v131 v134 v133
  have v171 : IVec S896x1 32 := subi v170 v135
  have v172 : IVec S896x1 32 := broadcast S896x1 127#32
  have v173 : IVec S896x1 32 := addi v171 v172
  have v175 : IVec S896x1 32 := maxsi v174 v173
  have v177 : IVec S896x1 32 := minsi v176 v175
  have v178 : IVec S896x1 32 := broadcast S896x1 23#32
  have v179 : IVec S896x1 32 := shli v177 v178
  have v180 : FVec F S896x1 .f32 := bitcastToFloat .f32 v179
  have v181 : FVec F S896x1 .f32 := shapeCast S896x1 v180 shapeCasts_S896x1_S896x1
  have v182 : FVec F S896x128 .f32 := broadcastTo S896x128 v181 broadcasts_S896x1_S896x128
  have v185 : FVec F S896x128 .f32 := shapeCast S896x128 v182 shapeCasts_S896x128_S896x128
  v185

/-- The codes of the values, channel by key. -/
def vtA (v203 : Vec F S1x896x128 .bf16) : FVec F S128x896 .fp8e4m3 :=
  have v244 : FVec F S128x896 .f32 := broadcast S128x896 (Scalar.ofBits .f32 0x43E00000#32)
  have v242 : FVec F S128x896 .f32 := broadcast S128x896 (Scalar.ofBits .f32 0xC3E00000#32)
  have v204 : FVec F S896x128 .bf16 := shapeCast S896x128 v203 shapeCasts_S1x896x128_S896x128
  have v205 : FVec F S128x896 .bf16 := transpose S128x896 [1, 0] v204 transposes_S896x128_p1_0_S128x896
  have v206 : FVec F S128x896 .f32 := extf .f32 v205 bitsLt_bf16_f32
  have v235 : IVec S1x896 32 := broadcast S1x896 255#32
  have v233 : IVec S1x896 32 := broadcast S1x896 0#32
  have v229 : IVec S1x896 32 := broadcast S1x896 0#32
  have v207 : FVec F S128x896 .f32 := absf v206
  have v208 : FVec F S896 .f32 := multiReduction .maximumf [0] S896 v207 0xFF800000#32 reduces_S128x896_S896 (.inl rfl) rfl
  have v209 : FVec F S1x896 .f32 := shapeCast S1x896 v208 shapeCasts_S896_S1x896
  have v223 : FVec F S1x896 .f32 := broadcast S1x896 (Scalar.ofBits .f32 0x00000000#32)
  have v224 : IVec S1x896 1 := cmpf .oeq v209 v223
  have v227 : IVec S1x896 32 := broadcast S1x896 0#32
  have v210 : FVec F S1x896 .f32 := broadcast S1x896 (Scalar.ofBits .f32 0x3B124925#32)
  have v211 : FVec F S1x896 .f32 := mulf v209 v210
  have v218 : FVec F S1x1x896 .f32 := shapeCast S1x1x896 v211 shapeCasts_S1x896_S1x1x896
  have v219 : FVec F S255x1x896 .f32 := broadcastTo S255x1x896 v218 broadcasts_S1x1x896_S255x1x896
  have v212 : IVec S255x1x896 32 := iota .tc S255x1x896 32 [0] iota_S255x1x896_d0_w32
  have v213 : IVec S255x1x896 32 := broadcast S255x1x896 1#32
  have v214 : IVec S255x1x896 32 := addi v212 v213
  have v215 : IVec S255x1x896 32 := broadcast S255x1x896 23#32
  have v216 : IVec S255x1x896 32 := shli v214 v215
  have v217 : FVec F S255x1x896 .f32 := bitcastToFloat .f32 v216
  have v220 : IVec S255x1x896 1 := cmpf .oge v219 v217
  have v221 : IVec S255x1x896 32 := extui 32 v220 natLt_1_32
  have v222 : IVec S1x896 32 := multiReductionI .add [0] S1x896 v221 0#32 reduces_S255x1x896_S1x896 rfl
  have v225 : IVec S1x896 32 := broadcast S1x896 126#32
  have v226 : IVec S1x896 32 := subi v222 v225
  have v228 : IVec S1x896 32 := select v224 v227 v226
  have v230 : IVec S1x896 32 := subi v229 v228
  have v231 : IVec S1x896 32 := broadcast S1x896 127#32
  have v232 : IVec S1x896 32 := addi v230 v231
  have v234 : IVec S1x896 32 := maxsi v233 v232
  have v236 : IVec S1x896 32 := minsi v235 v234
  have v237 : IVec S1x896 32 := broadcast S1x896 23#32
  have v238 : IVec S1x896 32 := shli v236 v237
  have v239 : FVec F S1x896 .f32 := bitcastToFloat .f32 v238
  have v240 : FVec F S128x896 .f32 := broadcastTo S128x896 v239 broadcasts_S1x896_S128x896
  have v241 : FVec F S128x896 .f32 := mulf v206 v240
  have v243 : FVec F S128x896 .f32 := maximumf v242 v241
  have v245 : FVec F S128x896 .f32 := minimumf v244 v243
  have v246 : FVec F S128x896 .fp8e4m3 := truncf .fp8e4m3 v245 bitsLt_fp8e4m3_f32
  have v249 : FVec F S128x896 .fp8e4m3 := shapeCast S128x896 v246 shapeCasts_S128x896_S128x896
  v249

/-- The rows below the extra ones. -/
def zeroA  : FVec F S112x256 .bf16 :=
  have v263 : FVec F S112x256 .bf16 := broadcast S112x256 (Scalar.ofBits .bf16 0x0000#16)
  have v266 : FVec F S112x256 .bf16 := shapeCast S112x256 v263 shapeCasts_S112x256_S112x256
  v266

/-- Whether a key of a tile comes no later than the query, by place in the tile. -/
def causA  : IVec S64x256 1 :=
  have v267 : IVec S64x256 32 := iota .tc S64x256 32 [0] iota_S64x256_d0_w32
  have v268 : IVec S64x256 32 := iota .tc S64x256 32 [1] iota_S64x256_d1_w32
  have v269 : IVec S64x256 32 := broadcast S64x256 63#32
  have v270 : IVec S64x256 32 := andi v268 v269
  have v271 : IVec S64x256 1 := cmpi .sle v267 v270
  v271

/-- A tile of queries of four heads, quantised and scaled back, channel by column. -/
def catQA (v272 : Vec F S1x64x128 .bf16) (v274 : Vec F S1x64x128 .bf16) (v276 : Vec F S1x64x128 .bf16) (v278 : Vec F S1x64x128 .bf16) : FVec F S256x128 .bf16 :=
  have v273 : FVec F S64x128 .bf16 := shapeCast S64x128 v272 shapeCasts_S1x64x128_S64x128
  have v275 : FVec F S64x128 .bf16 := shapeCast S64x128 v274 shapeCasts_S1x64x128_S64x128
  have v277 : FVec F S64x128 .bf16 := shapeCast S64x128 v276 shapeCasts_S1x64x128_S64x128
  have v279 : FVec F S64x128 .bf16 := shapeCast S64x128 v278 shapeCasts_S1x64x128_S64x128
  have v280 : FVec F S256x128 .bf16 := concatenate S256x128 0 [⟨S64x128, v273⟩, ⟨S64x128, v275⟩, ⟨S64x128, v277⟩, ⟨S64x128, v279⟩] concatenates_S64x128_S64x128_S64x128_S64x128_S256x128_d0
  v280

/-- The queries of one tile, transposed, quantised in blocks and scaled back. -/
def mxBA (v280 : FVec F S256x128 .bf16) : FVec F S128x256 .bf16 :=
  have v321 : FVec F S4x32x256 .f32 := broadcast S4x32x256 (Scalar.ofBits .f32 0x43E00000#32)
  have v319 : FVec F S4x32x256 .f32 := broadcast S4x32x256 (Scalar.ofBits .f32 0xC3E00000#32)
  have v281 : FVec F S128x256 .bf16 := transpose S128x256 [1, 0] v280 transposes_S256x128_p1_0_S128x256
  have v282 : FVec F S128x256 .f32 := extf .f32 v281 bitsLt_bf16_f32
  have v283 : FVec F S4x32x256 .f32 := shapeCast S4x32x256 v282 shapeCasts_S128x256_S4x32x256
  have v311 : IVec S4x256 32 := broadcast S4x256 255#32
  have v309 : IVec S4x256 32 := broadcast S4x256 0#32
  have v305 : IVec S4x256 32 := broadcast S4x256 0#32
  have v284 : FVec F S4x32x256 .f32 := absf v283
  have v285 : FVec F S4x256 .f32 := multiReduction .maximumf [1] S4x256 v284 0xFF800000#32 reduces_S4x32x256_S4x256 (.inl rfl) rfl
  have v299 : FVec F S4x256 .f32 := broadcast S4x256 (Scalar.ofBits .f32 0x00000000#32)
  have v300 : IVec S4x256 1 := cmpf .oeq v285 v299
  have v303 : IVec S4x256 32 := broadcast S4x256 0#32
  have v286 : FVec F S4x256 .f32 := broadcast S4x256 (Scalar.ofBits .f32 0x3B124925#32)
  have v287 : FVec F S4x256 .f32 := mulf v285 v286
  have v294 : FVec F S1x4x256 .f32 := shapeCast S1x4x256 v287 shapeCasts_S4x256_S1x4x256
  have v295 : FVec F S255x4x256 .f32 := broadcastTo S255x4x256 v294 broadcasts_S1x4x256_S255x4x256
  have v288 : IVec S255x4x256 32 := iota .tc S255x4x256 32 [0] iota_S255x4x256_d0_w32
  have v289 : IVec S255x4x256 32 := broadcast S255x4x256 1#32
  have v290 : IVec S255x4x256 32 := addi v288 v289
  have v291 : IVec S255x4x256 32 := broadcast S255x4x256 23#32
  have v292 : IVec S255x4x256 32 := shli v290 v291
  have v293 : FVec F S255x4x256 .f32 := bitcastToFloat .f32 v292
  have v296 : IVec S255x4x256 1 := cmpf .oge v295 v293
  have v297 : IVec S255x4x256 32 := extui 32 v296 natLt_1_32
  have v298 : IVec S4x256 32 := multiReductionI .add [0] S4x256 v297 0#32 reduces_S255x4x256_S4x256 rfl
  have v301 : IVec S4x256 32 := broadcast S4x256 126#32
  have v302 : IVec S4x256 32 := subi v298 v301
  have v304 : IVec S4x256 32 := select v300 v303 v302
  have v306 : IVec S4x256 32 := subi v305 v304
  have v307 : IVec S4x256 32 := broadcast S4x256 127#32
  have v308 : IVec S4x256 32 := addi v306 v307
  have v310 : IVec S4x256 32 := maxsi v309 v308
  have v312 : IVec S4x256 32 := minsi v311 v310
  have v313 : IVec S4x256 32 := broadcast S4x256 23#32
  have v314 : IVec S4x256 32 := shli v312 v313
  have v315 : FVec F S4x256 .f32 := bitcastToFloat .f32 v314
  have v316 : FVec F S4x1x256 .f32 := shapeCast S4x1x256 v315 shapeCasts_S4x256_S4x1x256
  have v317 : FVec F S4x32x256 .f32 := broadcastTo S4x32x256 v316 broadcasts_S4x1x256_S4x32x256
  have v318 : FVec F S4x32x256 .f32 := mulf v283 v317
  have v320 : FVec F S4x32x256 .f32 := maximumf v319 v318
  have v322 : FVec F S4x32x256 .f32 := minimumf v321 v320
  have v323 : FVec F S4x32x256 .fp8e4m3 := truncf .fp8e4m3 v322 bitsLt_fp8e4m3_f32
  have v324 : FVec F S128x256 .fp8e4m3 := shapeCast S128x256 v323 shapeCasts_S4x32x256_S128x256
  have v338 : FVec F S128x256 .bf16 := extf .bf16 v324 bitsLt_fp8e4m3_bf16
  have v329 : IVec S4x256 32 := broadcast S4x256 255#32
  have v327 : IVec S4x256 32 := broadcast S4x256 0#32
  have v325 : IVec S4x256 32 := broadcast S4x256 127#32
  have v326 : IVec S4x256 32 := addi v304 v325
  have v328 : IVec S4x256 32 := maxsi v327 v326
  have v330 : IVec S4x256 32 := minsi v329 v328
  have v331 : IVec S4x256 32 := broadcast S4x256 23#32
  have v332 : IVec S4x256 32 := shli v330 v331
  have v333 : FVec F S4x256 .f32 := bitcastToFloat .f32 v332
  have v334 : FVec F S4x1x256 .f32 := shapeCast S4x1x256 v333 shapeCasts_S4x256_S4x1x256
  have v335 : FVec F S4x1x256 .f32 := shapeCast S4x1x256 v334 shapeCasts_S4x1x256_S4x1x256
  have v336 : FVec F S4x32x256 .f32 := broadcastTo S4x32x256 v335 broadcasts_S4x1x256_S4x32x256
  have v337 : FVec F S128x256 .f32 := shapeCast S128x256 v336 shapeCasts_S4x32x256_S128x256
  have v339 : FVec F S128x256 .bf16 := truncf .bf16 v337 bitsLt_bf16_f32
  have v340 : FVec F S128x256 .bf16 := mulf v338 v339
  have v397 : FVec F S128x256 .bf16 := shapeCast S128x256 v340 shapeCasts_S128x256_S128x256
  v397

/-- The queries of one tile from its four heads' rows. -/
def mxQA (v272 : Vec F S1x64x128 .bf16) (v274 : Vec F S1x64x128 .bf16) (v276 : Vec F S1x64x128 .bf16) (v278 : Vec F S1x64x128 .bf16) : FVec F S128x256 .bf16 :=
  mxBA (catQA v272 v274 v276 v278)

/-- The extra rows of a tile. -/
def biasA (v398 : Vec F S1x1x16x256 .bf16) : FVec F S16x256 .bf16 :=
  have v399 : FVec F S16x256 .bf16 := shapeCast S16x256 v398 shapeCasts_S1x1x16x256_S16x256
  have v402 : FVec F S16x256 .bf16 := shapeCast S16x256 v399 shapeCasts_S16x256_S16x256
  v402

/-- The exponent of the weights of each column. -/
def weA (v419 : FVec F S1x256 .f32) : IVec S1x256 32 :=
  have v420 : FVec F S1x256 .f32 := broadcast S1x256 (Scalar.ofBits .f32 0x3F800000#32)
  have v421 : FVec F S1x256 .f32 := divf v420 v419
  have v435 : FVec F S1x256 .f32 := broadcast S1x256 (Scalar.ofBits .f32 0x00000000#32)
  have v436 : IVec S1x256 1 := cmpf .oeq v421 v435
  have v439 : IVec S1x256 32 := broadcast S1x256 0#32
  have v422 : FVec F S1x256 .f32 := broadcast S1x256 (Scalar.ofBits .f32 0x3B124925#32)
  have v423 : FVec F S1x256 .f32 := mulf v421 v422
  have v430 : FVec F S1x1x256 .f32 := shapeCast S1x1x256 v423 shapeCasts_S1x256_S1x1x256
  have v431 : FVec F S255x1x256 .f32 := broadcastTo S255x1x256 v430 broadcasts_S1x1x256_S255x1x256
  have v424 : IVec S255x1x256 32 := iota .tc S255x1x256 32 [0] iota_S255x1x256_d0_w32
  have v425 : IVec S255x1x256 32 := broadcast S255x1x256 1#32
  have v426 : IVec S255x1x256 32 := addi v424 v425
  have v427 : IVec S255x1x256 32 := broadcast S255x1x256 23#32
  have v428 : IVec S255x1x256 32 := shli v426 v427
  have v429 : FVec F S255x1x256 .f32 := bitcastToFloat .f32 v428
  have v432 : IVec S255x1x256 1 := cmpf .oge v431 v429
  have v433 : IVec S255x1x256 32 := extui 32 v432 natLt_1_32
  have v434 : IVec S1x256 32 := multiReductionI .add [0] S1x256 v433 0#32 reduces_S255x1x256_S1x256 rfl
  have v437 : IVec S1x256 32 := broadcast S1x256 126#32
  have v438 : IVec S1x256 32 := subi v434 v437
  have v440 : IVec S1x256 32 := select v436 v439 v438
  v440

/-- What the weights of each column are multiplied by. -/
def rA (v419 : FVec F S1x256 .f32) (v440 : IVec S1x256 32) : FVec F S1x256 .f32 :=
  have v447 : IVec S1x256 32 := broadcast S1x256 255#32
  have v445 : IVec S1x256 32 := broadcast S1x256 0#32
  have v441 : IVec S1x256 32 := broadcast S1x256 0#32
  have v442 : IVec S1x256 32 := subi v441 v440
  have v443 : IVec S1x256 32 := broadcast S1x256 127#32
  have v444 : IVec S1x256 32 := addi v442 v443
  have v446 : IVec S1x256 32 := maxsi v445 v444
  have v448 : IVec S1x256 32 := minsi v447 v446
  have v449 : IVec S1x256 32 := broadcast S1x256 23#32
  have v450 : IVec S1x256 32 := shli v448 v449
  have v451 : FVec F S1x256 .f32 := bitcastToFloat .f32 v450
  have v452 : FVec F S1x256 .f32 := divf v451 v419
  have v453 : FVec F S1x256 .f32 := broadcast S1x256 (Scalar.ofBits .f32 0x43E00000#32)
  have v454 : FVec F S1x256 .f32 := minimumf v452 v453
  v454

/-- The scores of the first 64 keys. -/
def tileA64 (v271 : IVec S64x256 1) (v403 : Vec F S64x256 .bf16) (v404 : Vec F S256x256 .bf16) : FVec F S64x256 .f32 :=
  have v405 : FVec F S64x256 .f32 := matmul dot_S64x256_S256x256_S64x256_1_0_0_1_n_n none v403 v404 (constant S64x256 .f32 0x00000000#32)
  have v406 : FVec F S64x256 .f32 := broadcast S64x256 (Named.named κ "mask" 0xF149F2CA#32)
  have v407 : FVec F S64x256 .f32 := select v271 v405 v406
  v407

/-- The largest score of each column. -/
def mA64 (v849 : FVec F S64x256 .f32) : FVec F S1x256 .f32 :=
  have v850 : FVec F S256 .f32 := multiReduction .maximumf [0] S256 v849 0xFF800000#32 reduces_S64x256_S256 (.inl rfl) rfl
  have v851 : FVec F S1x256 .f32 := shapeCast S1x256 v850 shapeCasts_S256_S1x256
  v851

/-- The weights before normalising. -/
def tA64 (v849 : FVec F S64x256 .f32) (v851 : FVec F S1x256 .f32) : FVec F S64x256 .f32 :=
  have v852 : FVec F S64x256 .f32 := broadcastTo S64x256 v851 broadcasts_S1x256_S64x256
  have v853 : FVec F S64x256 .f32 := subf v849 v852
  have v854 : FVec F S64x256 .f32 := broadcast S64x256 (Named.named κ "score_to_log2" 0x3E0293EE#32)
  have v855 : FVec F S64x256 .f32 := mulf v853 v854
  have v856 : FVec F S64x256 .f32 := exp2 v855
  v856

/-- The sum of the weights over the scales of the values. -/
def lA64 (v856 : FVec F S64x256 .f32) (v857 : Vec F S64x128 .f32) : FVec F S1x256 .f32 :=
  have v858 : FVec F S64x256 .f32 := concatenate S64x256 1 [⟨S64x128, v857⟩, ⟨S64x128, v857⟩] concatenates_S64x128_S64x128_S64x256_d1
  have v859 : FVec F S64x256 .f32 := mulf v856 v858
  have v860 : FVec F S256 .f32 := multiReduction .add [0] S256 v859 0x00000000#32 reduces_S64x256_S256 (.inl rfl) rfl
  have v861 : FVec F S1x256 .f32 := shapeCast S1x256 v860 shapeCasts_S256_S1x256
  v861

/-- The weighted values, column by channel. -/
def oA64 (v856 : FVec F S64x256 .f32) (v896 : FVec F S1x256 .f32) (v882 : IVec S1x256 32) (v902 : Vec F S128x128 .fp8e4m3) : FVec F S256x128 .bf16 :=
  have v897 : FVec F S64x256 .f32 := broadcastTo S64x256 v896 broadcasts_S1x256_S64x256
  have v898 : FVec F S64x256 .f32 := mulf v856 v897
  have v899 : FVec F S64x256 .fp8e4m3 := truncf .fp8e4m3 v898 bitsLt_fp8e4m3_f32
  have v900 : FVec F S64x256 .fp8e4m3 := broadcast S64x256 (Scalar.ofBits .fp8e4m3 0x00#8)
  have v901 : FVec F S128x256 .fp8e4m3 := concatenate S128x256 0 [⟨S64x256, v899⟩, ⟨S64x256, v900⟩] concatenates_S64x256_S64x256_S128x256_d0
  have v903 : FVec F S128x256 .f32 := matmul dot_S128x128_S128x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 128 keys. -/
def tileA128 (v271 : IVec S64x256 1) (v842 : Vec F S128x256 .bf16) (v843 : Vec F S256x256 .bf16) : FVec F S128x256 .f32 :=
  have v844 : FVec F S128x256 .f32 := matmul dot_S128x256_S256x256_S128x256_1_0_0_1_n_n none v842 v843 (constant S128x256 .f32 0x00000000#32)
  have v848 : FVec F S64x256 .f32 := extractStridedSlice S64x256 ![0, 0] v844 slices_S128x256_o0_0_S64x256
  have v845 : FVec F S64x256 .f32 := extractStridedSlice S64x256 ![64, 0] v844 slices_S128x256_o64_0_S64x256
  have v846 : FVec F S64x256 .f32 := broadcast S64x256 (Named.named κ "mask" 0xF149F2CA#32)
  have v847 : FVec F S64x256 .f32 := select v271 v845 v846
  have v849 : FVec F S128x256 .f32 := concatenate S128x256 0 [⟨S64x256, v848⟩, ⟨S64x256, v847⟩] concatenates_S64x256_S64x256_S128x256_d0
  v849

/-- The largest score of each column. -/
def mA128 (v849 : FVec F S128x256 .f32) : FVec F S1x256 .f32 :=
  have v850 : FVec F S256 .f32 := multiReduction .maximumf [0] S256 v849 0xFF800000#32 reduces_S128x256_S256 (.inl rfl) rfl
  have v851 : FVec F S1x256 .f32 := shapeCast S1x256 v850 shapeCasts_S256_S1x256
  v851

/-- The weights before normalising. -/
def tA128 (v849 : FVec F S128x256 .f32) (v851 : FVec F S1x256 .f32) : FVec F S128x256 .f32 :=
  have v852 : FVec F S128x256 .f32 := broadcastTo S128x256 v851 broadcasts_S1x256_S128x256
  have v853 : FVec F S128x256 .f32 := subf v849 v852
  have v854 : FVec F S128x256 .f32 := broadcast S128x256 (Named.named κ "score_to_log2" 0x3E0293EE#32)
  have v855 : FVec F S128x256 .f32 := mulf v853 v854
  have v856 : FVec F S128x256 .f32 := exp2 v855
  v856

/-- The sum of the weights over the scales of the values. -/
def lA128 (v856 : FVec F S128x256 .f32) (v857 : Vec F S128x128 .f32) : FVec F S1x256 .f32 :=
  have v858 : FVec F S128x256 .f32 := concatenate S128x256 1 [⟨S128x128, v857⟩, ⟨S128x128, v857⟩] concatenates_S128x128_S128x128_S128x256_d1
  have v859 : FVec F S128x256 .f32 := mulf v856 v858
  have v860 : FVec F S256 .f32 := multiReduction .add [0] S256 v859 0x00000000#32 reduces_S128x256_S256 (.inl rfl) rfl
  have v861 : FVec F S1x256 .f32 := shapeCast S1x256 v860 shapeCasts_S256_S1x256
  v861

/-- The weighted values, column by channel. -/
def oA128 (v856 : FVec F S128x256 .f32) (v896 : FVec F S1x256 .f32) (v882 : IVec S1x256 32) (v902 : Vec F S128x128 .fp8e4m3) : FVec F S256x128 .bf16 :=
  have v897 : FVec F S128x256 .f32 := broadcastTo S128x256 v896 broadcasts_S1x256_S128x256
  have v898 : FVec F S128x256 .f32 := mulf v856 v897
  have v899 : FVec F S128x256 .fp8e4m3 := truncf .fp8e4m3 v898 bitsLt_fp8e4m3_f32
  have v903 : FVec F S128x256 .f32 := matmul dot_S128x128_S128x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 192 keys. -/
def tileA192 (v271 : IVec S64x256 1) (v842 : Vec F S192x256 .bf16) (v843 : Vec F S256x256 .bf16) : FVec F S192x256 .f32 :=
  have v844 : FVec F S192x256 .f32 := matmul dot_S192x256_S256x256_S192x256_1_0_0_1_n_n none v842 v843 (constant S192x256 .f32 0x00000000#32)
  have v848 : FVec F S128x256 .f32 := extractStridedSlice S128x256 ![0, 0] v844 slices_S192x256_o0_0_S128x256
  have v845 : FVec F S64x256 .f32 := extractStridedSlice S64x256 ![128, 0] v844 slices_S192x256_o128_0_S64x256
  have v846 : FVec F S64x256 .f32 := broadcast S64x256 (Named.named κ "mask" 0xF149F2CA#32)
  have v847 : FVec F S64x256 .f32 := select v271 v845 v846
  have v849 : FVec F S192x256 .f32 := concatenate S192x256 0 [⟨S128x256, v848⟩, ⟨S64x256, v847⟩] concatenates_S128x256_S64x256_S192x256_d0
  v849

/-- The largest score of each column. -/
def mA192 (v849 : FVec F S192x256 .f32) : FVec F S1x256 .f32 :=
  have v850 : FVec F S256 .f32 := multiReduction .maximumf [0] S256 v849 0xFF800000#32 reduces_S192x256_S256 (.inl rfl) rfl
  have v851 : FVec F S1x256 .f32 := shapeCast S1x256 v850 shapeCasts_S256_S1x256
  v851

/-- The weights before normalising. -/
def tA192 (v849 : FVec F S192x256 .f32) (v851 : FVec F S1x256 .f32) : FVec F S192x256 .f32 :=
  have v852 : FVec F S192x256 .f32 := broadcastTo S192x256 v851 broadcasts_S1x256_S192x256
  have v853 : FVec F S192x256 .f32 := subf v849 v852
  have v854 : FVec F S192x256 .f32 := broadcast S192x256 (Named.named κ "score_to_log2" 0x3E0293EE#32)
  have v855 : FVec F S192x256 .f32 := mulf v853 v854
  have v856 : FVec F S192x256 .f32 := exp2 v855
  v856

/-- The sum of the weights over the scales of the values. -/
def lA192 (v856 : FVec F S192x256 .f32) (v857 : Vec F S192x128 .f32) : FVec F S1x256 .f32 :=
  have v858 : FVec F S192x256 .f32 := concatenate S192x256 1 [⟨S192x128, v857⟩, ⟨S192x128, v857⟩] concatenates_S192x128_S192x128_S192x256_d1
  have v859 : FVec F S192x256 .f32 := mulf v856 v858
  have v860 : FVec F S256 .f32 := multiReduction .add [0] S256 v859 0x00000000#32 reduces_S192x256_S256 (.inl rfl) rfl
  have v861 : FVec F S1x256 .f32 := shapeCast S1x256 v860 shapeCasts_S256_S1x256
  v861

/-- The weighted values, column by channel. -/
def oA192 (v856 : FVec F S192x256 .f32) (v896 : FVec F S1x256 .f32) (v882 : IVec S1x256 32) (v902 : Vec F S128x256 .fp8e4m3) : FVec F S256x128 .bf16 :=
  have v897 : FVec F S192x256 .f32 := broadcastTo S192x256 v896 broadcasts_S1x256_S192x256
  have v898 : FVec F S192x256 .f32 := mulf v856 v897
  have v899 : FVec F S192x256 .fp8e4m3 := truncf .fp8e4m3 v898 bitsLt_fp8e4m3_f32
  have v900 : FVec F S64x256 .fp8e4m3 := broadcast S64x256 (Scalar.ofBits .fp8e4m3 0x00#8)
  have v901 : FVec F S256x256 .fp8e4m3 := concatenate S256x256 0 [⟨S192x256, v899⟩, ⟨S64x256, v900⟩] concatenates_S192x256_S64x256_S256x256_d0
  have v903 : FVec F S128x256 .f32 := matmul dot_S128x256_S256x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 256 keys. -/
def tileA256 (v271 : IVec S64x256 1) (v842 : Vec F S256x256 .bf16) (v843 : Vec F S256x256 .bf16) : FVec F S256x256 .f32 :=
  have v844 : FVec F S256x256 .f32 := matmul dot_S256x256_S256x256_S256x256_1_0_0_1_n_n none v842 v843 (constant S256x256 .f32 0x00000000#32)
  have v848 : FVec F S192x256 .f32 := extractStridedSlice S192x256 ![0, 0] v844 slices_S256x256_o0_0_S192x256
  have v845 : FVec F S64x256 .f32 := extractStridedSlice S64x256 ![192, 0] v844 slices_S256x256_o192_0_S64x256
  have v846 : FVec F S64x256 .f32 := broadcast S64x256 (Named.named κ "mask" 0xF149F2CA#32)
  have v847 : FVec F S64x256 .f32 := select v271 v845 v846
  have v849 : FVec F S256x256 .f32 := concatenate S256x256 0 [⟨S192x256, v848⟩, ⟨S64x256, v847⟩] concatenates_S192x256_S64x256_S256x256_d0
  v849

/-- The largest score of each column. -/
def mA256 (v849 : FVec F S256x256 .f32) : FVec F S1x256 .f32 :=
  have v850 : FVec F S256 .f32 := multiReduction .maximumf [0] S256 v849 0xFF800000#32 reduces_S256x256_S256 (.inl rfl) rfl
  have v851 : FVec F S1x256 .f32 := shapeCast S1x256 v850 shapeCasts_S256_S1x256
  v851

/-- The weights before normalising. -/
def tA256 (v849 : FVec F S256x256 .f32) (v851 : FVec F S1x256 .f32) : FVec F S256x256 .f32 :=
  have v852 : FVec F S256x256 .f32 := broadcastTo S256x256 v851 broadcasts_S1x256_S256x256
  have v853 : FVec F S256x256 .f32 := subf v849 v852
  have v854 : FVec F S256x256 .f32 := broadcast S256x256 (Named.named κ "score_to_log2" 0x3E0293EE#32)
  have v855 : FVec F S256x256 .f32 := mulf v853 v854
  have v856 : FVec F S256x256 .f32 := exp2 v855
  v856

/-- The sum of the weights over the scales of the values. -/
def lA256 (v856 : FVec F S256x256 .f32) (v857 : Vec F S256x128 .f32) : FVec F S1x256 .f32 :=
  have v858 : FVec F S256x256 .f32 := concatenate S256x256 1 [⟨S256x128, v857⟩, ⟨S256x128, v857⟩] concatenates_S256x128_S256x128_S256x256_d1
  have v859 : FVec F S256x256 .f32 := mulf v856 v858
  have v860 : FVec F S256 .f32 := multiReduction .add [0] S256 v859 0x00000000#32 reduces_S256x256_S256 (.inl rfl) rfl
  have v861 : FVec F S1x256 .f32 := shapeCast S1x256 v860 shapeCasts_S256_S1x256
  v861

/-- The weighted values, column by channel. -/
def oA256 (v856 : FVec F S256x256 .f32) (v896 : FVec F S1x256 .f32) (v882 : IVec S1x256 32) (v902 : Vec F S128x256 .fp8e4m3) : FVec F S256x128 .bf16 :=
  have v897 : FVec F S256x256 .f32 := broadcastTo S256x256 v896 broadcasts_S1x256_S256x256
  have v898 : FVec F S256x256 .f32 := mulf v856 v897
  have v899 : FVec F S256x256 .fp8e4m3 := truncf .fp8e4m3 v898 bitsLt_fp8e4m3_f32
  have v903 : FVec F S128x256 .f32 := matmul dot_S128x256_S256x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 320 keys. -/
def tileA320 (v271 : IVec S64x256 1) (v842 : Vec F S320x256 .bf16) (v843 : Vec F S256x256 .bf16) : FVec F S320x256 .f32 :=
  have v844 : FVec F S320x256 .f32 := matmul dot_S320x256_S256x256_S320x256_1_0_0_1_n_n none v842 v843 (constant S320x256 .f32 0x00000000#32)
  have v848 : FVec F S256x256 .f32 := extractStridedSlice S256x256 ![0, 0] v844 slices_S320x256_o0_0_S256x256
  have v845 : FVec F S64x256 .f32 := extractStridedSlice S64x256 ![256, 0] v844 slices_S320x256_o256_0_S64x256
  have v846 : FVec F S64x256 .f32 := broadcast S64x256 (Named.named κ "mask" 0xF149F2CA#32)
  have v847 : FVec F S64x256 .f32 := select v271 v845 v846
  have v849 : FVec F S320x256 .f32 := concatenate S320x256 0 [⟨S256x256, v848⟩, ⟨S64x256, v847⟩] concatenates_S256x256_S64x256_S320x256_d0
  v849

/-- The largest score of each column. -/
def mA320 (v849 : FVec F S320x256 .f32) : FVec F S1x256 .f32 :=
  have v850 : FVec F S256 .f32 := multiReduction .maximumf [0] S256 v849 0xFF800000#32 reduces_S320x256_S256 (.inl rfl) rfl
  have v851 : FVec F S1x256 .f32 := shapeCast S1x256 v850 shapeCasts_S256_S1x256
  v851

/-- The weights before normalising. -/
def tA320 (v849 : FVec F S320x256 .f32) (v851 : FVec F S1x256 .f32) : FVec F S320x256 .f32 :=
  have v852 : FVec F S320x256 .f32 := broadcastTo S320x256 v851 broadcasts_S1x256_S320x256
  have v853 : FVec F S320x256 .f32 := subf v849 v852
  have v854 : FVec F S320x256 .f32 := broadcast S320x256 (Named.named κ "score_to_log2" 0x3E0293EE#32)
  have v855 : FVec F S320x256 .f32 := mulf v853 v854
  have v856 : FVec F S320x256 .f32 := exp2 v855
  v856

/-- The sum of the weights over the scales of the values. -/
def lA320 (v856 : FVec F S320x256 .f32) (v857 : Vec F S320x128 .f32) : FVec F S1x256 .f32 :=
  have v858 : FVec F S320x256 .f32 := concatenate S320x256 1 [⟨S320x128, v857⟩, ⟨S320x128, v857⟩] concatenates_S320x128_S320x128_S320x256_d1
  have v859 : FVec F S320x256 .f32 := mulf v856 v858
  have v860 : FVec F S256 .f32 := multiReduction .add [0] S256 v859 0x00000000#32 reduces_S320x256_S256 (.inl rfl) rfl
  have v861 : FVec F S1x256 .f32 := shapeCast S1x256 v860 shapeCasts_S256_S1x256
  v861

/-- The weighted values, column by channel. -/
def oA320 (v856 : FVec F S320x256 .f32) (v896 : FVec F S1x256 .f32) (v882 : IVec S1x256 32) (v902 : Vec F S128x384 .fp8e4m3) : FVec F S256x128 .bf16 :=
  have v897 : FVec F S320x256 .f32 := broadcastTo S320x256 v896 broadcasts_S1x256_S320x256
  have v898 : FVec F S320x256 .f32 := mulf v856 v897
  have v899 : FVec F S320x256 .fp8e4m3 := truncf .fp8e4m3 v898 bitsLt_fp8e4m3_f32
  have v900 : FVec F S64x256 .fp8e4m3 := broadcast S64x256 (Scalar.ofBits .fp8e4m3 0x00#8)
  have v901 : FVec F S384x256 .fp8e4m3 := concatenate S384x256 0 [⟨S320x256, v899⟩, ⟨S64x256, v900⟩] concatenates_S320x256_S64x256_S384x256_d0
  have v903 : FVec F S128x256 .f32 := matmul dot_S128x384_S384x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 384 keys. -/
def tileA384 (v271 : IVec S64x256 1) (v842 : Vec F S384x256 .bf16) (v843 : Vec F S256x256 .bf16) : FVec F S384x256 .f32 :=
  have v844 : FVec F S384x256 .f32 := matmul dot_S384x256_S256x256_S384x256_1_0_0_1_n_n none v842 v843 (constant S384x256 .f32 0x00000000#32)
  have v848 : FVec F S320x256 .f32 := extractStridedSlice S320x256 ![0, 0] v844 slices_S384x256_o0_0_S320x256
  have v845 : FVec F S64x256 .f32 := extractStridedSlice S64x256 ![320, 0] v844 slices_S384x256_o320_0_S64x256
  have v846 : FVec F S64x256 .f32 := broadcast S64x256 (Named.named κ "mask" 0xF149F2CA#32)
  have v847 : FVec F S64x256 .f32 := select v271 v845 v846
  have v849 : FVec F S384x256 .f32 := concatenate S384x256 0 [⟨S320x256, v848⟩, ⟨S64x256, v847⟩] concatenates_S320x256_S64x256_S384x256_d0
  v849

/-- The largest score of each column. -/
def mA384 (v849 : FVec F S384x256 .f32) : FVec F S1x256 .f32 :=
  have v850 : FVec F S256 .f32 := multiReduction .maximumf [0] S256 v849 0xFF800000#32 reduces_S384x256_S256 (.inl rfl) rfl
  have v851 : FVec F S1x256 .f32 := shapeCast S1x256 v850 shapeCasts_S256_S1x256
  v851

/-- The weights before normalising. -/
def tA384 (v849 : FVec F S384x256 .f32) (v851 : FVec F S1x256 .f32) : FVec F S384x256 .f32 :=
  have v852 : FVec F S384x256 .f32 := broadcastTo S384x256 v851 broadcasts_S1x256_S384x256
  have v853 : FVec F S384x256 .f32 := subf v849 v852
  have v854 : FVec F S384x256 .f32 := broadcast S384x256 (Named.named κ "score_to_log2" 0x3E0293EE#32)
  have v855 : FVec F S384x256 .f32 := mulf v853 v854
  have v856 : FVec F S384x256 .f32 := exp2 v855
  v856

/-- The sum of the weights over the scales of the values. -/
def lA384 (v856 : FVec F S384x256 .f32) (v857 : Vec F S384x128 .f32) : FVec F S1x256 .f32 :=
  have v858 : FVec F S384x256 .f32 := concatenate S384x256 1 [⟨S384x128, v857⟩, ⟨S384x128, v857⟩] concatenates_S384x128_S384x128_S384x256_d1
  have v859 : FVec F S384x256 .f32 := mulf v856 v858
  have v860 : FVec F S256 .f32 := multiReduction .add [0] S256 v859 0x00000000#32 reduces_S384x256_S256 (.inl rfl) rfl
  have v861 : FVec F S1x256 .f32 := shapeCast S1x256 v860 shapeCasts_S256_S1x256
  v861

/-- The weighted values, column by channel. -/
def oA384 (v856 : FVec F S384x256 .f32) (v896 : FVec F S1x256 .f32) (v882 : IVec S1x256 32) (v902 : Vec F S128x384 .fp8e4m3) : FVec F S256x128 .bf16 :=
  have v897 : FVec F S384x256 .f32 := broadcastTo S384x256 v896 broadcasts_S1x256_S384x256
  have v898 : FVec F S384x256 .f32 := mulf v856 v897
  have v899 : FVec F S384x256 .fp8e4m3 := truncf .fp8e4m3 v898 bitsLt_fp8e4m3_f32
  have v903 : FVec F S128x256 .f32 := matmul dot_S128x384_S384x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 448 keys. -/
def tileA448 (v271 : IVec S64x256 1) (v842 : Vec F S448x256 .bf16) (v843 : Vec F S256x256 .bf16) : FVec F S448x256 .f32 :=
  have v844 : FVec F S448x256 .f32 := matmul dot_S448x256_S256x256_S448x256_1_0_0_1_n_n none v842 v843 (constant S448x256 .f32 0x00000000#32)
  have v848 : FVec F S384x256 .f32 := extractStridedSlice S384x256 ![0, 0] v844 slices_S448x256_o0_0_S384x256
  have v845 : FVec F S64x256 .f32 := extractStridedSlice S64x256 ![384, 0] v844 slices_S448x256_o384_0_S64x256
  have v846 : FVec F S64x256 .f32 := broadcast S64x256 (Named.named κ "mask" 0xF149F2CA#32)
  have v847 : FVec F S64x256 .f32 := select v271 v845 v846
  have v849 : FVec F S448x256 .f32 := concatenate S448x256 0 [⟨S384x256, v848⟩, ⟨S64x256, v847⟩] concatenates_S384x256_S64x256_S448x256_d0
  v849

/-- The largest score of each column. -/
def mA448 (v849 : FVec F S448x256 .f32) : FVec F S1x256 .f32 :=
  have v850 : FVec F S256 .f32 := multiReduction .maximumf [0] S256 v849 0xFF800000#32 reduces_S448x256_S256 (.inl rfl) rfl
  have v851 : FVec F S1x256 .f32 := shapeCast S1x256 v850 shapeCasts_S256_S1x256
  v851

/-- The weights before normalising. -/
def tA448 (v849 : FVec F S448x256 .f32) (v851 : FVec F S1x256 .f32) : FVec F S448x256 .f32 :=
  have v852 : FVec F S448x256 .f32 := broadcastTo S448x256 v851 broadcasts_S1x256_S448x256
  have v853 : FVec F S448x256 .f32 := subf v849 v852
  have v854 : FVec F S448x256 .f32 := broadcast S448x256 (Named.named κ "score_to_log2" 0x3E0293EE#32)
  have v855 : FVec F S448x256 .f32 := mulf v853 v854
  have v856 : FVec F S448x256 .f32 := exp2 v855
  v856

/-- The sum of the weights over the scales of the values. -/
def lA448 (v856 : FVec F S448x256 .f32) (v857 : Vec F S448x128 .f32) : FVec F S1x256 .f32 :=
  have v858 : FVec F S448x256 .f32 := concatenate S448x256 1 [⟨S448x128, v857⟩, ⟨S448x128, v857⟩] concatenates_S448x128_S448x128_S448x256_d1
  have v859 : FVec F S448x256 .f32 := mulf v856 v858
  have v860 : FVec F S256 .f32 := multiReduction .add [0] S256 v859 0x00000000#32 reduces_S448x256_S256 (.inl rfl) rfl
  have v861 : FVec F S1x256 .f32 := shapeCast S1x256 v860 shapeCasts_S256_S1x256
  v861

/-- The weighted values, column by channel. -/
def oA448 (v856 : FVec F S448x256 .f32) (v896 : FVec F S1x256 .f32) (v882 : IVec S1x256 32) (v902 : Vec F S128x512 .fp8e4m3) : FVec F S256x128 .bf16 :=
  have v897 : FVec F S448x256 .f32 := broadcastTo S448x256 v896 broadcasts_S1x256_S448x256
  have v898 : FVec F S448x256 .f32 := mulf v856 v897
  have v899 : FVec F S448x256 .fp8e4m3 := truncf .fp8e4m3 v898 bitsLt_fp8e4m3_f32
  have v900 : FVec F S64x256 .fp8e4m3 := broadcast S64x256 (Scalar.ofBits .fp8e4m3 0x00#8)
  have v901 : FVec F S512x256 .fp8e4m3 := concatenate S512x256 0 [⟨S448x256, v899⟩, ⟨S64x256, v900⟩] concatenates_S448x256_S64x256_S512x256_d0
  have v903 : FVec F S128x256 .f32 := matmul dot_S128x512_S512x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 512 keys. -/
def tileA512 (v271 : IVec S64x256 1) (v842 : Vec F S512x256 .bf16) (v843 : Vec F S256x256 .bf16) : FVec F S512x256 .f32 :=
  have v844 : FVec F S512x256 .f32 := matmul dot_S512x256_S256x256_S512x256_1_0_0_1_n_n none v842 v843 (constant S512x256 .f32 0x00000000#32)
  have v848 : FVec F S448x256 .f32 := extractStridedSlice S448x256 ![0, 0] v844 slices_S512x256_o0_0_S448x256
  have v845 : FVec F S64x256 .f32 := extractStridedSlice S64x256 ![448, 0] v844 slices_S512x256_o448_0_S64x256
  have v846 : FVec F S64x256 .f32 := broadcast S64x256 (Named.named κ "mask" 0xF149F2CA#32)
  have v847 : FVec F S64x256 .f32 := select v271 v845 v846
  have v849 : FVec F S512x256 .f32 := concatenate S512x256 0 [⟨S448x256, v848⟩, ⟨S64x256, v847⟩] concatenates_S448x256_S64x256_S512x256_d0
  v849

/-- The largest score of each column. -/
def mA512 (v849 : FVec F S512x256 .f32) : FVec F S1x256 .f32 :=
  have v850 : FVec F S256 .f32 := multiReduction .maximumf [0] S256 v849 0xFF800000#32 reduces_S512x256_S256 (.inl rfl) rfl
  have v851 : FVec F S1x256 .f32 := shapeCast S1x256 v850 shapeCasts_S256_S1x256
  v851

/-- The weights before normalising. -/
def tA512 (v849 : FVec F S512x256 .f32) (v851 : FVec F S1x256 .f32) : FVec F S512x256 .f32 :=
  have v852 : FVec F S512x256 .f32 := broadcastTo S512x256 v851 broadcasts_S1x256_S512x256
  have v853 : FVec F S512x256 .f32 := subf v849 v852
  have v854 : FVec F S512x256 .f32 := broadcast S512x256 (Named.named κ "score_to_log2" 0x3E0293EE#32)
  have v855 : FVec F S512x256 .f32 := mulf v853 v854
  have v856 : FVec F S512x256 .f32 := exp2 v855
  v856

/-- The sum of the weights over the scales of the values. -/
def lA512 (v856 : FVec F S512x256 .f32) (v857 : Vec F S512x128 .f32) : FVec F S1x256 .f32 :=
  have v858 : FVec F S512x256 .f32 := concatenate S512x256 1 [⟨S512x128, v857⟩, ⟨S512x128, v857⟩] concatenates_S512x128_S512x128_S512x256_d1
  have v859 : FVec F S512x256 .f32 := mulf v856 v858
  have v860 : FVec F S256 .f32 := multiReduction .add [0] S256 v859 0x00000000#32 reduces_S512x256_S256 (.inl rfl) rfl
  have v861 : FVec F S1x256 .f32 := shapeCast S1x256 v860 shapeCasts_S256_S1x256
  v861

/-- The weighted values, column by channel. -/
def oA512 (v856 : FVec F S512x256 .f32) (v896 : FVec F S1x256 .f32) (v882 : IVec S1x256 32) (v902 : Vec F S128x512 .fp8e4m3) : FVec F S256x128 .bf16 :=
  have v897 : FVec F S512x256 .f32 := broadcastTo S512x256 v896 broadcasts_S1x256_S512x256
  have v898 : FVec F S512x256 .f32 := mulf v856 v897
  have v899 : FVec F S512x256 .fp8e4m3 := truncf .fp8e4m3 v898 bitsLt_fp8e4m3_f32
  have v903 : FVec F S128x256 .f32 := matmul dot_S128x512_S512x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 576 keys. -/
def tileA576 (v271 : IVec S64x256 1) (v842 : Vec F S576x256 .bf16) (v843 : Vec F S256x256 .bf16) : FVec F S576x256 .f32 :=
  have v844 : FVec F S576x256 .f32 := matmul dot_S576x256_S256x256_S576x256_1_0_0_1_n_n none v842 v843 (constant S576x256 .f32 0x00000000#32)
  have v848 : FVec F S512x256 .f32 := extractStridedSlice S512x256 ![0, 0] v844 slices_S576x256_o0_0_S512x256
  have v845 : FVec F S64x256 .f32 := extractStridedSlice S64x256 ![512, 0] v844 slices_S576x256_o512_0_S64x256
  have v846 : FVec F S64x256 .f32 := broadcast S64x256 (Named.named κ "mask" 0xF149F2CA#32)
  have v847 : FVec F S64x256 .f32 := select v271 v845 v846
  have v849 : FVec F S576x256 .f32 := concatenate S576x256 0 [⟨S512x256, v848⟩, ⟨S64x256, v847⟩] concatenates_S512x256_S64x256_S576x256_d0
  v849

/-- The largest score of each column. -/
def mA576 (v849 : FVec F S576x256 .f32) : FVec F S1x256 .f32 :=
  have v850 : FVec F S256 .f32 := multiReduction .maximumf [0] S256 v849 0xFF800000#32 reduces_S576x256_S256 (.inl rfl) rfl
  have v851 : FVec F S1x256 .f32 := shapeCast S1x256 v850 shapeCasts_S256_S1x256
  v851

/-- The weights before normalising. -/
def tA576 (v849 : FVec F S576x256 .f32) (v851 : FVec F S1x256 .f32) : FVec F S576x256 .f32 :=
  have v852 : FVec F S576x256 .f32 := broadcastTo S576x256 v851 broadcasts_S1x256_S576x256
  have v853 : FVec F S576x256 .f32 := subf v849 v852
  have v854 : FVec F S576x256 .f32 := broadcast S576x256 (Named.named κ "score_to_log2" 0x3E0293EE#32)
  have v855 : FVec F S576x256 .f32 := mulf v853 v854
  have v856 : FVec F S576x256 .f32 := exp2 v855
  v856

/-- The sum of the weights over the scales of the values. -/
def lA576 (v856 : FVec F S576x256 .f32) (v857 : Vec F S576x128 .f32) : FVec F S1x256 .f32 :=
  have v858 : FVec F S576x256 .f32 := concatenate S576x256 1 [⟨S576x128, v857⟩, ⟨S576x128, v857⟩] concatenates_S576x128_S576x128_S576x256_d1
  have v859 : FVec F S576x256 .f32 := mulf v856 v858
  have v860 : FVec F S256 .f32 := multiReduction .add [0] S256 v859 0x00000000#32 reduces_S576x256_S256 (.inl rfl) rfl
  have v861 : FVec F S1x256 .f32 := shapeCast S1x256 v860 shapeCasts_S256_S1x256
  v861

/-- The weighted values, column by channel. -/
def oA576 (v856 : FVec F S576x256 .f32) (v896 : FVec F S1x256 .f32) (v882 : IVec S1x256 32) (v902 : Vec F S128x640 .fp8e4m3) : FVec F S256x128 .bf16 :=
  have v897 : FVec F S576x256 .f32 := broadcastTo S576x256 v896 broadcasts_S1x256_S576x256
  have v898 : FVec F S576x256 .f32 := mulf v856 v897
  have v899 : FVec F S576x256 .fp8e4m3 := truncf .fp8e4m3 v898 bitsLt_fp8e4m3_f32
  have v900 : FVec F S64x256 .fp8e4m3 := broadcast S64x256 (Scalar.ofBits .fp8e4m3 0x00#8)
  have v901 : FVec F S640x256 .fp8e4m3 := concatenate S640x256 0 [⟨S576x256, v899⟩, ⟨S64x256, v900⟩] concatenates_S576x256_S64x256_S640x256_d0
  have v903 : FVec F S128x256 .f32 := matmul dot_S128x640_S640x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 640 keys. -/
def tileA640 (v271 : IVec S64x256 1) (v842 : Vec F S640x256 .bf16) (v843 : Vec F S256x256 .bf16) : FVec F S640x256 .f32 :=
  have v844 : FVec F S640x256 .f32 := matmul dot_S640x256_S256x256_S640x256_1_0_0_1_n_n none v842 v843 (constant S640x256 .f32 0x00000000#32)
  have v848 : FVec F S576x256 .f32 := extractStridedSlice S576x256 ![0, 0] v844 slices_S640x256_o0_0_S576x256
  have v845 : FVec F S64x256 .f32 := extractStridedSlice S64x256 ![576, 0] v844 slices_S640x256_o576_0_S64x256
  have v846 : FVec F S64x256 .f32 := broadcast S64x256 (Named.named κ "mask" 0xF149F2CA#32)
  have v847 : FVec F S64x256 .f32 := select v271 v845 v846
  have v849 : FVec F S640x256 .f32 := concatenate S640x256 0 [⟨S576x256, v848⟩, ⟨S64x256, v847⟩] concatenates_S576x256_S64x256_S640x256_d0
  v849

/-- The largest score of each column. -/
def mA640 (v849 : FVec F S640x256 .f32) : FVec F S1x256 .f32 :=
  have v850 : FVec F S256 .f32 := multiReduction .maximumf [0] S256 v849 0xFF800000#32 reduces_S640x256_S256 (.inl rfl) rfl
  have v851 : FVec F S1x256 .f32 := shapeCast S1x256 v850 shapeCasts_S256_S1x256
  v851

/-- The weights before normalising. -/
def tA640 (v849 : FVec F S640x256 .f32) (v851 : FVec F S1x256 .f32) : FVec F S640x256 .f32 :=
  have v852 : FVec F S640x256 .f32 := broadcastTo S640x256 v851 broadcasts_S1x256_S640x256
  have v853 : FVec F S640x256 .f32 := subf v849 v852
  have v854 : FVec F S640x256 .f32 := broadcast S640x256 (Named.named κ "score_to_log2" 0x3E0293EE#32)
  have v855 : FVec F S640x256 .f32 := mulf v853 v854
  have v856 : FVec F S640x256 .f32 := exp2 v855
  v856

/-- The sum of the weights over the scales of the values. -/
def lA640 (v856 : FVec F S640x256 .f32) (v857 : Vec F S640x128 .f32) : FVec F S1x256 .f32 :=
  have v858 : FVec F S640x256 .f32 := concatenate S640x256 1 [⟨S640x128, v857⟩, ⟨S640x128, v857⟩] concatenates_S640x128_S640x128_S640x256_d1
  have v859 : FVec F S640x256 .f32 := mulf v856 v858
  have v860 : FVec F S256 .f32 := multiReduction .add [0] S256 v859 0x00000000#32 reduces_S640x256_S256 (.inl rfl) rfl
  have v861 : FVec F S1x256 .f32 := shapeCast S1x256 v860 shapeCasts_S256_S1x256
  v861

/-- The weighted values, column by channel. -/
def oA640 (v856 : FVec F S640x256 .f32) (v896 : FVec F S1x256 .f32) (v882 : IVec S1x256 32) (v902 : Vec F S128x640 .fp8e4m3) : FVec F S256x128 .bf16 :=
  have v897 : FVec F S640x256 .f32 := broadcastTo S640x256 v896 broadcasts_S1x256_S640x256
  have v898 : FVec F S640x256 .f32 := mulf v856 v897
  have v899 : FVec F S640x256 .fp8e4m3 := truncf .fp8e4m3 v898 bitsLt_fp8e4m3_f32
  have v903 : FVec F S128x256 .f32 := matmul dot_S128x640_S640x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 704 keys. -/
def tileA704 (v271 : IVec S64x256 1) (v842 : Vec F S704x256 .bf16) (v843 : Vec F S256x256 .bf16) : FVec F S704x256 .f32 :=
  have v844 : FVec F S704x256 .f32 := matmul dot_S704x256_S256x256_S704x256_1_0_0_1_n_n none v842 v843 (constant S704x256 .f32 0x00000000#32)
  have v848 : FVec F S640x256 .f32 := extractStridedSlice S640x256 ![0, 0] v844 slices_S704x256_o0_0_S640x256
  have v845 : FVec F S64x256 .f32 := extractStridedSlice S64x256 ![640, 0] v844 slices_S704x256_o640_0_S64x256
  have v846 : FVec F S64x256 .f32 := broadcast S64x256 (Named.named κ "mask" 0xF149F2CA#32)
  have v847 : FVec F S64x256 .f32 := select v271 v845 v846
  have v849 : FVec F S704x256 .f32 := concatenate S704x256 0 [⟨S640x256, v848⟩, ⟨S64x256, v847⟩] concatenates_S640x256_S64x256_S704x256_d0
  v849

/-- The largest score of each column. -/
def mA704 (v849 : FVec F S704x256 .f32) : FVec F S1x256 .f32 :=
  have v850 : FVec F S256 .f32 := multiReduction .maximumf [0] S256 v849 0xFF800000#32 reduces_S704x256_S256 (.inl rfl) rfl
  have v851 : FVec F S1x256 .f32 := shapeCast S1x256 v850 shapeCasts_S256_S1x256
  v851

/-- The weights before normalising. -/
def tA704 (v849 : FVec F S704x256 .f32) (v851 : FVec F S1x256 .f32) : FVec F S704x256 .f32 :=
  have v852 : FVec F S704x256 .f32 := broadcastTo S704x256 v851 broadcasts_S1x256_S704x256
  have v853 : FVec F S704x256 .f32 := subf v849 v852
  have v854 : FVec F S704x256 .f32 := broadcast S704x256 (Named.named κ "score_to_log2" 0x3E0293EE#32)
  have v855 : FVec F S704x256 .f32 := mulf v853 v854
  have v856 : FVec F S704x256 .f32 := exp2 v855
  v856

/-- The sum of the weights over the scales of the values. -/
def lA704 (v856 : FVec F S704x256 .f32) (v857 : Vec F S704x128 .f32) : FVec F S1x256 .f32 :=
  have v858 : FVec F S704x256 .f32 := concatenate S704x256 1 [⟨S704x128, v857⟩, ⟨S704x128, v857⟩] concatenates_S704x128_S704x128_S704x256_d1
  have v859 : FVec F S704x256 .f32 := mulf v856 v858
  have v860 : FVec F S256 .f32 := multiReduction .add [0] S256 v859 0x00000000#32 reduces_S704x256_S256 (.inl rfl) rfl
  have v861 : FVec F S1x256 .f32 := shapeCast S1x256 v860 shapeCasts_S256_S1x256
  v861

/-- The weighted values, column by channel. -/
def oA704 (v856 : FVec F S704x256 .f32) (v896 : FVec F S1x256 .f32) (v882 : IVec S1x256 32) (v902 : Vec F S128x768 .fp8e4m3) : FVec F S256x128 .bf16 :=
  have v897 : FVec F S704x256 .f32 := broadcastTo S704x256 v896 broadcasts_S1x256_S704x256
  have v898 : FVec F S704x256 .f32 := mulf v856 v897
  have v899 : FVec F S704x256 .fp8e4m3 := truncf .fp8e4m3 v898 bitsLt_fp8e4m3_f32
  have v900 : FVec F S64x256 .fp8e4m3 := broadcast S64x256 (Scalar.ofBits .fp8e4m3 0x00#8)
  have v901 : FVec F S768x256 .fp8e4m3 := concatenate S768x256 0 [⟨S704x256, v899⟩, ⟨S64x256, v900⟩] concatenates_S704x256_S64x256_S768x256_d0
  have v903 : FVec F S128x256 .f32 := matmul dot_S128x768_S768x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 768 keys. -/
def tileA768 (v271 : IVec S64x256 1) (v842 : Vec F S768x256 .bf16) (v843 : Vec F S256x256 .bf16) : FVec F S768x256 .f32 :=
  have v844 : FVec F S768x256 .f32 := matmul dot_S768x256_S256x256_S768x256_1_0_0_1_n_n none v842 v843 (constant S768x256 .f32 0x00000000#32)
  have v848 : FVec F S704x256 .f32 := extractStridedSlice S704x256 ![0, 0] v844 slices_S768x256_o0_0_S704x256
  have v845 : FVec F S64x256 .f32 := extractStridedSlice S64x256 ![704, 0] v844 slices_S768x256_o704_0_S64x256
  have v846 : FVec F S64x256 .f32 := broadcast S64x256 (Named.named κ "mask" 0xF149F2CA#32)
  have v847 : FVec F S64x256 .f32 := select v271 v845 v846
  have v849 : FVec F S768x256 .f32 := concatenate S768x256 0 [⟨S704x256, v848⟩, ⟨S64x256, v847⟩] concatenates_S704x256_S64x256_S768x256_d0
  v849

/-- The largest score of each column. -/
def mA768 (v849 : FVec F S768x256 .f32) : FVec F S1x256 .f32 :=
  have v850 : FVec F S256 .f32 := multiReduction .maximumf [0] S256 v849 0xFF800000#32 reduces_S768x256_S256 (.inl rfl) rfl
  have v851 : FVec F S1x256 .f32 := shapeCast S1x256 v850 shapeCasts_S256_S1x256
  v851

/-- The weights before normalising. -/
def tA768 (v849 : FVec F S768x256 .f32) (v851 : FVec F S1x256 .f32) : FVec F S768x256 .f32 :=
  have v852 : FVec F S768x256 .f32 := broadcastTo S768x256 v851 broadcasts_S1x256_S768x256
  have v853 : FVec F S768x256 .f32 := subf v849 v852
  have v854 : FVec F S768x256 .f32 := broadcast S768x256 (Named.named κ "score_to_log2" 0x3E0293EE#32)
  have v855 : FVec F S768x256 .f32 := mulf v853 v854
  have v856 : FVec F S768x256 .f32 := exp2 v855
  v856

/-- The sum of the weights over the scales of the values. -/
def lA768 (v856 : FVec F S768x256 .f32) (v857 : Vec F S768x128 .f32) : FVec F S1x256 .f32 :=
  have v858 : FVec F S768x256 .f32 := concatenate S768x256 1 [⟨S768x128, v857⟩, ⟨S768x128, v857⟩] concatenates_S768x128_S768x128_S768x256_d1
  have v859 : FVec F S768x256 .f32 := mulf v856 v858
  have v860 : FVec F S256 .f32 := multiReduction .add [0] S256 v859 0x00000000#32 reduces_S768x256_S256 (.inl rfl) rfl
  have v861 : FVec F S1x256 .f32 := shapeCast S1x256 v860 shapeCasts_S256_S1x256
  v861

/-- The weighted values, column by channel. -/
def oA768 (v856 : FVec F S768x256 .f32) (v896 : FVec F S1x256 .f32) (v882 : IVec S1x256 32) (v902 : Vec F S128x768 .fp8e4m3) : FVec F S256x128 .bf16 :=
  have v897 : FVec F S768x256 .f32 := broadcastTo S768x256 v896 broadcasts_S1x256_S768x256
  have v898 : FVec F S768x256 .f32 := mulf v856 v897
  have v899 : FVec F S768x256 .fp8e4m3 := truncf .fp8e4m3 v898 bitsLt_fp8e4m3_f32
  have v903 : FVec F S128x256 .f32 := matmul dot_S128x768_S768x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 832 keys. -/
def tileA832 (v271 : IVec S64x256 1) (v842 : Vec F S832x256 .bf16) (v843 : Vec F S256x256 .bf16) : FVec F S832x256 .f32 :=
  have v844 : FVec F S832x256 .f32 := matmul dot_S832x256_S256x256_S832x256_1_0_0_1_n_n none v842 v843 (constant S832x256 .f32 0x00000000#32)
  have v848 : FVec F S768x256 .f32 := extractStridedSlice S768x256 ![0, 0] v844 slices_S832x256_o0_0_S768x256
  have v845 : FVec F S64x256 .f32 := extractStridedSlice S64x256 ![768, 0] v844 slices_S832x256_o768_0_S64x256
  have v846 : FVec F S64x256 .f32 := broadcast S64x256 (Named.named κ "mask" 0xF149F2CA#32)
  have v847 : FVec F S64x256 .f32 := select v271 v845 v846
  have v849 : FVec F S832x256 .f32 := concatenate S832x256 0 [⟨S768x256, v848⟩, ⟨S64x256, v847⟩] concatenates_S768x256_S64x256_S832x256_d0
  v849

/-- The largest score of each column. -/
def mA832 (v849 : FVec F S832x256 .f32) : FVec F S1x256 .f32 :=
  have v850 : FVec F S256 .f32 := multiReduction .maximumf [0] S256 v849 0xFF800000#32 reduces_S832x256_S256 (.inl rfl) rfl
  have v851 : FVec F S1x256 .f32 := shapeCast S1x256 v850 shapeCasts_S256_S1x256
  v851

/-- The weights before normalising. -/
def tA832 (v849 : FVec F S832x256 .f32) (v851 : FVec F S1x256 .f32) : FVec F S832x256 .f32 :=
  have v852 : FVec F S832x256 .f32 := broadcastTo S832x256 v851 broadcasts_S1x256_S832x256
  have v853 : FVec F S832x256 .f32 := subf v849 v852
  have v854 : FVec F S832x256 .f32 := broadcast S832x256 (Named.named κ "score_to_log2" 0x3E0293EE#32)
  have v855 : FVec F S832x256 .f32 := mulf v853 v854
  have v856 : FVec F S832x256 .f32 := exp2 v855
  v856

/-- The sum of the weights over the scales of the values. -/
def lA832 (v856 : FVec F S832x256 .f32) (v857 : Vec F S832x128 .f32) : FVec F S1x256 .f32 :=
  have v858 : FVec F S832x256 .f32 := concatenate S832x256 1 [⟨S832x128, v857⟩, ⟨S832x128, v857⟩] concatenates_S832x128_S832x128_S832x256_d1
  have v859 : FVec F S832x256 .f32 := mulf v856 v858
  have v860 : FVec F S256 .f32 := multiReduction .add [0] S256 v859 0x00000000#32 reduces_S832x256_S256 (.inl rfl) rfl
  have v861 : FVec F S1x256 .f32 := shapeCast S1x256 v860 shapeCasts_S256_S1x256
  v861

/-- The weighted values, column by channel. -/
def oA832 (v856 : FVec F S832x256 .f32) (v896 : FVec F S1x256 .f32) (v882 : IVec S1x256 32) (v902 : Vec F S128x896 .fp8e4m3) : FVec F S256x128 .bf16 :=
  have v897 : FVec F S832x256 .f32 := broadcastTo S832x256 v896 broadcasts_S1x256_S832x256
  have v898 : FVec F S832x256 .f32 := mulf v856 v897
  have v899 : FVec F S832x256 .fp8e4m3 := truncf .fp8e4m3 v898 bitsLt_fp8e4m3_f32
  have v900 : FVec F S64x256 .fp8e4m3 := broadcast S64x256 (Scalar.ofBits .fp8e4m3 0x00#8)
  have v901 : FVec F S896x256 .fp8e4m3 := concatenate S896x256 0 [⟨S832x256, v899⟩, ⟨S64x256, v900⟩] concatenates_S832x256_S64x256_S896x256_d0
  have v903 : FVec F S128x256 .f32 := matmul dot_S128x896_S896x256_S128x256_1_0_0_1_n_n none v902 v901 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The scores of the first 896 keys. -/
def tileA896 (v271 : IVec S64x256 1) (v842 : Vec F S896x256 .bf16) (v843 : Vec F S256x256 .bf16) : FVec F S896x256 .f32 :=
  have v844 : FVec F S896x256 .f32 := matmul dot_S896x256_S256x256_S896x256_1_0_0_1_n_n none v842 v843 (constant S896x256 .f32 0x00000000#32)
  have v848 : FVec F S832x256 .f32 := extractStridedSlice S832x256 ![0, 0] v844 slices_S896x256_o0_0_S832x256
  have v845 : FVec F S64x256 .f32 := extractStridedSlice S64x256 ![832, 0] v844 slices_S896x256_o832_0_S64x256
  have v846 : FVec F S64x256 .f32 := broadcast S64x256 (Named.named κ "mask" 0xF149F2CA#32)
  have v847 : FVec F S64x256 .f32 := select v271 v845 v846
  have v849 : FVec F S896x256 .f32 := concatenate S896x256 0 [⟨S832x256, v848⟩, ⟨S64x256, v847⟩] concatenates_S832x256_S64x256_S896x256_d0
  v849

/-- The largest score of each column. -/
def mA896 (v849 : FVec F S896x256 .f32) : FVec F S1x256 .f32 :=
  have v850 : FVec F S256 .f32 := multiReduction .maximumf [0] S256 v849 0xFF800000#32 reduces_S896x256_S256 (.inl rfl) rfl
  have v851 : FVec F S1x256 .f32 := shapeCast S1x256 v850 shapeCasts_S256_S1x256
  v851

/-- The weights before normalising. -/
def tA896 (v849 : FVec F S896x256 .f32) (v851 : FVec F S1x256 .f32) : FVec F S896x256 .f32 :=
  have v852 : FVec F S896x256 .f32 := broadcastTo S896x256 v851 broadcasts_S1x256_S896x256
  have v853 : FVec F S896x256 .f32 := subf v849 v852
  have v854 : FVec F S896x256 .f32 := broadcast S896x256 (Named.named κ "score_to_log2" 0x3E0293EE#32)
  have v855 : FVec F S896x256 .f32 := mulf v853 v854
  have v856 : FVec F S896x256 .f32 := exp2 v855
  v856

/-- The sum of the weights over the scales of the values. -/
def lA896 (v856 : FVec F S896x256 .f32) (v857 : Vec F S896x128 .f32) : FVec F S1x256 .f32 :=
  have v858 : FVec F S896x256 .f32 := concatenate S896x256 1 [⟨S896x128, v857⟩, ⟨S896x128, v857⟩] concatenates_S896x128_S896x128_S896x256_d1
  have v859 : FVec F S896x256 .f32 := mulf v856 v858
  have v860 : FVec F S256 .f32 := multiReduction .add [0] S256 v859 0x00000000#32 reduces_S896x256_S256 (.inl rfl) rfl
  have v861 : FVec F S1x256 .f32 := shapeCast S1x256 v860 shapeCasts_S256_S1x256
  v861

/-- The weighted values, column by channel. -/
def oA896 (v856 : FVec F S896x256 .f32) (v896 : FVec F S1x256 .f32) (v882 : IVec S1x256 32) (v902 : Vec F S128x896 .fp8e4m3) : FVec F S256x128 .bf16 :=
  have v897 : FVec F S896x256 .f32 := broadcastTo S896x256 v896 broadcasts_S1x256_S896x256
  have v898 : FVec F S896x256 .f32 := mulf v856 v897
  have v899 : FVec F S896x256 .fp8e4m3 := truncf .fp8e4m3 v898 bitsLt_fp8e4m3_f32
  have v903 : FVec F S128x256 .f32 := matmul dot_S128x896_S896x256_S128x256_1_0_0_1_n_n none v902 v899 (constant S128x256 .f32 0x00000000#32)
  have v908 : IVec S1x256 32 := broadcast S1x256 255#32
  have v906 : IVec S1x256 32 := broadcast S1x256 0#32
  have v904 : IVec S1x256 32 := broadcast S1x256 127#32
  have v905 : IVec S1x256 32 := addi v882 v904
  have v907 : IVec S1x256 32 := maxsi v906 v905
  have v909 : IVec S1x256 32 := minsi v908 v907
  have v910 : IVec S1x256 32 := broadcast S1x256 23#32
  have v911 : IVec S1x256 32 := shli v909 v910
  have v912 : FVec F S1x256 .f32 := bitcastToFloat .f32 v911
  have v913 : FVec F S128x256 .f32 := broadcastTo S128x256 v912 broadcasts_S1x256_S128x256
  have v914 : FVec F S128x256 .f32 := mulf v903 v913
  have v915 : FVec F S128x256 .bf16 := truncf .bf16 v914 bitsLt_bf16_f32
  have v916 : FVec F S256x128 .bf16 := transpose S256x128 [1, 0] v915 transposes_S128x256_p1_0_S256x128
  v916

/-- The rows of head 0 of a tile. -/
def outA0 (v916 : FVec F S256x128 .bf16) : FVec F S1x64x128 .bf16 :=
  have v917 : FVec F S64x128 .bf16 := extractStridedSlice S64x128 ![0, 0] v916 slices_S256x128_o0_0_S64x128
  have v920 : FVec F S1x64x128 .bf16 := shapeCast S1x64x128 v917 shapeCasts_S64x128_S1x64x128
  v920

/-- The rows of head 1 of a tile. -/
def outA1 (v916 : FVec F S256x128 .bf16) : FVec F S1x64x128 .bf16 :=
  have v921 : FVec F S64x128 .bf16 := extractStridedSlice S64x128 ![64, 0] v916 slices_S256x128_o64_0_S64x128
  have v924 : FVec F S1x64x128 .bf16 := shapeCast S1x64x128 v921 shapeCasts_S64x128_S1x64x128
  v924

/-- The rows of head 2 of a tile. -/
def outA2 (v916 : FVec F S256x128 .bf16) : FVec F S1x64x128 .bf16 :=
  have v925 : FVec F S64x128 .bf16 := extractStridedSlice S64x128 ![128, 0] v916 slices_S256x128_o128_0_S64x128
  have v928 : FVec F S1x64x128 .bf16 := shapeCast S1x64x128 v925 shapeCasts_S64x128_S1x64x128
  v928

/-- The rows of head 3 of a tile. -/
def outA3 (v916 : FVec F S256x128 .bf16) : FVec F S1x64x128 .bf16 :=
  have v929 : FVec F S64x128 .bf16 := extractStridedSlice S64x128 ![192, 0] v916 slices_S256x128_o192_0_S64x128
  have v932 : FVec F S1x64x128 .bf16 := shapeCast S1x64x128 v929 shapeCasts_S64x128_S1x64x128
  v932

/-- The rows a tile of 64 keys gives, all its queries. -/
def colA64 (kx : Vec F S64x256 .bf16) (qx : Vec F S256x256 .bf16) (vi : Vec F S64x128 .f32) (vt : Vec F S128x128 .fp8e4m3) : FVec F S256x128 .bf16 :=
  let y := tileA64 causA kx qx
  let t := tA64 y (mA64 y)
  let l := lA64 t vi
  oA64 t (rA l (weA l)) (weA l) vt

/-- The rows a tile of 128 keys gives, all its queries. -/
def colA128 (kx : Vec F S128x256 .bf16) (qx : Vec F S256x256 .bf16) (vi : Vec F S128x128 .f32) (vt : Vec F S128x128 .fp8e4m3) : FVec F S256x128 .bf16 :=
  let y := tileA128 causA kx qx
  let t := tA128 y (mA128 y)
  let l := lA128 t vi
  oA128 t (rA l (weA l)) (weA l) vt

/-- The rows a tile of 192 keys gives, all its queries. -/
def colA192 (kx : Vec F S192x256 .bf16) (qx : Vec F S256x256 .bf16) (vi : Vec F S192x128 .f32) (vt : Vec F S128x256 .fp8e4m3) : FVec F S256x128 .bf16 :=
  let y := tileA192 causA kx qx
  let t := tA192 y (mA192 y)
  let l := lA192 t vi
  oA192 t (rA l (weA l)) (weA l) vt

/-- The rows a tile of 256 keys gives, all its queries. -/
def colA256 (kx : Vec F S256x256 .bf16) (qx : Vec F S256x256 .bf16) (vi : Vec F S256x128 .f32) (vt : Vec F S128x256 .fp8e4m3) : FVec F S256x128 .bf16 :=
  let y := tileA256 causA kx qx
  let t := tA256 y (mA256 y)
  let l := lA256 t vi
  oA256 t (rA l (weA l)) (weA l) vt

/-- The rows a tile of 320 keys gives, all its queries. -/
def colA320 (kx : Vec F S320x256 .bf16) (qx : Vec F S256x256 .bf16) (vi : Vec F S320x128 .f32) (vt : Vec F S128x384 .fp8e4m3) : FVec F S256x128 .bf16 :=
  let y := tileA320 causA kx qx
  let t := tA320 y (mA320 y)
  let l := lA320 t vi
  oA320 t (rA l (weA l)) (weA l) vt

/-- The rows a tile of 384 keys gives, all its queries. -/
def colA384 (kx : Vec F S384x256 .bf16) (qx : Vec F S256x256 .bf16) (vi : Vec F S384x128 .f32) (vt : Vec F S128x384 .fp8e4m3) : FVec F S256x128 .bf16 :=
  let y := tileA384 causA kx qx
  let t := tA384 y (mA384 y)
  let l := lA384 t vi
  oA384 t (rA l (weA l)) (weA l) vt

/-- The rows a tile of 448 keys gives, all its queries. -/
def colA448 (kx : Vec F S448x256 .bf16) (qx : Vec F S256x256 .bf16) (vi : Vec F S448x128 .f32) (vt : Vec F S128x512 .fp8e4m3) : FVec F S256x128 .bf16 :=
  let y := tileA448 causA kx qx
  let t := tA448 y (mA448 y)
  let l := lA448 t vi
  oA448 t (rA l (weA l)) (weA l) vt

/-- The rows a tile of 512 keys gives, all its queries. -/
def colA512 (kx : Vec F S512x256 .bf16) (qx : Vec F S256x256 .bf16) (vi : Vec F S512x128 .f32) (vt : Vec F S128x512 .fp8e4m3) : FVec F S256x128 .bf16 :=
  let y := tileA512 causA kx qx
  let t := tA512 y (mA512 y)
  let l := lA512 t vi
  oA512 t (rA l (weA l)) (weA l) vt

/-- The rows a tile of 576 keys gives, all its queries. -/
def colA576 (kx : Vec F S576x256 .bf16) (qx : Vec F S256x256 .bf16) (vi : Vec F S576x128 .f32) (vt : Vec F S128x640 .fp8e4m3) : FVec F S256x128 .bf16 :=
  let y := tileA576 causA kx qx
  let t := tA576 y (mA576 y)
  let l := lA576 t vi
  oA576 t (rA l (weA l)) (weA l) vt

/-- The rows a tile of 640 keys gives, all its queries. -/
def colA640 (kx : Vec F S640x256 .bf16) (qx : Vec F S256x256 .bf16) (vi : Vec F S640x128 .f32) (vt : Vec F S128x640 .fp8e4m3) : FVec F S256x128 .bf16 :=
  let y := tileA640 causA kx qx
  let t := tA640 y (mA640 y)
  let l := lA640 t vi
  oA640 t (rA l (weA l)) (weA l) vt

/-- The rows a tile of 704 keys gives, all its queries. -/
def colA704 (kx : Vec F S704x256 .bf16) (qx : Vec F S256x256 .bf16) (vi : Vec F S704x128 .f32) (vt : Vec F S128x768 .fp8e4m3) : FVec F S256x128 .bf16 :=
  let y := tileA704 causA kx qx
  let t := tA704 y (mA704 y)
  let l := lA704 t vi
  oA704 t (rA l (weA l)) (weA l) vt

/-- The rows a tile of 768 keys gives, all its queries. -/
def colA768 (kx : Vec F S768x256 .bf16) (qx : Vec F S256x256 .bf16) (vi : Vec F S768x128 .f32) (vt : Vec F S128x768 .fp8e4m3) : FVec F S256x128 .bf16 :=
  let y := tileA768 causA kx qx
  let t := tA768 y (mA768 y)
  let l := lA768 t vi
  oA768 t (rA l (weA l)) (weA l) vt

/-- The rows a tile of 832 keys gives, all its queries. -/
def colA832 (kx : Vec F S832x256 .bf16) (qx : Vec F S256x256 .bf16) (vi : Vec F S832x128 .f32) (vt : Vec F S128x896 .fp8e4m3) : FVec F S256x128 .bf16 :=
  let y := tileA832 causA kx qx
  let t := tA832 y (mA832 y)
  let l := lA832 t vi
  oA832 t (rA l (weA l)) (weA l) vt

/-- The rows a tile of 896 keys gives, all its queries. -/
def colA896 (kx : Vec F S896x256 .bf16) (qx : Vec F S256x256 .bf16) (vi : Vec F S896x128 .f32) (vt : Vec F S128x896 .fp8e4m3) : FVec F S256x128 .bf16 :=
  let y := tileA896 causA kx qx
  let t := tA896 y (mA896 y)
  let l := lA896 t vi
  oA896 t (rA l (weA l)) (weA l) vt

end Cert.KernelIdeal.Gen

end
-- ==== Proof.KTie.lean ====
module

public import proofs.«01_k».proof.Proof.KFrame
public import proofs.«01_k».proof.Proof.KOps
public import Idealize.ShloMosaic.Lib.Pipeline.ValueKit.Tiles
public import Idealize.ShloMosaic.Lib.Pointwise

/-! What the tiles load from the scratch buffers, read at an index. -/

@[expose] public section

set_option maxRecDepth 16384

noncomputable section

namespace Cert.KernelIdeal.Gen

open Idealize.ShloMosaic
open Pointwise

variable {F : FTy → Type} [FloatOps F] [Named F]
variable (m : (ℓ : Loc nD τ sig) → Buf (Elt F) ℓ) (c : Dev nD) (t : Fin cfg0.N)

/-- The last store reads at its own elements. -/
theorem canon_here {s : Shape} {e : EltTy} (off size : Fin s.rank → ℕ) (inb) (w : (Rect.unit off size inb).shape.Idx → Elt F e)
    (L : List (View.Piece (Elt F) s e)) (y : s.Idx) (x : (Rect.unit off size inb).shape.Idx) (h : ∀ a, (y a).val = off a + (x a).val) :
    View.canon ((⟨Rect.unit off size inb, w⟩ : View.Piece (Elt F) s e) :: L) y = w x := by
  have e1 : y = (Rect.unit off size inb).emb x := funext fun a => Fin.ext ((h a).trans (Rect.idx_unit_val off size inb x a).symm)
  rw [e1]
  exact View.canon_cons_emb (Rect.unit off size inb) w L x

/-- A store that does not reach an element leaves it. -/
theorem canon_skip {s : Shape} {e : EltTy} (off size : Fin s.rank → ℕ) (inb) (w : (Rect.unit off size inb).shape.Idx → Elt F e)
    (L : List (View.Piece (Elt F) s e)) (y : s.Idx) (a : Fin s.rank) (h : (y a).val < off a ∨ off a + size a ≤ (y a).val) :
    View.canon ((⟨Rect.unit off size inb, w⟩ : View.Piece (Elt F) s e) :: L) y = View.canon L y :=
  View.canon_cons_of_not_mem _ _ fun hm => by
    have h1 := (Rect.mem_set_unit (off := off) (size := size) (inb := inb)).mp hm a
    omega

theorem readAt_in {s : Shape} {e : EltTy} (a : Memref sig .tc .vmem s e) (h : a.IsWhole) (x : s.Idx → Elt F e) (r : Rect s) :
    View.readAt (Elt F) a.view r.toLoadRect (h.unread x) = View.ld x r := by
  rw [View.readAt_eq_ld, h.read_unread]

/-- The block of keys, of values, of the keys' table and of the rows added to the queries of tile `i`, as the kernel loads them. -/
def keysB : Vec F S1x896x128 .bf16 := View.ld (iblk m c 1 t) (Rect.unit ![0, 0, 0] S1x896x128.size inb_S1x896x128_S1x896x128_0_0_0)
def valsB : Vec F S1x896x128 .bf16 := View.ld (iblk m c 2 t) (Rect.unit ![0, 0, 0] S1x896x128.size inb_S1x896x128_S1x896x128_0_0_0)
def extB : Vec F S896x128 .bf16 := View.ld (iblk m c 3 t) (Rect.unit ![0, 0] S896x128.size inb_S896x128_S896x128_0_0)

theorem v110_eq : kernelRun0_A.sl.v110 c (ms0_1 t) (hs0_1 t) (iblk m c 1 t) = kxLA (keysB m c t) := by
  show kxLA (View.readAt (Elt F) (ms0_1 t).view (Rect.unit ![0, 0, 0] S1x896x128.size inb_S1x896x128_S1x896x128_0_0_0).toLoadRect ((hs0_1 t).unread (iblk m c 1 t))) = _
  rw [readAt_in]
  rfl

theorem v202_eq : kernelRun0_A.sl.v202 c (ms0_2 t) (hs0_2 t) (ms0_3 t) (hs0_3 t) (iblk m c 2 t) (iblk m c 3 t) = kxRA (valsB m c t) (extB m c t) := by
  show kxRA (View.readAt (Elt F) (ms0_2 t).view (Rect.unit ![0, 0, 0] S1x896x128.size inb_S1x896x128_S1x896x128_0_0_0).toLoadRect ((hs0_2 t).unread (iblk m c 2 t)))
    (View.readAt (Elt F) (ms0_3 t).view (Rect.unit ![0, 0] S896x128.size inb_S896x128_S896x128_0_0).toLoadRect ((hs0_3 t).unread (iblk m c 3 t))) = _
  rw [readAt_in, readAt_in]
  rfl

theorem v185_eq : kernelRun0_A.sl.v185 c (ms0_2 t) (hs0_2 t) (iblk m c 2 t) = vinvA (valsB m c t) := by
  show vinvA (View.readAt (Elt F) (ms0_2 t).view (Rect.unit ![0, 0, 0] S1x896x128.size inb_S1x896x128_S1x896x128_0_0_0).toLoadRect ((hs0_2 t).unread (iblk m c 2 t))) = _
  rw [readAt_in]
  rfl

theorem v249_eq : kernelRun0_A.sl.v249 c (ms0_2 t) (hs0_2 t) (iblk m c 2 t) = vtA (valsB m c t) := by
  show vtA (View.readAt (Elt F) (ms0_2 t).view (Rect.unit ![0, 0, 0] S1x896x128.size inb_S1x896x128_S1x896x128_0_0_0).toLoadRect ((hs0_2 t).unread (iblk m c 2 t))) = _
  rw [readAt_in]
  rfl

theorem canon_kx (w0 w1 : Vec F S896x128 .bf16) (k : Fin 896) (x : Fin 256) :
    View.canon ([⟨Rect.unit ![0, 128] S896x128.size inb_S896x256_S896x128_0_128, w1⟩, ⟨Rect.unit ![0, 0] S896x128.size inb_S896x256_S896x128_0_0, w0⟩] : List (View.Piece (Elt F) S896x256 .bf16)) (ix2 k x)
      = if h : x.val < 128 then w0 (ix2 k ⟨x.val, h⟩) else w1 (ix2 k ⟨x.val - 128, by omega⟩) := by
  by_cases h : x.val < 128
  · rw [dif_pos h]
    refine (canon_skip (s := S896x256) ![0, 128] S896x128.size inb_S896x256_S896x128_0_128 w1 _ (ix2 k x) 1 (Or.inl h)).trans ?_
    exact canon_here (s := S896x256) ![0, 0] S896x128.size inb_S896x256_S896x128_0_0 w0 _ (ix2 k x) (ix2 k ⟨x.val, h⟩) (fun a => by fin_cases a <;> simp)
  · rw [dif_neg h]
    exact canon_here (s := S896x256) ![0, 128] S896x128.size inb_S896x256_S896x128_0_128 w1 _ (ix2 k x) (ix2 k ⟨x.val - 128, by omega⟩) (fun a => by fin_cases a <;> simp; try omega)

theorem canon_qx_lo (w0 : Vec F S128x256 .bf16) (w1 : Vec F S16x256 .bf16) (L : List (View.Piece (Elt F) S256x256 .bf16)) (x : Fin 128) (q : Fin 256) :
    View.canon ((⟨Rect.unit ![128, 0] S16x256.size inb_S256x256_S16x256_128_0, w1⟩ : View.Piece (Elt F) S256x256 .bf16) :: ⟨Rect.unit ![0, 0] S128x256.size inb_S256x256_S128x256_0_0, w0⟩ :: L) (ix2 ⟨x.val, by omega⟩ q)
      = w0 (ix2 x q) := by
  refine (canon_skip (s := S256x256) ![128, 0] S16x256.size inb_S256x256_S16x256_128_0 w1 _ (ix2 ⟨x.val, by omega⟩ q) 0 (Or.inl x.isLt)).trans ?_
  exact canon_here (s := S256x256) ![0, 0] S128x256.size inb_S256x256_S128x256_0_0 w0 _ (ix2 ⟨x.val, by omega⟩ q) (ix2 x q) (fun a => by fin_cases a <;> simp)

theorem canon_qx_mid (w1 : Vec F S16x256 .bf16) (L : List (View.Piece (Elt F) S256x256 .bf16)) (x : Fin 16) (q : Fin 256) :
    View.canon ((⟨Rect.unit ![128, 0] S16x256.size inb_S256x256_S16x256_128_0, w1⟩ : View.Piece (Elt F) S256x256 .bf16) :: L) (ix2 ⟨128 + x.val, by omega⟩ q)
      = w1 (ix2 x q) :=
  canon_here (s := S256x256) ![128, 0] S16x256.size inb_S256x256_S16x256_128_0 w1 _ (ix2 ⟨128 + x.val, by omega⟩ q) (ix2 x q) (fun a => by fin_cases a <;> simp)

theorem kx_canon (k : Fin 896) (x : Fin 256) : View.canon (kernelRun0_A.sl.HS0_2 c (ms0_1 t) (hs0_1 t) (ms0_2 t) (hs0_2 t) (ms0_3 t) (hs0_3 t) (iblk m c 1 t) (iblk m c 2 t) (iblk m c 3 t)) (ix2 k x)
    = if h : x.val < 128 then kxLA (keysB m c t) (ix2 k ⟨x.val, h⟩) else kxRA (valsB m c t) (extB m c t) (ix2 k ⟨x.val - 128, by omega⟩) := by
  rw [← v110_eq, ← v202_eq]
  unfold kernelRun0_A.sl.HS0_2
  exact canon_kx _ _ k x

/-- What tile 0 loads. -/
def kxT64 : Vec F S64x256 .bf16 := kernelRun0_A.sl.v403 c (ms0_1 t) (hs0_1 t) (ms0_2 t) (hs0_2 t) (ms0_3 t) (hs0_3 t) scM0_0 (iblk m c 1 t) (iblk m c 2 t) (iblk m c 3 t)
def qxT64 : Vec F S256x256 .bf16 := kernelRun0_A.sl.v404 c (ms0_0 t) (hs0_0 t) (ms0_4 t) (hs0_4 t) scM0_3 (iblk m c 0 t) (iblk m c 4 t)
def viT64 : Vec F S64x128 .f32 := kernelRun0_A.sl.v415 c (ms0_2 t) (hs0_2 t) scM0_2 (iblk m c 2 t)

theorem kxT64_at (k : Fin 64) (x : Fin 256) : kxT64 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT64 kernelRun0_A.sl.v403
  rw [View.readCov_eq_canon']
  refine congrArg _ (funext fun a => Fin.ext ?_)
  fin_cases a <;> simp [Rect.toLoadRect]

def xsT64 : FVec F S256x128 .bf16 := catQA (View.ld (iblk m c 0 t) (Rect.unit (s := S1x896x512) ![0, 0, 0] S1x64x128.size inb_S1x896x512_S1x64x128_0_0_0)) (View.ld (iblk m c 0 t) (Rect.unit (s := S1x896x512) ![0, 0, 128] S1x64x128.size inb_S1x896x512_S1x64x128_0_0_128)) (View.ld (iblk m c 0 t) (Rect.unit (s := S1x896x512) ![0, 0, 256] S1x64x128.size inb_S1x896x512_S1x64x128_0_0_256)) (View.ld (iblk m c 0 t) (Rect.unit (s := S1x896x512) ![0, 0, 384] S1x64x128.size inb_S1x896x512_S1x64x128_0_0_384))
def bsT64 : Vec F S1x1x16x256 .bf16 := View.ld (iblk m c 4 t) (Rect.unit (s := S1x14x16x256) ![0, 0, 0, 0] S1x1x16x256.size inb_S1x14x16x256_S1x1x16x256_0_0_0_0)
def vtT64 : Vec F S128x128 .fp8e4m3 := kernelRun0_A.sl.v460 c (ms0_2 t) (hs0_2 t) scM0_1 (iblk m c 2 t)

theorem qxT64_lo (x : Fin 128) (q : Fin 256) : qxT64 m c t (ix2 ⟨x.val, by omega⟩ q) = mxBA (xsT64 m c t) (ix2 x q) := by
  unfold qxT64 kernelRun0_A.sl.v404
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_3
  refine (canon_qx_lo _ _ _ x q).trans ?_
  show mxQA (View.readAt (Elt F) (ms0_0 t).view (Rect.unit (s := S1x896x512) ![0, 0, 0] S1x64x128.size inb_S1x896x512_S1x64x128_0_0_0).toLoadRect ((hs0_0 t).unread (iblk m c 0 t))) (View.readAt (Elt F) (ms0_0 t).view (Rect.unit (s := S1x896x512) ![0, 0, 128] S1x64x128.size inb_S1x896x512_S1x64x128_0_0_128).toLoadRect ((hs0_0 t).unread (iblk m c 0 t))) (View.readAt (Elt F) (ms0_0 t).view (Rect.unit (s := S1x896x512) ![0, 0, 256] S1x64x128.size inb_S1x896x512_S1x64x128_0_0_256).toLoadRect ((hs0_0 t).unread (iblk m c 0 t))) (View.readAt (Elt F) (ms0_0 t).view (Rect.unit (s := S1x896x512) ![0, 0, 384] S1x64x128.size inb_S1x896x512_S1x64x128_0_0_384).toLoadRect ((hs0_0 t).unread (iblk m c 0 t))) (ix2 x q) = _
  rw [readAt_in, readAt_in, readAt_in, readAt_in]
  rfl

theorem qxT64_mid (x : Fin 16) (q : Fin 256) : qxT64 m c t (ix2 ⟨128 + x.val, by omega⟩ q) = biasA (bsT64 m c t) (ix2 x q) := by
  unfold qxT64 kernelRun0_A.sl.v404
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_3
  refine (canon_qx_mid _ _ x q).trans ?_
  show biasA (View.readAt (Elt F) (ms0_4 t).view (Rect.unit (s := S1x14x16x256) ![0, 0, 0, 0] S1x1x16x256.size inb_S1x14x16x256_S1x1x16x256_0_0_0_0).toLoadRect ((hs0_4 t).unread (iblk m c 4 t))) (ix2 x q) = _
  rw [readAt_in]
  rfl

theorem viT64_at (k : Fin 64) (j : Fin 128) : viT64 m c t (ix2 k j) = vinvA (valsB m c t) (ix2 ⟨k.val, by omega⟩ j) := by
  rw [← v185_eq]
  unfold viT64 kernelRun0_A.sl.v415
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT64_at (k : Fin 128) (d : Fin 128) : vtT64 m c t (ix2 d k) = vtA (valsB m c t) (ix2 d ⟨k.val, by omega⟩) := by
  rw [← v249_eq]
  unfold vtT64 kernelRun0_A.sl.v460
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 1 loads. -/
def kxT128 : Vec F S128x256 .bf16 := kernelRun0_A.sl.v622 c (ms0_1 t) (hs0_1 t) (ms0_2 t) (hs0_2 t) (ms0_3 t) (hs0_3 t) scM0_0 (iblk m c 1 t) (iblk m c 2 t) (iblk m c 3 t)
def qxT128 : Vec F S256x256 .bf16 := kernelRun0_A.sl.v623 c (ms0_0 t) (hs0_0 t) (ms0_4 t) (hs0_4 t) scM0_3 (iblk m c 0 t) (iblk m c 4 t)
def viT128 : Vec F S128x128 .f32 := kernelRun0_A.sl.v637 c (ms0_2 t) (hs0_2 t) scM0_2 (iblk m c 2 t)

theorem kxT128_at (k : Fin 128) (x : Fin 256) : kxT128 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT128 kernelRun0_A.sl.v622
  rw [View.readCov_eq_canon']
  refine congrArg _ (funext fun a => Fin.ext ?_)
  fin_cases a <;> simp [Rect.toLoadRect]

def xsT128 : FVec F S256x128 .bf16 := catQA (View.ld (iblk m c 0 t) (Rect.unit (s := S1x896x512) ![0, 64, 0] S1x64x128.size inb_S1x896x512_S1x64x128_0_64_0)) (View.ld (iblk m c 0 t) (Rect.unit (s := S1x896x512) ![0, 64, 128] S1x64x128.size inb_S1x896x512_S1x64x128_0_64_128)) (View.ld (iblk m c 0 t) (Rect.unit (s := S1x896x512) ![0, 64, 256] S1x64x128.size inb_S1x896x512_S1x64x128_0_64_256)) (View.ld (iblk m c 0 t) (Rect.unit (s := S1x896x512) ![0, 64, 384] S1x64x128.size inb_S1x896x512_S1x64x128_0_64_384))
def bsT128 : Vec F S1x1x16x256 .bf16 := View.ld (iblk m c 4 t) (Rect.unit (s := S1x14x16x256) ![0, 1, 0, 0] S1x1x16x256.size inb_S1x14x16x256_S1x1x16x256_0_1_0_0)
def vtT128 : Vec F S128x128 .fp8e4m3 := kernelRun0_A.sl.v460 c (ms0_2 t) (hs0_2 t) scM0_1 (iblk m c 2 t)

theorem qxT128_lo (x : Fin 128) (q : Fin 256) : qxT128 m c t (ix2 ⟨x.val, by omega⟩ q) = mxBA (xsT128 m c t) (ix2 x q) := by
  unfold qxT128 kernelRun0_A.sl.v623
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_5
  refine (canon_qx_lo _ _ _ x q).trans ?_
  show mxQA (View.readAt (Elt F) (ms0_0 t).view (Rect.unit (s := S1x896x512) ![0, 64, 0] S1x64x128.size inb_S1x896x512_S1x64x128_0_64_0).toLoadRect ((hs0_0 t).unread (iblk m c 0 t))) (View.readAt (Elt F) (ms0_0 t).view (Rect.unit (s := S1x896x512) ![0, 64, 128] S1x64x128.size inb_S1x896x512_S1x64x128_0_64_128).toLoadRect ((hs0_0 t).unread (iblk m c 0 t))) (View.readAt (Elt F) (ms0_0 t).view (Rect.unit (s := S1x896x512) ![0, 64, 256] S1x64x128.size inb_S1x896x512_S1x64x128_0_64_256).toLoadRect ((hs0_0 t).unread (iblk m c 0 t))) (View.readAt (Elt F) (ms0_0 t).view (Rect.unit (s := S1x896x512) ![0, 64, 384] S1x64x128.size inb_S1x896x512_S1x64x128_0_64_384).toLoadRect ((hs0_0 t).unread (iblk m c 0 t))) (ix2 x q) = _
  rw [readAt_in, readAt_in, readAt_in, readAt_in]
  rfl

theorem qxT128_mid (x : Fin 16) (q : Fin 256) : qxT128 m c t (ix2 ⟨128 + x.val, by omega⟩ q) = biasA (bsT128 m c t) (ix2 x q) := by
  unfold qxT128 kernelRun0_A.sl.v623
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_5
  refine (canon_qx_mid _ _ x q).trans ?_
  show biasA (View.readAt (Elt F) (ms0_4 t).view (Rect.unit (s := S1x14x16x256) ![0, 1, 0, 0] S1x1x16x256.size inb_S1x14x16x256_S1x1x16x256_0_1_0_0).toLoadRect ((hs0_4 t).unread (iblk m c 4 t))) (ix2 x q) = _
  rw [readAt_in]
  rfl

theorem viT128_at (k : Fin 128) (j : Fin 128) : viT128 m c t (ix2 k j) = vinvA (valsB m c t) (ix2 ⟨k.val, by omega⟩ j) := by
  rw [← v185_eq]
  unfold viT128 kernelRun0_A.sl.v637
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT128_at (k : Fin 128) (d : Fin 128) : vtT128 m c t (ix2 d k) = vtA (valsB m c t) (ix2 d ⟨k.val, by omega⟩) := by
  rw [← v249_eq]
  unfold vtT128 kernelRun0_A.sl.v460
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 2 loads. -/
def kxT192 : Vec F S192x256 .bf16 := kernelRun0_A.sl.v842 c (ms0_1 t) (hs0_1 t) (ms0_2 t) (hs0_2 t) (ms0_3 t) (hs0_3 t) scM0_0 (iblk m c 1 t) (iblk m c 2 t) (iblk m c 3 t)
def qxT192 : Vec F S256x256 .bf16 := kernelRun0_A.sl.v843 c (ms0_0 t) (hs0_0 t) (ms0_4 t) (hs0_4 t) scM0_3 (iblk m c 0 t) (iblk m c 4 t)
def viT192 : Vec F S192x128 .f32 := kernelRun0_A.sl.v857 c (ms0_2 t) (hs0_2 t) scM0_2 (iblk m c 2 t)

theorem kxT192_at (k : Fin 192) (x : Fin 256) : kxT192 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT192 kernelRun0_A.sl.v842
  rw [View.readCov_eq_canon']
  refine congrArg _ (funext fun a => Fin.ext ?_)
  fin_cases a <;> simp [Rect.toLoadRect]

def xsT192 : FVec F S256x128 .bf16 := catQA (View.ld (iblk m c 0 t) (Rect.unit (s := S1x896x512) ![0, 128, 0] S1x64x128.size inb_S1x896x512_S1x64x128_0_128_0)) (View.ld (iblk m c 0 t) (Rect.unit (s := S1x896x512) ![0, 128, 128] S1x64x128.size inb_S1x896x512_S1x64x128_0_128_128)) (View.ld (iblk m c 0 t) (Rect.unit (s := S1x896x512) ![0, 128, 256] S1x64x128.size inb_S1x896x512_S1x64x128_0_128_256)) (View.ld (iblk m c 0 t) (Rect.unit (s := S1x896x512) ![0, 128, 384] S1x64x128.size inb_S1x896x512_S1x64x128_0_128_384))
def bsT192 : Vec F S1x1x16x256 .bf16 := View.ld (iblk m c 4 t) (Rect.unit (s := S1x14x16x256) ![0, 2, 0, 0] S1x1x16x256.size inb_S1x14x16x256_S1x1x16x256_0_2_0_0)
def vtT192 : Vec F S128x256 .fp8e4m3 := kernelRun0_A.sl.v902 c (ms0_2 t) (hs0_2 t) scM0_1 (iblk m c 2 t)

theorem qxT192_lo (x : Fin 128) (q : Fin 256) : qxT192 m c t (ix2 ⟨x.val, by omega⟩ q) = mxBA (xsT192 m c t) (ix2 x q) := by
  unfold qxT192 kernelRun0_A.sl.v843
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_7
  refine (canon_qx_lo _ _ _ x q).trans ?_
  show mxQA (View.readAt (Elt F) (ms0_0 t).view (Rect.unit (s := S1x896x512) ![0, 128, 0] S1x64x128.size inb_S1x896x512_S1x64x128_0_128_0).toLoadRect ((hs0_0 t).unread (iblk m c 0 t))) (View.readAt (Elt F) (ms0_0 t).view (Rect.unit (s := S1x896x512) ![0, 128, 128] S1x64x128.size inb_S1x896x512_S1x64x128_0_128_128).toLoadRect ((hs0_0 t).unread (iblk m c 0 t))) (View.readAt (Elt F) (ms0_0 t).view (Rect.unit (s := S1x896x512) ![0, 128, 256] S1x64x128.size inb_S1x896x512_S1x64x128_0_128_256).toLoadRect ((hs0_0 t).unread (iblk m c 0 t))) (View.readAt (Elt F) (ms0_0 t).view (Rect.unit (s := S1x896x512) ![0, 128, 384] S1x64x128.size inb_S1x896x512_S1x64x128_0_128_384).toLoadRect ((hs0_0 t).unread (iblk m c 0 t))) (ix2 x q) = _
  rw [readAt_in, readAt_in, readAt_in, readAt_in]
  rfl

theorem qxT192_mid (x : Fin 16) (q : Fin 256) : qxT192 m c t (ix2 ⟨128 + x.val, by omega⟩ q) = biasA (bsT192 m c t) (ix2 x q) := by
  unfold qxT192 kernelRun0_A.sl.v843
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_7
  refine (canon_qx_mid _ _ x q).trans ?_
  show biasA (View.readAt (Elt F) (ms0_4 t).view (Rect.unit (s := S1x14x16x256) ![0, 2, 0, 0] S1x1x16x256.size inb_S1x14x16x256_S1x1x16x256_0_2_0_0).toLoadRect ((hs0_4 t).unread (iblk m c 4 t))) (ix2 x q) = _
  rw [readAt_in]
  rfl

theorem viT192_at (k : Fin 192) (j : Fin 128) : viT192 m c t (ix2 k j) = vinvA (valsB m c t) (ix2 ⟨k.val, by omega⟩ j) := by
  rw [← v185_eq]
  unfold viT192 kernelRun0_A.sl.v857
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT192_at (k : Fin 256) (d : Fin 128) : vtT192 m c t (ix2 d k) = vtA (valsB m c t) (ix2 d ⟨k.val, by omega⟩) := by
  rw [← v249_eq]
  unfold vtT192 kernelRun0_A.sl.v902
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 3 loads. -/
def kxT256 : Vec F S256x256 .bf16 := kernelRun0_A.sl.v1064 c (ms0_1 t) (hs0_1 t) (ms0_2 t) (hs0_2 t) (ms0_3 t) (hs0_3 t) scM0_0 (iblk m c 1 t) (iblk m c 2 t) (iblk m c 3 t)
def qxT256 : Vec F S256x256 .bf16 := kernelRun0_A.sl.v1065 c (ms0_0 t) (hs0_0 t) (ms0_4 t) (hs0_4 t) scM0_3 (iblk m c 0 t) (iblk m c 4 t)
def viT256 : Vec F S256x128 .f32 := kernelRun0_A.sl.v1079 c (ms0_2 t) (hs0_2 t) scM0_2 (iblk m c 2 t)

theorem kxT256_at (k : Fin 256) (x : Fin 256) : kxT256 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT256 kernelRun0_A.sl.v1064
  rw [View.readCov_eq_canon']
  refine congrArg _ (funext fun a => Fin.ext ?_)
  fin_cases a <;> simp [Rect.toLoadRect]

def xsT256 : FVec F S256x128 .bf16 := catQA (View.ld (iblk m c 0 t) (Rect.unit (s := S1x896x512) ![0, 192, 0] S1x64x128.size inb_S1x896x512_S1x64x128_0_192_0)) (View.ld (iblk m c 0 t) (Rect.unit (s := S1x896x512) ![0, 192, 128] S1x64x128.size inb_S1x896x512_S1x64x128_0_192_128)) (View.ld (iblk m c 0 t) (Rect.unit (s := S1x896x512) ![0, 192, 256] S1x64x128.size inb_S1x896x512_S1x64x128_0_192_256)) (View.ld (iblk m c 0 t) (Rect.unit (s := S1x896x512) ![0, 192, 384] S1x64x128.size inb_S1x896x512_S1x64x128_0_192_384))
def bsT256 : Vec F S1x1x16x256 .bf16 := View.ld (iblk m c 4 t) (Rect.unit (s := S1x14x16x256) ![0, 3, 0, 0] S1x1x16x256.size inb_S1x14x16x256_S1x1x16x256_0_3_0_0)
def vtT256 : Vec F S128x256 .fp8e4m3 := kernelRun0_A.sl.v902 c (ms0_2 t) (hs0_2 t) scM0_1 (iblk m c 2 t)

theorem qxT256_lo (x : Fin 128) (q : Fin 256) : qxT256 m c t (ix2 ⟨x.val, by omega⟩ q) = mxBA (xsT256 m c t) (ix2 x q) := by
  unfold qxT256 kernelRun0_A.sl.v1065
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_9
  refine (canon_qx_lo _ _ _ x q).trans ?_
  show mxQA (View.readAt (Elt F) (ms0_0 t).view (Rect.unit (s := S1x896x512) ![0, 192, 0] S1x64x128.size inb_S1x896x512_S1x64x128_0_192_0).toLoadRect ((hs0_0 t).unread (iblk m c 0 t))) (View.readAt (Elt F) (ms0_0 t).view (Rect.unit (s := S1x896x512) ![0, 192, 128] S1x64x128.size inb_S1x896x512_S1x64x128_0_192_128).toLoadRect ((hs0_0 t).unread (iblk m c 0 t))) (View.readAt (Elt F) (ms0_0 t).view (Rect.unit (s := S1x896x512) ![0, 192, 256] S1x64x128.size inb_S1x896x512_S1x64x128_0_192_256).toLoadRect ((hs0_0 t).unread (iblk m c 0 t))) (View.readAt (Elt F) (ms0_0 t).view (Rect.unit (s := S1x896x512) ![0, 192, 384] S1x64x128.size inb_S1x896x512_S1x64x128_0_192_384).toLoadRect ((hs0_0 t).unread (iblk m c 0 t))) (ix2 x q) = _
  rw [readAt_in, readAt_in, readAt_in, readAt_in]
  rfl

theorem qxT256_mid (x : Fin 16) (q : Fin 256) : qxT256 m c t (ix2 ⟨128 + x.val, by omega⟩ q) = biasA (bsT256 m c t) (ix2 x q) := by
  unfold qxT256 kernelRun0_A.sl.v1065
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_9
  refine (canon_qx_mid _ _ x q).trans ?_
  show biasA (View.readAt (Elt F) (ms0_4 t).view (Rect.unit (s := S1x14x16x256) ![0, 3, 0, 0] S1x1x16x256.size inb_S1x14x16x256_S1x1x16x256_0_3_0_0).toLoadRect ((hs0_4 t).unread (iblk m c 4 t))) (ix2 x q) = _
  rw [readAt_in]
  rfl

theorem viT256_at (k : Fin 256) (j : Fin 128) : viT256 m c t (ix2 k j) = vinvA (valsB m c t) (ix2 ⟨k.val, by omega⟩ j) := by
  rw [← v185_eq]
  unfold viT256 kernelRun0_A.sl.v1079
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT256_at (k : Fin 256) (d : Fin 128) : vtT256 m c t (ix2 d k) = vtA (valsB m c t) (ix2 d ⟨k.val, by omega⟩) := by
  rw [← v249_eq]
  unfold vtT256 kernelRun0_A.sl.v902
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 4 loads. -/
def kxT320 : Vec F S320x256 .bf16 := kernelRun0_A.sl.v1284 c (ms0_1 t) (hs0_1 t) (ms0_2 t) (hs0_2 t) (ms0_3 t) (hs0_3 t) scM0_0 (iblk m c 1 t) (iblk m c 2 t) (iblk m c 3 t)
def qxT320 : Vec F S256x256 .bf16 := kernelRun0_A.sl.v1285 c (ms0_0 t) (hs0_0 t) (ms0_4 t) (hs0_4 t) scM0_3 (iblk m c 0 t) (iblk m c 4 t)
def viT320 : Vec F S320x128 .f32 := kernelRun0_A.sl.v1299 c (ms0_2 t) (hs0_2 t) scM0_2 (iblk m c 2 t)

theorem kxT320_at (k : Fin 320) (x : Fin 256) : kxT320 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT320 kernelRun0_A.sl.v1284
  rw [View.readCov_eq_canon']
  refine congrArg _ (funext fun a => Fin.ext ?_)
  fin_cases a <;> simp [Rect.toLoadRect]

def xsT320 : FVec F S256x128 .bf16 := catQA (View.ld (iblk m c 0 t) (Rect.unit (s := S1x896x512) ![0, 256, 0] S1x64x128.size inb_S1x896x512_S1x64x128_0_256_0)) (View.ld (iblk m c 0 t) (Rect.unit (s := S1x896x512) ![0, 256, 128] S1x64x128.size inb_S1x896x512_S1x64x128_0_256_128)) (View.ld (iblk m c 0 t) (Rect.unit (s := S1x896x512) ![0, 256, 256] S1x64x128.size inb_S1x896x512_S1x64x128_0_256_256)) (View.ld (iblk m c 0 t) (Rect.unit (s := S1x896x512) ![0, 256, 384] S1x64x128.size inb_S1x896x512_S1x64x128_0_256_384))
def bsT320 : Vec F S1x1x16x256 .bf16 := View.ld (iblk m c 4 t) (Rect.unit (s := S1x14x16x256) ![0, 4, 0, 0] S1x1x16x256.size inb_S1x14x16x256_S1x1x16x256_0_4_0_0)
def vtT320 : Vec F S128x384 .fp8e4m3 := kernelRun0_A.sl.v1344 c (ms0_2 t) (hs0_2 t) scM0_1 (iblk m c 2 t)

theorem qxT320_lo (x : Fin 128) (q : Fin 256) : qxT320 m c t (ix2 ⟨x.val, by omega⟩ q) = mxBA (xsT320 m c t) (ix2 x q) := by
  unfold qxT320 kernelRun0_A.sl.v1285
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_11
  refine (canon_qx_lo _ _ _ x q).trans ?_
  show mxQA (View.readAt (Elt F) (ms0_0 t).view (Rect.unit (s := S1x896x512) ![0, 256, 0] S1x64x128.size inb_S1x896x512_S1x64x128_0_256_0).toLoadRect ((hs0_0 t).unread (iblk m c 0 t))) (View.readAt (Elt F) (ms0_0 t).view (Rect.unit (s := S1x896x512) ![0, 256, 128] S1x64x128.size inb_S1x896x512_S1x64x128_0_256_128).toLoadRect ((hs0_0 t).unread (iblk m c 0 t))) (View.readAt (Elt F) (ms0_0 t).view (Rect.unit (s := S1x896x512) ![0, 256, 256] S1x64x128.size inb_S1x896x512_S1x64x128_0_256_256).toLoadRect ((hs0_0 t).unread (iblk m c 0 t))) (View.readAt (Elt F) (ms0_0 t).view (Rect.unit (s := S1x896x512) ![0, 256, 384] S1x64x128.size inb_S1x896x512_S1x64x128_0_256_384).toLoadRect ((hs0_0 t).unread (iblk m c 0 t))) (ix2 x q) = _
  rw [readAt_in, readAt_in, readAt_in, readAt_in]
  rfl

theorem qxT320_mid (x : Fin 16) (q : Fin 256) : qxT320 m c t (ix2 ⟨128 + x.val, by omega⟩ q) = biasA (bsT320 m c t) (ix2 x q) := by
  unfold qxT320 kernelRun0_A.sl.v1285
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_11
  refine (canon_qx_mid _ _ x q).trans ?_
  show biasA (View.readAt (Elt F) (ms0_4 t).view (Rect.unit (s := S1x14x16x256) ![0, 4, 0, 0] S1x1x16x256.size inb_S1x14x16x256_S1x1x16x256_0_4_0_0).toLoadRect ((hs0_4 t).unread (iblk m c 4 t))) (ix2 x q) = _
  rw [readAt_in]
  rfl

theorem viT320_at (k : Fin 320) (j : Fin 128) : viT320 m c t (ix2 k j) = vinvA (valsB m c t) (ix2 ⟨k.val, by omega⟩ j) := by
  rw [← v185_eq]
  unfold viT320 kernelRun0_A.sl.v1299
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT320_at (k : Fin 384) (d : Fin 128) : vtT320 m c t (ix2 d k) = vtA (valsB m c t) (ix2 d ⟨k.val, by omega⟩) := by
  rw [← v249_eq]
  unfold vtT320 kernelRun0_A.sl.v1344
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 5 loads. -/
def kxT384 : Vec F S384x256 .bf16 := kernelRun0_A.sl.v1506 c (ms0_1 t) (hs0_1 t) (ms0_2 t) (hs0_2 t) (ms0_3 t) (hs0_3 t) scM0_0 (iblk m c 1 t) (iblk m c 2 t) (iblk m c 3 t)
def qxT384 : Vec F S256x256 .bf16 := kernelRun0_A.sl.v1507 c (ms0_0 t) (hs0_0 t) (ms0_4 t) (hs0_4 t) scM0_3 (iblk m c 0 t) (iblk m c 4 t)
def viT384 : Vec F S384x128 .f32 := kernelRun0_A.sl.v1521 c (ms0_2 t) (hs0_2 t) scM0_2 (iblk m c 2 t)

theorem kxT384_at (k : Fin 384) (x : Fin 256) : kxT384 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT384 kernelRun0_A.sl.v1506
  rw [View.readCov_eq_canon']
  refine congrArg _ (funext fun a => Fin.ext ?_)
  fin_cases a <;> simp [Rect.toLoadRect]

def xsT384 : FVec F S256x128 .bf16 := catQA (View.ld (iblk m c 0 t) (Rect.unit (s := S1x896x512) ![0, 320, 0] S1x64x128.size inb_S1x896x512_S1x64x128_0_320_0)) (View.ld (iblk m c 0 t) (Rect.unit (s := S1x896x512) ![0, 320, 128] S1x64x128.size inb_S1x896x512_S1x64x128_0_320_128)) (View.ld (iblk m c 0 t) (Rect.unit (s := S1x896x512) ![0, 320, 256] S1x64x128.size inb_S1x896x512_S1x64x128_0_320_256)) (View.ld (iblk m c 0 t) (Rect.unit (s := S1x896x512) ![0, 320, 384] S1x64x128.size inb_S1x896x512_S1x64x128_0_320_384))
def bsT384 : Vec F S1x1x16x256 .bf16 := View.ld (iblk m c 4 t) (Rect.unit (s := S1x14x16x256) ![0, 5, 0, 0] S1x1x16x256.size inb_S1x14x16x256_S1x1x16x256_0_5_0_0)
def vtT384 : Vec F S128x384 .fp8e4m3 := kernelRun0_A.sl.v1344 c (ms0_2 t) (hs0_2 t) scM0_1 (iblk m c 2 t)

theorem qxT384_lo (x : Fin 128) (q : Fin 256) : qxT384 m c t (ix2 ⟨x.val, by omega⟩ q) = mxBA (xsT384 m c t) (ix2 x q) := by
  unfold qxT384 kernelRun0_A.sl.v1507
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_13
  refine (canon_qx_lo _ _ _ x q).trans ?_
  show mxQA (View.readAt (Elt F) (ms0_0 t).view (Rect.unit (s := S1x896x512) ![0, 320, 0] S1x64x128.size inb_S1x896x512_S1x64x128_0_320_0).toLoadRect ((hs0_0 t).unread (iblk m c 0 t))) (View.readAt (Elt F) (ms0_0 t).view (Rect.unit (s := S1x896x512) ![0, 320, 128] S1x64x128.size inb_S1x896x512_S1x64x128_0_320_128).toLoadRect ((hs0_0 t).unread (iblk m c 0 t))) (View.readAt (Elt F) (ms0_0 t).view (Rect.unit (s := S1x896x512) ![0, 320, 256] S1x64x128.size inb_S1x896x512_S1x64x128_0_320_256).toLoadRect ((hs0_0 t).unread (iblk m c 0 t))) (View.readAt (Elt F) (ms0_0 t).view (Rect.unit (s := S1x896x512) ![0, 320, 384] S1x64x128.size inb_S1x896x512_S1x64x128_0_320_384).toLoadRect ((hs0_0 t).unread (iblk m c 0 t))) (ix2 x q) = _
  rw [readAt_in, readAt_in, readAt_in, readAt_in]
  rfl

theorem qxT384_mid (x : Fin 16) (q : Fin 256) : qxT384 m c t (ix2 ⟨128 + x.val, by omega⟩ q) = biasA (bsT384 m c t) (ix2 x q) := by
  unfold qxT384 kernelRun0_A.sl.v1507
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_13
  refine (canon_qx_mid _ _ x q).trans ?_
  show biasA (View.readAt (Elt F) (ms0_4 t).view (Rect.unit (s := S1x14x16x256) ![0, 5, 0, 0] S1x1x16x256.size inb_S1x14x16x256_S1x1x16x256_0_5_0_0).toLoadRect ((hs0_4 t).unread (iblk m c 4 t))) (ix2 x q) = _
  rw [readAt_in]
  rfl

theorem viT384_at (k : Fin 384) (j : Fin 128) : viT384 m c t (ix2 k j) = vinvA (valsB m c t) (ix2 ⟨k.val, by omega⟩ j) := by
  rw [← v185_eq]
  unfold viT384 kernelRun0_A.sl.v1521
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT384_at (k : Fin 384) (d : Fin 128) : vtT384 m c t (ix2 d k) = vtA (valsB m c t) (ix2 d ⟨k.val, by omega⟩) := by
  rw [← v249_eq]
  unfold vtT384 kernelRun0_A.sl.v1344
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 6 loads. -/
def kxT448 : Vec F S448x256 .bf16 := kernelRun0_A.sl.v1726 c (ms0_1 t) (hs0_1 t) (ms0_2 t) (hs0_2 t) (ms0_3 t) (hs0_3 t) scM0_0 (iblk m c 1 t) (iblk m c 2 t) (iblk m c 3 t)
def qxT448 : Vec F S256x256 .bf16 := kernelRun0_A.sl.v1727 c (ms0_0 t) (hs0_0 t) (ms0_4 t) (hs0_4 t) scM0_3 (iblk m c 0 t) (iblk m c 4 t)
def viT448 : Vec F S448x128 .f32 := kernelRun0_A.sl.v1741 c (ms0_2 t) (hs0_2 t) scM0_2 (iblk m c 2 t)

theorem kxT448_at (k : Fin 448) (x : Fin 256) : kxT448 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT448 kernelRun0_A.sl.v1726
  rw [View.readCov_eq_canon']
  refine congrArg _ (funext fun a => Fin.ext ?_)
  fin_cases a <;> simp [Rect.toLoadRect]

def xsT448 : FVec F S256x128 .bf16 := catQA (View.ld (iblk m c 0 t) (Rect.unit (s := S1x896x512) ![0, 384, 0] S1x64x128.size inb_S1x896x512_S1x64x128_0_384_0)) (View.ld (iblk m c 0 t) (Rect.unit (s := S1x896x512) ![0, 384, 128] S1x64x128.size inb_S1x896x512_S1x64x128_0_384_128)) (View.ld (iblk m c 0 t) (Rect.unit (s := S1x896x512) ![0, 384, 256] S1x64x128.size inb_S1x896x512_S1x64x128_0_384_256)) (View.ld (iblk m c 0 t) (Rect.unit (s := S1x896x512) ![0, 384, 384] S1x64x128.size inb_S1x896x512_S1x64x128_0_384_384))
def bsT448 : Vec F S1x1x16x256 .bf16 := View.ld (iblk m c 4 t) (Rect.unit (s := S1x14x16x256) ![0, 6, 0, 0] S1x1x16x256.size inb_S1x14x16x256_S1x1x16x256_0_6_0_0)
def vtT448 : Vec F S128x512 .fp8e4m3 := kernelRun0_A.sl.v1786 c (ms0_2 t) (hs0_2 t) scM0_1 (iblk m c 2 t)

theorem qxT448_lo (x : Fin 128) (q : Fin 256) : qxT448 m c t (ix2 ⟨x.val, by omega⟩ q) = mxBA (xsT448 m c t) (ix2 x q) := by
  unfold qxT448 kernelRun0_A.sl.v1727
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_15
  refine (canon_qx_lo _ _ _ x q).trans ?_
  show mxQA (View.readAt (Elt F) (ms0_0 t).view (Rect.unit (s := S1x896x512) ![0, 384, 0] S1x64x128.size inb_S1x896x512_S1x64x128_0_384_0).toLoadRect ((hs0_0 t).unread (iblk m c 0 t))) (View.readAt (Elt F) (ms0_0 t).view (Rect.unit (s := S1x896x512) ![0, 384, 128] S1x64x128.size inb_S1x896x512_S1x64x128_0_384_128).toLoadRect ((hs0_0 t).unread (iblk m c 0 t))) (View.readAt (Elt F) (ms0_0 t).view (Rect.unit (s := S1x896x512) ![0, 384, 256] S1x64x128.size inb_S1x896x512_S1x64x128_0_384_256).toLoadRect ((hs0_0 t).unread (iblk m c 0 t))) (View.readAt (Elt F) (ms0_0 t).view (Rect.unit (s := S1x896x512) ![0, 384, 384] S1x64x128.size inb_S1x896x512_S1x64x128_0_384_384).toLoadRect ((hs0_0 t).unread (iblk m c 0 t))) (ix2 x q) = _
  rw [readAt_in, readAt_in, readAt_in, readAt_in]
  rfl

theorem qxT448_mid (x : Fin 16) (q : Fin 256) : qxT448 m c t (ix2 ⟨128 + x.val, by omega⟩ q) = biasA (bsT448 m c t) (ix2 x q) := by
  unfold qxT448 kernelRun0_A.sl.v1727
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_15
  refine (canon_qx_mid _ _ x q).trans ?_
  show biasA (View.readAt (Elt F) (ms0_4 t).view (Rect.unit (s := S1x14x16x256) ![0, 6, 0, 0] S1x1x16x256.size inb_S1x14x16x256_S1x1x16x256_0_6_0_0).toLoadRect ((hs0_4 t).unread (iblk m c 4 t))) (ix2 x q) = _
  rw [readAt_in]
  rfl

theorem viT448_at (k : Fin 448) (j : Fin 128) : viT448 m c t (ix2 k j) = vinvA (valsB m c t) (ix2 ⟨k.val, by omega⟩ j) := by
  rw [← v185_eq]
  unfold viT448 kernelRun0_A.sl.v1741
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT448_at (k : Fin 512) (d : Fin 128) : vtT448 m c t (ix2 d k) = vtA (valsB m c t) (ix2 d ⟨k.val, by omega⟩) := by
  rw [← v249_eq]
  unfold vtT448 kernelRun0_A.sl.v1786
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 7 loads. -/
def kxT512 : Vec F S512x256 .bf16 := kernelRun0_A.sl.v1948 c (ms0_1 t) (hs0_1 t) (ms0_2 t) (hs0_2 t) (ms0_3 t) (hs0_3 t) scM0_0 (iblk m c 1 t) (iblk m c 2 t) (iblk m c 3 t)
def qxT512 : Vec F S256x256 .bf16 := kernelRun0_A.sl.v1949 c (ms0_0 t) (hs0_0 t) (ms0_4 t) (hs0_4 t) scM0_3 (iblk m c 0 t) (iblk m c 4 t)
def viT512 : Vec F S512x128 .f32 := kernelRun0_A.sl.v1963 c (ms0_2 t) (hs0_2 t) scM0_2 (iblk m c 2 t)

theorem kxT512_at (k : Fin 512) (x : Fin 256) : kxT512 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT512 kernelRun0_A.sl.v1948
  rw [View.readCov_eq_canon']
  refine congrArg _ (funext fun a => Fin.ext ?_)
  fin_cases a <;> simp [Rect.toLoadRect]

def xsT512 : FVec F S256x128 .bf16 := catQA (View.ld (iblk m c 0 t) (Rect.unit (s := S1x896x512) ![0, 448, 0] S1x64x128.size inb_S1x896x512_S1x64x128_0_448_0)) (View.ld (iblk m c 0 t) (Rect.unit (s := S1x896x512) ![0, 448, 128] S1x64x128.size inb_S1x896x512_S1x64x128_0_448_128)) (View.ld (iblk m c 0 t) (Rect.unit (s := S1x896x512) ![0, 448, 256] S1x64x128.size inb_S1x896x512_S1x64x128_0_448_256)) (View.ld (iblk m c 0 t) (Rect.unit (s := S1x896x512) ![0, 448, 384] S1x64x128.size inb_S1x896x512_S1x64x128_0_448_384))
def bsT512 : Vec F S1x1x16x256 .bf16 := View.ld (iblk m c 4 t) (Rect.unit (s := S1x14x16x256) ![0, 7, 0, 0] S1x1x16x256.size inb_S1x14x16x256_S1x1x16x256_0_7_0_0)
def vtT512 : Vec F S128x512 .fp8e4m3 := kernelRun0_A.sl.v1786 c (ms0_2 t) (hs0_2 t) scM0_1 (iblk m c 2 t)

theorem qxT512_lo (x : Fin 128) (q : Fin 256) : qxT512 m c t (ix2 ⟨x.val, by omega⟩ q) = mxBA (xsT512 m c t) (ix2 x q) := by
  unfold qxT512 kernelRun0_A.sl.v1949
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_17
  refine (canon_qx_lo _ _ _ x q).trans ?_
  show mxQA (View.readAt (Elt F) (ms0_0 t).view (Rect.unit (s := S1x896x512) ![0, 448, 0] S1x64x128.size inb_S1x896x512_S1x64x128_0_448_0).toLoadRect ((hs0_0 t).unread (iblk m c 0 t))) (View.readAt (Elt F) (ms0_0 t).view (Rect.unit (s := S1x896x512) ![0, 448, 128] S1x64x128.size inb_S1x896x512_S1x64x128_0_448_128).toLoadRect ((hs0_0 t).unread (iblk m c 0 t))) (View.readAt (Elt F) (ms0_0 t).view (Rect.unit (s := S1x896x512) ![0, 448, 256] S1x64x128.size inb_S1x896x512_S1x64x128_0_448_256).toLoadRect ((hs0_0 t).unread (iblk m c 0 t))) (View.readAt (Elt F) (ms0_0 t).view (Rect.unit (s := S1x896x512) ![0, 448, 384] S1x64x128.size inb_S1x896x512_S1x64x128_0_448_384).toLoadRect ((hs0_0 t).unread (iblk m c 0 t))) (ix2 x q) = _
  rw [readAt_in, readAt_in, readAt_in, readAt_in]
  rfl

theorem qxT512_mid (x : Fin 16) (q : Fin 256) : qxT512 m c t (ix2 ⟨128 + x.val, by omega⟩ q) = biasA (bsT512 m c t) (ix2 x q) := by
  unfold qxT512 kernelRun0_A.sl.v1949
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_17
  refine (canon_qx_mid _ _ x q).trans ?_
  show biasA (View.readAt (Elt F) (ms0_4 t).view (Rect.unit (s := S1x14x16x256) ![0, 7, 0, 0] S1x1x16x256.size inb_S1x14x16x256_S1x1x16x256_0_7_0_0).toLoadRect ((hs0_4 t).unread (iblk m c 4 t))) (ix2 x q) = _
  rw [readAt_in]
  rfl

theorem viT512_at (k : Fin 512) (j : Fin 128) : viT512 m c t (ix2 k j) = vinvA (valsB m c t) (ix2 ⟨k.val, by omega⟩ j) := by
  rw [← v185_eq]
  unfold viT512 kernelRun0_A.sl.v1963
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT512_at (k : Fin 512) (d : Fin 128) : vtT512 m c t (ix2 d k) = vtA (valsB m c t) (ix2 d ⟨k.val, by omega⟩) := by
  rw [← v249_eq]
  unfold vtT512 kernelRun0_A.sl.v1786
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 8 loads. -/
def kxT576 : Vec F S576x256 .bf16 := kernelRun0_A.sl.v2168 c (ms0_1 t) (hs0_1 t) (ms0_2 t) (hs0_2 t) (ms0_3 t) (hs0_3 t) scM0_0 (iblk m c 1 t) (iblk m c 2 t) (iblk m c 3 t)
def qxT576 : Vec F S256x256 .bf16 := kernelRun0_A.sl.v2169 c (ms0_0 t) (hs0_0 t) (ms0_4 t) (hs0_4 t) scM0_3 (iblk m c 0 t) (iblk m c 4 t)
def viT576 : Vec F S576x128 .f32 := kernelRun0_A.sl.v2183 c (ms0_2 t) (hs0_2 t) scM0_2 (iblk m c 2 t)

theorem kxT576_at (k : Fin 576) (x : Fin 256) : kxT576 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT576 kernelRun0_A.sl.v2168
  rw [View.readCov_eq_canon']
  refine congrArg _ (funext fun a => Fin.ext ?_)
  fin_cases a <;> simp [Rect.toLoadRect]

def xsT576 : FVec F S256x128 .bf16 := catQA (View.ld (iblk m c 0 t) (Rect.unit (s := S1x896x512) ![0, 512, 0] S1x64x128.size inb_S1x896x512_S1x64x128_0_512_0)) (View.ld (iblk m c 0 t) (Rect.unit (s := S1x896x512) ![0, 512, 128] S1x64x128.size inb_S1x896x512_S1x64x128_0_512_128)) (View.ld (iblk m c 0 t) (Rect.unit (s := S1x896x512) ![0, 512, 256] S1x64x128.size inb_S1x896x512_S1x64x128_0_512_256)) (View.ld (iblk m c 0 t) (Rect.unit (s := S1x896x512) ![0, 512, 384] S1x64x128.size inb_S1x896x512_S1x64x128_0_512_384))
def bsT576 : Vec F S1x1x16x256 .bf16 := View.ld (iblk m c 4 t) (Rect.unit (s := S1x14x16x256) ![0, 8, 0, 0] S1x1x16x256.size inb_S1x14x16x256_S1x1x16x256_0_8_0_0)
def vtT576 : Vec F S128x640 .fp8e4m3 := kernelRun0_A.sl.v2228 c (ms0_2 t) (hs0_2 t) scM0_1 (iblk m c 2 t)

theorem qxT576_lo (x : Fin 128) (q : Fin 256) : qxT576 m c t (ix2 ⟨x.val, by omega⟩ q) = mxBA (xsT576 m c t) (ix2 x q) := by
  unfold qxT576 kernelRun0_A.sl.v2169
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_19
  refine (canon_qx_lo _ _ _ x q).trans ?_
  show mxQA (View.readAt (Elt F) (ms0_0 t).view (Rect.unit (s := S1x896x512) ![0, 512, 0] S1x64x128.size inb_S1x896x512_S1x64x128_0_512_0).toLoadRect ((hs0_0 t).unread (iblk m c 0 t))) (View.readAt (Elt F) (ms0_0 t).view (Rect.unit (s := S1x896x512) ![0, 512, 128] S1x64x128.size inb_S1x896x512_S1x64x128_0_512_128).toLoadRect ((hs0_0 t).unread (iblk m c 0 t))) (View.readAt (Elt F) (ms0_0 t).view (Rect.unit (s := S1x896x512) ![0, 512, 256] S1x64x128.size inb_S1x896x512_S1x64x128_0_512_256).toLoadRect ((hs0_0 t).unread (iblk m c 0 t))) (View.readAt (Elt F) (ms0_0 t).view (Rect.unit (s := S1x896x512) ![0, 512, 384] S1x64x128.size inb_S1x896x512_S1x64x128_0_512_384).toLoadRect ((hs0_0 t).unread (iblk m c 0 t))) (ix2 x q) = _
  rw [readAt_in, readAt_in, readAt_in, readAt_in]
  rfl

theorem qxT576_mid (x : Fin 16) (q : Fin 256) : qxT576 m c t (ix2 ⟨128 + x.val, by omega⟩ q) = biasA (bsT576 m c t) (ix2 x q) := by
  unfold qxT576 kernelRun0_A.sl.v2169
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_19
  refine (canon_qx_mid _ _ x q).trans ?_
  show biasA (View.readAt (Elt F) (ms0_4 t).view (Rect.unit (s := S1x14x16x256) ![0, 8, 0, 0] S1x1x16x256.size inb_S1x14x16x256_S1x1x16x256_0_8_0_0).toLoadRect ((hs0_4 t).unread (iblk m c 4 t))) (ix2 x q) = _
  rw [readAt_in]
  rfl

theorem viT576_at (k : Fin 576) (j : Fin 128) : viT576 m c t (ix2 k j) = vinvA (valsB m c t) (ix2 ⟨k.val, by omega⟩ j) := by
  rw [← v185_eq]
  unfold viT576 kernelRun0_A.sl.v2183
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT576_at (k : Fin 640) (d : Fin 128) : vtT576 m c t (ix2 d k) = vtA (valsB m c t) (ix2 d ⟨k.val, by omega⟩) := by
  rw [← v249_eq]
  unfold vtT576 kernelRun0_A.sl.v2228
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 9 loads. -/
def kxT640 : Vec F S640x256 .bf16 := kernelRun0_A.sl.v2390 c (ms0_1 t) (hs0_1 t) (ms0_2 t) (hs0_2 t) (ms0_3 t) (hs0_3 t) scM0_0 (iblk m c 1 t) (iblk m c 2 t) (iblk m c 3 t)
def qxT640 : Vec F S256x256 .bf16 := kernelRun0_A.sl.v2391 c (ms0_0 t) (hs0_0 t) (ms0_4 t) (hs0_4 t) scM0_3 (iblk m c 0 t) (iblk m c 4 t)
def viT640 : Vec F S640x128 .f32 := kernelRun0_A.sl.v2405 c (ms0_2 t) (hs0_2 t) scM0_2 (iblk m c 2 t)

theorem kxT640_at (k : Fin 640) (x : Fin 256) : kxT640 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT640 kernelRun0_A.sl.v2390
  rw [View.readCov_eq_canon']
  refine congrArg _ (funext fun a => Fin.ext ?_)
  fin_cases a <;> simp [Rect.toLoadRect]

def xsT640 : FVec F S256x128 .bf16 := catQA (View.ld (iblk m c 0 t) (Rect.unit (s := S1x896x512) ![0, 576, 0] S1x64x128.size inb_S1x896x512_S1x64x128_0_576_0)) (View.ld (iblk m c 0 t) (Rect.unit (s := S1x896x512) ![0, 576, 128] S1x64x128.size inb_S1x896x512_S1x64x128_0_576_128)) (View.ld (iblk m c 0 t) (Rect.unit (s := S1x896x512) ![0, 576, 256] S1x64x128.size inb_S1x896x512_S1x64x128_0_576_256)) (View.ld (iblk m c 0 t) (Rect.unit (s := S1x896x512) ![0, 576, 384] S1x64x128.size inb_S1x896x512_S1x64x128_0_576_384))
def bsT640 : Vec F S1x1x16x256 .bf16 := View.ld (iblk m c 4 t) (Rect.unit (s := S1x14x16x256) ![0, 9, 0, 0] S1x1x16x256.size inb_S1x14x16x256_S1x1x16x256_0_9_0_0)
def vtT640 : Vec F S128x640 .fp8e4m3 := kernelRun0_A.sl.v2228 c (ms0_2 t) (hs0_2 t) scM0_1 (iblk m c 2 t)

theorem qxT640_lo (x : Fin 128) (q : Fin 256) : qxT640 m c t (ix2 ⟨x.val, by omega⟩ q) = mxBA (xsT640 m c t) (ix2 x q) := by
  unfold qxT640 kernelRun0_A.sl.v2391
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_21
  refine (canon_qx_lo _ _ _ x q).trans ?_
  show mxQA (View.readAt (Elt F) (ms0_0 t).view (Rect.unit (s := S1x896x512) ![0, 576, 0] S1x64x128.size inb_S1x896x512_S1x64x128_0_576_0).toLoadRect ((hs0_0 t).unread (iblk m c 0 t))) (View.readAt (Elt F) (ms0_0 t).view (Rect.unit (s := S1x896x512) ![0, 576, 128] S1x64x128.size inb_S1x896x512_S1x64x128_0_576_128).toLoadRect ((hs0_0 t).unread (iblk m c 0 t))) (View.readAt (Elt F) (ms0_0 t).view (Rect.unit (s := S1x896x512) ![0, 576, 256] S1x64x128.size inb_S1x896x512_S1x64x128_0_576_256).toLoadRect ((hs0_0 t).unread (iblk m c 0 t))) (View.readAt (Elt F) (ms0_0 t).view (Rect.unit (s := S1x896x512) ![0, 576, 384] S1x64x128.size inb_S1x896x512_S1x64x128_0_576_384).toLoadRect ((hs0_0 t).unread (iblk m c 0 t))) (ix2 x q) = _
  rw [readAt_in, readAt_in, readAt_in, readAt_in]
  rfl

theorem qxT640_mid (x : Fin 16) (q : Fin 256) : qxT640 m c t (ix2 ⟨128 + x.val, by omega⟩ q) = biasA (bsT640 m c t) (ix2 x q) := by
  unfold qxT640 kernelRun0_A.sl.v2391
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_21
  refine (canon_qx_mid _ _ x q).trans ?_
  show biasA (View.readAt (Elt F) (ms0_4 t).view (Rect.unit (s := S1x14x16x256) ![0, 9, 0, 0] S1x1x16x256.size inb_S1x14x16x256_S1x1x16x256_0_9_0_0).toLoadRect ((hs0_4 t).unread (iblk m c 4 t))) (ix2 x q) = _
  rw [readAt_in]
  rfl

theorem viT640_at (k : Fin 640) (j : Fin 128) : viT640 m c t (ix2 k j) = vinvA (valsB m c t) (ix2 ⟨k.val, by omega⟩ j) := by
  rw [← v185_eq]
  unfold viT640 kernelRun0_A.sl.v2405
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT640_at (k : Fin 640) (d : Fin 128) : vtT640 m c t (ix2 d k) = vtA (valsB m c t) (ix2 d ⟨k.val, by omega⟩) := by
  rw [← v249_eq]
  unfold vtT640 kernelRun0_A.sl.v2228
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 10 loads. -/
def kxT704 : Vec F S704x256 .bf16 := kernelRun0_A.sl.v2610 c (ms0_1 t) (hs0_1 t) (ms0_2 t) (hs0_2 t) (ms0_3 t) (hs0_3 t) scM0_0 (iblk m c 1 t) (iblk m c 2 t) (iblk m c 3 t)
def qxT704 : Vec F S256x256 .bf16 := kernelRun0_A.sl.v2611 c (ms0_0 t) (hs0_0 t) (ms0_4 t) (hs0_4 t) scM0_3 (iblk m c 0 t) (iblk m c 4 t)
def viT704 : Vec F S704x128 .f32 := kernelRun0_A.sl.v2625 c (ms0_2 t) (hs0_2 t) scM0_2 (iblk m c 2 t)

theorem kxT704_at (k : Fin 704) (x : Fin 256) : kxT704 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT704 kernelRun0_A.sl.v2610
  rw [View.readCov_eq_canon']
  refine congrArg _ (funext fun a => Fin.ext ?_)
  fin_cases a <;> simp [Rect.toLoadRect]

def xsT704 : FVec F S256x128 .bf16 := catQA (View.ld (iblk m c 0 t) (Rect.unit (s := S1x896x512) ![0, 640, 0] S1x64x128.size inb_S1x896x512_S1x64x128_0_640_0)) (View.ld (iblk m c 0 t) (Rect.unit (s := S1x896x512) ![0, 640, 128] S1x64x128.size inb_S1x896x512_S1x64x128_0_640_128)) (View.ld (iblk m c 0 t) (Rect.unit (s := S1x896x512) ![0, 640, 256] S1x64x128.size inb_S1x896x512_S1x64x128_0_640_256)) (View.ld (iblk m c 0 t) (Rect.unit (s := S1x896x512) ![0, 640, 384] S1x64x128.size inb_S1x896x512_S1x64x128_0_640_384))
def bsT704 : Vec F S1x1x16x256 .bf16 := View.ld (iblk m c 4 t) (Rect.unit (s := S1x14x16x256) ![0, 10, 0, 0] S1x1x16x256.size inb_S1x14x16x256_S1x1x16x256_0_10_0_0)
def vtT704 : Vec F S128x768 .fp8e4m3 := kernelRun0_A.sl.v2670 c (ms0_2 t) (hs0_2 t) scM0_1 (iblk m c 2 t)

theorem qxT704_lo (x : Fin 128) (q : Fin 256) : qxT704 m c t (ix2 ⟨x.val, by omega⟩ q) = mxBA (xsT704 m c t) (ix2 x q) := by
  unfold qxT704 kernelRun0_A.sl.v2611
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_23
  refine (canon_qx_lo _ _ _ x q).trans ?_
  show mxQA (View.readAt (Elt F) (ms0_0 t).view (Rect.unit (s := S1x896x512) ![0, 640, 0] S1x64x128.size inb_S1x896x512_S1x64x128_0_640_0).toLoadRect ((hs0_0 t).unread (iblk m c 0 t))) (View.readAt (Elt F) (ms0_0 t).view (Rect.unit (s := S1x896x512) ![0, 640, 128] S1x64x128.size inb_S1x896x512_S1x64x128_0_640_128).toLoadRect ((hs0_0 t).unread (iblk m c 0 t))) (View.readAt (Elt F) (ms0_0 t).view (Rect.unit (s := S1x896x512) ![0, 640, 256] S1x64x128.size inb_S1x896x512_S1x64x128_0_640_256).toLoadRect ((hs0_0 t).unread (iblk m c 0 t))) (View.readAt (Elt F) (ms0_0 t).view (Rect.unit (s := S1x896x512) ![0, 640, 384] S1x64x128.size inb_S1x896x512_S1x64x128_0_640_384).toLoadRect ((hs0_0 t).unread (iblk m c 0 t))) (ix2 x q) = _
  rw [readAt_in, readAt_in, readAt_in, readAt_in]
  rfl

theorem qxT704_mid (x : Fin 16) (q : Fin 256) : qxT704 m c t (ix2 ⟨128 + x.val, by omega⟩ q) = biasA (bsT704 m c t) (ix2 x q) := by
  unfold qxT704 kernelRun0_A.sl.v2611
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_23
  refine (canon_qx_mid _ _ x q).trans ?_
  show biasA (View.readAt (Elt F) (ms0_4 t).view (Rect.unit (s := S1x14x16x256) ![0, 10, 0, 0] S1x1x16x256.size inb_S1x14x16x256_S1x1x16x256_0_10_0_0).toLoadRect ((hs0_4 t).unread (iblk m c 4 t))) (ix2 x q) = _
  rw [readAt_in]
  rfl

theorem viT704_at (k : Fin 704) (j : Fin 128) : viT704 m c t (ix2 k j) = vinvA (valsB m c t) (ix2 ⟨k.val, by omega⟩ j) := by
  rw [← v185_eq]
  unfold viT704 kernelRun0_A.sl.v2625
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT704_at (k : Fin 768) (d : Fin 128) : vtT704 m c t (ix2 d k) = vtA (valsB m c t) (ix2 d ⟨k.val, by omega⟩) := by
  rw [← v249_eq]
  unfold vtT704 kernelRun0_A.sl.v2670
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 11 loads. -/
def kxT768 : Vec F S768x256 .bf16 := kernelRun0_A.sl.v2832 c (ms0_1 t) (hs0_1 t) (ms0_2 t) (hs0_2 t) (ms0_3 t) (hs0_3 t) scM0_0 (iblk m c 1 t) (iblk m c 2 t) (iblk m c 3 t)
def qxT768 : Vec F S256x256 .bf16 := kernelRun0_A.sl.v2833 c (ms0_0 t) (hs0_0 t) (ms0_4 t) (hs0_4 t) scM0_3 (iblk m c 0 t) (iblk m c 4 t)
def viT768 : Vec F S768x128 .f32 := kernelRun0_A.sl.v2847 c (ms0_2 t) (hs0_2 t) scM0_2 (iblk m c 2 t)

theorem kxT768_at (k : Fin 768) (x : Fin 256) : kxT768 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT768 kernelRun0_A.sl.v2832
  rw [View.readCov_eq_canon']
  refine congrArg _ (funext fun a => Fin.ext ?_)
  fin_cases a <;> simp [Rect.toLoadRect]

def xsT768 : FVec F S256x128 .bf16 := catQA (View.ld (iblk m c 0 t) (Rect.unit (s := S1x896x512) ![0, 704, 0] S1x64x128.size inb_S1x896x512_S1x64x128_0_704_0)) (View.ld (iblk m c 0 t) (Rect.unit (s := S1x896x512) ![0, 704, 128] S1x64x128.size inb_S1x896x512_S1x64x128_0_704_128)) (View.ld (iblk m c 0 t) (Rect.unit (s := S1x896x512) ![0, 704, 256] S1x64x128.size inb_S1x896x512_S1x64x128_0_704_256)) (View.ld (iblk m c 0 t) (Rect.unit (s := S1x896x512) ![0, 704, 384] S1x64x128.size inb_S1x896x512_S1x64x128_0_704_384))
def bsT768 : Vec F S1x1x16x256 .bf16 := View.ld (iblk m c 4 t) (Rect.unit (s := S1x14x16x256) ![0, 11, 0, 0] S1x1x16x256.size inb_S1x14x16x256_S1x1x16x256_0_11_0_0)
def vtT768 : Vec F S128x768 .fp8e4m3 := kernelRun0_A.sl.v2670 c (ms0_2 t) (hs0_2 t) scM0_1 (iblk m c 2 t)

theorem qxT768_lo (x : Fin 128) (q : Fin 256) : qxT768 m c t (ix2 ⟨x.val, by omega⟩ q) = mxBA (xsT768 m c t) (ix2 x q) := by
  unfold qxT768 kernelRun0_A.sl.v2833
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_25
  refine (canon_qx_lo _ _ _ x q).trans ?_
  show mxQA (View.readAt (Elt F) (ms0_0 t).view (Rect.unit (s := S1x896x512) ![0, 704, 0] S1x64x128.size inb_S1x896x512_S1x64x128_0_704_0).toLoadRect ((hs0_0 t).unread (iblk m c 0 t))) (View.readAt (Elt F) (ms0_0 t).view (Rect.unit (s := S1x896x512) ![0, 704, 128] S1x64x128.size inb_S1x896x512_S1x64x128_0_704_128).toLoadRect ((hs0_0 t).unread (iblk m c 0 t))) (View.readAt (Elt F) (ms0_0 t).view (Rect.unit (s := S1x896x512) ![0, 704, 256] S1x64x128.size inb_S1x896x512_S1x64x128_0_704_256).toLoadRect ((hs0_0 t).unread (iblk m c 0 t))) (View.readAt (Elt F) (ms0_0 t).view (Rect.unit (s := S1x896x512) ![0, 704, 384] S1x64x128.size inb_S1x896x512_S1x64x128_0_704_384).toLoadRect ((hs0_0 t).unread (iblk m c 0 t))) (ix2 x q) = _
  rw [readAt_in, readAt_in, readAt_in, readAt_in]
  rfl

theorem qxT768_mid (x : Fin 16) (q : Fin 256) : qxT768 m c t (ix2 ⟨128 + x.val, by omega⟩ q) = biasA (bsT768 m c t) (ix2 x q) := by
  unfold qxT768 kernelRun0_A.sl.v2833
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_25
  refine (canon_qx_mid _ _ x q).trans ?_
  show biasA (View.readAt (Elt F) (ms0_4 t).view (Rect.unit (s := S1x14x16x256) ![0, 11, 0, 0] S1x1x16x256.size inb_S1x14x16x256_S1x1x16x256_0_11_0_0).toLoadRect ((hs0_4 t).unread (iblk m c 4 t))) (ix2 x q) = _
  rw [readAt_in]
  rfl

theorem viT768_at (k : Fin 768) (j : Fin 128) : viT768 m c t (ix2 k j) = vinvA (valsB m c t) (ix2 ⟨k.val, by omega⟩ j) := by
  rw [← v185_eq]
  unfold viT768 kernelRun0_A.sl.v2847
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT768_at (k : Fin 768) (d : Fin 128) : vtT768 m c t (ix2 d k) = vtA (valsB m c t) (ix2 d ⟨k.val, by omega⟩) := by
  rw [← v249_eq]
  unfold vtT768 kernelRun0_A.sl.v2670
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 12 loads. -/
def kxT832 : Vec F S832x256 .bf16 := kernelRun0_A.sl.v3052 c (ms0_1 t) (hs0_1 t) (ms0_2 t) (hs0_2 t) (ms0_3 t) (hs0_3 t) scM0_0 (iblk m c 1 t) (iblk m c 2 t) (iblk m c 3 t)
def qxT832 : Vec F S256x256 .bf16 := kernelRun0_A.sl.v3053 c (ms0_0 t) (hs0_0 t) (ms0_4 t) (hs0_4 t) scM0_3 (iblk m c 0 t) (iblk m c 4 t)
def viT832 : Vec F S832x128 .f32 := kernelRun0_A.sl.v3067 c (ms0_2 t) (hs0_2 t) scM0_2 (iblk m c 2 t)

theorem kxT832_at (k : Fin 832) (x : Fin 256) : kxT832 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT832 kernelRun0_A.sl.v3052
  rw [View.readCov_eq_canon']
  refine congrArg _ (funext fun a => Fin.ext ?_)
  fin_cases a <;> simp [Rect.toLoadRect]

def xsT832 : FVec F S256x128 .bf16 := catQA (View.ld (iblk m c 0 t) (Rect.unit (s := S1x896x512) ![0, 768, 0] S1x64x128.size inb_S1x896x512_S1x64x128_0_768_0)) (View.ld (iblk m c 0 t) (Rect.unit (s := S1x896x512) ![0, 768, 128] S1x64x128.size inb_S1x896x512_S1x64x128_0_768_128)) (View.ld (iblk m c 0 t) (Rect.unit (s := S1x896x512) ![0, 768, 256] S1x64x128.size inb_S1x896x512_S1x64x128_0_768_256)) (View.ld (iblk m c 0 t) (Rect.unit (s := S1x896x512) ![0, 768, 384] S1x64x128.size inb_S1x896x512_S1x64x128_0_768_384))
def bsT832 : Vec F S1x1x16x256 .bf16 := View.ld (iblk m c 4 t) (Rect.unit (s := S1x14x16x256) ![0, 12, 0, 0] S1x1x16x256.size inb_S1x14x16x256_S1x1x16x256_0_12_0_0)
def vtT832 : Vec F S128x896 .fp8e4m3 := kernelRun0_A.sl.v3112 c (ms0_2 t) (hs0_2 t) scM0_1 (iblk m c 2 t)

theorem qxT832_lo (x : Fin 128) (q : Fin 256) : qxT832 m c t (ix2 ⟨x.val, by omega⟩ q) = mxBA (xsT832 m c t) (ix2 x q) := by
  unfold qxT832 kernelRun0_A.sl.v3053
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_27
  refine (canon_qx_lo _ _ _ x q).trans ?_
  show mxQA (View.readAt (Elt F) (ms0_0 t).view (Rect.unit (s := S1x896x512) ![0, 768, 0] S1x64x128.size inb_S1x896x512_S1x64x128_0_768_0).toLoadRect ((hs0_0 t).unread (iblk m c 0 t))) (View.readAt (Elt F) (ms0_0 t).view (Rect.unit (s := S1x896x512) ![0, 768, 128] S1x64x128.size inb_S1x896x512_S1x64x128_0_768_128).toLoadRect ((hs0_0 t).unread (iblk m c 0 t))) (View.readAt (Elt F) (ms0_0 t).view (Rect.unit (s := S1x896x512) ![0, 768, 256] S1x64x128.size inb_S1x896x512_S1x64x128_0_768_256).toLoadRect ((hs0_0 t).unread (iblk m c 0 t))) (View.readAt (Elt F) (ms0_0 t).view (Rect.unit (s := S1x896x512) ![0, 768, 384] S1x64x128.size inb_S1x896x512_S1x64x128_0_768_384).toLoadRect ((hs0_0 t).unread (iblk m c 0 t))) (ix2 x q) = _
  rw [readAt_in, readAt_in, readAt_in, readAt_in]
  rfl

theorem qxT832_mid (x : Fin 16) (q : Fin 256) : qxT832 m c t (ix2 ⟨128 + x.val, by omega⟩ q) = biasA (bsT832 m c t) (ix2 x q) := by
  unfold qxT832 kernelRun0_A.sl.v3053
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_27
  refine (canon_qx_mid _ _ x q).trans ?_
  show biasA (View.readAt (Elt F) (ms0_4 t).view (Rect.unit (s := S1x14x16x256) ![0, 12, 0, 0] S1x1x16x256.size inb_S1x14x16x256_S1x1x16x256_0_12_0_0).toLoadRect ((hs0_4 t).unread (iblk m c 4 t))) (ix2 x q) = _
  rw [readAt_in]
  rfl

theorem viT832_at (k : Fin 832) (j : Fin 128) : viT832 m c t (ix2 k j) = vinvA (valsB m c t) (ix2 ⟨k.val, by omega⟩ j) := by
  rw [← v185_eq]
  unfold viT832 kernelRun0_A.sl.v3067
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT832_at (k : Fin 896) (d : Fin 128) : vtT832 m c t (ix2 d k) = vtA (valsB m c t) (ix2 d ⟨k.val, by omega⟩) := by
  rw [← v249_eq]
  unfold vtT832 kernelRun0_A.sl.v3112
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

/-- What tile 13 loads. -/
def kxT896 : Vec F S896x256 .bf16 := kernelRun0_A.sl.v3274 c (ms0_1 t) (hs0_1 t) (ms0_2 t) (hs0_2 t) (ms0_3 t) (hs0_3 t) scM0_0 (iblk m c 1 t) (iblk m c 2 t) (iblk m c 3 t)
def qxT896 : Vec F S256x256 .bf16 := kernelRun0_A.sl.v3275 c (ms0_0 t) (hs0_0 t) (ms0_4 t) (hs0_4 t) scM0_3 (iblk m c 0 t) (iblk m c 4 t)
def viT896 : Vec F S896x128 .f32 := kernelRun0_A.sl.v3289 c (ms0_2 t) (hs0_2 t) scM0_2 (iblk m c 2 t)

theorem kxT896_at (k : Fin 896) (x : Fin 256) : kxT896 m c t (ix2 k x)
    = if h : x.val < 128 then kxLA (keysB m c t) (ix2 ⟨k.val, by omega⟩ ⟨x.val, h⟩) else kxRA (valsB m c t) (extB m c t) (ix2 ⟨k.val, by omega⟩ ⟨x.val - 128, by omega⟩) := by
  rw [← kx_canon m c t ⟨k.val, by omega⟩ x]
  unfold kxT896 kernelRun0_A.sl.v3274
  rw [View.readCov_eq_canon']
  refine congrArg _ (funext fun a => Fin.ext ?_)
  fin_cases a <;> simp [Rect.toLoadRect]

def xsT896 : FVec F S256x128 .bf16 := catQA (View.ld (iblk m c 0 t) (Rect.unit (s := S1x896x512) ![0, 832, 0] S1x64x128.size inb_S1x896x512_S1x64x128_0_832_0)) (View.ld (iblk m c 0 t) (Rect.unit (s := S1x896x512) ![0, 832, 128] S1x64x128.size inb_S1x896x512_S1x64x128_0_832_128)) (View.ld (iblk m c 0 t) (Rect.unit (s := S1x896x512) ![0, 832, 256] S1x64x128.size inb_S1x896x512_S1x64x128_0_832_256)) (View.ld (iblk m c 0 t) (Rect.unit (s := S1x896x512) ![0, 832, 384] S1x64x128.size inb_S1x896x512_S1x64x128_0_832_384))
def bsT896 : Vec F S1x1x16x256 .bf16 := View.ld (iblk m c 4 t) (Rect.unit (s := S1x14x16x256) ![0, 13, 0, 0] S1x1x16x256.size inb_S1x14x16x256_S1x1x16x256_0_13_0_0)
def vtT896 : Vec F S128x896 .fp8e4m3 := kernelRun0_A.sl.v3112 c (ms0_2 t) (hs0_2 t) scM0_1 (iblk m c 2 t)

theorem qxT896_lo (x : Fin 128) (q : Fin 256) : qxT896 m c t (ix2 ⟨x.val, by omega⟩ q) = mxBA (xsT896 m c t) (ix2 x q) := by
  unfold qxT896 kernelRun0_A.sl.v3275
  rw [View.readCov_eq_canon']
  refine (congrArg _ (funext fun a => Fin.ext (by fin_cases a <;> simp [Rect.toLoadRect]) : _ = (ix2 ⟨x.val, by omega⟩ q : S256x256.Idx))).trans ?_
  unfold kernelRun0_A.sl.HS3_29
  refine (canon_qx_lo _ _ _ x q).trans ?_
  show mxQA (View.readAt (Elt F) (ms0_0 t).view (Rect.unit (s := S1x896x512) ![0, 832, 0] S1x64x128.size inb_S1x896x512_S1x64x128_0_832_0).toLoadRect ((hs0_0 t).unread (iblk m c 0 t))) (View.readAt (Elt F) (ms0_0 t).view (Rect.unit (s := S1x896x512) ![0, 832, 128] S1x64x128.size inb_S1x896x512_S1x64x128_0_832_128).toLoadRect ((hs0_0 t).unread (iblk m c 0 t))) (View.readAt (Elt F) (ms0_0 t).view (Rect.unit (s := S1x896x512) ![0, 832, 256] S1x64x128.size inb_S1x896x512_S1x64x128_0_832_256).toLoadRect ((hs0_0 t).unread (iblk m c 0 t))) (View.readAt (Elt F) (ms0_0 t).view (Rect.unit (s := S1x896x512) ![0, 832, 384] S1x64x128.size inb_S1x896x512_S1x64x128_0_832_384).toLoadRect ((hs0_0 t).unread (iblk m c 0 t))) (ix2 x q) = _
  rw [readAt_in, readAt_in, readAt_in, readAt_in]
  rfl

theorem qxT896_mid (x : Fin 16) (q : Fin 256) : qxT896 m c t (ix2 ⟨128 + x.val, by omega⟩ q) = biasA (bsT896 m c t) (ix2 x q) := by
  unfold qxT896 kernelRun0_A.sl.v3275
  rw [View.readCov_eq_canon']
  refine (congrArg _ (funext fun a => Fin.ext (by fin_cases a <;> simp [Rect.toLoadRect]) : _ = (ix2 ⟨128 + x.val, by omega⟩ q : S256x256.Idx))).trans ?_
  unfold kernelRun0_A.sl.HS3_29
  refine (canon_qx_mid _ _ x q).trans ?_
  show biasA (View.readAt (Elt F) (ms0_4 t).view (Rect.unit (s := S1x14x16x256) ![0, 13, 0, 0] S1x1x16x256.size inb_S1x14x16x256_S1x1x16x256_0_13_0_0).toLoadRect ((hs0_4 t).unread (iblk m c 4 t))) (ix2 x q) = _
  rw [readAt_in]
  rfl

theorem viT896_at (k : Fin 896) (j : Fin 128) : viT896 m c t (ix2 k j) = vinvA (valsB m c t) (ix2 ⟨k.val, by omega⟩ j) := by
  rw [← v185_eq]
  unfold viT896 kernelRun0_A.sl.v3289
  rw [View.readCov_eq_canon']
  refine (congrArg _ (funext fun a => Fin.ext (by fin_cases a <;> simp [Rect.toLoadRect]) : _ = (ix2 ⟨k.val, by omega⟩ j : S896x128.Idx))).trans ?_
  unfold kernelRun0_A.sl.HS2_1
  exact congrFun (View.canon_unit_zero (by funext a; fin_cases a <;> rfl) _ _) _

theorem vtT896_at (k : Fin 896) (d : Fin 128) : vtT896 m c t (ix2 d k) = vtA (valsB m c t) (ix2 d ⟨k.val, by omega⟩) := by
  rw [← v249_eq]
  unfold vtT896 kernelRun0_A.sl.v3112
  rw [View.readCov_eq_canon']
  refine (congrArg _ (funext fun a => Fin.ext (by fin_cases a <;> simp [Rect.toLoadRect]) : _ = (ix2 d ⟨k.val, by omega⟩ : S128x896.Idx))).trans ?_
  unfold kernelRun0_A.sl.HS1_1
  exact congrFun (View.canon_unit_zero (by funext a; fin_cases a <;> rfl) _ _) _

end Cert.KernelIdeal.Gen

end
-- ==== Proof.KOut.lean ====
module

public import proofs.«01_k».proof.Proof.KFrame
public import proofs.«01_k».proof.Proof.KOps
public import Idealize.ShloMosaic.Lib.Pipeline.ValueKit.Tiles
public import Idealize.ShloMosaic.Lib.Pointwise
public import proofs.«01_k».proof.Proof.KTie

/-! The block of `out` that a grid point leaves is what its pieces say. -/

@[expose] public section

set_option maxRecDepth 16384

noncomputable section

namespace Cert.KernelIdeal.Gen

open Idealize.ShloMosaic
open Pointwise

variable {F : FTy → Type} [FloatOps F] [Named F]
variable (m : (ℓ : Loc nD τ sig) → Buf (Elt F) ℓ) (c : Dev nD) (t : Fin cfg0.N)

/-- The block is a function of its index as soon as every piece is. -/
theorem outAt_of_pieces (G : S1x896x512.Idx → Elt F .bf16)
    (h896_3 : ∀ x : S1x64x128.Idx, outA3 (colA896 (kxT896 m c t) (qxT896 m c t) (viT896 m c t) (vtT896 m c t)) x = G ((Rect.unit (s := S1x896x512) ![0, 832, 384] S1x64x128.size inb_S1x896x512_S1x64x128_0_832_384).emb x))
    (h896_2 : ∀ x : S1x64x128.Idx, outA2 (colA896 (kxT896 m c t) (qxT896 m c t) (viT896 m c t) (vtT896 m c t)) x = G ((Rect.unit (s := S1x896x512) ![0, 832, 256] S1x64x128.size inb_S1x896x512_S1x64x128_0_832_256).emb x))
    (h896_1 : ∀ x : S1x64x128.Idx, outA1 (colA896 (kxT896 m c t) (qxT896 m c t) (viT896 m c t) (vtT896 m c t)) x = G ((Rect.unit (s := S1x896x512) ![0, 832, 128] S1x64x128.size inb_S1x896x512_S1x64x128_0_832_128).emb x))
    (h896_0 : ∀ x : S1x64x128.Idx, outA0 (colA896 (kxT896 m c t) (qxT896 m c t) (viT896 m c t) (vtT896 m c t)) x = G ((Rect.unit (s := S1x896x512) ![0, 832, 0] S1x64x128.size inb_S1x896x512_S1x64x128_0_832_0).emb x))
    (h832_3 : ∀ x : S1x64x128.Idx, outA3 (colA832 (kxT832 m c t) (qxT832 m c t) (viT832 m c t) (vtT832 m c t)) x = G ((Rect.unit (s := S1x896x512) ![0, 768, 384] S1x64x128.size inb_S1x896x512_S1x64x128_0_768_384).emb x))
    (h832_2 : ∀ x : S1x64x128.Idx, outA2 (colA832 (kxT832 m c t) (qxT832 m c t) (viT832 m c t) (vtT832 m c t)) x = G ((Rect.unit (s := S1x896x512) ![0, 768, 256] S1x64x128.size inb_S1x896x512_S1x64x128_0_768_256).emb x))
    (h832_1 : ∀ x : S1x64x128.Idx, outA1 (colA832 (kxT832 m c t) (qxT832 m c t) (viT832 m c t) (vtT832 m c t)) x = G ((Rect.unit (s := S1x896x512) ![0, 768, 128] S1x64x128.size inb_S1x896x512_S1x64x128_0_768_128).emb x))
    (h832_0 : ∀ x : S1x64x128.Idx, outA0 (colA832 (kxT832 m c t) (qxT832 m c t) (viT832 m c t) (vtT832 m c t)) x = G ((Rect.unit (s := S1x896x512) ![0, 768, 0] S1x64x128.size inb_S1x896x512_S1x64x128_0_768_0).emb x))
    (h768_3 : ∀ x : S1x64x128.Idx, outA3 (colA768 (kxT768 m c t) (qxT768 m c t) (viT768 m c t) (vtT768 m c t)) x = G ((Rect.unit (s := S1x896x512) ![0, 704, 384] S1x64x128.size inb_S1x896x512_S1x64x128_0_704_384).emb x))
    (h768_2 : ∀ x : S1x64x128.Idx, outA2 (colA768 (kxT768 m c t) (qxT768 m c t) (viT768 m c t) (vtT768 m c t)) x = G ((Rect.unit (s := S1x896x512) ![0, 704, 256] S1x64x128.size inb_S1x896x512_S1x64x128_0_704_256).emb x))
    (h768_1 : ∀ x : S1x64x128.Idx, outA1 (colA768 (kxT768 m c t) (qxT768 m c t) (viT768 m c t) (vtT768 m c t)) x = G ((Rect.unit (s := S1x896x512) ![0, 704, 128] S1x64x128.size inb_S1x896x512_S1x64x128_0_704_128).emb x))
    (h768_0 : ∀ x : S1x64x128.Idx, outA0 (colA768 (kxT768 m c t) (qxT768 m c t) (viT768 m c t) (vtT768 m c t)) x = G ((Rect.unit (s := S1x896x512) ![0, 704, 0] S1x64x128.size inb_S1x896x512_S1x64x128_0_704_0).emb x))
    (h704_3 : ∀ x : S1x64x128.Idx, outA3 (colA704 (kxT704 m c t) (qxT704 m c t) (viT704 m c t) (vtT704 m c t)) x = G ((Rect.unit (s := S1x896x512) ![0, 640, 384] S1x64x128.size inb_S1x896x512_S1x64x128_0_640_384).emb x))
    (h704_2 : ∀ x : S1x64x128.Idx, outA2 (colA704 (kxT704 m c t) (qxT704 m c t) (viT704 m c t) (vtT704 m c t)) x = G ((Rect.unit (s := S1x896x512) ![0, 640, 256] S1x64x128.size inb_S1x896x512_S1x64x128_0_640_256).emb x))
    (h704_1 : ∀ x : S1x64x128.Idx, outA1 (colA704 (kxT704 m c t) (qxT704 m c t) (viT704 m c t) (vtT704 m c t)) x = G ((Rect.unit (s := S1x896x512) ![0, 640, 128] S1x64x128.size inb_S1x896x512_S1x64x128_0_640_128).emb x))
    (h704_0 : ∀ x : S1x64x128.Idx, outA0 (colA704 (kxT704 m c t) (qxT704 m c t) (viT704 m c t) (vtT704 m c t)) x = G ((Rect.unit (s := S1x896x512) ![0, 640, 0] S1x64x128.size inb_S1x896x512_S1x64x128_0_640_0).emb x))
    (h640_3 : ∀ x : S1x64x128.Idx, outA3 (colA640 (kxT640 m c t) (qxT640 m c t) (viT640 m c t) (vtT640 m c t)) x = G ((Rect.unit (s := S1x896x512) ![0, 576, 384] S1x64x128.size inb_S1x896x512_S1x64x128_0_576_384).emb x))
    (h640_2 : ∀ x : S1x64x128.Idx, outA2 (colA640 (kxT640 m c t) (qxT640 m c t) (viT640 m c t) (vtT640 m c t)) x = G ((Rect.unit (s := S1x896x512) ![0, 576, 256] S1x64x128.size inb_S1x896x512_S1x64x128_0_576_256).emb x))
    (h640_1 : ∀ x : S1x64x128.Idx, outA1 (colA640 (kxT640 m c t) (qxT640 m c t) (viT640 m c t) (vtT640 m c t)) x = G ((Rect.unit (s := S1x896x512) ![0, 576, 128] S1x64x128.size inb_S1x896x512_S1x64x128_0_576_128).emb x))
    (h640_0 : ∀ x : S1x64x128.Idx, outA0 (colA640 (kxT640 m c t) (qxT640 m c t) (viT640 m c t) (vtT640 m c t)) x = G ((Rect.unit (s := S1x896x512) ![0, 576, 0] S1x64x128.size inb_S1x896x512_S1x64x128_0_576_0).emb x))
    (h576_3 : ∀ x : S1x64x128.Idx, outA3 (colA576 (kxT576 m c t) (qxT576 m c t) (viT576 m c t) (vtT576 m c t)) x = G ((Rect.unit (s := S1x896x512) ![0, 512, 384] S1x64x128.size inb_S1x896x512_S1x64x128_0_512_384).emb x))
    (h576_2 : ∀ x : S1x64x128.Idx, outA2 (colA576 (kxT576 m c t) (qxT576 m c t) (viT576 m c t) (vtT576 m c t)) x = G ((Rect.unit (s := S1x896x512) ![0, 512, 256] S1x64x128.size inb_S1x896x512_S1x64x128_0_512_256).emb x))
    (h576_1 : ∀ x : S1x64x128.Idx, outA1 (colA576 (kxT576 m c t) (qxT576 m c t) (viT576 m c t) (vtT576 m c t)) x = G ((Rect.unit (s := S1x896x512) ![0, 512, 128] S1x64x128.size inb_S1x896x512_S1x64x128_0_512_128).emb x))
    (h576_0 : ∀ x : S1x64x128.Idx, outA0 (colA576 (kxT576 m c t) (qxT576 m c t) (viT576 m c t) (vtT576 m c t)) x = G ((Rect.unit (s := S1x896x512) ![0, 512, 0] S1x64x128.size inb_S1x896x512_S1x64x128_0_512_0).emb x))
    (h512_3 : ∀ x : S1x64x128.Idx, outA3 (colA512 (kxT512 m c t) (qxT512 m c t) (viT512 m c t) (vtT512 m c t)) x = G ((Rect.unit (s := S1x896x512) ![0, 448, 384] S1x64x128.size inb_S1x896x512_S1x64x128_0_448_384).emb x))
    (h512_2 : ∀ x : S1x64x128.Idx, outA2 (colA512 (kxT512 m c t) (qxT512 m c t) (viT512 m c t) (vtT512 m c t)) x = G ((Rect.unit (s := S1x896x512) ![0, 448, 256] S1x64x128.size inb_S1x896x512_S1x64x128_0_448_256).emb x))
    (h512_1 : ∀ x : S1x64x128.Idx, outA1 (colA512 (kxT512 m c t) (qxT512 m c t) (viT512 m c t) (vtT512 m c t)) x = G ((Rect.unit (s := S1x896x512) ![0, 448, 128] S1x64x128.size inb_S1x896x512_S1x64x128_0_448_128).emb x))
    (h512_0 : ∀ x : S1x64x128.Idx, outA0 (colA512 (kxT512 m c t) (qxT512 m c t) (viT512 m c t) (vtT512 m c t)) x = G ((Rect.unit (s := S1x896x512) ![0, 448, 0] S1x64x128.size inb_S1x896x512_S1x64x128_0_448_0).emb x))
    (h448_3 : ∀ x : S1x64x128.Idx, outA3 (colA448 (kxT448 m c t) (qxT448 m c t) (viT448 m c t) (vtT448 m c t)) x = G ((Rect.unit (s := S1x896x512) ![0, 384, 384] S1x64x128.size inb_S1x896x512_S1x64x128_0_384_384).emb x))
    (h448_2 : ∀ x : S1x64x128.Idx, outA2 (colA448 (kxT448 m c t) (qxT448 m c t) (viT448 m c t) (vtT448 m c t)) x = G ((Rect.unit (s := S1x896x512) ![0, 384, 256] S1x64x128.size inb_S1x896x512_S1x64x128_0_384_256).emb x))
    (h448_1 : ∀ x : S1x64x128.Idx, outA1 (colA448 (kxT448 m c t) (qxT448 m c t) (viT448 m c t) (vtT448 m c t)) x = G ((Rect.unit (s := S1x896x512) ![0, 384, 128] S1x64x128.size inb_S1x896x512_S1x64x128_0_384_128).emb x))
    (h448_0 : ∀ x : S1x64x128.Idx, outA0 (colA448 (kxT448 m c t) (qxT448 m c t) (viT448 m c t) (vtT448 m c t)) x = G ((Rect.unit (s := S1x896x512) ![0, 384, 0] S1x64x128.size inb_S1x896x512_S1x64x128_0_384_0).emb x))
    (h384_3 : ∀ x : S1x64x128.Idx, outA3 (colA384 (kxT384 m c t) (qxT384 m c t) (viT384 m c t) (vtT384 m c t)) x = G ((Rect.unit (s := S1x896x512) ![0, 320, 384] S1x64x128.size inb_S1x896x512_S1x64x128_0_320_384).emb x))
    (h384_2 : ∀ x : S1x64x128.Idx, outA2 (colA384 (kxT384 m c t) (qxT384 m c t) (viT384 m c t) (vtT384 m c t)) x = G ((Rect.unit (s := S1x896x512) ![0, 320, 256] S1x64x128.size inb_S1x896x512_S1x64x128_0_320_256).emb x))
    (h384_1 : ∀ x : S1x64x128.Idx, outA1 (colA384 (kxT384 m c t) (qxT384 m c t) (viT384 m c t) (vtT384 m c t)) x = G ((Rect.unit (s := S1x896x512) ![0, 320, 128] S1x64x128.size inb_S1x896x512_S1x64x128_0_320_128).emb x))
    (h384_0 : ∀ x : S1x64x128.Idx, outA0 (colA384 (kxT384 m c t) (qxT384 m c t) (viT384 m c t) (vtT384 m c t)) x = G ((Rect.unit (s := S1x896x512) ![0, 320, 0] S1x64x128.size inb_S1x896x512_S1x64x128_0_320_0).emb x))
    (h320_3 : ∀ x : S1x64x128.Idx, outA3 (colA320 (kxT320 m c t) (qxT320 m c t) (viT320 m c t) (vtT320 m c t)) x = G ((Rect.unit (s := S1x896x512) ![0, 256, 384] S1x64x128.size inb_S1x896x512_S1x64x128_0_256_384).emb x))
    (h320_2 : ∀ x : S1x64x128.Idx, outA2 (colA320 (kxT320 m c t) (qxT320 m c t) (viT320 m c t) (vtT320 m c t)) x = G ((Rect.unit (s := S1x896x512) ![0, 256, 256] S1x64x128.size inb_S1x896x512_S1x64x128_0_256_256).emb x))
    (h320_1 : ∀ x : S1x64x128.Idx, outA1 (colA320 (kxT320 m c t) (qxT320 m c t) (viT320 m c t) (vtT320 m c t)) x = G ((Rect.unit (s := S1x896x512) ![0, 256, 128] S1x64x128.size inb_S1x896x512_S1x64x128_0_256_128).emb x))
    (h320_0 : ∀ x : S1x64x128.Idx, outA0 (colA320 (kxT320 m c t) (qxT320 m c t) (viT320 m c t) (vtT320 m c t)) x = G ((Rect.unit (s := S1x896x512) ![0, 256, 0] S1x64x128.size inb_S1x896x512_S1x64x128_0_256_0).emb x))
    (h256_3 : ∀ x : S1x64x128.Idx, outA3 (colA256 (kxT256 m c t) (qxT256 m c t) (viT256 m c t) (vtT256 m c t)) x = G ((Rect.unit (s := S1x896x512) ![0, 192, 384] S1x64x128.size inb_S1x896x512_S1x64x128_0_192_384).emb x))
    (h256_2 : ∀ x : S1x64x128.Idx, outA2 (colA256 (kxT256 m c t) (qxT256 m c t) (viT256 m c t) (vtT256 m c t)) x = G ((Rect.unit (s := S1x896x512) ![0, 192, 256] S1x64x128.size inb_S1x896x512_S1x64x128_0_192_256).emb x))
    (h256_1 : ∀ x : S1x64x128.Idx, outA1 (colA256 (kxT256 m c t) (qxT256 m c t) (viT256 m c t) (vtT256 m c t)) x = G ((Rect.unit (s := S1x896x512) ![0, 192, 128] S1x64x128.size inb_S1x896x512_S1x64x128_0_192_128).emb x))
    (h256_0 : ∀ x : S1x64x128.Idx, outA0 (colA256 (kxT256 m c t) (qxT256 m c t) (viT256 m c t) (vtT256 m c t)) x = G ((Rect.unit (s := S1x896x512) ![0, 192, 0] S1x64x128.size inb_S1x896x512_S1x64x128_0_192_0).emb x))
    (h192_3 : ∀ x : S1x64x128.Idx, outA3 (colA192 (kxT192 m c t) (qxT192 m c t) (viT192 m c t) (vtT192 m c t)) x = G ((Rect.unit (s := S1x896x512) ![0, 128, 384] S1x64x128.size inb_S1x896x512_S1x64x128_0_128_384).emb x))
    (h192_2 : ∀ x : S1x64x128.Idx, outA2 (colA192 (kxT192 m c t) (qxT192 m c t) (viT192 m c t) (vtT192 m c t)) x = G ((Rect.unit (s := S1x896x512) ![0, 128, 256] S1x64x128.size inb_S1x896x512_S1x64x128_0_128_256).emb x))
    (h192_1 : ∀ x : S1x64x128.Idx, outA1 (colA192 (kxT192 m c t) (qxT192 m c t) (viT192 m c t) (vtT192 m c t)) x = G ((Rect.unit (s := S1x896x512) ![0, 128, 128] S1x64x128.size inb_S1x896x512_S1x64x128_0_128_128).emb x))
    (h192_0 : ∀ x : S1x64x128.Idx, outA0 (colA192 (kxT192 m c t) (qxT192 m c t) (viT192 m c t) (vtT192 m c t)) x = G ((Rect.unit (s := S1x896x512) ![0, 128, 0] S1x64x128.size inb_S1x896x512_S1x64x128_0_128_0).emb x))
    (h128_3 : ∀ x : S1x64x128.Idx, outA3 (colA128 (kxT128 m c t) (qxT128 m c t) (viT128 m c t) (vtT128 m c t)) x = G ((Rect.unit (s := S1x896x512) ![0, 64, 384] S1x64x128.size inb_S1x896x512_S1x64x128_0_64_384).emb x))
    (h128_2 : ∀ x : S1x64x128.Idx, outA2 (colA128 (kxT128 m c t) (qxT128 m c t) (viT128 m c t) (vtT128 m c t)) x = G ((Rect.unit (s := S1x896x512) ![0, 64, 256] S1x64x128.size inb_S1x896x512_S1x64x128_0_64_256).emb x))
    (h128_1 : ∀ x : S1x64x128.Idx, outA1 (colA128 (kxT128 m c t) (qxT128 m c t) (viT128 m c t) (vtT128 m c t)) x = G ((Rect.unit (s := S1x896x512) ![0, 64, 128] S1x64x128.size inb_S1x896x512_S1x64x128_0_64_128).emb x))
    (h128_0 : ∀ x : S1x64x128.Idx, outA0 (colA128 (kxT128 m c t) (qxT128 m c t) (viT128 m c t) (vtT128 m c t)) x = G ((Rect.unit (s := S1x896x512) ![0, 64, 0] S1x64x128.size inb_S1x896x512_S1x64x128_0_64_0).emb x))
    (h64_3 : ∀ x : S1x64x128.Idx, outA3 (colA64 (kxT64 m c t) (qxT64 m c t) (viT64 m c t) (vtT64 m c t)) x = G ((Rect.unit (s := S1x896x512) ![0, 0, 384] S1x64x128.size inb_S1x896x512_S1x64x128_0_0_384).emb x))
    (h64_2 : ∀ x : S1x64x128.Idx, outA2 (colA64 (kxT64 m c t) (qxT64 m c t) (viT64 m c t) (vtT64 m c t)) x = G ((Rect.unit (s := S1x896x512) ![0, 0, 256] S1x64x128.size inb_S1x896x512_S1x64x128_0_0_256).emb x))
    (h64_1 : ∀ x : S1x64x128.Idx, outA1 (colA64 (kxT64 m c t) (qxT64 m c t) (viT64 m c t) (vtT64 m c t)) x = G ((Rect.unit (s := S1x896x512) ![0, 0, 128] S1x64x128.size inb_S1x896x512_S1x64x128_0_0_128).emb x))
    (h64_0 : ∀ x : S1x64x128.Idx, outA0 (colA64 (kxT64 m c t) (qxT64 m c t) (viT64 m c t) (vtT64 m c t)) x = G ((Rect.unit (s := S1x896x512) ![0, 0, 0] S1x64x128.size inb_S1x896x512_S1x64x128_0_0_0).emb x))
    (y : S1x896x512.Idx) : outAt0_5 m c t y = G y := by
  unfold outAt0_5 out0_A_5
  rw [View.read_writes_eq_canon VO0_5 _ _ (cover0_A_5 c _ _ _ _ _ _ _ _ _ _ _ _ _ _ _ _ _ _ _ _ _ _ _ _ _ _ _ _ _ _ _ _ _ _ _ _ _ _ )]
  refine View.canon_apply_of_pieces G _ ?_ y (cover0_A_5 c _ _ _ _ _ _ _ _ _ _ _ _ _ _ _ _ _ _ _ _ _ _ _ _ _ _ _ _ _ _ _ _ _ _ _ _ _ _  y)
  unfold kernelRun0_A
  dsimp only
  refine List.forall_mem_cons.mpr ⟨h896_3, ?_⟩
  refine List.forall_mem_cons.mpr ⟨h896_2, ?_⟩
  refine List.forall_mem_cons.mpr ⟨h896_1, ?_⟩
  refine List.forall_mem_cons.mpr ⟨h896_0, ?_⟩
  refine List.forall_mem_cons.mpr ⟨h832_3, ?_⟩
  refine List.forall_mem_cons.mpr ⟨h832_2, ?_⟩
  refine List.forall_mem_cons.mpr ⟨h832_1, ?_⟩
  refine List.forall_mem_cons.mpr ⟨h832_0, ?_⟩
  refine List.forall_mem_cons.mpr ⟨h768_3, ?_⟩
  refine List.forall_mem_cons.mpr ⟨h768_2, ?_⟩
  refine List.forall_mem_cons.mpr ⟨h768_1, ?_⟩
  refine List.forall_mem_cons.mpr ⟨h768_0, ?_⟩
  refine List.forall_mem_cons.mpr ⟨h704_3, ?_⟩
  refine List.forall_mem_cons.mpr ⟨h704_2, ?_⟩
  refine List.forall_mem_cons.mpr ⟨h704_1, ?_⟩
  refine List.forall_mem_cons.mpr ⟨h704_0, ?_⟩
  refine List.forall_mem_cons.mpr ⟨h640_3, ?_⟩
  refine List.forall_mem_cons.mpr ⟨h640_2, ?_⟩
  refine List.forall_mem_cons.mpr ⟨h640_1, ?_⟩
  refine List.forall_mem_cons.mpr ⟨h640_0, ?_⟩
  refine List.forall_mem_cons.mpr ⟨h576_3, ?_⟩
  refine List.forall_mem_cons.mpr ⟨h576_2, ?_⟩
  refine List.forall_mem_cons.mpr ⟨h576_1, ?_⟩
  refine List.forall_mem_cons.mpr ⟨h576_0, ?_⟩
  refine List.forall_mem_cons.mpr ⟨h512_3, ?_⟩
  refine List.forall_mem_cons.mpr ⟨h512_2, ?_⟩
  refine List.forall_mem_cons.mpr ⟨h512_1, ?_⟩
  refine List.forall_mem_cons.mpr ⟨h512_0, ?_⟩
  refine List.forall_mem_cons.mpr ⟨h448_3, ?_⟩
  refine List.forall_mem_cons.mpr ⟨h448_2, ?_⟩
  refine List.forall_mem_cons.mpr ⟨h448_1, ?_⟩
  refine List.forall_mem_cons.mpr ⟨h448_0, ?_⟩
  refine List.forall_mem_cons.mpr ⟨h384_3, ?_⟩
  refine List.forall_mem_cons.mpr ⟨h384_2, ?_⟩
  refine List.forall_mem_cons.mpr ⟨h384_1, ?_⟩
  refine List.forall_mem_cons.mpr ⟨h384_0, ?_⟩
  refine List.forall_mem_cons.mpr ⟨h320_3, ?_⟩
  refine List.forall_mem_cons.mpr ⟨h320_2, ?_⟩
  refine List.forall_mem_cons.mpr ⟨h320_1, ?_⟩
  refine List.forall_mem_cons.mpr ⟨h320_0, ?_⟩
  refine List.forall_mem_cons.mpr ⟨h256_3, ?_⟩
  refine List.forall_mem_cons.mpr ⟨h256_2, ?_⟩
  refine List.forall_mem_cons.mpr ⟨h256_1, ?_⟩
  refine List.forall_mem_cons.mpr ⟨h256_0, ?_⟩
  refine List.forall_mem_cons.mpr ⟨h192_3, ?_⟩
  refine List.forall_mem_cons.mpr ⟨h192_2, ?_⟩
  refine List.forall_mem_cons.mpr ⟨h192_1, ?_⟩
  refine List.forall_mem_cons.mpr ⟨h192_0, ?_⟩
  refine List.forall_mem_cons.mpr ⟨h128_3, ?_⟩
  refine List.forall_mem_cons.mpr ⟨h128_2, ?_⟩
  refine List.forall_mem_cons.mpr ⟨h128_1, ?_⟩
  refine List.forall_mem_cons.mpr ⟨h128_0, ?_⟩
  refine List.forall_mem_cons.mpr ⟨h64_3, ?_⟩
  refine List.forall_mem_cons.mpr ⟨h64_2, ?_⟩
  refine List.forall_mem_cons.mpr ⟨h64_1, ?_⟩
  refine List.forall_mem_cons.mpr ⟨h64_0, ?_⟩
  exact fun p hp => absurd hp List.not_mem_nil

end Cert.KernelIdeal.Gen

end
-- ==== Proof.Scalar.lean ====
module

public import Idealize.ShloMosaic.Lib.Pointwise
public import Idealize.ShloMosaic.Lib.IndicatorCount
public import Mathlib.Analysis.SpecialFunctions.Pow.Real

/-! Scalars over the reals: the power of two that a word of bits reads as, the exponent that a count of powers gives,
and that scaling by it and back changes nothing. -/

@[expose] public section

set_option maxRecDepth 16384

noncomputable section

namespace Cert.Attn

open Idealize.ShloMosaic

/-- The exponent word of a largest magnitude `a`, as the kernel counts it. -/
def expoW (a : EReal) : BitVec 32 :=
  if a = 0 then 0#32
  else
    IntOp.subi
      (Finset.fold IntOp.addi (0#32)
        (fun x : Fin 255 =>
          BitVec.setWidth 32
            (BitVec.ofBool
              (decide
                (Ideal.ofBits FTy.f32 (IntOp.shli ArithUnit.vector (IntOp.addi (BitVec.ofNat 32 ↑x) 1#32) 23#32) ≤
                  a * Ideal.ofBits FTy.f32 991054117#32))))
        Finset.univ)
      126#32

/-- The power of two whose exponent is the word `w`, as the kernel builds it from bits. -/
def pow2W (w : BitVec 32) : EReal :=
  Ideal.ofBits FTy.f32
    (IntOp.shli ArithUnit.vector (IntOp.minsi (255#32) (IntOp.maxsi (0#32) (IntOp.addi w 127#32))) 23#32)

/-- The real number that the literal 1/448 reads as. -/
def kap : ℝ := 9586981 * (2 : ℝ) ^ (-32 : ℤ)

theorem kap_pos : 0 < kap := by unfold kap; positivity
theorem kap_lt : kap < (2 : ℝ) ^ (-8 : ℤ) := by unfold kap; norm_num
theorem kap_inv : 1 ≤ 448 * kap := by unfold kap; norm_num

theorem ofBits_kap : Ideal.ofBits FTy.f32 991054117#32 = (kap : EReal) := by
  unfold kap
  simp [Ideal.ofBits, Ideal.ieee, -EReal.coe_mul, -EReal.coe_neg]

theorem ofBits_448 : Ideal.ofBits FTy.f32 1138753536#32 = ((448 : ℝ) : EReal) := by
  simp [Ideal.ofBits, Ideal.ieee, -EReal.coe_mul, -EReal.coe_neg]
  norm_num

theorem ofBits_m448 : Ideal.ofBits FTy.f32 3286237184#32 = ((-448 : ℝ) : EReal) := by
  simp [Ideal.ofBits, Ideal.ieee, -EReal.coe_mul, -EReal.coe_neg]
  norm_num

theorem ofBits_bot : Ideal.ofBits FTy.f32 4286578688#32 = (⊥ : EReal) := by
  simp [Ideal.ofBits, Ideal.ieee]

theorem ofBits_fields (w : BitVec 32) (n : ℕ) (h1 : 1 ≤ n) (h2 : n ≤ 254) (hs : w.extractLsb' (8 + 23) 1 = 0#1)
    (he : (w.extractLsb' 23 8).toNat = n) (hf : (w.extractLsb' 0 23).toNat = 0) :
    Ideal.ofBits FTy.f32 w = (((2 : ℝ) ^ ((n : ℤ) - 127) : ℝ) : EReal) := by
  simp only [Ideal.ofBits, Ideal.ieee]
  rw [hs, he, hf, if_neg (by omega), if_neg (by omega)]
  congr 1
  simp only [show ((0#1 : BitVec 1) == 1#1) = false from rfl, Bool.false_eq_true, if_false, one_mul]
  push_cast
  rw [show (n : ℤ) - 127 = 23 + ((n : ℤ) - 127 - 23) by ring, zpow_add₀ (by norm_num) 23]
  norm_num

/-- The word with exponent field `n` and nothing else reads as a power of two. -/
theorem ofBits_pow (n : ℕ) (h1 : 1 ≤ n) (h2 : n ≤ 254) :
    Ideal.ofBits FTy.f32 (BitVec.ofNat 32 (8388608 * n)) = (((2 : ℝ) ^ ((n : ℤ) - 127) : ℝ) : EReal) := by
  refine ofBits_fields _ n h1 h2 ?_ ?_ ?_
  · apply BitVec.eq_of_toNat_eq
    simp only [BitVec.extractLsb'_toNat, BitVec.toNat_ofNat, Nat.shiftRight_eq_div_pow]
    omega
  · simp only [BitVec.extractLsb'_toNat, BitVec.toNat_ofNat, Nat.shiftRight_eq_div_pow]
    omega
  · simp only [BitVec.extractLsb'_toNat, BitVec.toNat_ofNat, Nat.shiftRight_eq_div_pow]
    omega

theorem ofBits_top : Ideal.ofBits FTy.f32 (BitVec.ofNat 32 (8388608 * 255)) = (⊤ : EReal) := by
  simp [Ideal.ofBits, Ideal.ieee]

theorem shl_word (x : ℕ) (hx : x < 256) :
    IntOp.shli ArithUnit.vector (BitVec.ofNat 32 x) 23#32 = BitVec.ofNat 32 (8388608 * x) := by
  apply BitVec.eq_of_toNat_eq
  have h : (23#32 : BitVec 32).toNat = 23 := rfl
  simp [IntOp.shli, Nat.shiftLeft_eq, h, Nat.mul_comm]

theorem ofBool_eq_one (b : Bool) : BitVec.ofBool b = 1#1 ↔ b = true := by cases b <;> decide

theorem toInt_small (n : ℕ) (h : n < 1000) : (BitVec.ofNat 32 n).toInt = n := by
  rw [BitVec.toInt_eq_toNat_cond, BitVec.toNat_ofNat]
  omega

/-- The exponent of a magnitude below `2 ^ 128`: the magnitude over 448 lies below that power of two. -/
theorem expoW_spec (r : ℝ) (h0 : 0 ≤ r) (h1 : r < (2 : ℝ) ^ (128 : ℤ)) :
    ∃ e : ℤ, -126 ≤ e ∧ e ≤ 120 ∧ expoW (r : EReal) = BitVec.ofInt 32 e ∧ r * kap < (2 : ℝ) ^ e := by
  by_cases hr : r = 0
  · refine ⟨0, by norm_num, by norm_num, ?_, by simp [hr]⟩
    simp [expoW, hr]
  have hrp : 0 < r := lt_of_le_of_ne h0 (Ne.symm hr)
  have hk : r * kap < (2 : ℝ) ^ (120 : ℤ) := by
    calc r * kap < (2 : ℝ) ^ (128 : ℤ) * (2 : ℝ) ^ (-8 : ℤ) := mul_lt_mul'' h1 kap_lt h0 kap_pos.le
      _ = _ := by rw [← zpow_add₀ (by norm_num)]; norm_num
  let S : Finset (Fin 255) := Finset.univ.filter fun x => (2 : ℝ) ^ ((x.val : ℤ) + 1 - 127) ≤ r * kap
  have hword : expoW (r : EReal) = IntOp.subi (BitVec.ofNat 32 S.card) 126#32 := by
    unfold expoW
    rw [if_neg (by exact_mod_cast hr), IndicatorCount.fold_addi_setWidth_eq_card]
    congr 3
    apply Finset.filter_congr
    intro x _
    rw [ofBits_kap, show IntOp.addi (BitVec.ofNat 32 x.val) 1#32 = BitVec.ofNat 32 (x.val + 1) from by
      simp [IntOp.addi, BitVec.ofNat_add], shl_word _ (by omega), ← EReal.coe_mul]
    by_cases hx : x.val = 254
    · rw [hx, show (254 + 1) = 255 from rfl, ofBits_top]
      have a1 : ¬ ((⊤ : EReal) ≤ ((r * kap : ℝ) : EReal)) := not_le.mpr (EReal.coe_lt_top _)
      have a2 : ¬ ((2 : ℝ) ^ (((254 : ℕ) : ℤ) + 1 - 127) ≤ r * kap) := by
        have : (2 : ℝ) ^ (120 : ℤ) ≤ (2 : ℝ) ^ (((254 : ℕ) : ℤ) + 1 - 127) :=
          zpow_le_zpow_right₀ (by norm_num) (by norm_num)
        linarith
      exact iff_of_false (by rw [decide_eq_false a1]; decide) a2
    · rw [ofBits_pow _ (by omega) (by omega)]
      simp only [ofBool_eq_one, decide_eq_true_eq, EReal.coe_le_coe_iff]
      push_cast
      exact Iff.rfl
  have hmem : ∀ x : Fin 255, x ∈ S ↔ (2 : ℝ) ^ ((x.val : ℤ) + 1 - 127) ≤ r * kap := fun x => by simp [S]
  have hdown : ∀ x y : Fin 255, x ≤ y → y ∈ S → x ∈ S := by
    intro x y hxy hy
    rw [hmem] at hy ⊢
    refine le_trans (zpow_le_zpow_right₀ (by norm_num) ?_) hy
    have : x.val ≤ y.val := hxy
    omega
  have hlt : ∀ x ∈ S, x.val < 246 := by
    intro x hx
    rw [hmem] at hx
    by_contra hc
    have : (2 : ℝ) ^ (120 : ℤ) ≤ (2 : ℝ) ^ ((x.val : ℤ) + 1 - 127) :=
      zpow_le_zpow_right₀ (by norm_num) (by omega)
    linarith
  have hcard : S.card ≤ 246 := by
    have : S ⊆ (Finset.univ.filter fun x : Fin 255 => x.val < 246) := fun x hx => by simpa using hlt x hx
    refine (Finset.card_le_card this).trans ?_
    rw [Fin.card_filter_val_lt]
    omega
  have hnot : r * kap < (2 : ℝ) ^ ((S.card : ℤ) - 126) := by
    by_contra hc
    push Not at hc
    have hin : (⟨S.card, by omega⟩ : Fin 255) ∈ S := by
      rw [hmem]
      refine le_trans (le_of_eq ?_) hc
      congr 1
      ring
    have hsub : (Finset.univ.filter fun x : Fin 255 => x.val < S.card + 1) ⊆ S := by
      intro x hx
      refine hdown x _ ?_ hin
      simp only [Finset.mem_filter, Finset.mem_univ, true_and] at hx
      exact Nat.lt_succ_iff.mp hx
    have h2 := Finset.card_le_card hsub
    have h3 : (Finset.univ.filter fun x : Fin 255 => x.val < S.card + 1).card = S.card + 1 := by
      rw [Fin.card_filter_val_lt]; omega
    omega
  refine ⟨(S.card : ℤ) - 126, by omega, by omega, ?_, hnot⟩
  rw [hword]
  simp only [IntOp.subi]
  apply BitVec.eq_of_toInt_eq
  have h126 : (126#32 : BitVec 32).toInt = 126 := by decide
  rw [BitVec.toInt_ofInt, BitVec.toInt_sub, toInt_small _ (by omega), h126]

/-- The word of an exponent between −126 and 126 builds that power of two. -/
theorem pow2W_ofInt (e : ℤ) (h1 : -126 ≤ e) (h2 : e ≤ 126) :
    pow2W (BitVec.ofInt 32 e) = (((2 : ℝ) ^ e : ℝ) : EReal) := by
  have hw : IntOp.minsi (255#32) (IntOp.maxsi (0#32) (IntOp.addi (BitVec.ofInt 32 e) 127#32))
      = BitVec.ofNat 32 (e + 127).toNat := by
    have hi : (BitVec.ofNat 32 (e + 127).toNat).toInt = e + 127 := by
      rw [toInt_small _ (by omega)]
      omega
    have h127 : (127#32 : BitVec 32).toInt = 127 := by decide
    have ha : IntOp.addi (BitVec.ofInt 32 e) 127#32 = BitVec.ofNat 32 (e + 127).toNat := by
      apply BitVec.eq_of_toInt_eq
      rw [hi]
      simp only [IntOp.addi]
      rw [BitVec.toInt_add, BitVec.toInt_ofInt, h127, Int.bmod_add_bmod]
      simp only [Int.bmod]
      omega
    have h255 : (255#32 : BitVec 32).toInt = 255 := by decide
    have h00 : (0#32 : BitVec 32).toInt = 0 := by decide
    rw [ha]
    simp only [IntOp.minsi, IntOp.maxsi, BitVec.slt, hi, h255, h00]
    simp [BitVec.slt, hi, h255, h00, show ¬ (e + 127 < 0) by omega, show ¬ (255 < e + 127) by omega, show 0 < e + 127 by omega, show e + 127 < 255 by omega]
  unfold pow2W
  rw [hw, shl_word _ (by omega), ofBits_pow _ (by omega) (by omega)]
  congr 2
  omega

theorem neg_ofInt (e : ℤ) : IntOp.subi 0#32 (BitVec.ofInt 32 e) = BitVec.ofInt 32 (-e) := by
  simp only [IntOp.subi]
  rw [BitVec.ofInt_neg, BitVec.zero_sub]

/-- Clipping to ±448 does nothing to a number whose magnitude is below 448. -/
theorem clip_id (x r : ℝ) (e : ℤ) (hx : |x| ≤ r) (h : r * kap < (2 : ℝ) ^ e) :
    min (Ideal.ofBits FTy.f32 1138753536#32) (max (Ideal.ofBits FTy.f32 3286237184#32)
      ((x : EReal) * (((2 : ℝ) ^ (-e) : ℝ) : EReal))) = ((x * (2 : ℝ) ^ (-e) : ℝ) : EReal) := by
  have h2 : (0 : ℝ) < (2 : ℝ) ^ e := by positivity
  have hb : |x * (2 : ℝ) ^ (-e)| ≤ 448 := by
    rw [abs_mul, abs_of_pos (by positivity : (0 : ℝ) < (2 : ℝ) ^ (-e)), zpow_neg, ← div_eq_mul_inv,
      div_le_iff₀ h2]
    have := kap_inv
    have hr : 0 ≤ r := (abs_nonneg x).trans hx
    nlinarith
  rw [ofBits_448, ofBits_m448, ← EReal.coe_mul]
  obtain ⟨hl, hu⟩ := abs_le.mp hb
  rw [max_eq_right (by exact_mod_cast hl), min_eq_right (by exact_mod_cast hu)]

/-- The largest of finitely many magnitudes is a real number, one of them, and none exceeds it. -/
theorem fold_max_abs {n : ℕ} (hn : 0 < n) (f : Fin n → ℝ) :
    ∃ M : ℝ, Finset.fold max (⊥ : EReal) (fun k => ((|f k| : ℝ) : EReal)) Finset.univ = (M : EReal)
      ∧ (∀ k, |f k| ≤ M) ∧ ∃ k, |f k| = M := by
  haveI : Nonempty (Fin n) := ⟨⟨0, hn⟩⟩
  obtain ⟨k, hk⟩ := Finite.exists_max (fun k => |f k|)
  refine ⟨|f k|, ?_, hk, k, rfl⟩
  apply le_antisymm
  · rw [Finset.fold_max_le]
    exact ⟨bot_le, fun j _ => by exact_mod_cast hk j⟩
  · rw [Finset.le_fold_max]
    exact Or.inr ⟨k, Finset.mem_univ k, le_rfl⟩

/-- Quantising by the exponent of the largest magnitude of a family loses nothing over the reals. -/
theorem quant_spec {n : ℕ} (hn : 0 < n) (f : Fin n → ℝ) (hf : ∀ k, |f k| < (2 : ℝ) ^ (128 : ℤ)) :
    ∃ e : ℤ, -126 ≤ e ∧ e ≤ 120
      ∧ expoW (Finset.fold max (⊥ : EReal) (fun k => ((|f k| : ℝ) : EReal)) Finset.univ) = BitVec.ofInt 32 e
      ∧ ∀ k, min (Ideal.ofBits FTy.f32 1138753536#32) (max (Ideal.ofBits FTy.f32 3286237184#32)
        ((f k : EReal) * (((2 : ℝ) ^ (-e) : ℝ) : EReal))) = ((f k * (2 : ℝ) ^ (-e) : ℝ) : EReal) := by
  obtain ⟨M, hM, hle, k, hk⟩ := fold_max_abs hn f
  obtain ⟨e, h1, h2, h3, h4⟩ := expoW_spec M (hk ▸ abs_nonneg _) (hk ▸ hf k)
  exact ⟨e, h1, h2, by rw [hM, h3], fun j => clip_id _ M e (hle j) h4⟩

end Cert.Attn

end
-- ==== Proof.Softmax.lean ====
module

public import proofs.«01_k».proof.Proof.Scalar
public import Mathlib.Analysis.SpecialFunctions.Pow.Real

/-! One column of scores over the reals: the weights taken against the largest score, divided by their sum, quantised by
a power of two and scaled back, are the softmax weights. -/

@[expose] public section

noncomputable section

namespace Cert.Attn

open Idealize.ShloMosaic

/-- A sum of real numbers read in the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The largest of finitely many numbers of which some are `⊥` and at least one is real is real, and is one of them. -/
theorem fold_max_vis {n : ℕ} (vis : Fin n → Prop) [DecidablePred vis] (hv : ∃ k, vis k) (y : Fin n → ℝ) :
    ∃ M : ℝ, Finset.fold max (⊥ : EReal) (fun k => if vis k then (y k : EReal) else ⊥) Finset.univ = (M : EReal)
      ∧ (∀ k, vis k → y k ≤ M) ∧ ∃ k, vis k ∧ y k = M := by
  obtain ⟨k0, hk0⟩ := hv
  have hne : (Finset.univ.filter vis).Nonempty := ⟨k0, by simpa using hk0⟩
  obtain ⟨k, hk, hmax⟩ := Finset.exists_max_image (Finset.univ.filter vis) y hne
  have hkv : vis k := by simpa using hk
  refine ⟨y k, ?_, fun j hj => hmax j (by simpa using hj), k, hkv, rfl⟩
  apply le_antisymm
  · rw [Finset.fold_max_le]
    refine ⟨bot_le, fun j _ => ?_⟩
    by_cases hj : vis j
    · rw [if_pos hj]; exact_mod_cast hmax j (by simpa using hj)
    · rw [if_neg hj]; exact bot_le
  · rw [Finset.le_fold_max]
    exact Or.inr ⟨k, Finset.mem_univ k, by rw [if_pos hkv]⟩

/-- The weighted mean of `v` with weights `exp (sc k)` over the keys that are seen. -/
def wmean {n : ℕ} (vis : Fin n → Prop) [DecidablePred vis] (sc v : Fin n → ℝ) : ℝ :=
  (∑ k, if vis k then Real.exp (sc k) * v k else 0) / (∑ k, if vis k then Real.exp (sc k) else 0)

/-- The factor from scores to powers of two. -/
def cst : ℝ := (Real.sqrt 128)⁻¹ * (Real.log 2)⁻¹

theorem cst_pos : 0 < cst := by
  unfold cst
  have := Real.log_pos (by norm_num : (1 : ℝ) < 2)
  positivity

theorem two_rpow_log (a : ℝ) : (2 : ℝ) ^ (a / Real.log 2) = Real.exp a := by
  have h := Real.log_pos (by norm_num : (1 : ℝ) < 2)
  rw [Real.rpow_def_of_pos (by norm_num)]
  congr 1
  field_simp

/-- The column of weighted values that the kernel computes from one column of scores. -/
theorem col_spec {n : ℕ} (vis : Fin n → Prop) [DecidablePred vis] (hv : ∃ k, vis k) (y sc v : Fin n → ℝ) (ve : Fin n → ℤ)
    (h1 : ∀ k, -126 ≤ ve k) (h2 : ∀ k, ve k ≤ 120)
    (hy : ∀ k, y k * cst = sc k / Real.log 2 + ve k)
    (Y T : Fin n → EReal) (L : EReal) (W : BitVec 32) (R : EReal)
    (hY : ∀ k, Y k = if vis k then (y k : EReal) else ⊥)
    (hT : ∀ k, T k = Ideal.exp2 ((Y k - Finset.fold max (Ideal.ofBits FTy.f32 4286578688#32) Y Finset.univ) * (cst : EReal)))
    (hL : L = ∑ k, T k * (((2 : ℝ) ^ (-ve k) : ℝ) : EReal))
    (hW : W = expoW (Ideal.div 1 L))
    (hR : R = min (Ideal.div (pow2W (IntOp.subi 0#32 W)) L) (Ideal.ofBits FTy.f32 1138753536#32)) :
    (∑ k, ((v k * (2 : ℝ) ^ (-ve k) : ℝ) : EReal) * (T k * R)) * pow2W W = ((wmean vis sc v : ℝ) : EReal) := by
  obtain ⟨M, hM, hle, k0, hk0, hk0M⟩ := fold_max_vis vis hv y
  have hY' : Y = fun k => if vis k then (y k : EReal) else ⊥ := funext hY
  have hc := cst_pos
  -- the weights
  set tr : Fin n → ℝ := fun k => if vis k then (2 : ℝ) ^ ((y k - M) * cst) else 0 with htr
  have hT' : ∀ k, T k = (tr k : EReal) := by
    intro k
    rw [hT, ofBits_bot, hY', hM]
    simp only [htr]
    by_cases hk : vis k
    · rw [if_pos hk, if_pos hk, ← EReal.coe_sub, ← EReal.coe_mul, Ideal.exp2_coe]
      rfl
    · rw [if_neg hk, if_neg hk, EReal.bot_sub, EReal.bot_mul_coe_of_pos hc, Ideal.exp2_bot]
      rfl
  have htr0 : ∀ k, 0 ≤ tr k := by
    intro k; simp only [htr]; split_ifs
    · positivity
    · exact le_rfl
  set l : ℝ := ∑ k, tr k * (2 : ℝ) ^ (-ve k) with hl
  have hL' : L = (l : EReal) := by
    rw [hL, hl, ← coe_sum]
    exact Finset.sum_congr rfl fun k _ => by rw [hT', EReal.coe_mul]
  have hlb : (2 : ℝ) ^ (-120 : ℤ) ≤ l := by
    have h3 : tr k0 * (2 : ℝ) ^ (-ve k0) ≤ l :=
      Finset.single_le_sum (f := fun k => tr k * (2 : ℝ) ^ (-ve k))
        (fun k _ => mul_nonneg (htr0 k) (by positivity)) (Finset.mem_univ k0)
    have h4 : tr k0 = 1 := by simp [htr, hk0, hk0M]
    have h5 : (2 : ℝ) ^ (-120 : ℤ) ≤ (2 : ℝ) ^ (-ve k0) :=
      zpow_le_zpow_right₀ (by norm_num) (by have := h2 k0; omega)
    rw [h4, one_mul] at h3
    exact h5.trans h3
  have hlpos : 0 < l := lt_of_lt_of_le (by positivity) hlb
  have hinv : 1 / l < (2 : ℝ) ^ (128 : ℤ) := by
    have h6 : 1 / l ≤ 1 / (2 : ℝ) ^ (-120 : ℤ) := one_div_le_one_div_of_le (by positivity) hlb
    refine lt_of_le_of_lt h6 ?_
    rw [one_div, ← zpow_neg]
    exact zpow_lt_zpow_right₀ (by norm_num) (by norm_num)
  obtain ⟨e, he1, he2, heW, hek⟩ := expoW_spec (1 / l) (by positivity) hinv
  have hW' : W = BitVec.ofInt 32 e := by
    rw [hW, hL', Ideal.div_coe hlpos.ne', one_mul, heW]
  have hR' : R = (((2 : ℝ) ^ (-e) / l : ℝ) : EReal) := by
    rw [hR, hW', neg_ofInt, pow2W_ofInt _ (by omega) (by omega), hL', Ideal.div_coe hlpos.ne', ← EReal.coe_mul, ofBits_448,
      mul_one_div]
    apply min_eq_left
    rw [EReal.coe_le_coe_iff, zpow_neg, inv_eq_one_div, div_div, div_le_iff₀ (by positivity)]
    have h7 : 1 < l * (2 : ℝ) ^ e / kap := by
      rw [lt_div_iff₀ kap_pos]
      rw [one_div, inv_mul_lt_iff₀ hlpos] at hek
      linarith
    have h8 := kap_inv
    have h9 : l * (2 : ℝ) ^ e / kap ≤ 448 * (l * (2 : ℝ) ^ e) := by
      rw [div_le_iff₀ kap_pos]
      have : 0 ≤ l * (2 : ℝ) ^ e := by positivity
      nlinarith
    linarith [mul_comm ((2 : ℝ) ^ e) l]
  have hsum : (∑ k, ((v k * (2 : ℝ) ^ (-ve k) : ℝ) : EReal) * (T k * R))
      = ((∑ k, (v k * (2 : ℝ) ^ (-ve k)) * (tr k * ((2 : ℝ) ^ (-e) / l)) : ℝ) : EReal) := by
    rw [← coe_sum]
    exact Finset.sum_congr rfl fun k _ => by rw [hT', hR', ← EReal.coe_mul, ← EReal.coe_mul]
  rw [hsum, hW', pow2W_ofInt _ (by omega) (by omega), ← EReal.coe_mul]
  congr 1
  -- the weights over the scales are the exponentials over one number
  have hw : ∀ k, tr k * (2 : ℝ) ^ (-ve k) = (2 : ℝ) ^ (-(M * cst)) * (if vis k then Real.exp (sc k) else 0) := by
    intro k
    simp only [htr]
    by_cases hk : vis k
    · rw [if_pos hk, if_pos hk, ← Real.rpow_intCast, ← Real.rpow_add (by norm_num), ← two_rpow_log, ← Real.rpow_add (by norm_num)]
      congr 1
      have := hy k
      push_cast
      linarith
    · rw [if_neg hk, if_neg hk]; ring
  set A : ℝ := (2 : ℝ) ^ (-(M * cst)) with hA
  have hApos : 0 < A := by rw [hA]; positivity
  set D : ℝ := ∑ k, (if vis k then Real.exp (sc k) else 0) with hD
  have hlD : l = A * D := by
    rw [hl, hD, Finset.mul_sum]
    exact Finset.sum_congr rfl fun k _ => hw k
  have hDpos : 0 < D := by
    by_contra hc'
    have : A * D ≤ 0 := mul_nonpos_of_nonneg_of_nonpos hApos.le (not_lt.mp hc')
    linarith
  have hnum : (∑ k, (v k * (2 : ℝ) ^ (-ve k)) * (tr k * ((2 : ℝ) ^ (-e) / l)))
      = (A * ∑ k, (if vis k then Real.exp (sc k) * v k else 0)) * ((2 : ℝ) ^ (-e) / l) := by
    rw [Finset.mul_sum, Finset.sum_mul]
    refine Finset.sum_congr rfl fun k _ => ?_
    have := hw k
    have h10 : (if vis k then Real.exp (sc k) * v k else 0) = (if vis k then Real.exp (sc k) else 0) * v k := by
      split_ifs <;> ring
    rw [h10, ← mul_assoc A, ← this]
    ring
  rw [hnum, hlD]
  unfold wmean
  rw [← hD]
  have h11 : (2 : ℝ) ^ e ≠ 0 := by positivity
  rw [zpow_neg]
  field_simp

/-- A shift of every score by the same number changes no weighted mean. -/
theorem wmean_shift {n : ℕ} (vis : Fin n → Prop) [DecidablePred vis] (sc sc' v : Fin n → ℝ) (a : ℝ)
    (h : ∀ k, vis k → sc k = sc' k + a) : wmean vis sc v = wmean vis sc' v := by
  unfold wmean
  have h1 : (∑ k, if vis k then Real.exp (sc k) * v k else 0) = Real.exp a * ∑ k, if vis k then Real.exp (sc' k) * v k else 0 := by
    rw [Finset.mul_sum]
    refine Finset.sum_congr rfl fun k _ => ?_
    by_cases hk : vis k
    · rw [if_pos hk, if_pos hk, h k hk, Real.exp_add]; ring
    · rw [if_neg hk, if_neg hk, mul_zero]
  have h2 : (∑ k, if vis k then Real.exp (sc k) else 0) = Real.exp a * ∑ k, if vis k then Real.exp (sc' k) else 0 := by
    rw [Finset.mul_sum]
    refine Finset.sum_congr rfl fun k _ => ?_
    by_cases hk : vis k
    · rw [if_pos hk, if_pos hk, h k hk, Real.exp_add]; ring
    · rw [if_neg hk, if_neg hk, mul_zero]
  rw [h1, h2, mul_div_mul_left _ _ (Real.exp_pos a).ne']

/-- A sum over the first keys is the sum over all of them of what is seen, when nothing past the first keys is seen. -/
theorem sum_castLE {n N : ℕ} (hn : n ≤ N) (f : Fin N → ℝ) (hf : ∀ k : Fin N, n ≤ k.val → f k = 0) :
    ∑ k : Fin n, f (Fin.castLE hn k) = ∑ k, f k := by
  have h := Finset.sum_map Finset.univ (Fin.castLEEmb hn) f
  simp only [Fin.castLEEmb_apply] at h
  rw [← h]
  refine Finset.sum_subset (Finset.subset_univ _) fun k _ hk => hf k ?_
  by_contra hc
  exact hk (Finset.mem_map.mpr ⟨⟨k.val, by omega⟩, Finset.mem_univ _, Fin.ext rfl⟩)

theorem wmean_castLE {n N : ℕ} (hn : n ≤ N) (vis : Fin N → Prop) [DecidablePred vis] (hvis : ∀ k : Fin N, vis k → k.val < n)
    (sc v : Fin N → ℝ) :
    wmean (fun k : Fin n => vis (Fin.castLE hn k)) (fun k => sc (Fin.castLE hn k)) (fun k => v (Fin.castLE hn k))
      = wmean vis sc v := by
  unfold wmean
  congr 1
  · exact sum_castLE hn (fun k => if vis k then Real.exp (sc k) * v k else 0)
      fun k hk => if_neg fun hc => absurd (hvis k hc) (by omega)
  · exact sum_castLE hn (fun k => if vis k then Real.exp (sc k) else 0)
      fun k hk => if_neg fun hc => absurd (hvis k hc) (by omega)

end Cert.Attn

end
-- ==== Proof.KRead.lean ====
module

public import proofs.«01_k».proof.Proof.KOps
public import proofs.«01_k».proof.Proof.Softmax
public import Idealize.ShloMosaic.Lib.Pointwise

/-! The operations of one tile read at an index over the reals, and one column of a tile's result: the weighted mean of
the values the column's query sees. -/

@[expose] public section

set_option maxRecDepth 16384

noncomputable section

namespace Cert.KernelIdeal.Gen

open Idealize.ShloMosaic Cert.Attn
open Pointwise

theorem named_mask : Named.named (F := Ideal) (φ := .f32) Cert.KernelIdeal.κ "mask" 4048155338#32 = (⊥ : EReal) := rfl
theorem named_cst : Named.named (F := Ideal) (φ := .f32) Cert.KernelIdeal.κ "score_to_log2" 1040356334#32 = ((cst : ℝ) : EReal) := rfl

theorem ofBits_f8_zero : Ideal.ofBits FTy.fp8e4m3 0#8 = 0 := by
  simp [Ideal.ofBits, Ideal.e4m3fn]

theorem andi_63 (c : ℕ) : IntOp.andi (BitVec.ofNat 32 c) 63#32 = BitVec.ofNat 32 (c % 64) := by
  unfold IntOp.andi
  apply BitVec.eq_of_toNat_eq
  have := Nat.and_two_pow_sub_one_eq_mod (c % 2 ^ 32) 6
  simp only [BitVec.toNat_and, BitVec.toNat_ofNat]
  norm_num at this ⊢
  rw [this]
  omega

theorem sle_small (a b : ℕ) (ha : a < 1000) (hb : b < 1000) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    unfold BitVec.sle
    rw [toInt_small a ha, toInt_small b hb]
    exact decide_eq_decide.mpr Int.ofNat_le
  show BitVec.ofBool ((BitVec.ofNat 32 a).sle (BitVec.ofNat 32 b)) = _
  rw [h]
  split_ifs with h
  · rw [decide_eq_true h]; rfl
  · rw [decide_eq_false h]; rfl

theorem caus_at (r : Fin 64) (c : Fin 256) : causA (ix2 r c) = if r.val ≤ c.val % 64 then 1#1 else 0#1 := by
  pointwise [causA]
  rw [andi_63, sle_small _ _ (by omega) (by omega)]

theorem select_if {α : Type} (p : Prop) [Decidable p] (a b : α) :
    Scalar.select (if p then 1#1 else 0#1) a b = if p then a else b := by
  split_ifs <;> rfl

theorem we_at (l : FVec Ideal S1x256 .f32) (c : Fin 256) : weA l (ix2 0 c) = expoW (Ideal.div 1 (l (ix2 0 c))) := by
  pointwise [weA]
  rfl

theorem r_at (l : FVec Ideal S1x256 .f32) (w : IVec S1x256 32) (c : Fin 256) :
    rA l w (ix2 0 c) = min (Ideal.div (pow2W (IntOp.subi 0#32 (w (ix2 0 c)))) (l (ix2 0 c))) (Ideal.ofBits FTy.f32 1138753536#32) := by
  pointwise [rA]
  rfl

theorem out_at_0 (o : FVec Ideal S256x128 .bf16) (r : Fin 64) (d : Fin 128) :
    outA0 o (ix3 0 r d) = o (ix2 ⟨0 + r.val, by omega⟩ d) := by
  pointwise [outA0]

theorem out_at_1 (o : FVec Ideal S256x128 .bf16) (r : Fin 64) (d : Fin 128) :
    outA1 o (ix3 0 r d) = o (ix2 ⟨64 + r.val, by omega⟩ d) := by
  pointwise [outA1]

theorem out_at_2 (o : FVec Ideal S256x128 .bf16) (r : Fin 64) (d : Fin 128) :
    outA2 o (ix3 0 r d) = o (ix2 ⟨128 + r.val, by omega⟩ d) := by
  pointwise [outA2]

theorem out_at_3 (o : FVec Ideal S256x128 .bf16) (r : Fin 64) (d : Fin 128) :
    outA3 o (ix3 0 r d) = o (ix2 ⟨192 + r.val, by omega⟩ d) := by
  pointwise [outA3]

theorem tile_at_64 (v : IVec S64x256 1) (kx : Vec Ideal S64x256 .bf16) (qx : Vec Ideal S256x256 .bf16) (k : Fin 64) (c : Fin 256) :
    tileA64 v kx qx (ix2 k c) = Scalar.select (v (ix2 ⟨k.val, by omega⟩ c)) (∑ x, kx (ix2 k x) * qx (ix2 x c)) (⊥ : EReal) := by
  pointwise [tileA64]
  rw [named_mask]

theorem m_at_64 (y : FVec Ideal S64x256 .f32) (c : Fin 256) :
    mA64 y (ix2 0 c) = Finset.fold max (Ideal.ofBits FTy.f32 4286578688#32) (fun x => y (ix2 x c)) Finset.univ := by
  pointwise [mA64]

theorem t_at_64 (y : FVec Ideal S64x256 .f32) (m : FVec Ideal S1x256 .f32) (k : Fin 64) (c : Fin 256) :
    tA64 y m (ix2 k c) = Ideal.exp2 ((y (ix2 k c) - m (ix2 0 c)) * ((cst : ℝ) : EReal)) := by
  pointwise [tA64]
  rw [named_cst]
  rfl

theorem l_at_64 (t : FVec Ideal S64x256 .f32) (vi : Vec Ideal S64x128 .f32) (g : Fin 64 → EReal)
    (hv : ∀ k j, vi (ix2 k j) = g k) (c : Fin 256) :
    lA64 t vi (ix2 0 c) = ∑ k, t (ix2 k c) * g k := by
  pointwise [lA64]
  refine Finset.sum_congr rfl fun k _ => ?_
  split_ifs <;> rw [hv]

theorem o_at_64 (t : FVec Ideal S64x256 .f32) (r : FVec Ideal S1x256 .f32) (w : IVec S1x256 32) (vt : Vec Ideal S128x128 .fp8e4m3)
    (c : Fin 256) (d : Fin 128) :
    oA64 t r w vt (ix2 c d) = (∑ x : Fin 64, vt (ix2 d ⟨x.val, by omega⟩) * (t (ix2 x c) * r (ix2 0 c))) * pow2W (w (ix2 0 c)) := by
  pointwise [oA64]
  simp only [ofBits_f8_zero, mul_zero, Finset.sum_const_zero, add_zero]
  rfl

/-- A column of the tile that ends at key 64. -/
theorem col_64 (kx : Vec Ideal S64x256 .bf16) (qx : Vec Ideal S256x256 .bf16) (vi : Vec Ideal S64x128 .f32)
    (vt : Vec Ideal S128x128 .fp8e4m3) (c : Fin 256) (d : Fin 128) (y sc v : Fin 64 → ℝ) (ve : Fin 64 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 64, vt (ix2 d ⟨k.val, by omega⟩) = ((v k * (2 : ℝ) ^ (-ve k) : ℝ) : EReal)) :
    colA64 kx qx vi vt (ix2 c d) = ((wmean (fun k : Fin 64 => k.val ≤ 0 + c.val % 64) sc v : ℝ) : EReal) := by
  unfold colA64
  rw [o_at_64]
  simp only [hvt]
  refine col_spec (fun k : Fin 64 => k.val ≤ 0 + c.val % 64) ⟨⟨0, by omega⟩, by simp⟩ y sc v ve h1 h2 hy
    (fun k => tileA64 causA kx qx (ix2 k c)) _ _ _ _ ?_ ?_ (l_at_64 _ _ _ hvi c) (we_at _ c) (r_at _ _ c)
  · intro k
    show tileA64 causA kx qx (ix2 k c) = _
    rw [tile_at_64, caus_at, select_if, hkq]
    simp only [Nat.zero_add]
  · intro k
    rw [t_at_64, m_at_64]

theorem tile_at_128 (v : IVec S64x256 1) (kx : Vec Ideal S128x256 .bf16) (qx : Vec Ideal S256x256 .bf16) (k : Fin 128) (c : Fin 256) :
    tileA128 v kx qx (ix2 k c) = if h : k.val < 64 then ∑ x, kx (ix2 k x) * qx (ix2 x c) else Scalar.select (v (ix2 ⟨k.val - 64, by omega⟩ c)) (∑ x, kx (ix2 k x) * qx (ix2 x c)) (⊥ : EReal) := by
  pointwise [tileA128]
  rw [named_mask]
  by_cases h : k.val < 64
  · simp only [dif_pos h]
  · have e : (⟨64 + (k.val - 64), by omega⟩ : Fin 128) = k := Fin.ext (by show 64 + (k.val - 64) = k.val; omega)
    simp only [dif_neg h, e]

theorem m_at_128 (y : FVec Ideal S128x256 .f32) (c : Fin 256) :
    mA128 y (ix2 0 c) = Finset.fold max (Ideal.ofBits FTy.f32 4286578688#32) (fun x => y (ix2 x c)) Finset.univ := by
  pointwise [mA128]

theorem t_at_128 (y : FVec Ideal S128x256 .f32) (m : FVec Ideal S1x256 .f32) (k : Fin 128) (c : Fin 256) :
    tA128 y m (ix2 k c) = Ideal.exp2 ((y (ix2 k c) - m (ix2 0 c)) * ((cst : ℝ) : EReal)) := by
  pointwise [tA128]
  rw [named_cst]
  rfl

theorem l_at_128 (t : FVec Ideal S128x256 .f32) (vi : Vec Ideal S128x128 .f32) (g : Fin 128 → EReal)
    (hv : ∀ k j, vi (ix2 k j) = g k) (c : Fin 256) :
    lA128 t vi (ix2 0 c) = ∑ k, t (ix2 k c) * g k := by
  pointwise [lA128]
  refine Finset.sum_congr rfl fun k _ => ?_
  split_ifs <;> rw [hv]

theorem o_at_128 (t : FVec Ideal S128x256 .f32) (r : FVec Ideal S1x256 .f32) (w : IVec S1x256 32) (vt : Vec Ideal S128x128 .fp8e4m3)
    (c : Fin 256) (d : Fin 128) :
    oA128 t r w vt (ix2 c d) = (∑ x : Fin 128, vt (ix2 d x) * (t (ix2 x c) * r (ix2 0 c))) * pow2W (w (ix2 0 c)) := by
  pointwise [oA128]
  rfl

/-- A column of the tile that ends at key 128. -/
theorem col_128 (kx : Vec Ideal S128x256 .bf16) (qx : Vec Ideal S256x256 .bf16) (vi : Vec Ideal S128x128 .f32)
    (vt : Vec Ideal S128x128 .fp8e4m3) (c : Fin 256) (d : Fin 128) (y sc v : Fin 128 → ℝ) (ve : Fin 128 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 128, vt (ix2 d k) = ((v k * (2 : ℝ) ^ (-ve k) : ℝ) : EReal)) :
    colA128 kx qx vi vt (ix2 c d) = ((wmean (fun k : Fin 128 => k.val ≤ 64 + c.val % 64) sc v : ℝ) : EReal) := by
  unfold colA128
  rw [o_at_128]
  simp only [hvt]
  refine col_spec (fun k : Fin 128 => k.val ≤ 64 + c.val % 64) ⟨⟨0, by omega⟩, by simp⟩ y sc v ve h1 h2 hy
    (fun k => tileA128 causA kx qx (ix2 k c)) _ _ _ _ ?_ ?_ (l_at_128 _ _ _ hvi c) (we_at _ c) (r_at _ _ c)
  · intro k
    show tileA128 causA kx qx (ix2 k c) = _
    rw [tile_at_128, hkq]
    by_cases h : k.val < 64
    · rw [dif_pos h, if_pos (by omega)]
    · rw [dif_neg h, caus_at, select_if]
      exact if_congr (by show k.val - 64 ≤ c.val % 64 ↔ _; omega) rfl rfl
  · intro k
    rw [t_at_128, m_at_128]

theorem tile_at_192 (v : IVec S64x256 1) (kx : Vec Ideal S192x256 .bf16) (qx : Vec Ideal S256x256 .bf16) (k : Fin 192) (c : Fin 256) :
    tileA192 v kx qx (ix2 k c) = if h : k.val < 128 then ∑ x, kx (ix2 k x) * qx (ix2 x c) else Scalar.select (v (ix2 ⟨k.val - 128, by omega⟩ c)) (∑ x, kx (ix2 k x) * qx (ix2 x c)) (⊥ : EReal) := by
  pointwise [tileA192]
  rw [named_mask]
  by_cases h : k.val < 128
  · simp only [dif_pos h]
  · have e : (⟨128 + (k.val - 128), by omega⟩ : Fin 192) = k := Fin.ext (by show 128 + (k.val - 128) = k.val; omega)
    simp only [dif_neg h, e]

theorem m_at_192 (y : FVec Ideal S192x256 .f32) (c : Fin 256) :
    mA192 y (ix2 0 c) = Finset.fold max (Ideal.ofBits FTy.f32 4286578688#32) (fun x => y (ix2 x c)) Finset.univ := by
  pointwise [mA192]

theorem t_at_192 (y : FVec Ideal S192x256 .f32) (m : FVec Ideal S1x256 .f32) (k : Fin 192) (c : Fin 256) :
    tA192 y m (ix2 k c) = Ideal.exp2 ((y (ix2 k c) - m (ix2 0 c)) * ((cst : ℝ) : EReal)) := by
  pointwise [tA192]
  rw [named_cst]
  rfl

theorem l_at_192 (t : FVec Ideal S192x256 .f32) (vi : Vec Ideal S192x128 .f32) (g : Fin 192 → EReal)
    (hv : ∀ k j, vi (ix2 k j) = g k) (c : Fin 256) :
    lA192 t vi (ix2 0 c) = ∑ k, t (ix2 k c) * g k := by
  pointwise [lA192]
  refine Finset.sum_congr rfl fun k _ => ?_
  split_ifs <;> rw [hv]

theorem o_at_192 (t : FVec Ideal S192x256 .f32) (r : FVec Ideal S1x256 .f32) (w : IVec S1x256 32) (vt : Vec Ideal S128x256 .fp8e4m3)
    (c : Fin 256) (d : Fin 128) :
    oA192 t r w vt (ix2 c d) = (∑ x : Fin 192, vt (ix2 d ⟨x.val, by omega⟩) * (t (ix2 x c) * r (ix2 0 c))) * pow2W (w (ix2 0 c)) := by
  pointwise [oA192]
  simp only [ofBits_f8_zero, mul_zero, Finset.sum_const_zero, add_zero]
  rfl

/-- A column of the tile that ends at key 192. -/
theorem col_192 (kx : Vec Ideal S192x256 .bf16) (qx : Vec Ideal S256x256 .bf16) (vi : Vec Ideal S192x128 .f32)
    (vt : Vec Ideal S128x256 .fp8e4m3) (c : Fin 256) (d : Fin 128) (y sc v : Fin 192 → ℝ) (ve : Fin 192 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 192, vt (ix2 d ⟨k.val, by omega⟩) = ((v k * (2 : ℝ) ^ (-ve k) : ℝ) : EReal)) :
    colA192 kx qx vi vt (ix2 c d) = ((wmean (fun k : Fin 192 => k.val ≤ 128 + c.val % 64) sc v : ℝ) : EReal) := by
  unfold colA192
  rw [o_at_192]
  simp only [hvt]
  refine col_spec (fun k : Fin 192 => k.val ≤ 128 + c.val % 64) ⟨⟨0, by omega⟩, by simp⟩ y sc v ve h1 h2 hy
    (fun k => tileA192 causA kx qx (ix2 k c)) _ _ _ _ ?_ ?_ (l_at_192 _ _ _ hvi c) (we_at _ c) (r_at _ _ c)
  · intro k
    show tileA192 causA kx qx (ix2 k c) = _
    rw [tile_at_192, hkq]
    by_cases h : k.val < 128
    · rw [dif_pos h, if_pos (by omega)]
    · rw [dif_neg h, caus_at, select_if]
      exact if_congr (by show k.val - 128 ≤ c.val % 64 ↔ _; omega) rfl rfl
  · intro k
    rw [t_at_192, m_at_192]

theorem tile_at_256 (v : IVec S64x256 1) (kx : Vec Ideal S256x256 .bf16) (qx : Vec Ideal S256x256 .bf16) (k : Fin 256) (c : Fin 256) :
    tileA256 v kx qx (ix2 k c) = if h : k.val < 192 then ∑ x, kx (ix2 k x) * qx (ix2 x c) else Scalar.select (v (ix2 ⟨k.val - 192, by omega⟩ c)) (∑ x, kx (ix2 k x) * qx (ix2 x c)) (⊥ : EReal) := by
  pointwise [tileA256]
  rw [named_mask]
  by_cases h : k.val < 192
  · simp only [dif_pos h]
  · have e : (⟨192 + (k.val - 192), by omega⟩ : Fin 256) = k := Fin.ext (by show 192 + (k.val - 192) = k.val; omega)
    simp only [dif_neg h, e]

theorem m_at_256 (y : FVec Ideal S256x256 .f32) (c : Fin 256) :
    mA256 y (ix2 0 c) = Finset.fold max (Ideal.ofBits FTy.f32 4286578688#32) (fun x => y (ix2 x c)) Finset.univ := by
  pointwise [mA256]

theorem t_at_256 (y : FVec Ideal S256x256 .f32) (m : FVec Ideal S1x256 .f32) (k : Fin 256) (c : Fin 256) :
    tA256 y m (ix2 k c) = Ideal.exp2 ((y (ix2 k c) - m (ix2 0 c)) * ((cst : ℝ) : EReal)) := by
  pointwise [tA256]
  rw [named_cst]
  rfl

theorem l_at_256 (t : FVec Ideal S256x256 .f32) (vi : Vec Ideal S256x128 .f32) (g : Fin 256 → EReal)
    (hv : ∀ k j, vi (ix2 k j) = g k) (c : Fin 256) :
    lA256 t vi (ix2 0 c) = ∑ k, t (ix2 k c) * g k := by
  pointwise [lA256]
  refine Finset.sum_congr rfl fun k _ => ?_
  split_ifs <;> rw [hv]

theorem o_at_256 (t : FVec Ideal S256x256 .f32) (r : FVec Ideal S1x256 .f32) (w : IVec S1x256 32) (vt : Vec Ideal S128x256 .fp8e4m3)
    (c : Fin 256) (d : Fin 128) :
    oA256 t r w vt (ix2 c d) = (∑ x : Fin 256, vt (ix2 d x) * (t (ix2 x c) * r (ix2 0 c))) * pow2W (w (ix2 0 c)) := by
  pointwise [oA256]
  rfl

/-- A column of the tile that ends at key 256. -/
theorem col_256 (kx : Vec Ideal S256x256 .bf16) (qx : Vec Ideal S256x256 .bf16) (vi : Vec Ideal S256x128 .f32)
    (vt : Vec Ideal S128x256 .fp8e4m3) (c : Fin 256) (d : Fin 128) (y sc v : Fin 256 → ℝ) (ve : Fin 256 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 256, vt (ix2 d k) = ((v k * (2 : ℝ) ^ (-ve k) : ℝ) : EReal)) :
    colA256 kx qx vi vt (ix2 c d) = ((wmean (fun k : Fin 256 => k.val ≤ 192 + c.val % 64) sc v : ℝ) : EReal) := by
  unfold colA256
  rw [o_at_256]
  simp only [hvt]
  refine col_spec (fun k : Fin 256 => k.val ≤ 192 + c.val % 64) ⟨⟨0, by omega⟩, by simp⟩ y sc v ve h1 h2 hy
    (fun k => tileA256 causA kx qx (ix2 k c)) _ _ _ _ ?_ ?_ (l_at_256 _ _ _ hvi c) (we_at _ c) (r_at _ _ c)
  · intro k
    show tileA256 causA kx qx (ix2 k c) = _
    rw [tile_at_256, hkq]
    by_cases h : k.val < 192
    · rw [dif_pos h, if_pos (by omega)]
    · rw [dif_neg h, caus_at, select_if]
      exact if_congr (by show k.val - 192 ≤ c.val % 64 ↔ _; omega) rfl rfl
  · intro k
    rw [t_at_256, m_at_256]

theorem tile_at_320 (v : IVec S64x256 1) (kx : Vec Ideal S320x256 .bf16) (qx : Vec Ideal S256x256 .bf16) (k : Fin 320) (c : Fin 256) :
    tileA320 v kx qx (ix2 k c) = if h : k.val < 256 then ∑ x, kx (ix2 k x) * qx (ix2 x c) else Scalar.select (v (ix2 ⟨k.val - 256, by omega⟩ c)) (∑ x, kx (ix2 k x) * qx (ix2 x c)) (⊥ : EReal) := by
  pointwise [tileA320]
  rw [named_mask]
  by_cases h : k.val < 256
  · simp only [dif_pos h]
  · have e : (⟨256 + (k.val - 256), by omega⟩ : Fin 320) = k := Fin.ext (by show 256 + (k.val - 256) = k.val; omega)
    simp only [dif_neg h, e]

theorem m_at_320 (y : FVec Ideal S320x256 .f32) (c : Fin 256) :
    mA320 y (ix2 0 c) = Finset.fold max (Ideal.ofBits FTy.f32 4286578688#32) (fun x => y (ix2 x c)) Finset.univ := by
  pointwise [mA320]

theorem t_at_320 (y : FVec Ideal S320x256 .f32) (m : FVec Ideal S1x256 .f32) (k : Fin 320) (c : Fin 256) :
    tA320 y m (ix2 k c) = Ideal.exp2 ((y (ix2 k c) - m (ix2 0 c)) * ((cst : ℝ) : EReal)) := by
  pointwise [tA320]
  rw [named_cst]
  rfl

theorem l_at_320 (t : FVec Ideal S320x256 .f32) (vi : Vec Ideal S320x128 .f32) (g : Fin 320 → EReal)
    (hv : ∀ k j, vi (ix2 k j) = g k) (c : Fin 256) :
    lA320 t vi (ix2 0 c) = ∑ k, t (ix2 k c) * g k := by
  pointwise [lA320]
  refine Finset.sum_congr rfl fun k _ => ?_
  split_ifs <;> rw [hv]

theorem o_at_320 (t : FVec Ideal S320x256 .f32) (r : FVec Ideal S1x256 .f32) (w : IVec S1x256 32) (vt : Vec Ideal S128x384 .fp8e4m3)
    (c : Fin 256) (d : Fin 128) :
    oA320 t r w vt (ix2 c d) = (∑ x : Fin 320, vt (ix2 d ⟨x.val, by omega⟩) * (t (ix2 x c) * r (ix2 0 c))) * pow2W (w (ix2 0 c)) := by
  pointwise [oA320]
  simp only [ofBits_f8_zero, mul_zero, Finset.sum_const_zero, add_zero]
  rfl

/-- A column of the tile that ends at key 320. -/
theorem col_320 (kx : Vec Ideal S320x256 .bf16) (qx : Vec Ideal S256x256 .bf16) (vi : Vec Ideal S320x128 .f32)
    (vt : Vec Ideal S128x384 .fp8e4m3) (c : Fin 256) (d : Fin 128) (y sc v : Fin 320 → ℝ) (ve : Fin 320 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 320, vt (ix2 d ⟨k.val, by omega⟩) = ((v k * (2 : ℝ) ^ (-ve k) : ℝ) : EReal)) :
    colA320 kx qx vi vt (ix2 c d) = ((wmean (fun k : Fin 320 => k.val ≤ 256 + c.val % 64) sc v : ℝ) : EReal) := by
  unfold colA320
  rw [o_at_320]
  simp only [hvt]
  refine col_spec (fun k : Fin 320 => k.val ≤ 256 + c.val % 64) ⟨⟨0, by omega⟩, by simp⟩ y sc v ve h1 h2 hy
    (fun k => tileA320 causA kx qx (ix2 k c)) _ _ _ _ ?_ ?_ (l_at_320 _ _ _ hvi c) (we_at _ c) (r_at _ _ c)
  · intro k
    show tileA320 causA kx qx (ix2 k c) = _
    rw [tile_at_320, hkq]
    by_cases h : k.val < 256
    · rw [dif_pos h, if_pos (by omega)]
    · rw [dif_neg h, caus_at, select_if]
      exact if_congr (by show k.val - 256 ≤ c.val % 64 ↔ _; omega) rfl rfl
  · intro k
    rw [t_at_320, m_at_320]

theorem tile_at_384 (v : IVec S64x256 1) (kx : Vec Ideal S384x256 .bf16) (qx : Vec Ideal S256x256 .bf16) (k : Fin 384) (c : Fin 256) :
    tileA384 v kx qx (ix2 k c) = if h : k.val < 320 then ∑ x, kx (ix2 k x) * qx (ix2 x c) else Scalar.select (v (ix2 ⟨k.val - 320, by omega⟩ c)) (∑ x, kx (ix2 k x) * qx (ix2 x c)) (⊥ : EReal) := by
  pointwise [tileA384]
  rw [named_mask]
  by_cases h : k.val < 320
  · simp only [dif_pos h]
  · have e : (⟨320 + (k.val - 320), by omega⟩ : Fin 384) = k := Fin.ext (by show 320 + (k.val - 320) = k.val; omega)
    simp only [dif_neg h, e]

theorem m_at_384 (y : FVec Ideal S384x256 .f32) (c : Fin 256) :
    mA384 y (ix2 0 c) = Finset.fold max (Ideal.ofBits FTy.f32 4286578688#32) (fun x => y (ix2 x c)) Finset.univ := by
  pointwise [mA384]

theorem t_at_384 (y : FVec Ideal S384x256 .f32) (m : FVec Ideal S1x256 .f32) (k : Fin 384) (c : Fin 256) :
    tA384 y m (ix2 k c) = Ideal.exp2 ((y (ix2 k c) - m (ix2 0 c)) * ((cst : ℝ) : EReal)) := by
  pointwise [tA384]
  rw [named_cst]
  rfl

theorem l_at_384 (t : FVec Ideal S384x256 .f32) (vi : Vec Ideal S384x128 .f32) (g : Fin 384 → EReal)
    (hv : ∀ k j, vi (ix2 k j) = g k) (c : Fin 256) :
    lA384 t vi (ix2 0 c) = ∑ k, t (ix2 k c) * g k := by
  pointwise [lA384]
  refine Finset.sum_congr rfl fun k _ => ?_
  split_ifs <;> rw [hv]

theorem o_at_384 (t : FVec Ideal S384x256 .f32) (r : FVec Ideal S1x256 .f32) (w : IVec S1x256 32) (vt : Vec Ideal S128x384 .fp8e4m3)
    (c : Fin 256) (d : Fin 128) :
    oA384 t r w vt (ix2 c d) = (∑ x : Fin 384, vt (ix2 d x) * (t (ix2 x c) * r (ix2 0 c))) * pow2W (w (ix2 0 c)) := by
  pointwise [oA384]
  rfl

/-- A column of the tile that ends at key 384. -/
theorem col_384 (kx : Vec Ideal S384x256 .bf16) (qx : Vec Ideal S256x256 .bf16) (vi : Vec Ideal S384x128 .f32)
    (vt : Vec Ideal S128x384 .fp8e4m3) (c : Fin 256) (d : Fin 128) (y sc v : Fin 384 → ℝ) (ve : Fin 384 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 384, vt (ix2 d k) = ((v k * (2 : ℝ) ^ (-ve k) : ℝ) : EReal)) :
    colA384 kx qx vi vt (ix2 c d) = ((wmean (fun k : Fin 384 => k.val ≤ 320 + c.val % 64) sc v : ℝ) : EReal) := by
  unfold colA384
  rw [o_at_384]
  simp only [hvt]
  refine col_spec (fun k : Fin 384 => k.val ≤ 320 + c.val % 64) ⟨⟨0, by omega⟩, by simp⟩ y sc v ve h1 h2 hy
    (fun k => tileA384 causA kx qx (ix2 k c)) _ _ _ _ ?_ ?_ (l_at_384 _ _ _ hvi c) (we_at _ c) (r_at _ _ c)
  · intro k
    show tileA384 causA kx qx (ix2 k c) = _
    rw [tile_at_384, hkq]
    by_cases h : k.val < 320
    · rw [dif_pos h, if_pos (by omega)]
    · rw [dif_neg h, caus_at, select_if]
      exact if_congr (by show k.val - 320 ≤ c.val % 64 ↔ _; omega) rfl rfl
  · intro k
    rw [t_at_384, m_at_384]

theorem tile_at_448 (v : IVec S64x256 1) (kx : Vec Ideal S448x256 .bf16) (qx : Vec Ideal S256x256 .bf16) (k : Fin 448) (c : Fin 256) :
    tileA448 v kx qx (ix2 k c) = if h : k.val < 384 then ∑ x, kx (ix2 k x) * qx (ix2 x c) else Scalar.select (v (ix2 ⟨k.val - 384, by omega⟩ c)) (∑ x, kx (ix2 k x) * qx (ix2 x c)) (⊥ : EReal) := by
  pointwise [tileA448]
  rw [named_mask]
  by_cases h : k.val < 384
  · simp only [dif_pos h]
  · have e : (⟨384 + (k.val - 384), by omega⟩ : Fin 448) = k := Fin.ext (by show 384 + (k.val - 384) = k.val; omega)
    simp only [dif_neg h, e]

theorem m_at_448 (y : FVec Ideal S448x256 .f32) (c : Fin 256) :
    mA448 y (ix2 0 c) = Finset.fold max (Ideal.ofBits FTy.f32 4286578688#32) (fun x => y (ix2 x c)) Finset.univ := by
  pointwise [mA448]

theorem t_at_448 (y : FVec Ideal S448x256 .f32) (m : FVec Ideal S1x256 .f32) (k : Fin 448) (c : Fin 256) :
    tA448 y m (ix2 k c) = Ideal.exp2 ((y (ix2 k c) - m (ix2 0 c)) * ((cst : ℝ) : EReal)) := by
  pointwise [tA448]
  rw [named_cst]
  rfl

theorem l_at_448 (t : FVec Ideal S448x256 .f32) (vi : Vec Ideal S448x128 .f32) (g : Fin 448 → EReal)
    (hv : ∀ k j, vi (ix2 k j) = g k) (c : Fin 256) :
    lA448 t vi (ix2 0 c) = ∑ k, t (ix2 k c) * g k := by
  pointwise [lA448]
  refine Finset.sum_congr rfl fun k _ => ?_
  split_ifs <;> rw [hv]

theorem o_at_448 (t : FVec Ideal S448x256 .f32) (r : FVec Ideal S1x256 .f32) (w : IVec S1x256 32) (vt : Vec Ideal S128x512 .fp8e4m3)
    (c : Fin 256) (d : Fin 128) :
    oA448 t r w vt (ix2 c d) = (∑ x : Fin 448, vt (ix2 d ⟨x.val, by omega⟩) * (t (ix2 x c) * r (ix2 0 c))) * pow2W (w (ix2 0 c)) := by
  pointwise [oA448]
  simp only [ofBits_f8_zero, mul_zero, Finset.sum_const_zero, add_zero]
  rfl

/-- A column of the tile that ends at key 448. -/
theorem col_448 (kx : Vec Ideal S448x256 .bf16) (qx : Vec Ideal S256x256 .bf16) (vi : Vec Ideal S448x128 .f32)
    (vt : Vec Ideal S128x512 .fp8e4m3) (c : Fin 256) (d : Fin 128) (y sc v : Fin 448 → ℝ) (ve : Fin 448 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 448, vt (ix2 d ⟨k.val, by omega⟩) = ((v k * (2 : ℝ) ^ (-ve k) : ℝ) : EReal)) :
    colA448 kx qx vi vt (ix2 c d) = ((wmean (fun k : Fin 448 => k.val ≤ 384 + c.val % 64) sc v : ℝ) : EReal) := by
  unfold colA448
  rw [o_at_448]
  simp only [hvt]
  refine col_spec (fun k : Fin 448 => k.val ≤ 384 + c.val % 64) ⟨⟨0, by omega⟩, by simp⟩ y sc v ve h1 h2 hy
    (fun k => tileA448 causA kx qx (ix2 k c)) _ _ _ _ ?_ ?_ (l_at_448 _ _ _ hvi c) (we_at _ c) (r_at _ _ c)
  · intro k
    show tileA448 causA kx qx (ix2 k c) = _
    rw [tile_at_448, hkq]
    by_cases h : k.val < 384
    · rw [dif_pos h, if_pos (by omega)]
    · rw [dif_neg h, caus_at, select_if]
      exact if_congr (by show k.val - 384 ≤ c.val % 64 ↔ _; omega) rfl rfl
  · intro k
    rw [t_at_448, m_at_448]

theorem tile_at_512 (v : IVec S64x256 1) (kx : Vec Ideal S512x256 .bf16) (qx : Vec Ideal S256x256 .bf16) (k : Fin 512) (c : Fin 256) :
    tileA512 v kx qx (ix2 k c) = if h : k.val < 448 then ∑ x, kx (ix2 k x) * qx (ix2 x c) else Scalar.select (v (ix2 ⟨k.val - 448, by omega⟩ c)) (∑ x, kx (ix2 k x) * qx (ix2 x c)) (⊥ : EReal) := by
  pointwise [tileA512]
  rw [named_mask]
  by_cases h : k.val < 448
  · simp only [dif_pos h]
  · have e : (⟨448 + (k.val - 448), by omega⟩ : Fin 512) = k := Fin.ext (by show 448 + (k.val - 448) = k.val; omega)
    simp only [dif_neg h, e]

theorem m_at_512 (y : FVec Ideal S512x256 .f32) (c : Fin 256) :
    mA512 y (ix2 0 c) = Finset.fold max (Ideal.ofBits FTy.f32 4286578688#32) (fun x => y (ix2 x c)) Finset.univ := by
  pointwise [mA512]

theorem t_at_512 (y : FVec Ideal S512x256 .f32) (m : FVec Ideal S1x256 .f32) (k : Fin 512) (c : Fin 256) :
    tA512 y m (ix2 k c) = Ideal.exp2 ((y (ix2 k c) - m (ix2 0 c)) * ((cst : ℝ) : EReal)) := by
  pointwise [tA512]
  rw [named_cst]
  rfl

theorem l_at_512 (t : FVec Ideal S512x256 .f32) (vi : Vec Ideal S512x128 .f32) (g : Fin 512 → EReal)
    (hv : ∀ k j, vi (ix2 k j) = g k) (c : Fin 256) :
    lA512 t vi (ix2 0 c) = ∑ k, t (ix2 k c) * g k := by
  pointwise [lA512]
  refine Finset.sum_congr rfl fun k _ => ?_
  split_ifs <;> rw [hv]

theorem o_at_512 (t : FVec Ideal S512x256 .f32) (r : FVec Ideal S1x256 .f32) (w : IVec S1x256 32) (vt : Vec Ideal S128x512 .fp8e4m3)
    (c : Fin 256) (d : Fin 128) :
    oA512 t r w vt (ix2 c d) = (∑ x : Fin 512, vt (ix2 d x) * (t (ix2 x c) * r (ix2 0 c))) * pow2W (w (ix2 0 c)) := by
  pointwise [oA512]
  rfl

/-- A column of the tile that ends at key 512. -/
theorem col_512 (kx : Vec Ideal S512x256 .bf16) (qx : Vec Ideal S256x256 .bf16) (vi : Vec Ideal S512x128 .f32)
    (vt : Vec Ideal S128x512 .fp8e4m3) (c : Fin 256) (d : Fin 128) (y sc v : Fin 512 → ℝ) (ve : Fin 512 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 512, vt (ix2 d k) = ((v k * (2 : ℝ) ^ (-ve k) : ℝ) : EReal)) :
    colA512 kx qx vi vt (ix2 c d) = ((wmean (fun k : Fin 512 => k.val ≤ 448 + c.val % 64) sc v : ℝ) : EReal) := by
  unfold colA512
  rw [o_at_512]
  simp only [hvt]
  refine col_spec (fun k : Fin 512 => k.val ≤ 448 + c.val % 64) ⟨⟨0, by omega⟩, by simp⟩ y sc v ve h1 h2 hy
    (fun k => tileA512 causA kx qx (ix2 k c)) _ _ _ _ ?_ ?_ (l_at_512 _ _ _ hvi c) (we_at _ c) (r_at _ _ c)
  · intro k
    show tileA512 causA kx qx (ix2 k c) = _
    rw [tile_at_512, hkq]
    by_cases h : k.val < 448
    · rw [dif_pos h, if_pos (by omega)]
    · rw [dif_neg h, caus_at, select_if]
      exact if_congr (by show k.val - 448 ≤ c.val % 64 ↔ _; omega) rfl rfl
  · intro k
    rw [t_at_512, m_at_512]

theorem tile_at_576 (v : IVec S64x256 1) (kx : Vec Ideal S576x256 .bf16) (qx : Vec Ideal S256x256 .bf16) (k : Fin 576) (c : Fin 256) :
    tileA576 v kx qx (ix2 k c) = if h : k.val < 512 then ∑ x, kx (ix2 k x) * qx (ix2 x c) else Scalar.select (v (ix2 ⟨k.val - 512, by omega⟩ c)) (∑ x, kx (ix2 k x) * qx (ix2 x c)) (⊥ : EReal) := by
  pointwise [tileA576]
  rw [named_mask]
  by_cases h : k.val < 512
  · simp only [dif_pos h]
  · have e : (⟨512 + (k.val - 512), by omega⟩ : Fin 576) = k := Fin.ext (by show 512 + (k.val - 512) = k.val; omega)
    simp only [dif_neg h, e]

theorem m_at_576 (y : FVec Ideal S576x256 .f32) (c : Fin 256) :
    mA576 y (ix2 0 c) = Finset.fold max (Ideal.ofBits FTy.f32 4286578688#32) (fun x => y (ix2 x c)) Finset.univ := by
  pointwise [mA576]

theorem t_at_576 (y : FVec Ideal S576x256 .f32) (m : FVec Ideal S1x256 .f32) (k : Fin 576) (c : Fin 256) :
    tA576 y m (ix2 k c) = Ideal.exp2 ((y (ix2 k c) - m (ix2 0 c)) * ((cst : ℝ) : EReal)) := by
  pointwise [tA576]
  rw [named_cst]
  rfl

theorem l_at_576 (t : FVec Ideal S576x256 .f32) (vi : Vec Ideal S576x128 .f32) (g : Fin 576 → EReal)
    (hv : ∀ k j, vi (ix2 k j) = g k) (c : Fin 256) :
    lA576 t vi (ix2 0 c) = ∑ k, t (ix2 k c) * g k := by
  pointwise [lA576]
  refine Finset.sum_congr rfl fun k _ => ?_
  split_ifs <;> rw [hv]

theorem o_at_576 (t : FVec Ideal S576x256 .f32) (r : FVec Ideal S1x256 .f32) (w : IVec S1x256 32) (vt : Vec Ideal S128x640 .fp8e4m3)
    (c : Fin 256) (d : Fin 128) :
    oA576 t r w vt (ix2 c d) = (∑ x : Fin 576, vt (ix2 d ⟨x.val, by omega⟩) * (t (ix2 x c) * r (ix2 0 c))) * pow2W (w (ix2 0 c)) := by
  pointwise [oA576]
  simp only [ofBits_f8_zero, mul_zero, Finset.sum_const_zero, add_zero]
  rfl

/-- A column of the tile that ends at key 576. -/
theorem col_576 (kx : Vec Ideal S576x256 .bf16) (qx : Vec Ideal S256x256 .bf16) (vi : Vec Ideal S576x128 .f32)
    (vt : Vec Ideal S128x640 .fp8e4m3) (c : Fin 256) (d : Fin 128) (y sc v : Fin 576 → ℝ) (ve : Fin 576 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 576, vt (ix2 d ⟨k.val, by omega⟩) = ((v k * (2 : ℝ) ^ (-ve k) : ℝ) : EReal)) :
    colA576 kx qx vi vt (ix2 c d) = ((wmean (fun k : Fin 576 => k.val ≤ 512 + c.val % 64) sc v : ℝ) : EReal) := by
  unfold colA576
  rw [o_at_576]
  simp only [hvt]
  refine col_spec (fun k : Fin 576 => k.val ≤ 512 + c.val % 64) ⟨⟨0, by omega⟩, by simp⟩ y sc v ve h1 h2 hy
    (fun k => tileA576 causA kx qx (ix2 k c)) _ _ _ _ ?_ ?_ (l_at_576 _ _ _ hvi c) (we_at _ c) (r_at _ _ c)
  · intro k
    show tileA576 causA kx qx (ix2 k c) = _
    rw [tile_at_576, hkq]
    by_cases h : k.val < 512
    · rw [dif_pos h, if_pos (by omega)]
    · rw [dif_neg h, caus_at, select_if]
      exact if_congr (by show k.val - 512 ≤ c.val % 64 ↔ _; omega) rfl rfl
  · intro k
    rw [t_at_576, m_at_576]

theorem tile_at_640 (v : IVec S64x256 1) (kx : Vec Ideal S640x256 .bf16) (qx : Vec Ideal S256x256 .bf16) (k : Fin 640) (c : Fin 256) :
    tileA640 v kx qx (ix2 k c) = if h : k.val < 576 then ∑ x, kx (ix2 k x) * qx (ix2 x c) else Scalar.select (v (ix2 ⟨k.val - 576, by omega⟩ c)) (∑ x, kx (ix2 k x) * qx (ix2 x c)) (⊥ : EReal) := by
  pointwise [tileA640]
  rw [named_mask]
  by_cases h : k.val < 576
  · simp only [dif_pos h]
  · have e : (⟨576 + (k.val - 576), by omega⟩ : Fin 640) = k := Fin.ext (by show 576 + (k.val - 576) = k.val; omega)
    simp only [dif_neg h, e]

theorem m_at_640 (y : FVec Ideal S640x256 .f32) (c : Fin 256) :
    mA640 y (ix2 0 c) = Finset.fold max (Ideal.ofBits FTy.f32 4286578688#32) (fun x => y (ix2 x c)) Finset.univ := by
  pointwise [mA640]

theorem t_at_640 (y : FVec Ideal S640x256 .f32) (m : FVec Ideal S1x256 .f32) (k : Fin 640) (c : Fin 256) :
    tA640 y m (ix2 k c) = Ideal.exp2 ((y (ix2 k c) - m (ix2 0 c)) * ((cst : ℝ) : EReal)) := by
  pointwise [tA640]
  rw [named_cst]
  rfl

theorem l_at_640 (t : FVec Ideal S640x256 .f32) (vi : Vec Ideal S640x128 .f32) (g : Fin 640 → EReal)
    (hv : ∀ k j, vi (ix2 k j) = g k) (c : Fin 256) :
    lA640 t vi (ix2 0 c) = ∑ k, t (ix2 k c) * g k := by
  pointwise [lA640]
  refine Finset.sum_congr rfl fun k _ => ?_
  split_ifs <;> rw [hv]

theorem o_at_640 (t : FVec Ideal S640x256 .f32) (r : FVec Ideal S1x256 .f32) (w : IVec S1x256 32) (vt : Vec Ideal S128x640 .fp8e4m3)
    (c : Fin 256) (d : Fin 128) :
    oA640 t r w vt (ix2 c d) = (∑ x : Fin 640, vt (ix2 d x) * (t (ix2 x c) * r (ix2 0 c))) * pow2W (w (ix2 0 c)) := by
  pointwise [oA640]
  rfl

/-- A column of the tile that ends at key 640. -/
theorem col_640 (kx : Vec Ideal S640x256 .bf16) (qx : Vec Ideal S256x256 .bf16) (vi : Vec Ideal S640x128 .f32)
    (vt : Vec Ideal S128x640 .fp8e4m3) (c : Fin 256) (d : Fin 128) (y sc v : Fin 640 → ℝ) (ve : Fin 640 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 640, vt (ix2 d k) = ((v k * (2 : ℝ) ^ (-ve k) : ℝ) : EReal)) :
    colA640 kx qx vi vt (ix2 c d) = ((wmean (fun k : Fin 640 => k.val ≤ 576 + c.val % 64) sc v : ℝ) : EReal) := by
  unfold colA640
  rw [o_at_640]
  simp only [hvt]
  refine col_spec (fun k : Fin 640 => k.val ≤ 576 + c.val % 64) ⟨⟨0, by omega⟩, by simp⟩ y sc v ve h1 h2 hy
    (fun k => tileA640 causA kx qx (ix2 k c)) _ _ _ _ ?_ ?_ (l_at_640 _ _ _ hvi c) (we_at _ c) (r_at _ _ c)
  · intro k
    show tileA640 causA kx qx (ix2 k c) = _
    rw [tile_at_640, hkq]
    by_cases h : k.val < 576
    · rw [dif_pos h, if_pos (by omega)]
    · rw [dif_neg h, caus_at, select_if]
      exact if_congr (by show k.val - 576 ≤ c.val % 64 ↔ _; omega) rfl rfl
  · intro k
    rw [t_at_640, m_at_640]

theorem tile_at_704 (v : IVec S64x256 1) (kx : Vec Ideal S704x256 .bf16) (qx : Vec Ideal S256x256 .bf16) (k : Fin 704) (c : Fin 256) :
    tileA704 v kx qx (ix2 k c) = if h : k.val < 640 then ∑ x, kx (ix2 k x) * qx (ix2 x c) else Scalar.select (v (ix2 ⟨k.val - 640, by omega⟩ c)) (∑ x, kx (ix2 k x) * qx (ix2 x c)) (⊥ : EReal) := by
  pointwise [tileA704]
  rw [named_mask]
  by_cases h : k.val < 640
  · simp only [dif_pos h]
  · have e : (⟨640 + (k.val - 640), by omega⟩ : Fin 704) = k := Fin.ext (by show 640 + (k.val - 640) = k.val; omega)
    simp only [dif_neg h, e]

theorem m_at_704 (y : FVec Ideal S704x256 .f32) (c : Fin 256) :
    mA704 y (ix2 0 c) = Finset.fold max (Ideal.ofBits FTy.f32 4286578688#32) (fun x => y (ix2 x c)) Finset.univ := by
  pointwise [mA704]

theorem t_at_704 (y : FVec Ideal S704x256 .f32) (m : FVec Ideal S1x256 .f32) (k : Fin 704) (c : Fin 256) :
    tA704 y m (ix2 k c) = Ideal.exp2 ((y (ix2 k c) - m (ix2 0 c)) * ((cst : ℝ) : EReal)) := by
  pointwise [tA704]
  rw [named_cst]
  rfl

theorem l_at_704 (t : FVec Ideal S704x256 .f32) (vi : Vec Ideal S704x128 .f32) (g : Fin 704 → EReal)
    (hv : ∀ k j, vi (ix2 k j) = g k) (c : Fin 256) :
    lA704 t vi (ix2 0 c) = ∑ k, t (ix2 k c) * g k := by
  pointwise [lA704]
  refine Finset.sum_congr rfl fun k _ => ?_
  split_ifs <;> rw [hv]

theorem o_at_704 (t : FVec Ideal S704x256 .f32) (r : FVec Ideal S1x256 .f32) (w : IVec S1x256 32) (vt : Vec Ideal S128x768 .fp8e4m3)
    (c : Fin 256) (d : Fin 128) :
    oA704 t r w vt (ix2 c d) = (∑ x : Fin 704, vt (ix2 d ⟨x.val, by omega⟩) * (t (ix2 x c) * r (ix2 0 c))) * pow2W (w (ix2 0 c)) := by
  pointwise [oA704]
  simp only [ofBits_f8_zero, mul_zero, Finset.sum_const_zero, add_zero]
  rfl

/-- A column of the tile that ends at key 704. -/
theorem col_704 (kx : Vec Ideal S704x256 .bf16) (qx : Vec Ideal S256x256 .bf16) (vi : Vec Ideal S704x128 .f32)
    (vt : Vec Ideal S128x768 .fp8e4m3) (c : Fin 256) (d : Fin 128) (y sc v : Fin 704 → ℝ) (ve : Fin 704 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 704, vt (ix2 d ⟨k.val, by omega⟩) = ((v k * (2 : ℝ) ^ (-ve k) : ℝ) : EReal)) :
    colA704 kx qx vi vt (ix2 c d) = ((wmean (fun k : Fin 704 => k.val ≤ 640 + c.val % 64) sc v : ℝ) : EReal) := by
  unfold colA704
  rw [o_at_704]
  simp only [hvt]
  refine col_spec (fun k : Fin 704 => k.val ≤ 640 + c.val % 64) ⟨⟨0, by omega⟩, by simp⟩ y sc v ve h1 h2 hy
    (fun k => tileA704 causA kx qx (ix2 k c)) _ _ _ _ ?_ ?_ (l_at_704 _ _ _ hvi c) (we_at _ c) (r_at _ _ c)
  · intro k
    show tileA704 causA kx qx (ix2 k c) = _
    rw [tile_at_704, hkq]
    by_cases h : k.val < 640
    · rw [dif_pos h, if_pos (by omega)]
    · rw [dif_neg h, caus_at, select_if]
      exact if_congr (by show k.val - 640 ≤ c.val % 64 ↔ _; omega) rfl rfl
  · intro k
    rw [t_at_704, m_at_704]

theorem tile_at_768 (v : IVec S64x256 1) (kx : Vec Ideal S768x256 .bf16) (qx : Vec Ideal S256x256 .bf16) (k : Fin 768) (c : Fin 256) :
    tileA768 v kx qx (ix2 k c) = if h : k.val < 704 then ∑ x, kx (ix2 k x) * qx (ix2 x c) else Scalar.select (v (ix2 ⟨k.val - 704, by omega⟩ c)) (∑ x, kx (ix2 k x) * qx (ix2 x c)) (⊥ : EReal) := by
  pointwise [tileA768]
  rw [named_mask]
  by_cases h : k.val < 704
  · simp only [dif_pos h]
  · have e : (⟨704 + (k.val - 704), by omega⟩ : Fin 768) = k := Fin.ext (by show 704 + (k.val - 704) = k.val; omega)
    simp only [dif_neg h, e]

theorem m_at_768 (y : FVec Ideal S768x256 .f32) (c : Fin 256) :
    mA768 y (ix2 0 c) = Finset.fold max (Ideal.ofBits FTy.f32 4286578688#32) (fun x => y (ix2 x c)) Finset.univ := by
  pointwise [mA768]

theorem t_at_768 (y : FVec Ideal S768x256 .f32) (m : FVec Ideal S1x256 .f32) (k : Fin 768) (c : Fin 256) :
    tA768 y m (ix2 k c) = Ideal.exp2 ((y (ix2 k c) - m (ix2 0 c)) * ((cst : ℝ) : EReal)) := by
  pointwise [tA768]
  rw [named_cst]
  rfl

theorem l_at_768 (t : FVec Ideal S768x256 .f32) (vi : Vec Ideal S768x128 .f32) (g : Fin 768 → EReal)
    (hv : ∀ k j, vi (ix2 k j) = g k) (c : Fin 256) :
    lA768 t vi (ix2 0 c) = ∑ k, t (ix2 k c) * g k := by
  pointwise [lA768]
  refine Finset.sum_congr rfl fun k _ => ?_
  split_ifs <;> rw [hv]

theorem o_at_768 (t : FVec Ideal S768x256 .f32) (r : FVec Ideal S1x256 .f32) (w : IVec S1x256 32) (vt : Vec Ideal S128x768 .fp8e4m3)
    (c : Fin 256) (d : Fin 128) :
    oA768 t r w vt (ix2 c d) = (∑ x : Fin 768, vt (ix2 d x) * (t (ix2 x c) * r (ix2 0 c))) * pow2W (w (ix2 0 c)) := by
  pointwise [oA768]
  rfl

/-- A column of the tile that ends at key 768. -/
theorem col_768 (kx : Vec Ideal S768x256 .bf16) (qx : Vec Ideal S256x256 .bf16) (vi : Vec Ideal S768x128 .f32)
    (vt : Vec Ideal S128x768 .fp8e4m3) (c : Fin 256) (d : Fin 128) (y sc v : Fin 768 → ℝ) (ve : Fin 768 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 768, vt (ix2 d k) = ((v k * (2 : ℝ) ^ (-ve k) : ℝ) : EReal)) :
    colA768 kx qx vi vt (ix2 c d) = ((wmean (fun k : Fin 768 => k.val ≤ 704 + c.val % 64) sc v : ℝ) : EReal) := by
  unfold colA768
  rw [o_at_768]
  simp only [hvt]
  refine col_spec (fun k : Fin 768 => k.val ≤ 704 + c.val % 64) ⟨⟨0, by omega⟩, by simp⟩ y sc v ve h1 h2 hy
    (fun k => tileA768 causA kx qx (ix2 k c)) _ _ _ _ ?_ ?_ (l_at_768 _ _ _ hvi c) (we_at _ c) (r_at _ _ c)
  · intro k
    show tileA768 causA kx qx (ix2 k c) = _
    rw [tile_at_768, hkq]
    by_cases h : k.val < 704
    · rw [dif_pos h, if_pos (by omega)]
    · rw [dif_neg h, caus_at, select_if]
      exact if_congr (by show k.val - 704 ≤ c.val % 64 ↔ _; omega) rfl rfl
  · intro k
    rw [t_at_768, m_at_768]

theorem tile_at_832 (v : IVec S64x256 1) (kx : Vec Ideal S832x256 .bf16) (qx : Vec Ideal S256x256 .bf16) (k : Fin 832) (c : Fin 256) :
    tileA832 v kx qx (ix2 k c) = if h : k.val < 768 then ∑ x, kx (ix2 k x) * qx (ix2 x c) else Scalar.select (v (ix2 ⟨k.val - 768, by omega⟩ c)) (∑ x, kx (ix2 k x) * qx (ix2 x c)) (⊥ : EReal) := by
  pointwise [tileA832]
  rw [named_mask]
  by_cases h : k.val < 768
  · simp only [dif_pos h]
  · have e : (⟨768 + (k.val - 768), by omega⟩ : Fin 832) = k := Fin.ext (by show 768 + (k.val - 768) = k.val; omega)
    simp only [dif_neg h, e]

theorem m_at_832 (y : FVec Ideal S832x256 .f32) (c : Fin 256) :
    mA832 y (ix2 0 c) = Finset.fold max (Ideal.ofBits FTy.f32 4286578688#32) (fun x => y (ix2 x c)) Finset.univ := by
  pointwise [mA832]

theorem t_at_832 (y : FVec Ideal S832x256 .f32) (m : FVec Ideal S1x256 .f32) (k : Fin 832) (c : Fin 256) :
    tA832 y m (ix2 k c) = Ideal.exp2 ((y (ix2 k c) - m (ix2 0 c)) * ((cst : ℝ) : EReal)) := by
  pointwise [tA832]
  rw [named_cst]
  rfl

theorem l_at_832 (t : FVec Ideal S832x256 .f32) (vi : Vec Ideal S832x128 .f32) (g : Fin 832 → EReal)
    (hv : ∀ k j, vi (ix2 k j) = g k) (c : Fin 256) :
    lA832 t vi (ix2 0 c) = ∑ k, t (ix2 k c) * g k := by
  pointwise [lA832]
  refine Finset.sum_congr rfl fun k _ => ?_
  split_ifs <;> rw [hv]

theorem o_at_832 (t : FVec Ideal S832x256 .f32) (r : FVec Ideal S1x256 .f32) (w : IVec S1x256 32) (vt : Vec Ideal S128x896 .fp8e4m3)
    (c : Fin 256) (d : Fin 128) :
    oA832 t r w vt (ix2 c d) = (∑ x : Fin 832, vt (ix2 d ⟨x.val, by omega⟩) * (t (ix2 x c) * r (ix2 0 c))) * pow2W (w (ix2 0 c)) := by
  pointwise [oA832]
  simp only [ofBits_f8_zero, mul_zero, Finset.sum_const_zero, add_zero]
  rfl

/-- A column of the tile that ends at key 832. -/
theorem col_832 (kx : Vec Ideal S832x256 .bf16) (qx : Vec Ideal S256x256 .bf16) (vi : Vec Ideal S832x128 .f32)
    (vt : Vec Ideal S128x896 .fp8e4m3) (c : Fin 256) (d : Fin 128) (y sc v : Fin 832 → ℝ) (ve : Fin 832 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 832, vt (ix2 d ⟨k.val, by omega⟩) = ((v k * (2 : ℝ) ^ (-ve k) : ℝ) : EReal)) :
    colA832 kx qx vi vt (ix2 c d) = ((wmean (fun k : Fin 832 => k.val ≤ 768 + c.val % 64) sc v : ℝ) : EReal) := by
  unfold colA832
  rw [o_at_832]
  simp only [hvt]
  refine col_spec (fun k : Fin 832 => k.val ≤ 768 + c.val % 64) ⟨⟨0, by omega⟩, by simp⟩ y sc v ve h1 h2 hy
    (fun k => tileA832 causA kx qx (ix2 k c)) _ _ _ _ ?_ ?_ (l_at_832 _ _ _ hvi c) (we_at _ c) (r_at _ _ c)
  · intro k
    show tileA832 causA kx qx (ix2 k c) = _
    rw [tile_at_832, hkq]
    by_cases h : k.val < 768
    · rw [dif_pos h, if_pos (by omega)]
    · rw [dif_neg h, caus_at, select_if]
      exact if_congr (by show k.val - 768 ≤ c.val % 64 ↔ _; omega) rfl rfl
  · intro k
    rw [t_at_832, m_at_832]

theorem tile_at_896 (v : IVec S64x256 1) (kx : Vec Ideal S896x256 .bf16) (qx : Vec Ideal S256x256 .bf16) (k : Fin 896) (c : Fin 256) :
    tileA896 v kx qx (ix2 k c) = if h : k.val < 832 then ∑ x, kx (ix2 k x) * qx (ix2 x c) else Scalar.select (v (ix2 ⟨k.val - 832, by omega⟩ c)) (∑ x, kx (ix2 k x) * qx (ix2 x c)) (⊥ : EReal) := by
  pointwise [tileA896]
  rw [named_mask]
  by_cases h : k.val < 832
  · simp only [dif_pos h]
  · have e : (⟨832 + (k.val - 832), by omega⟩ : Fin 896) = k := Fin.ext (by show 832 + (k.val - 832) = k.val; omega)
    simp only [dif_neg h, e]

theorem m_at_896 (y : FVec Ideal S896x256 .f32) (c : Fin 256) :
    mA896 y (ix2 0 c) = Finset.fold max (Ideal.ofBits FTy.f32 4286578688#32) (fun x => y (ix2 x c)) Finset.univ := by
  pointwise [mA896]

theorem t_at_896 (y : FVec Ideal S896x256 .f32) (m : FVec Ideal S1x256 .f32) (k : Fin 896) (c : Fin 256) :
    tA896 y m (ix2 k c) = Ideal.exp2 ((y (ix2 k c) - m (ix2 0 c)) * ((cst : ℝ) : EReal)) := by
  pointwise [tA896]
  rw [named_cst]
  rfl

theorem l_at_896 (t : FVec Ideal S896x256 .f32) (vi : Vec Ideal S896x128 .f32) (g : Fin 896 → EReal)
    (hv : ∀ k j, vi (ix2 k j) = g k) (c : Fin 256) :
    lA896 t vi (ix2 0 c) = ∑ k, t (ix2 k c) * g k := by
  pointwise [lA896]
  refine Finset.sum_congr rfl fun k _ => ?_
  split_ifs <;> rw [hv]

theorem o_at_896 (t : FVec Ideal S896x256 .f32) (r : FVec Ideal S1x256 .f32) (w : IVec S1x256 32) (vt : Vec Ideal S128x896 .fp8e4m3)
    (c : Fin 256) (d : Fin 128) :
    oA896 t r w vt (ix2 c d) = (∑ x : Fin 896, vt (ix2 d x) * (t (ix2 x c) * r (ix2 0 c))) * pow2W (w (ix2 0 c)) := by
  pointwise [oA896]
  rfl

/-- A column of the tile that ends at key 896. -/
theorem col_896 (kx : Vec Ideal S896x256 .bf16) (qx : Vec Ideal S256x256 .bf16) (vi : Vec Ideal S896x128 .f32)
    (vt : Vec Ideal S128x896 .fp8e4m3) (c : Fin 256) (d : Fin 128) (y sc v : Fin 896 → ℝ) (ve : Fin 896 → ℤ)
    (h1 : ∀ k, -126 ≤ ve k) (h2 : ∀ k, ve k ≤ 120) (hy : ∀ k, y k * cst = sc k / Real.log 2 + ve k)
    (hkq : ∀ k, ∑ x, kx (ix2 k x) * qx (ix2 x c) = ((y k : ℝ) : EReal))
    (hvi : ∀ k j, vi (ix2 k j) = (((2 : ℝ) ^ (-ve k) : ℝ) : EReal))
    (hvt : ∀ k : Fin 896, vt (ix2 d k) = ((v k * (2 : ℝ) ^ (-ve k) : ℝ) : EReal)) :
    colA896 kx qx vi vt (ix2 c d) = ((wmean (fun k : Fin 896 => k.val ≤ 832 + c.val % 64) sc v : ℝ) : EReal) := by
  unfold colA896
  rw [o_at_896]
  simp only [hvt]
  refine col_spec (fun k : Fin 896 => k.val ≤ 832 + c.val % 64) ⟨⟨0, by omega⟩, by simp⟩ y sc v ve h1 h2 hy
    (fun k => tileA896 causA kx qx (ix2 k c)) _ _ _ _ ?_ ?_ (l_at_896 _ _ _ hvi c) (we_at _ c) (r_at _ _ c)
  · intro k
    show tileA896 causA kx qx (ix2 k c) = _
    rw [tile_at_896, hkq]
    by_cases h : k.val < 832
    · rw [dif_pos h, if_pos (by omega)]
    · rw [dif_neg h, caus_at, select_if]
      exact if_congr (by show k.val - 832 ≤ c.val % 64 ↔ _; omega) rfl rfl
  · intro k
    rw [t_at_896, m_at_896]

end Cert.KernelIdeal.Gen

end
-- ==== Proof.KPiece.lean ====
module

public import proofs.«01_k».proof.Proof.KFrame
public import proofs.«01_k».proof.Proof.KOps
public import Idealize.ShloMosaic.Lib.Pipeline.ValueKit.Tiles
public import Idealize.ShloMosaic.Lib.Pointwise
public import proofs.«01_k».proof.Proof.KTie
public import proofs.«01_k».proof.Proof.KRead

/-! The block of `out` that a grid point leaves, from the columns of its tiles. -/

@[expose] public section

set_option maxRecDepth 16384

noncomputable section

namespace Cert.KernelIdeal.Gen

open Idealize.ShloMosaic
open Pointwise

variable (m : (ℓ : Loc nD τ sig) → Buf (Elt Ideal) ℓ) (c : Dev nD) (t : Fin cfg0.N)

/-- Every column of the tile ending at key 64 is what `G` says. -/
def TileIs64 (G : S1x896x512.Idx → Elt Ideal .bf16) : Prop :=
  ∀ (q : Fin 256) (d : Fin 128), colA64 (kxT64 m c t) (qxT64 m c t) (viT64 m c t) (vtT64 m c t) (ix2 q d) = G (ix3 0 ⟨0 + q.val % 64, by omega⟩ ⟨128 * (q.val / 64) + d.val, by omega⟩)

/-- Every column of the tile ending at key 128 is what `G` says. -/
def TileIs128 (G : S1x896x512.Idx → Elt Ideal .bf16) : Prop :=
  ∀ (q : Fin 256) (d : Fin 128), colA128 (kxT128 m c t) (qxT128 m c t) (viT128 m c t) (vtT128 m c t) (ix2 q d) = G (ix3 0 ⟨64 + q.val % 64, by omega⟩ ⟨128 * (q.val / 64) + d.val, by omega⟩)

/-- Every column of the tile ending at key 192 is what `G` says. -/
def TileIs192 (G : S1x896x512.Idx → Elt Ideal .bf16) : Prop :=
  ∀ (q : Fin 256) (d : Fin 128), colA192 (kxT192 m c t) (qxT192 m c t) (viT192 m c t) (vtT192 m c t) (ix2 q d) = G (ix3 0 ⟨128 + q.val % 64, by omega⟩ ⟨128 * (q.val / 64) + d.val, by omega⟩)

/-- Every column of the tile ending at key 256 is what `G` says. -/
def TileIs256 (G : S1x896x512.Idx → Elt Ideal .bf16) : Prop :=
  ∀ (q : Fin 256) (d : Fin 128), colA256 (kxT256 m c t) (qxT256 m c t) (viT256 m c t) (vtT256 m c t) (ix2 q d) = G (ix3 0 ⟨192 + q.val % 64, by omega⟩ ⟨128 * (q.val / 64) + d.val, by omega⟩)

/-- Every column of the tile ending at key 320 is what `G` says. -/
def TileIs320 (G : S1x896x512.Idx → Elt Ideal .bf16) : Prop :=
  ∀ (q : Fin 256) (d : Fin 128), colA320 (kxT320 m c t) (qxT320 m c t) (viT320 m c t) (vtT320 m c t) (ix2 q d) = G (ix3 0 ⟨256 + q.val % 64, by omega⟩ ⟨128 * (q.val / 64) + d.val, by omega⟩)

/-- Every column of the tile ending at key 384 is what `G` says. -/
def TileIs384 (G : S1x896x512.Idx → Elt Ideal .bf16) : Prop :=
  ∀ (q : Fin 256) (d : Fin 128), colA384 (kxT384 m c t) (qxT384 m c t) (viT384 m c t) (vtT384 m c t) (ix2 q d) = G (ix3 0 ⟨320 + q.val % 64, by omega⟩ ⟨128 * (q.val / 64) + d.val, by omega⟩)

/-- Every column of the tile ending at key 448 is what `G` says. -/
def TileIs448 (G : S1x896x512.Idx → Elt Ideal .bf16) : Prop :=
  ∀ (q : Fin 256) (d : Fin 128), colA448 (kxT448 m c t) (qxT448 m c t) (viT448 m c t) (vtT448 m c t) (ix2 q d) = G (ix3 0 ⟨384 + q.val % 64, by omega⟩ ⟨128 * (q.val / 64) + d.val, by omega⟩)

/-- Every column of the tile ending at key 512 is what `G` says. -/
def TileIs512 (G : S1x896x512.Idx → Elt Ideal .bf16) : Prop :=
  ∀ (q : Fin 256) (d : Fin 128), colA512 (kxT512 m c t) (qxT512 m c t) (viT512 m c t) (vtT512 m c t) (ix2 q d) = G (ix3 0 ⟨448 + q.val % 64, by omega⟩ ⟨128 * (q.val / 64) + d.val, by omega⟩)

/-- Every column of the tile ending at key 576 is what `G` says. -/
def TileIs576 (G : S1x896x512.Idx → Elt Ideal .bf16) : Prop :=
  ∀ (q : Fin 256) (d : Fin 128), colA576 (kxT576 m c t) (qxT576 m c t) (viT576 m c t) (vtT576 m c t) (ix2 q d) = G (ix3 0 ⟨512 + q.val % 64, by omega⟩ ⟨128 * (q.val / 64) + d.val, by omega⟩)

/-- Every column of the tile ending at key 640 is what `G` says. -/
def TileIs640 (G : S1x896x512.Idx → Elt Ideal .bf16) : Prop :=
  ∀ (q : Fin 256) (d : Fin 128), colA640 (kxT640 m c t) (qxT640 m c t) (viT640 m c t) (vtT640 m c t) (ix2 q d) = G (ix3 0 ⟨576 + q.val % 64, by omega⟩ ⟨128 * (q.val / 64) + d.val, by omega⟩)

/-- Every column of the tile ending at key 704 is what `G` says. -/
def TileIs704 (G : S1x896x512.Idx → Elt Ideal .bf16) : Prop :=
  ∀ (q : Fin 256) (d : Fin 128), colA704 (kxT704 m c t) (qxT704 m c t) (viT704 m c t) (vtT704 m c t) (ix2 q d) = G (ix3 0 ⟨640 + q.val % 64, by omega⟩ ⟨128 * (q.val / 64) + d.val, by omega⟩)

/-- Every column of the tile ending at key 768 is what `G` says. -/
def TileIs768 (G : S1x896x512.Idx → Elt Ideal .bf16) : Prop :=
  ∀ (q : Fin 256) (d : Fin 128), colA768 (kxT768 m c t) (qxT768 m c t) (viT768 m c t) (vtT768 m c t) (ix2 q d) = G (ix3 0 ⟨704 + q.val % 64, by omega⟩ ⟨128 * (q.val / 64) + d.val, by omega⟩)

/-- Every column of the tile ending at key 832 is what `G` says. -/
def TileIs832 (G : S1x896x512.Idx → Elt Ideal .bf16) : Prop :=
  ∀ (q : Fin 256) (d : Fin 128), colA832 (kxT832 m c t) (qxT832 m c t) (viT832 m c t) (vtT832 m c t) (ix2 q d) = G (ix3 0 ⟨768 + q.val % 64, by omega⟩ ⟨128 * (q.val / 64) + d.val, by omega⟩)

/-- Every column of the tile ending at key 896 is what `G` says. -/
def TileIs896 (G : S1x896x512.Idx → Elt Ideal .bf16) : Prop :=
  ∀ (q : Fin 256) (d : Fin 128), colA896 (kxT896 m c t) (qxT896 m c t) (viT896 m c t) (vtT896 m c t) (ix2 q d) = G (ix3 0 ⟨832 + q.val % 64, by omega⟩ ⟨128 * (q.val / 64) + d.val, by omega⟩)

theorem piece_896_3 (G : S1x896x512.Idx → Elt Ideal .bf16) (hG : TileIs896 m c t G) (x : S1x64x128.Idx) :
    outA3 (colA896 (kxT896 m c t) (qxT896 m c t) (viT896 m c t) (vtT896 m c t)) x = G ((Rect.unit (s := S1x896x512) ![0, 832, 384] S1x64x128.size inb_S1x896x512_S1x64x128_0_832_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 832, 384] S1x64x128.size inb_S1x896x512_S1x64x128_0_832_384 (ix3 0 r d) a).symm
  fin_cases a
  · rfl
  · show 832 + (192 + r.val) % 64 = 832 + r.val
    omega
  · show 128 * ((192 + r.val) / 64) + d.val = 384 + d.val
    omega

theorem piece_896_2 (G : S1x896x512.Idx → Elt Ideal .bf16) (hG : TileIs896 m c t G) (x : S1x64x128.Idx) :
    outA2 (colA896 (kxT896 m c t) (qxT896 m c t) (viT896 m c t) (vtT896 m c t)) x = G ((Rect.unit (s := S1x896x512) ![0, 832, 256] S1x64x128.size inb_S1x896x512_S1x64x128_0_832_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 832, 256] S1x64x128.size inb_S1x896x512_S1x64x128_0_832_256 (ix3 0 r d) a).symm
  fin_cases a
  · rfl
  · show 832 + (128 + r.val) % 64 = 832 + r.val
    omega
  · show 128 * ((128 + r.val) / 64) + d.val = 256 + d.val
    omega

theorem piece_896_1 (G : S1x896x512.Idx → Elt Ideal .bf16) (hG : TileIs896 m c t G) (x : S1x64x128.Idx) :
    outA1 (colA896 (kxT896 m c t) (qxT896 m c t) (viT896 m c t) (vtT896 m c t)) x = G ((Rect.unit (s := S1x896x512) ![0, 832, 128] S1x64x128.size inb_S1x896x512_S1x64x128_0_832_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 832, 128] S1x64x128.size inb_S1x896x512_S1x64x128_0_832_128 (ix3 0 r d) a).symm
  fin_cases a
  · rfl
  · show 832 + (64 + r.val) % 64 = 832 + r.val
    omega
  · show 128 * ((64 + r.val) / 64) + d.val = 128 + d.val
    omega

theorem piece_896_0 (G : S1x896x512.Idx → Elt Ideal .bf16) (hG : TileIs896 m c t G) (x : S1x64x128.Idx) :
    outA0 (colA896 (kxT896 m c t) (qxT896 m c t) (viT896 m c t) (vtT896 m c t)) x = G ((Rect.unit (s := S1x896x512) ![0, 832, 0] S1x64x128.size inb_S1x896x512_S1x64x128_0_832_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 832, 0] S1x64x128.size inb_S1x896x512_S1x64x128_0_832_0 (ix3 0 r d) a).symm
  fin_cases a
  · rfl
  · show 832 + (0 + r.val) % 64 = 832 + r.val
    omega
  · show 128 * ((0 + r.val) / 64) + d.val = 0 + d.val
    omega

theorem piece_832_3 (G : S1x896x512.Idx → Elt Ideal .bf16) (hG : TileIs832 m c t G) (x : S1x64x128.Idx) :
    outA3 (colA832 (kxT832 m c t) (qxT832 m c t) (viT832 m c t) (vtT832 m c t)) x = G ((Rect.unit (s := S1x896x512) ![0, 768, 384] S1x64x128.size inb_S1x896x512_S1x64x128_0_768_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 768, 384] S1x64x128.size inb_S1x896x512_S1x64x128_0_768_384 (ix3 0 r d) a).symm
  fin_cases a
  · rfl
  · show 768 + (192 + r.val) % 64 = 768 + r.val
    omega
  · show 128 * ((192 + r.val) / 64) + d.val = 384 + d.val
    omega

theorem piece_832_2 (G : S1x896x512.Idx → Elt Ideal .bf16) (hG : TileIs832 m c t G) (x : S1x64x128.Idx) :
    outA2 (colA832 (kxT832 m c t) (qxT832 m c t) (viT832 m c t) (vtT832 m c t)) x = G ((Rect.unit (s := S1x896x512) ![0, 768, 256] S1x64x128.size inb_S1x896x512_S1x64x128_0_768_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 768, 256] S1x64x128.size inb_S1x896x512_S1x64x128_0_768_256 (ix3 0 r d) a).symm
  fin_cases a
  · rfl
  · show 768 + (128 + r.val) % 64 = 768 + r.val
    omega
  · show 128 * ((128 + r.val) / 64) + d.val = 256 + d.val
    omega

theorem piece_832_1 (G : S1x896x512.Idx → Elt Ideal .bf16) (hG : TileIs832 m c t G) (x : S1x64x128.Idx) :
    outA1 (colA832 (kxT832 m c t) (qxT832 m c t) (viT832 m c t) (vtT832 m c t)) x = G ((Rect.unit (s := S1x896x512) ![0, 768, 128] S1x64x128.size inb_S1x896x512_S1x64x128_0_768_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 768, 128] S1x64x128.size inb_S1x896x512_S1x64x128_0_768_128 (ix3 0 r d) a).symm
  fin_cases a
  · rfl
  · show 768 + (64 + r.val) % 64 = 768 + r.val
    omega
  · show 128 * ((64 + r.val) / 64) + d.val = 128 + d.val
    omega

theorem piece_832_0 (G : S1x896x512.Idx → Elt Ideal .bf16) (hG : TileIs832 m c t G) (x : S1x64x128.Idx) :
    outA0 (colA832 (kxT832 m c t) (qxT832 m c t) (viT832 m c t) (vtT832 m c t)) x = G ((Rect.unit (s := S1x896x512) ![0, 768, 0] S1x64x128.size inb_S1x896x512_S1x64x128_0_768_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 768, 0] S1x64x128.size inb_S1x896x512_S1x64x128_0_768_0 (ix3 0 r d) a).symm
  fin_cases a
  · rfl
  · show 768 + (0 + r.val) % 64 = 768 + r.val
    omega
  · show 128 * ((0 + r.val) / 64) + d.val = 0 + d.val
    omega

theorem piece_768_3 (G : S1x896x512.Idx → Elt Ideal .bf16) (hG : TileIs768 m c t G) (x : S1x64x128.Idx) :
    outA3 (colA768 (kxT768 m c t) (qxT768 m c t) (viT768 m c t) (vtT768 m c t)) x = G ((Rect.unit (s := S1x896x512) ![0, 704, 384] S1x64x128.size inb_S1x896x512_S1x64x128_0_704_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 704, 384] S1x64x128.size inb_S1x896x512_S1x64x128_0_704_384 (ix3 0 r d) a).symm
  fin_cases a
  · rfl
  · show 704 + (192 + r.val) % 64 = 704 + r.val
    omega
  · show 128 * ((192 + r.val) / 64) + d.val = 384 + d.val
    omega

theorem piece_768_2 (G : S1x896x512.Idx → Elt Ideal .bf16) (hG : TileIs768 m c t G) (x : S1x64x128.Idx) :
    outA2 (colA768 (kxT768 m c t) (qxT768 m c t) (viT768 m c t) (vtT768 m c t)) x = G ((Rect.unit (s := S1x896x512) ![0, 704, 256] S1x64x128.size inb_S1x896x512_S1x64x128_0_704_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 704, 256] S1x64x128.size inb_S1x896x512_S1x64x128_0_704_256 (ix3 0 r d) a).symm
  fin_cases a
  · rfl
  · show 704 + (128 + r.val) % 64 = 704 + r.val
    omega
  · show 128 * ((128 + r.val) / 64) + d.val = 256 + d.val
    omega

theorem piece_768_1 (G : S1x896x512.Idx → Elt Ideal .bf16) (hG : TileIs768 m c t G) (x : S1x64x128.Idx) :
    outA1 (colA768 (kxT768 m c t) (qxT768 m c t) (viT768 m c t) (vtT768 m c t)) x = G ((Rect.unit (s := S1x896x512) ![0, 704, 128] S1x64x128.size inb_S1x896x512_S1x64x128_0_704_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 704, 128] S1x64x128.size inb_S1x896x512_S1x64x128_0_704_128 (ix3 0 r d) a).symm
  fin_cases a
  · rfl
  · show 704 + (64 + r.val) % 64 = 704 + r.val
    omega
  · show 128 * ((64 + r.val) / 64) + d.val = 128 + d.val
    omega

theorem piece_768_0 (G : S1x896x512.Idx → Elt Ideal .bf16) (hG : TileIs768 m c t G) (x : S1x64x128.Idx) :
    outA0 (colA768 (kxT768 m c t) (qxT768 m c t) (viT768 m c t) (vtT768 m c t)) x = G ((Rect.unit (s := S1x896x512) ![0, 704, 0] S1x64x128.size inb_S1x896x512_S1x64x128_0_704_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 704, 0] S1x64x128.size inb_S1x896x512_S1x64x128_0_704_0 (ix3 0 r d) a).symm
  fin_cases a
  · rfl
  · show 704 + (0 + r.val) % 64 = 704 + r.val
    omega
  · show 128 * ((0 + r.val) / 64) + d.val = 0 + d.val
    omega

theorem piece_704_3 (G : S1x896x512.Idx → Elt Ideal .bf16) (hG : TileIs704 m c t G) (x : S1x64x128.Idx) :
    outA3 (colA704 (kxT704 m c t) (qxT704 m c t) (viT704 m c t) (vtT704 m c t)) x = G ((Rect.unit (s := S1x896x512) ![0, 640, 384] S1x64x128.size inb_S1x896x512_S1x64x128_0_640_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 640, 384] S1x64x128.size inb_S1x896x512_S1x64x128_0_640_384 (ix3 0 r d) a).symm
  fin_cases a
  · rfl
  · show 640 + (192 + r.val) % 64 = 640 + r.val
    omega
  · show 128 * ((192 + r.val) / 64) + d.val = 384 + d.val
    omega

theorem piece_704_2 (G : S1x896x512.Idx → Elt Ideal .bf16) (hG : TileIs704 m c t G) (x : S1x64x128.Idx) :
    outA2 (colA704 (kxT704 m c t) (qxT704 m c t) (viT704 m c t) (vtT704 m c t)) x = G ((Rect.unit (s := S1x896x512) ![0, 640, 256] S1x64x128.size inb_S1x896x512_S1x64x128_0_640_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 640, 256] S1x64x128.size inb_S1x896x512_S1x64x128_0_640_256 (ix3 0 r d) a).symm
  fin_cases a
  · rfl
  · show 640 + (128 + r.val) % 64 = 640 + r.val
    omega
  · show 128 * ((128 + r.val) / 64) + d.val = 256 + d.val
    omega

theorem piece_704_1 (G : S1x896x512.Idx → Elt Ideal .bf16) (hG : TileIs704 m c t G) (x : S1x64x128.Idx) :
    outA1 (colA704 (kxT704 m c t) (qxT704 m c t) (viT704 m c t) (vtT704 m c t)) x = G ((Rect.unit (s := S1x896x512) ![0, 640, 128] S1x64x128.size inb_S1x896x512_S1x64x128_0_640_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 640, 128] S1x64x128.size inb_S1x896x512_S1x64x128_0_640_128 (ix3 0 r d) a).symm
  fin_cases a
  · rfl
  · show 640 + (64 + r.val) % 64 = 640 + r.val
    omega
  · show 128 * ((64 + r.val) / 64) + d.val = 128 + d.val
    omega

theorem piece_704_0 (G : S1x896x512.Idx → Elt Ideal .bf16) (hG : TileIs704 m c t G) (x : S1x64x128.Idx) :
    outA0 (colA704 (kxT704 m c t) (qxT704 m c t) (viT704 m c t) (vtT704 m c t)) x = G ((Rect.unit (s := S1x896x512) ![0, 640, 0] S1x64x128.size inb_S1x896x512_S1x64x128_0_640_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 640, 0] S1x64x128.size inb_S1x896x512_S1x64x128_0_640_0 (ix3 0 r d) a).symm
  fin_cases a
  · rfl
  · show 640 + (0 + r.val) % 64 = 640 + r.val
    omega
  · show 128 * ((0 + r.val) / 64) + d.val = 0 + d.val
    omega

theorem piece_640_3 (G : S1x896x512.Idx → Elt Ideal .bf16) (hG : TileIs640 m c t G) (x : S1x64x128.Idx) :
    outA3 (colA640 (kxT640 m c t) (qxT640 m c t) (viT640 m c t) (vtT640 m c t)) x = G ((Rect.unit (s := S1x896x512) ![0, 576, 384] S1x64x128.size inb_S1x896x512_S1x64x128_0_576_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 576, 384] S1x64x128.size inb_S1x896x512_S1x64x128_0_576_384 (ix3 0 r d) a).symm
  fin_cases a
  · rfl
  · show 576 + (192 + r.val) % 64 = 576 + r.val
    omega
  · show 128 * ((192 + r.val) / 64) + d.val = 384 + d.val
    omega

theorem piece_640_2 (G : S1x896x512.Idx → Elt Ideal .bf16) (hG : TileIs640 m c t G) (x : S1x64x128.Idx) :
    outA2 (colA640 (kxT640 m c t) (qxT640 m c t) (viT640 m c t) (vtT640 m c t)) x = G ((Rect.unit (s := S1x896x512) ![0, 576, 256] S1x64x128.size inb_S1x896x512_S1x64x128_0_576_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 576, 256] S1x64x128.size inb_S1x896x512_S1x64x128_0_576_256 (ix3 0 r d) a).symm
  fin_cases a
  · rfl
  · show 576 + (128 + r.val) % 64 = 576 + r.val
    omega
  · show 128 * ((128 + r.val) / 64) + d.val = 256 + d.val
    omega

theorem piece_640_1 (G : S1x896x512.Idx → Elt Ideal .bf16) (hG : TileIs640 m c t G) (x : S1x64x128.Idx) :
    outA1 (colA640 (kxT640 m c t) (qxT640 m c t) (viT640 m c t) (vtT640 m c t)) x = G ((Rect.unit (s := S1x896x512) ![0, 576, 128] S1x64x128.size inb_S1x896x512_S1x64x128_0_576_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 576, 128] S1x64x128.size inb_S1x896x512_S1x64x128_0_576_128 (ix3 0 r d) a).symm
  fin_cases a
  · rfl
  · show 576 + (64 + r.val) % 64 = 576 + r.val
    omega
  · show 128 * ((64 + r.val) / 64) + d.val = 128 + d.val
    omega

theorem piece_640_0 (G : S1x896x512.Idx → Elt Ideal .bf16) (hG : TileIs640 m c t G) (x : S1x64x128.Idx) :
    outA0 (colA640 (kxT640 m c t) (qxT640 m c t) (viT640 m c t) (vtT640 m c t)) x = G ((Rect.unit (s := S1x896x512) ![0, 576, 0] S1x64x128.size inb_S1x896x512_S1x64x128_0_576_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 576, 0] S1x64x128.size inb_S1x896x512_S1x64x128_0_576_0 (ix3 0 r d) a).symm
  fin_cases a
  · rfl
  · show 576 + (0 + r.val) % 64 = 576 + r.val
    omega
  · show 128 * ((0 + r.val) / 64) + d.val = 0 + d.val
    omega

theorem piece_576_3 (G : S1x896x512.Idx → Elt Ideal .bf16) (hG : TileIs576 m c t G) (x : S1x64x128.Idx) :
    outA3 (colA576 (kxT576 m c t) (qxT576 m c t) (viT576 m c t) (vtT576 m c t)) x = G ((Rect.unit (s := S1x896x512) ![0, 512, 384] S1x64x128.size inb_S1x896x512_S1x64x128_0_512_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 512, 384] S1x64x128.size inb_S1x896x512_S1x64x128_0_512_384 (ix3 0 r d) a).symm
  fin_cases a
  · rfl
  · show 512 + (192 + r.val) % 64 = 512 + r.val
    omega
  · show 128 * ((192 + r.val) / 64) + d.val = 384 + d.val
    omega

theorem piece_576_2 (G : S1x896x512.Idx → Elt Ideal .bf16) (hG : TileIs576 m c t G) (x : S1x64x128.Idx) :
    outA2 (colA576 (kxT576 m c t) (qxT576 m c t) (viT576 m c t) (vtT576 m c t)) x = G ((Rect.unit (s := S1x896x512) ![0, 512, 256] S1x64x128.size inb_S1x896x512_S1x64x128_0_512_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 512, 256] S1x64x128.size inb_S1x896x512_S1x64x128_0_512_256 (ix3 0 r d) a).symm
  fin_cases a
  · rfl
  · show 512 + (128 + r.val) % 64 = 512 + r.val
    omega
  · show 128 * ((128 + r.val) / 64) + d.val = 256 + d.val
    omega

theorem piece_576_1 (G : S1x896x512.Idx → Elt Ideal .bf16) (hG : TileIs576 m c t G) (x : S1x64x128.Idx) :
    outA1 (colA576 (kxT576 m c t) (qxT576 m c t) (viT576 m c t) (vtT576 m c t)) x = G ((Rect.unit (s := S1x896x512) ![0, 512, 128] S1x64x128.size inb_S1x896x512_S1x64x128_0_512_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 512, 128] S1x64x128.size inb_S1x896x512_S1x64x128_0_512_128 (ix3 0 r d) a).symm
  fin_cases a
  · rfl
  · show 512 + (64 + r.val) % 64 = 512 + r.val
    omega
  · show 128 * ((64 + r.val) / 64) + d.val = 128 + d.val
    omega

theorem piece_576_0 (G : S1x896x512.Idx → Elt Ideal .bf16) (hG : TileIs576 m c t G) (x : S1x64x128.Idx) :
    outA0 (colA576 (kxT576 m c t) (qxT576 m c t) (viT576 m c t) (vtT576 m c t)) x = G ((Rect.unit (s := S1x896x512) ![0, 512, 0] S1x64x128.size inb_S1x896x512_S1x64x128_0_512_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 512, 0] S1x64x128.size inb_S1x896x512_S1x64x128_0_512_0 (ix3 0 r d) a).symm
  fin_cases a
  · rfl
  · show 512 + (0 + r.val) % 64 = 512 + r.val
    omega
  · show 128 * ((0 + r.val) / 64) + d.val = 0 + d.val
    omega

theorem piece_512_3 (G : S1x896x512.Idx → Elt Ideal .bf16) (hG : TileIs512 m c t G) (x : S1x64x128.Idx) :
    outA3 (colA512 (kxT512 m c t) (qxT512 m c t) (viT512 m c t) (vtT512 m c t)) x = G ((Rect.unit (s := S1x896x512) ![0, 448, 384] S1x64x128.size inb_S1x896x512_S1x64x128_0_448_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 448, 384] S1x64x128.size inb_S1x896x512_S1x64x128_0_448_384 (ix3 0 r d) a).symm
  fin_cases a
  · rfl
  · show 448 + (192 + r.val) % 64 = 448 + r.val
    omega
  · show 128 * ((192 + r.val) / 64) + d.val = 384 + d.val
    omega

theorem piece_512_2 (G : S1x896x512.Idx → Elt Ideal .bf16) (hG : TileIs512 m c t G) (x : S1x64x128.Idx) :
    outA2 (colA512 (kxT512 m c t) (qxT512 m c t) (viT512 m c t) (vtT512 m c t)) x = G ((Rect.unit (s := S1x896x512) ![0, 448, 256] S1x64x128.size inb_S1x896x512_S1x64x128_0_448_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 448, 256] S1x64x128.size inb_S1x896x512_S1x64x128_0_448_256 (ix3 0 r d) a).symm
  fin_cases a
  · rfl
  · show 448 + (128 + r.val) % 64 = 448 + r.val
    omega
  · show 128 * ((128 + r.val) / 64) + d.val = 256 + d.val
    omega

theorem piece_512_1 (G : S1x896x512.Idx → Elt Ideal .bf16) (hG : TileIs512 m c t G) (x : S1x64x128.Idx) :
    outA1 (colA512 (kxT512 m c t) (qxT512 m c t) (viT512 m c t) (vtT512 m c t)) x = G ((Rect.unit (s := S1x896x512) ![0, 448, 128] S1x64x128.size inb_S1x896x512_S1x64x128_0_448_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 448, 128] S1x64x128.size inb_S1x896x512_S1x64x128_0_448_128 (ix3 0 r d) a).symm
  fin_cases a
  · rfl
  · show 448 + (64 + r.val) % 64 = 448 + r.val
    omega
  · show 128 * ((64 + r.val) / 64) + d.val = 128 + d.val
    omega

theorem piece_512_0 (G : S1x896x512.Idx → Elt Ideal .bf16) (hG : TileIs512 m c t G) (x : S1x64x128.Idx) :
    outA0 (colA512 (kxT512 m c t) (qxT512 m c t) (viT512 m c t) (vtT512 m c t)) x = G ((Rect.unit (s := S1x896x512) ![0, 448, 0] S1x64x128.size inb_S1x896x512_S1x64x128_0_448_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 448, 0] S1x64x128.size inb_S1x896x512_S1x64x128_0_448_0 (ix3 0 r d) a).symm
  fin_cases a
  · rfl
  · show 448 + (0 + r.val) % 64 = 448 + r.val
    omega
  · show 128 * ((0 + r.val) / 64) + d.val = 0 + d.val
    omega

theorem piece_448_3 (G : S1x896x512.Idx → Elt Ideal .bf16) (hG : TileIs448 m c t G) (x : S1x64x128.Idx) :
    outA3 (colA448 (kxT448 m c t) (qxT448 m c t) (viT448 m c t) (vtT448 m c t)) x = G ((Rect.unit (s := S1x896x512) ![0, 384, 384] S1x64x128.size inb_S1x896x512_S1x64x128_0_384_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 384, 384] S1x64x128.size inb_S1x896x512_S1x64x128_0_384_384 (ix3 0 r d) a).symm
  fin_cases a
  · rfl
  · show 384 + (192 + r.val) % 64 = 384 + r.val
    omega
  · show 128 * ((192 + r.val) / 64) + d.val = 384 + d.val
    omega

theorem piece_448_2 (G : S1x896x512.Idx → Elt Ideal .bf16) (hG : TileIs448 m c t G) (x : S1x64x128.Idx) :
    outA2 (colA448 (kxT448 m c t) (qxT448 m c t) (viT448 m c t) (vtT448 m c t)) x = G ((Rect.unit (s := S1x896x512) ![0, 384, 256] S1x64x128.size inb_S1x896x512_S1x64x128_0_384_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 384, 256] S1x64x128.size inb_S1x896x512_S1x64x128_0_384_256 (ix3 0 r d) a).symm
  fin_cases a
  · rfl
  · show 384 + (128 + r.val) % 64 = 384 + r.val
    omega
  · show 128 * ((128 + r.val) / 64) + d.val = 256 + d.val
    omega

theorem piece_448_1 (G : S1x896x512.Idx → Elt Ideal .bf16) (hG : TileIs448 m c t G) (x : S1x64x128.Idx) :
    outA1 (colA448 (kxT448 m c t) (qxT448 m c t) (viT448 m c t) (vtT448 m c t)) x = G ((Rect.unit (s := S1x896x512) ![0, 384, 128] S1x64x128.size inb_S1x896x512_S1x64x128_0_384_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 384, 128] S1x64x128.size inb_S1x896x512_S1x64x128_0_384_128 (ix3 0 r d) a).symm
  fin_cases a
  · rfl
  · show 384 + (64 + r.val) % 64 = 384 + r.val
    omega
  · show 128 * ((64 + r.val) / 64) + d.val = 128 + d.val
    omega

theorem piece_448_0 (G : S1x896x512.Idx → Elt Ideal .bf16) (hG : TileIs448 m c t G) (x : S1x64x128.Idx) :
    outA0 (colA448 (kxT448 m c t) (qxT448 m c t) (viT448 m c t) (vtT448 m c t)) x = G ((Rect.unit (s := S1x896x512) ![0, 384, 0] S1x64x128.size inb_S1x896x512_S1x64x128_0_384_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 384, 0] S1x64x128.size inb_S1x896x512_S1x64x128_0_384_0 (ix3 0 r d) a).symm
  fin_cases a
  · rfl
  · show 384 + (0 + r.val) % 64 = 384 + r.val
    omega
  · show 128 * ((0 + r.val) / 64) + d.val = 0 + d.val
    omega

theorem piece_384_3 (G : S1x896x512.Idx → Elt Ideal .bf16) (hG : TileIs384 m c t G) (x : S1x64x128.Idx) :
    outA3 (colA384 (kxT384 m c t) (qxT384 m c t) (viT384 m c t) (vtT384 m c t)) x = G ((Rect.unit (s := S1x896x512) ![0, 320, 384] S1x64x128.size inb_S1x896x512_S1x64x128_0_320_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 320, 384] S1x64x128.size inb_S1x896x512_S1x64x128_0_320_384 (ix3 0 r d) a).symm
  fin_cases a
  · rfl
  · show 320 + (192 + r.val) % 64 = 320 + r.val
    omega
  · show 128 * ((192 + r.val) / 64) + d.val = 384 + d.val
    omega

theorem piece_384_2 (G : S1x896x512.Idx → Elt Ideal .bf16) (hG : TileIs384 m c t G) (x : S1x64x128.Idx) :
    outA2 (colA384 (kxT384 m c t) (qxT384 m c t) (viT384 m c t) (vtT384 m c t)) x = G ((Rect.unit (s := S1x896x512) ![0, 320, 256] S1x64x128.size inb_S1x896x512_S1x64x128_0_320_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 320, 256] S1x64x128.size inb_S1x896x512_S1x64x128_0_320_256 (ix3 0 r d) a).symm
  fin_cases a
  · rfl
  · show 320 + (128 + r.val) % 64 = 320 + r.val
    omega
  · show 128 * ((128 + r.val) / 64) + d.val = 256 + d.val
    omega

theorem piece_384_1 (G : S1x896x512.Idx → Elt Ideal .bf16) (hG : TileIs384 m c t G) (x : S1x64x128.Idx) :
    outA1 (colA384 (kxT384 m c t) (qxT384 m c t) (viT384 m c t) (vtT384 m c t)) x = G ((Rect.unit (s := S1x896x512) ![0, 320, 128] S1x64x128.size inb_S1x896x512_S1x64x128_0_320_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 320, 128] S1x64x128.size inb_S1x896x512_S1x64x128_0_320_128 (ix3 0 r d) a).symm
  fin_cases a
  · rfl
  · show 320 + (64 + r.val) % 64 = 320 + r.val
    omega
  · show 128 * ((64 + r.val) / 64) + d.val = 128 + d.val
    omega

theorem piece_384_0 (G : S1x896x512.Idx → Elt Ideal .bf16) (hG : TileIs384 m c t G) (x : S1x64x128.Idx) :
    outA0 (colA384 (kxT384 m c t) (qxT384 m c t) (viT384 m c t) (vtT384 m c t)) x = G ((Rect.unit (s := S1x896x512) ![0, 320, 0] S1x64x128.size inb_S1x896x512_S1x64x128_0_320_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 320, 0] S1x64x128.size inb_S1x896x512_S1x64x128_0_320_0 (ix3 0 r d) a).symm
  fin_cases a
  · rfl
  · show 320 + (0 + r.val) % 64 = 320 + r.val
    omega
  · show 128 * ((0 + r.val) / 64) + d.val = 0 + d.val
    omega

theorem piece_320_3 (G : S1x896x512.Idx → Elt Ideal .bf16) (hG : TileIs320 m c t G) (x : S1x64x128.Idx) :
    outA3 (colA320 (kxT320 m c t) (qxT320 m c t) (viT320 m c t) (vtT320 m c t)) x = G ((Rect.unit (s := S1x896x512) ![0, 256, 384] S1x64x128.size inb_S1x896x512_S1x64x128_0_256_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 256, 384] S1x64x128.size inb_S1x896x512_S1x64x128_0_256_384 (ix3 0 r d) a).symm
  fin_cases a
  · rfl
  · show 256 + (192 + r.val) % 64 = 256 + r.val
    omega
  · show 128 * ((192 + r.val) / 64) + d.val = 384 + d.val
    omega

theorem piece_320_2 (G : S1x896x512.Idx → Elt Ideal .bf16) (hG : TileIs320 m c t G) (x : S1x64x128.Idx) :
    outA2 (colA320 (kxT320 m c t) (qxT320 m c t) (viT320 m c t) (vtT320 m c t)) x = G ((Rect.unit (s := S1x896x512) ![0, 256, 256] S1x64x128.size inb_S1x896x512_S1x64x128_0_256_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 256, 256] S1x64x128.size inb_S1x896x512_S1x64x128_0_256_256 (ix3 0 r d) a).symm
  fin_cases a
  · rfl
  · show 256 + (128 + r.val) % 64 = 256 + r.val
    omega
  · show 128 * ((128 + r.val) / 64) + d.val = 256 + d.val
    omega

theorem piece_320_1 (G : S1x896x512.Idx → Elt Ideal .bf16) (hG : TileIs320 m c t G) (x : S1x64x128.Idx) :
    outA1 (colA320 (kxT320 m c t) (qxT320 m c t) (viT320 m c t) (vtT320 m c t)) x = G ((Rect.unit (s := S1x896x512) ![0, 256, 128] S1x64x128.size inb_S1x896x512_S1x64x128_0_256_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 256, 128] S1x64x128.size inb_S1x896x512_S1x64x128_0_256_128 (ix3 0 r d) a).symm
  fin_cases a
  · rfl
  · show 256 + (64 + r.val) % 64 = 256 + r.val
    omega
  · show 128 * ((64 + r.val) / 64) + d.val = 128 + d.val
    omega

theorem piece_320_0 (G : S1x896x512.Idx → Elt Ideal .bf16) (hG : TileIs320 m c t G) (x : S1x64x128.Idx) :
    outA0 (colA320 (kxT320 m c t) (qxT320 m c t) (viT320 m c t) (vtT320 m c t)) x = G ((Rect.unit (s := S1x896x512) ![0, 256, 0] S1x64x128.size inb_S1x896x512_S1x64x128_0_256_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 256, 0] S1x64x128.size inb_S1x896x512_S1x64x128_0_256_0 (ix3 0 r d) a).symm
  fin_cases a
  · rfl
  · show 256 + (0 + r.val) % 64 = 256 + r.val
    omega
  · show 128 * ((0 + r.val) / 64) + d.val = 0 + d.val
    omega

theorem piece_256_3 (G : S1x896x512.Idx → Elt Ideal .bf16) (hG : TileIs256 m c t G) (x : S1x64x128.Idx) :
    outA3 (colA256 (kxT256 m c t) (qxT256 m c t) (viT256 m c t) (vtT256 m c t)) x = G ((Rect.unit (s := S1x896x512) ![0, 192, 384] S1x64x128.size inb_S1x896x512_S1x64x128_0_192_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 192, 384] S1x64x128.size inb_S1x896x512_S1x64x128_0_192_384 (ix3 0 r d) a).symm
  fin_cases a
  · rfl
  · show 192 + (192 + r.val) % 64 = 192 + r.val
    omega
  · show 128 * ((192 + r.val) / 64) + d.val = 384 + d.val
    omega

theorem piece_256_2 (G : S1x896x512.Idx → Elt Ideal .bf16) (hG : TileIs256 m c t G) (x : S1x64x128.Idx) :
    outA2 (colA256 (kxT256 m c t) (qxT256 m c t) (viT256 m c t) (vtT256 m c t)) x = G ((Rect.unit (s := S1x896x512) ![0, 192, 256] S1x64x128.size inb_S1x896x512_S1x64x128_0_192_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 192, 256] S1x64x128.size inb_S1x896x512_S1x64x128_0_192_256 (ix3 0 r d) a).symm
  fin_cases a
  · rfl
  · show 192 + (128 + r.val) % 64 = 192 + r.val
    omega
  · show 128 * ((128 + r.val) / 64) + d.val = 256 + d.val
    omega

theorem piece_256_1 (G : S1x896x512.Idx → Elt Ideal .bf16) (hG : TileIs256 m c t G) (x : S1x64x128.Idx) :
    outA1 (colA256 (kxT256 m c t) (qxT256 m c t) (viT256 m c t) (vtT256 m c t)) x = G ((Rect.unit (s := S1x896x512) ![0, 192, 128] S1x64x128.size inb_S1x896x512_S1x64x128_0_192_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 192, 128] S1x64x128.size inb_S1x896x512_S1x64x128_0_192_128 (ix3 0 r d) a).symm
  fin_cases a
  · rfl
  · show 192 + (64 + r.val) % 64 = 192 + r.val
    omega
  · show 128 * ((64 + r.val) / 64) + d.val = 128 + d.val
    omega

theorem piece_256_0 (G : S1x896x512.Idx → Elt Ideal .bf16) (hG : TileIs256 m c t G) (x : S1x64x128.Idx) :
    outA0 (colA256 (kxT256 m c t) (qxT256 m c t) (viT256 m c t) (vtT256 m c t)) x = G ((Rect.unit (s := S1x896x512) ![0, 192, 0] S1x64x128.size inb_S1x896x512_S1x64x128_0_192_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 192, 0] S1x64x128.size inb_S1x896x512_S1x64x128_0_192_0 (ix3 0 r d) a).symm
  fin_cases a
  · rfl
  · show 192 + (0 + r.val) % 64 = 192 + r.val
    omega
  · show 128 * ((0 + r.val) / 64) + d.val = 0 + d.val
    omega

theorem piece_192_3 (G : S1x896x512.Idx → Elt Ideal .bf16) (hG : TileIs192 m c t G) (x : S1x64x128.Idx) :
    outA3 (colA192 (kxT192 m c t) (qxT192 m c t) (viT192 m c t) (vtT192 m c t)) x = G ((Rect.unit (s := S1x896x512) ![0, 128, 384] S1x64x128.size inb_S1x896x512_S1x64x128_0_128_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 128, 384] S1x64x128.size inb_S1x896x512_S1x64x128_0_128_384 (ix3 0 r d) a).symm
  fin_cases a
  · rfl
  · show 128 + (192 + r.val) % 64 = 128 + r.val
    omega
  · show 128 * ((192 + r.val) / 64) + d.val = 384 + d.val
    omega

theorem piece_192_2 (G : S1x896x512.Idx → Elt Ideal .bf16) (hG : TileIs192 m c t G) (x : S1x64x128.Idx) :
    outA2 (colA192 (kxT192 m c t) (qxT192 m c t) (viT192 m c t) (vtT192 m c t)) x = G ((Rect.unit (s := S1x896x512) ![0, 128, 256] S1x64x128.size inb_S1x896x512_S1x64x128_0_128_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 128, 256] S1x64x128.size inb_S1x896x512_S1x64x128_0_128_256 (ix3 0 r d) a).symm
  fin_cases a
  · rfl
  · show 128 + (128 + r.val) % 64 = 128 + r.val
    omega
  · show 128 * ((128 + r.val) / 64) + d.val = 256 + d.val
    omega

theorem piece_192_1 (G : S1x896x512.Idx → Elt Ideal .bf16) (hG : TileIs192 m c t G) (x : S1x64x128.Idx) :
    outA1 (colA192 (kxT192 m c t) (qxT192 m c t) (viT192 m c t) (vtT192 m c t)) x = G ((Rect.unit (s := S1x896x512) ![0, 128, 128] S1x64x128.size inb_S1x896x512_S1x64x128_0_128_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 128, 128] S1x64x128.size inb_S1x896x512_S1x64x128_0_128_128 (ix3 0 r d) a).symm
  fin_cases a
  · rfl
  · show 128 + (64 + r.val) % 64 = 128 + r.val
    omega
  · show 128 * ((64 + r.val) / 64) + d.val = 128 + d.val
    omega

theorem piece_192_0 (G : S1x896x512.Idx → Elt Ideal .bf16) (hG : TileIs192 m c t G) (x : S1x64x128.Idx) :
    outA0 (colA192 (kxT192 m c t) (qxT192 m c t) (viT192 m c t) (vtT192 m c t)) x = G ((Rect.unit (s := S1x896x512) ![0, 128, 0] S1x64x128.size inb_S1x896x512_S1x64x128_0_128_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 128, 0] S1x64x128.size inb_S1x896x512_S1x64x128_0_128_0 (ix3 0 r d) a).symm
  fin_cases a
  · rfl
  · show 128 + (0 + r.val) % 64 = 128 + r.val
    omega
  · show 128 * ((0 + r.val) / 64) + d.val = 0 + d.val
    omega

theorem piece_128_3 (G : S1x896x512.Idx → Elt Ideal .bf16) (hG : TileIs128 m c t G) (x : S1x64x128.Idx) :
    outA3 (colA128 (kxT128 m c t) (qxT128 m c t) (viT128 m c t) (vtT128 m c t)) x = G ((Rect.unit (s := S1x896x512) ![0, 64, 384] S1x64x128.size inb_S1x896x512_S1x64x128_0_64_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 64, 384] S1x64x128.size inb_S1x896x512_S1x64x128_0_64_384 (ix3 0 r d) a).symm
  fin_cases a
  · rfl
  · show 64 + (192 + r.val) % 64 = 64 + r.val
    omega
  · show 128 * ((192 + r.val) / 64) + d.val = 384 + d.val
    omega

theorem piece_128_2 (G : S1x896x512.Idx → Elt Ideal .bf16) (hG : TileIs128 m c t G) (x : S1x64x128.Idx) :
    outA2 (colA128 (kxT128 m c t) (qxT128 m c t) (viT128 m c t) (vtT128 m c t)) x = G ((Rect.unit (s := S1x896x512) ![0, 64, 256] S1x64x128.size inb_S1x896x512_S1x64x128_0_64_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 64, 256] S1x64x128.size inb_S1x896x512_S1x64x128_0_64_256 (ix3 0 r d) a).symm
  fin_cases a
  · rfl
  · show 64 + (128 + r.val) % 64 = 64 + r.val
    omega
  · show 128 * ((128 + r.val) / 64) + d.val = 256 + d.val
    omega

theorem piece_128_1 (G : S1x896x512.Idx → Elt Ideal .bf16) (hG : TileIs128 m c t G) (x : S1x64x128.Idx) :
    outA1 (colA128 (kxT128 m c t) (qxT128 m c t) (viT128 m c t) (vtT128 m c t)) x = G ((Rect.unit (s := S1x896x512) ![0, 64, 128] S1x64x128.size inb_S1x896x512_S1x64x128_0_64_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 64, 128] S1x64x128.size inb_S1x896x512_S1x64x128_0_64_128 (ix3 0 r d) a).symm
  fin_cases a
  · rfl
  · show 64 + (64 + r.val) % 64 = 64 + r.val
    omega
  · show 128 * ((64 + r.val) / 64) + d.val = 128 + d.val
    omega

theorem piece_128_0 (G : S1x896x512.Idx → Elt Ideal .bf16) (hG : TileIs128 m c t G) (x : S1x64x128.Idx) :
    outA0 (colA128 (kxT128 m c t) (qxT128 m c t) (viT128 m c t) (vtT128 m c t)) x = G ((Rect.unit (s := S1x896x512) ![0, 64, 0] S1x64x128.size inb_S1x896x512_S1x64x128_0_64_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 64, 0] S1x64x128.size inb_S1x896x512_S1x64x128_0_64_0 (ix3 0 r d) a).symm
  fin_cases a
  · rfl
  · show 64 + (0 + r.val) % 64 = 64 + r.val
    omega
  · show 128 * ((0 + r.val) / 64) + d.val = 0 + d.val
    omega

theorem piece_64_3 (G : S1x896x512.Idx → Elt Ideal .bf16) (hG : TileIs64 m c t G) (x : S1x64x128.Idx) :
    outA3 (colA64 (kxT64 m c t) (qxT64 m c t) (viT64 m c t) (vtT64 m c t)) x = G ((Rect.unit (s := S1x896x512) ![0, 0, 384] S1x64x128.size inb_S1x896x512_S1x64x128_0_0_384).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_3 _ r d).trans (hG _ d)).trans (congrArg G (funext fun a => Fin.ext ?_))
  refine Eq.trans ?_ (Rect.idx_unit_val (s := S1x896x512) ![0, 0, 384] S1x64x128.size inb_S1x896x512_S1x64x128_0_0_384 (ix3 0 r d) a).symm
  fin_cases a
  · rfl
  · show 0 + (192 + r.val) % 64 = 0 + r.val
    omega
  · show 128 * ((192 + r.val) / 64) + d.val = 384 + d.val
    omega

theorem piece_64_2 (G : S1x896x512.Idx → Elt Ideal .bf16) (hG : TileIs64 m c t G) (x : S1x64x128.Idx) :
    outA2 (colA64 (kxT64 m c t) (qxT64 m c t) (viT64 m c t) (vtT64 m c t)) x = G ((Rect.unit (s := S1x896x512) ![0, 0, 256] S1x64x128.size inb_S1x896x512_S1x64x128_0_0_256).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_2 _ r d).trans (hG _ d)).trans (congrArg G (funext fun a => Fin.ext ?_))
  refine Eq.trans ?_ (Rect.idx_unit_val (s := S1x896x512) ![0, 0, 256] S1x64x128.size inb_S1x896x512_S1x64x128_0_0_256 (ix3 0 r d) a).symm
  fin_cases a
  · rfl
  · show 0 + (128 + r.val) % 64 = 0 + r.val
    omega
  · show 128 * ((128 + r.val) / 64) + d.val = 256 + d.val
    omega

theorem piece_64_1 (G : S1x896x512.Idx → Elt Ideal .bf16) (hG : TileIs64 m c t G) (x : S1x64x128.Idx) :
    outA1 (colA64 (kxT64 m c t) (qxT64 m c t) (viT64 m c t) (vtT64 m c t)) x = G ((Rect.unit (s := S1x896x512) ![0, 0, 128] S1x64x128.size inb_S1x896x512_S1x64x128_0_0_128).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_1 _ r d).trans (hG _ d)).trans (congrArg G (funext fun a => Fin.ext ?_))
  refine Eq.trans ?_ (Rect.idx_unit_val (s := S1x896x512) ![0, 0, 128] S1x64x128.size inb_S1x896x512_S1x64x128_0_0_128 (ix3 0 r d) a).symm
  fin_cases a
  · rfl
  · show 0 + (64 + r.val) % 64 = 0 + r.val
    omega
  · show 128 * ((64 + r.val) / 64) + d.val = 128 + d.val
    omega

theorem piece_64_0 (G : S1x896x512.Idx → Elt Ideal .bf16) (hG : TileIs64 m c t G) (x : S1x64x128.Idx) :
    outA0 (colA64 (kxT64 m c t) (qxT64 m c t) (viT64 m c t) (vtT64 m c t)) x = G ((Rect.unit (s := S1x896x512) ![0, 0, 0] S1x64x128.size inb_S1x896x512_S1x64x128_0_0_0).emb x) := by
  obtain ⟨i0, r, d, rfl⟩ : ∃ (i0 : Fin 1) (r : Fin 64) (d : Fin 128), x = ix3 i0 r d := ⟨x 0, x 1, x 2, eq_ix3 x⟩
  obtain rfl : i0 = 0 := Subsingleton.elim _ _
  refine ((out_at_0 _ r d).trans (hG _ d)).trans (congrArg G (funext fun a => Fin.ext ?_))
  refine Eq.trans ?_ (Rect.idx_unit_val (s := S1x896x512) ![0, 0, 0] S1x64x128.size inb_S1x896x512_S1x64x128_0_0_0 (ix3 0 r d) a).symm
  fin_cases a
  · rfl
  · show 0 + (0 + r.val) % 64 = 0 + r.val
    omega
  · show 128 * ((0 + r.val) / 64) + d.val = 0 + d.val
    omega

end Cert.KernelIdeal.Gen

end
-- ==== Proof.KAt.lean ====
module

public import proofs.«01_k».proof.Proof.KFrame
public import proofs.«01_k».proof.Proof.KOps
public import Idealize.ShloMosaic.Lib.Pipeline.ValueKit.Tiles
public import Idealize.ShloMosaic.Lib.Pointwise
public import proofs.«01_k».proof.Proof.KOut
public import proofs.«01_k».proof.Proof.KPiece

/-! The block of `out` that a grid point leaves, from the columns of its tiles. -/

@[expose] public section

set_option maxRecDepth 16384

noncomputable section

namespace Cert.KernelIdeal.Gen

open Idealize.ShloMosaic
open Pointwise

variable (m : (ℓ : Loc nD τ sig) → Buf (Elt Ideal) ℓ) (c : Dev nD) (t : Fin cfg0.N)

/-- The block is a function of its index as soon as every column of every tile is. -/
theorem outAt_of (G : S1x896x512.Idx → Elt Ideal .bf16)
    (h64 : TileIs64 m c t G)
    (h128 : TileIs128 m c t G)
    (h192 : TileIs192 m c t G)
    (h256 : TileIs256 m c t G)
    (h320 : TileIs320 m c t G)
    (h384 : TileIs384 m c t G)
    (h448 : TileIs448 m c t G)
    (h512 : TileIs512 m c t G)
    (h576 : TileIs576 m c t G)
    (h640 : TileIs640 m c t G)
    (h704 : TileIs704 m c t G)
    (h768 : TileIs768 m c t G)
    (h832 : TileIs832 m c t G)
    (h896 : TileIs896 m c t G)
    : ∀ y, outAt0_5 m c t y = G y :=
  outAt_of_pieces (F := Ideal) m c t G
    (piece_896_3 m c t G h896)
    (piece_896_2 m c t G h896)
    (piece_896_1 m c t G h896)
    (piece_896_0 m c t G h896)
    (piece_832_3 m c t G h832)
    (piece_832_2 m c t G h832)
    (piece_832_1 m c t G h832)
    (piece_832_0 m c t G h832)
    (piece_768_3 m c t G h768)
    (piece_768_2 m c t G h768)
    (piece_768_1 m c t G h768)
    (piece_768_0 m c t G h768)
    (piece_704_3 m c t G h704)
    (piece_704_2 m c t G h704)
    (piece_704_1 m c t G h704)
    (piece_704_0 m c t G h704)
    (piece_640_3 m c t G h640)
    (piece_640_2 m c t G h640)
    (piece_640_1 m c t G h640)
    (piece_640_0 m c t G h640)
    (piece_576_3 m c t G h576)
    (piece_576_2 m c t G h576)
    (piece_576_1 m c t G h576)
    (piece_576_0 m c t G h576)
    (piece_512_3 m c t G h512)
    (piece_512_2 m c t G h512)
    (piece_512_1 m c t G h512)
    (piece_512_0 m c t G h512)
    (piece_448_3 m c t G h448)
    (piece_448_2 m c t G h448)
    (piece_448_1 m c t G h448)
    (piece_448_0 m c t G h448)
    (piece_384_3 m c t G h384)
    (piece_384_2 m c t G h384)
    (piece_384_1 m c t G h384)
    (piece_384_0 m c t G h384)
    (piece_320_3 m c t G h320)
    (piece_320_2 m c t G h320)
    (piece_320_1 m c t G h320)
    (piece_320_0 m c t G h320)
    (piece_256_3 m c t G h256)
    (piece_256_2 m c t G h256)
    (piece_256_1 m c t G h256)
    (piece_256_0 m c t G h256)
    (piece_192_3 m c t G h192)
    (piece_192_2 m c t G h192)
    (piece_192_1 m c t G h192)
    (piece_192_0 m c t G h192)
    (piece_128_3 m c t G h128)
    (piece_128_2 m c t G h128)
    (piece_128_1 m c t G h128)
    (piece_128_0 m c t G h128)
    (piece_64_3 m c t G h64)
    (piece_64_2 m c t G h64)
    (piece_64_1 m c t G h64)
    (piece_64_0 m c t G h64)

end Cert.KernelIdeal.Gen

end
-- ==== Proof.KStage.lean ====
module

public import proofs.«01_k».proof.Proof.KOps
public import proofs.«01_k».proof.Proof.KRead
public import Idealize.ShloMosaic.Lib.Pointwise

/-! The keys, the values and the queries that the kernel makes ready for its tiles, read at an index over the reals. -/

@[expose] public section

set_option maxRecDepth 16384

noncomputable section

namespace Cert.KernelIdeal.Gen

open Idealize.ShloMosaic Cert.Attn
open Pointwise

theorem absf_coe (r : ℝ) : FloatOps.absf (F := Ideal) (φ := .f32) ((r : ℝ) : EReal) = ((|r| : ℝ) : EReal) := by
  show max (r : EReal) (-(r : EReal)) = _
  rw [← EReal.coe_neg, abs]
  exact (EReal.coe_strictMono.monotone.map_max).symm

/-- The largest magnitude among real numbers, as the kernel folds it. -/
def amax {n : ℕ} (g : Fin n → ℝ) : EReal :=
  Finset.fold max (Ideal.ofBits FTy.f32 4286578688#32) (fun x => FloatOps.absf (F := Ideal) (φ := .f32) ((g x : ℝ) : EReal)) Finset.univ

theorem amax_spec {n : ℕ} (hn : 0 < n) (g : Fin n → ℝ) (hg : ∀ k, |g k| < (2 : ℝ) ^ (128 : ℤ)) :
    ∃ e : ℤ, -126 ≤ e ∧ e ≤ 120 ∧ expoW (amax g) = BitVec.ofInt 32 e
      ∧ ∀ k, min (Ideal.ofBits FTy.f32 1138753536#32) (max (Ideal.ofBits FTy.f32 3286237184#32)
        ((g k : EReal) * (((2 : ℝ) ^ (-e) : ℝ) : EReal))) = ((g k * (2 : ℝ) ^ (-e) : ℝ) : EReal) := by
  unfold amax
  simp only [absf_coe, ofBits_bot]
  exact quant_spec hn g hg

/-- A value quantised by its block's power of two and scaled back is the value. -/
theorem mx_val {n : ℕ} (hn : 0 < n) (g : Fin n → ℝ) (hg : ∀ k, |g k| < (2 : ℝ) ^ (128 : ℤ)) (j : Fin n) :
    min (Ideal.ofBits FTy.f32 1138753536#32) (max (Ideal.ofBits FTy.f32 3286237184#32)
      ((g j : EReal) * pow2W (IntOp.subi 0#32 (expoW (amax g))))) * pow2W (expoW (amax g)) = ((g j : ℝ) : EReal) := by
  obtain ⟨e, h1, h2, h3, h4⟩ := amax_spec hn g hg
  rw [h3, neg_ofInt, pow2W_ofInt _ (by omega) (by omega), pow2W_ofInt _ (by omega) (by omega), h4, ← EReal.coe_mul]
  congr 1
  rw [mul_assoc, ← zpow_add₀ (by norm_num)]
  simp

theorem kxL_at (keys : Vec Ideal S1x896x128 .bf16) (kr : Fin 896 → Fin 128 → ℝ)
    (hk : ∀ k d, keys (ix3 0 k d) = ((kr k d : ℝ) : EReal)) (hb : ∀ k d, |kr k d| < (2 : ℝ) ^ (128 : ℤ))
    (k : Fin 896) (d : Fin 128) : kxLA keys (ix2 k d) = ((kr k d : ℝ) : EReal) := by
  pointwise [kxLA]
  simp only [hk]
  have h := mx_val (by norm_num : 0 < 32) (fun x : Fin 32 => kr k ⟨d.val / 32 * 32 + x.val, by omega⟩) (fun x => hb k _)
    ⟨d.val % 32, by omega⟩
  have hd : (⟨d.val / 32 * 32 + d.val % 32, by omega⟩ : Fin 128) = d := Fin.ext (by show d.val / 32 * 32 + d.val % 32 = d.val; omega)
  simp only [hd] at h
  exact h

theorem cat_at (a b c e : Vec Ideal S1x64x128 .bf16) (xq : Fin 256 → Fin 128 → ℝ)
    (ha : ∀ (r : Fin 64) d, a (ix3 0 r d) = ((xq ⟨r.val, by omega⟩ d : ℝ) : EReal))
    (hb : ∀ (r : Fin 64) d, b (ix3 0 r d) = ((xq ⟨64 + r.val, by omega⟩ d : ℝ) : EReal))
    (hc : ∀ (r : Fin 64) d, c (ix3 0 r d) = ((xq ⟨128 + r.val, by omega⟩ d : ℝ) : EReal))
    (he : ∀ (r : Fin 64) d, e (ix3 0 r d) = ((xq ⟨192 + r.val, by omega⟩ d : ℝ) : EReal))
    (k : Fin 256) (d : Fin 128) : catQA a b c e (ix2 k d) = ((xq k d : ℝ) : EReal) := by
  pointwise [catQA]
  by_cases h : k.val < 64
  · simp only [dif_pos h, ha]
  · by_cases h2 : k.val - 64 < 64
    · have e1 : (⟨64 + (k.val - 64), by omega⟩ : Fin 256) = k := Fin.ext (by show 64 + (k.val - 64) = k.val; omega)
      simp only [dif_neg h, dif_pos h2, hb, e1]
    · by_cases h3 : k.val - 64 - 64 < 64
      · have e1 : (⟨128 + (k.val - 64 - 64), by omega⟩ : Fin 256) = k :=
          Fin.ext (by show 128 + (k.val - 64 - 64) = k.val; omega)
        simp only [dif_neg h, dif_neg h2, dif_pos h3, hc, e1]
      · have e1 : (⟨192 + (k.val - 64 - 64 - 64), by omega⟩ : Fin 256) = k :=
          Fin.ext (by show 192 + (k.val - 64 - 64 - 64) = k.val; omega)
        simp only [dif_neg h, dif_neg h2, dif_neg h3, he, e1]

theorem mxQ_at (q : FVec Ideal S256x128 .bf16) (xq : Fin 256 → Fin 128 → ℝ)
    (hq : ∀ k d, q (ix2 k d) = ((xq k d : ℝ) : EReal))
    (hx : ∀ k d, |xq k d| < (2 : ℝ) ^ (128 : ℤ)) (k : Fin 256) (d : Fin 128) :
    mxBA q (ix2 d k) = ((xq k d : ℝ) : EReal) := by
  pointwise [mxBA]
  simp only [hq]
  have h := mx_val (by norm_num : 0 < 32) (fun x : Fin 32 => xq k ⟨d.val / 32 * 32 + x.val, by omega⟩) (fun x => hx k _)
    ⟨d.val % 32, by omega⟩
  have hd : (⟨d.val / 32 * 32 + d.val % 32, by omega⟩ : Fin 128) = d := Fin.ext (by show d.val / 32 * 32 + d.val % 32 = d.val; omega)
  simp only [hd] at h
  exact h

theorem bias_at (a : Vec Ideal S1x1x16x256 .bf16) (k : Fin 256) (d : Fin 16) : biasA a (ix2 d k) = a (ix4 0 0 d k) := by
  pointwise [biasA]

theorem vinv_at (vals : Vec Ideal S1x896x128 .bf16) (vr : Fin 896 → Fin 128 → ℝ)
    (hv : ∀ k d, vals (ix3 0 k d) = ((vr k d : ℝ) : EReal)) (ve : Fin 896 → ℤ) (h1 : ∀ k, -126 ≤ ve k) (h2 : ∀ k, ve k ≤ 120)
    (he : ∀ k, expoW (amax (vr k)) = BitVec.ofInt 32 (ve k)) (k : Fin 896) (j : Fin 128) :
    vinvA vals (ix2 k j) = (((2 : ℝ) ^ (-ve k) : ℝ) : EReal) := by
  pointwise [vinvA]
  simp only [hv]
  show pow2W (IntOp.subi 0#32 (expoW (amax (vr k)))) = _
  rw [he, neg_ofInt, pow2W_ofInt _ (by have := h2 k; omega) (by have := h1 k; omega)]

theorem vt_at (vals : Vec Ideal S1x896x128 .bf16) (vr : Fin 896 → Fin 128 → ℝ)
    (hv : ∀ k d, vals (ix3 0 k d) = ((vr k d : ℝ) : EReal)) (ve : Fin 896 → ℤ) (h1 : ∀ k, -126 ≤ ve k) (h2 : ∀ k, ve k ≤ 120)
    (he : ∀ k, expoW (amax (vr k)) = BitVec.ofInt 32 (ve k))
    (hc : ∀ k d, min (Ideal.ofBits FTy.f32 1138753536#32) (max (Ideal.ofBits FTy.f32 3286237184#32)
      ((vr k d : EReal) * (((2 : ℝ) ^ (-ve k) : ℝ) : EReal))) = ((vr k d * (2 : ℝ) ^ (-ve k) : ℝ) : EReal))
    (k : Fin 896) (d : Fin 128) :
    vtA vals (ix2 d k) = ((vr k d * (2 : ℝ) ^ (-ve k) : ℝ) : EReal) := by
  pointwise [vtA]
  simp only [hv]
  show min (Ideal.ofBits FTy.f32 1138753536#32) (max (Ideal.ofBits FTy.f32 3286237184#32)
    ((vr k d : EReal) * pow2W (IntOp.subi 0#32 (expoW (amax (vr k)))))) = _
  rw [he, neg_ofInt, pow2W_ofInt _ (by have := h2 k; omega) (by have := h1 k; omega), hc]

theorem in_lane (j : ℕ) (hj : j < 1000) :
    IntOp.andi (IntOp.cmpi CmpIPredicate.sge (BitVec.ofNat 32 j) 8#32) (IntOp.cmpi CmpIPredicate.slt (BitVec.ofNat 32 j) 11#32)
      = if 8 ≤ j ∧ j < 11 then 1#1 else 0#1 := by
  have e1 : (8#32).sle (BitVec.ofNat 32 j) = decide (8 ≤ j) := by
    unfold BitVec.sle
    rw [toInt_small j hj, show (8#32).toInt = 8 by decide]
    exact decide_eq_decide.mpr (by omega)
  have e2 : (BitVec.ofNat 32 j).slt 11#32 = decide (j < 11) := by
    unfold BitVec.slt
    rw [toInt_small j hj, show (11#32).toInt = 11 by decide]
    exact decide_eq_decide.mpr (by omega)
  show BitVec.ofBool ((8#32).sle (BitVec.ofNat 32 j)) &&& BitVec.ofBool ((BitVec.ofNat 32 j).slt 11#32) = _
  rw [e1, e2]
  by_cases h1 : 8 ≤ j <;> by_cases h2 : j < 11 <;> simp [h1, h2]

theorem kxR_at (vals : Vec Ideal S1x896x128 .bf16) (ext : Vec Ideal S896x128 .bf16) (vr : Fin 896 → Fin 128 → ℝ)
    (hv : ∀ k d, vals (ix3 0 k d) = ((vr k d : ℝ) : EReal)) (ve : Fin 896 → ℤ) (h1 : ∀ k, -126 ≤ ve k) (h2 : ∀ k, ve k ≤ 120)
    (he : ∀ k, expoW (amax (vr k)) = BitVec.ofInt 32 (ve k)) (k : Fin 896) (j : Fin 128) :
    kxRA vals ext (ix2 k j) = if 8 ≤ j.val ∧ j.val < 11 then (((ve k : ℝ)) : EReal) else ext (ix2 k j) := by
  pointwise [kxRA]
  simp only [hv]
  show Scalar.select _ (FloatOps.sitofp (F := Ideal) FTy.f32 (expoW (amax (vr k)))) _ = _
  rw [he, in_lane _ (by omega), select_if]
  by_cases h : 8 ≤ j.val ∧ j.val < 11
  · rw [if_pos h, if_pos h]
    show (((BitVec.ofInt 32 (ve k)).toInt : ℝ) : EReal) = _
    have e1 := h1 k
    have e2 := h2 k
    rw [BitVec.toInt_ofInt, Int.bmod_eq_of_le (by omega) (by omega)]
  · rw [if_neg h, if_neg h]

end Cert.KernelIdeal.Gen

end
-- ==== Proof.Dot.lean ====
module

public import proofs.«01_k».proof.Proof.Softmax
public import Mathlib.Algebra.BigOperators.Fin

/-! One score: the product of a key's row with a query's column, both with the added places. -/

@[expose] public section

noncomputable section

namespace Cert.Attn

/-- What the keys' table holds at place `j` of key `k`. -/
def extR (k j : ℕ) : ℝ :=
  if j < 3 then 64 * ((k / 64 : ℕ) : ℝ) else if 4 ≤ j ∧ j < 7 then 1 else if 11 ≤ j ∧ j < 14 then ((k % 64 : ℕ) : ℝ) else 0

/-- What the queries' table holds at row `j` of tile `i` for a head of slope `s`. -/
def biasR (s : ℝ) (i j : ℕ) : ℝ :=
  if j = 0 ∨ j = 11 then s * Real.sqrt 128
  else if j = 4 then -(s * Real.sqrt 128) * (64 * (i : ℝ))
  else if j = 8 then Real.sqrt 128 * Real.log 2 else 0

/-- The score of key `k` in tile `i`, before the scaling to powers of two. -/
def scoreR (q κ : Fin 128 → ℝ) (s : ℝ) (i k : ℕ) (e : ℤ) : ℝ :=
  (∑ d, κ d * q d) + (s * Real.sqrt 128 * ((k : ℝ) - 64 * (i : ℝ)) + Real.sqrt 128 * Real.log 2 * e)

theorem ext_bias (s : ℝ) (i k : ℕ) (e : ℤ) :
    ∑ j : Fin 128, (if 8 ≤ j.val ∧ j.val < 11 then (e : ℝ) else extR k j.val) * (if j.val < 16 then biasR s i j.val else 0)
      = s * Real.sqrt 128 * ((k : ℝ) - 64 * (i : ℝ)) + Real.sqrt 128 * Real.log 2 * e := by
  have h : ∀ j : Fin 128, (if 8 ≤ j.val ∧ j.val < 11 then (e : ℝ) else extR k j.val) * (if j.val < 16 then biasR s i j.val else 0)
      = (if j = 0 then 64 * ((k / 64 : ℕ) : ℝ) * (s * Real.sqrt 128) else 0)
        + (if j = 4 then -(s * Real.sqrt 128) * (64 * (i : ℝ)) else 0)
        + (if j = 8 then (e : ℝ) * (Real.sqrt 128 * Real.log 2) else 0)
        + (if j = 11 then ((k % 64 : ℕ) : ℝ) * (s * Real.sqrt 128) else 0) := by
    intro j
    by_cases h0 : j = 0
    · subst h0; simp [extR, biasR]
    by_cases h4 : j = 4
    · subst h4; simp [extR, biasR]
    by_cases h8 : j = 8
    · subst h8; simp [biasR]
    by_cases h11 : j = 11
    · subst h11; simp [extR, biasR]
    have e0 : ¬ j.val = 0 := fun h => h0 (Fin.ext h)
    have e4 : ¬ j.val = 4 := fun h => h4 (Fin.ext h)
    have e8 : ¬ j.val = 8 := fun h => h8 (Fin.ext h)
    have e11 : ¬ j.val = 11 := fun h => h11 (Fin.ext h)
    have hb : (if j.val < 16 then biasR s i j.val else 0) = 0 := by
      unfold biasR
      simp only [e0, e4, e8, e11, or_self, if_false, ite_self]
    rw [hb, if_neg h0, if_neg h4, if_neg h8, if_neg h11]
    ring
  simp only [h, Finset.sum_add_distrib, Finset.sum_ite_eq', Finset.mem_univ, if_true]
  have hk : (k : ℝ) = 64 * ((k / 64 : ℕ) : ℝ) + ((k % 64 : ℕ) : ℝ) := by
    have := Nat.div_add_mod k 64
    exact_mod_cast this.symm
  rw [hk]
  have h1 : (64 * ((k / 64 : ℕ) : ℝ) + ((k % 64 : ℕ) : ℝ)) / 1 = 64 * ((k / 64 : ℕ) : ℝ) + ((k % 64 : ℕ) : ℝ) := by ring
  ring

/-- A key's row times a query's column. -/
theorem dot_val (K Q : Fin 256 → EReal) (q κ : Fin 128 → ℝ) (s : ℝ) (i k : ℕ) (e : ℤ)
    (hK0 : ∀ d : Fin 128, K ⟨d.val, by omega⟩ = ((κ d : ℝ) : EReal))
    (hK1 : ∀ j : Fin 128, K ⟨128 + j.val, by omega⟩ = if 8 ≤ j.val ∧ j.val < 11 then ((e : ℝ) : EReal) else ((extR k j.val : ℝ) : EReal))
    (hQ0 : ∀ d : Fin 128, Q ⟨d.val, by omega⟩ = ((q d : ℝ) : EReal))
    (hQ1 : ∀ j : Fin 16, Q ⟨128 + j.val, by omega⟩ = ((biasR s i j.val : ℝ) : EReal)) :
    ∑ x, K x * Q x = ((scoreR q κ s i k e : ℝ) : EReal) := by
  have hs : ∑ x, K x * Q x = ∑ d : Fin 128, K ⟨d.val, by omega⟩ * Q ⟨d.val, by omega⟩
      + ∑ j : Fin 128, K ⟨128 + j.val, by omega⟩ * Q ⟨128 + j.val, by omega⟩ :=
    Fin.sum_univ_add (a := 128) (b := 128) (fun x : Fin (128 + 128) => K x * Q x)
  have h0 : ∑ d : Fin 128, K ⟨d.val, by omega⟩ * Q ⟨d.val, by omega⟩ = ((∑ d, κ d * q d : ℝ) : EReal) := by
    rw [← coe_sum]
    exact Finset.sum_congr rfl fun d _ => by rw [hK0, hQ0, EReal.coe_mul]
  have h1 : ∑ j : Fin 128, K ⟨128 + j.val, by omega⟩ * Q ⟨128 + j.val, by omega⟩
      = ((∑ j : Fin 128, (if 8 ≤ j.val ∧ j.val < 11 then (e : ℝ) else extR k j.val) * (if j.val < 16 then biasR s i j.val else 0) : ℝ) : EReal) := by
    rw [← coe_sum]
    refine Finset.sum_congr rfl fun j _ => ?_
    rw [hK1]
    by_cases hj : j.val < 16
    · rw [hQ1 ⟨j.val, hj⟩, if_pos hj]
      split_ifs <;> rw [EReal.coe_mul]
    · have hz : extR k j.val = 0 := by
        unfold extR
        rw [if_neg (by omega), if_neg (by omega), if_neg (by omega)]
      rw [if_neg hj, if_neg (by omega), hz]
      simp
  rw [hs, h0, h1, ext_bias, ← EReal.coe_add]
  rfl

theorem score_log2 (q κ : Fin 128 → ℝ) (s : ℝ) (i k : ℕ) (e : ℤ) :
    scoreR q κ s i k e * cst = ((∑ d, κ d * q d) / Real.sqrt 128 + s * ((k : ℝ) - 64 * (i : ℝ))) / Real.log 2 + e := by
  unfold scoreR cst
  have h1 : Real.sqrt 128 ≠ 0 := by positivity
  have h2 : Real.log 2 ≠ 0 := (Real.log_pos (by norm_num)).ne'
  field_simp
  ring

/-- One entry of the attention of a group of heads: query `s` of head `j / 128` against the keys up to `s`. -/
def attK (kr vr : Fin 896 → Fin 128 → ℝ) (xr : Fin 896 → Fin 512 → ℝ) (sl : Fin 4 → ℝ) (s : Fin 896) (h : Fin 4) (d : Fin 128) : ℝ :=
  wmean (fun k : Fin 896 => k.val ≤ s.val)
    (fun k => (∑ d' : Fin 128, kr k d' * xr s ⟨128 * h.val + d'.val, by omega⟩) / Real.sqrt 128 - sl h * ((s.val : ℝ) - (k.val : ℝ)))
    (fun k => vr k d)

/-- The tile's column as an entry of the attention. -/
theorem tile_att (n i : ℕ) (hn : n ≤ 896) (hi : n = 64 * i + 64) (kr vr : Fin 896 → Fin 128 → ℝ) (xr : Fin 896 → Fin 512 → ℝ) (sl : Fin 4 → ℝ)
    (h : Fin 4) (r : ℕ) (hr : r < 64) (d : Fin 128) :
    wmean (fun k : Fin n => k.val ≤ 64 * i + r)
      (fun k => (∑ d' : Fin 128, kr (Fin.castLE hn k) d' * xr ⟨64 * i + r, by omega⟩ ⟨128 * h.val + d'.val, by omega⟩) / Real.sqrt 128
        + sl h * ((k.val : ℝ) - 64 * (i : ℝ)))
      (fun k => vr (Fin.castLE hn k) d)
      = attK kr vr xr sl ⟨64 * i + r, by omega⟩ h d := by
  unfold attK
  rw [← wmean_castLE hn (fun k : Fin 896 => k.val ≤ 64 * i + r) (fun k hk => by omega)]
  refine wmean_shift _ _ _ _ (sl h * (r : ℝ)) fun k _ => ?_
  push_cast
  simp only [Fin.val_castLE]
  ring

end Cert.Attn

end
-- ==== Proof.KBlk.lean ====
module

public import proofs.«01_k».proof.Proof.KFrame
public import proofs.«01_k».proof.Proof.KOps
public import Idealize.ShloMosaic.Lib.Pipeline.ValueKit.Tiles
public import Idealize.ShloMosaic.Lib.Pointwise
public import proofs.«01_k».proof.Proof.KAt
public import proofs.«01_k».proof.Proof.KStage
public import proofs.«01_k».proof.Proof.Dot

/-! The block of `out` that a grid point leaves, from what its input blocks hold. -/

@[expose] public section

set_option maxRecDepth 16384

noncomputable section

namespace Cert.KernelIdeal.Gen

open Idealize.ShloMosaic Cert.Attn
open Pointwise

variable (m : (ℓ : Loc nD τ sig) → Buf (Elt Ideal) ℓ) (c : Dev nD) (t : Fin cfg0.N)

variable (kr vr : Fin 896 → Fin 128 → ℝ) (xr : Fin 896 → Fin 512 → ℝ) (sl : Fin 4 → ℝ)

/-- What the blocks of the inputs hold at a grid point: keys, values and queries below `2 ^ 128`, and the two tables. -/
structure BlockVals : Prop where
  hx : ∀ (s : Fin 896) (j : Fin 512), (iblk m c 0 t : S1x896x512.Idx → Elt Ideal .bf16) (ix3 0 s j) = ((xr s j : ℝ) : EReal)
  hk : ∀ (k : Fin 896) (d : Fin 128), (iblk m c 1 t : S1x896x128.Idx → Elt Ideal .bf16) (ix3 0 k d) = ((kr k d : ℝ) : EReal)
  hv : ∀ (k : Fin 896) (d : Fin 128), (iblk m c 2 t : S1x896x128.Idx → Elt Ideal .bf16) (ix3 0 k d) = ((vr k d : ℝ) : EReal)
  he : ∀ (k : Fin 896) (j : Fin 128), (iblk m c 3 t : S896x128.Idx → Elt Ideal .bf16) (ix2 k j) = ((extR k.val j.val : ℝ) : EReal)
  hb : ∀ (i : Fin 14) (j : Fin 16) (q : Fin 256), (iblk m c 4 t : S1x14x16x256.Idx → Elt Ideal .bf16) (ix4 0 i j q)
    = ((biasR (sl ⟨q.val / 64, by omega⟩) i.val j.val : ℝ) : EReal)
  bx : ∀ s j, |xr s j| < (2 : ℝ) ^ (128 : ℤ)
  bk : ∀ k d, |kr k d| < (2 : ℝ) ^ (128 : ℤ)
  bv : ∀ k d, |vr k d| < (2 : ℝ) ^ (128 : ℤ)

variable {m c t kr vr xr sl}

theorem keysB_at (B : BlockVals m c t kr vr xr sl) (k : Fin 896) (d : Fin 128) : keysB m c t (ix3 0 k d) = ((kr k d : ℝ) : EReal) := by
  unfold keysB
  refine (View.ld_unit_apply_of (Val := Elt Ideal) (S := S1x896x128) _ ![0, 0, 0] _ _ (ix3 0 k d) (ix3 0 k d) (fun a => by fin_cases a <;> simp)).trans ?_
  exact B.hk k d

theorem valsB_at (B : BlockVals m c t kr vr xr sl) (k : Fin 896) (d : Fin 128) : valsB m c t (ix3 0 k d) = ((vr k d : ℝ) : EReal) := by
  unfold valsB
  refine (View.ld_unit_apply_of (Val := Elt Ideal) (S := S1x896x128) _ ![0, 0, 0] _ _ (ix3 0 k d) (ix3 0 k d) (fun a => by fin_cases a <;> simp)).trans ?_
  exact B.hv k d

theorem extB_at (B : BlockVals m c t kr vr xr sl) (k : Fin 896) (j : Fin 128) : extB m c t (ix2 k j) = ((extR k.val j.val : ℝ) : EReal) := by
  unfold extB
  refine (View.ld_unit_apply_of (Val := Elt Ideal) (S := S896x128) _ ![0, 0] _ _ (ix2 k j) (ix2 k j) (fun a => by fin_cases a <;> simp)).trans ?_
  exact B.he k j

/-- A head's rows of one tile, as the kernel loads them. -/
theorem xs_at (B : BlockVals m c t kr vr xr sl) (i h : ℕ) (inb) (r : Fin 64) (d : Fin 128) (hr : 64 * i + r.val < 896) (hd : 128 * h + d.val < 512) :
    View.ld (iblk m c 0 t) (Rect.unit (s := S1x896x512) ![0, 64 * i, 128 * h] S1x64x128.size inb) (ix3 0 r d)
      = ((xr ⟨64 * i + r.val, hr⟩ ⟨128 * h + d.val, hd⟩ : ℝ) : EReal) := by
  refine (View.ld_unit_apply_of (Val := Elt Ideal) (S := S1x896x512) _ ![0, 64 * i, 128 * h] _ _ (ix3 0 r d)
    (ix3 0 ⟨64 * i + r.val, hr⟩ ⟨128 * h + d.val, hd⟩) (fun a => by fin_cases a <;> simp)).trans ?_
  exact B.hx _ _

/-- The attention's entry at an index of the block. -/
def attG (kr vr : Fin 896 → Fin 128 → ℝ) (xr : Fin 896 → Fin 512 → ℝ) (sl : Fin 4 → ℝ) (y : S1x896x512.Idx) : Elt Ideal .bf16 :=
  ((attK kr vr xr sl (y 1) ⟨(y 2).val / 128, by have : (y 2).val < 512 := (y 2).isLt; omega⟩ ⟨(y 2).val % 128, by omega⟩ : ℝ) : EReal)

theorem attG_at (s : Fin 896) (h : Fin 4) (d : Fin 128) :
    attG kr vr xr sl (ix3 0 s ⟨128 * h.val + d.val, by omega⟩) = ((attK kr vr xr sl s h d : ℝ) : EReal) := by
  unfold attG
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  show ((attK kr vr xr sl s ⟨(128 * h.val + d.val) / 128, _⟩ ⟨(128 * h.val + d.val) % 128, _⟩ : ℝ) : EReal) = _
  rw [e1, e2]

/-- The queries of tile `i`, one row for each of its columns. -/
def xqR (xr : Fin 896 → Fin 512 → ℝ) (i : ℕ) (hi : i < 14) (q : Fin 256) (d : Fin 128) : ℝ :=
  xr ⟨64 * i + q.val % 64, by omega⟩ ⟨128 * (q.val / 64) + d.val, by omega⟩

theorem xqR_at (i h : ℕ) (hi : i < 14) (hh : h < 4) (r : Fin 64) (d : Fin 128) :
    xr ⟨64 * i + r.val, by omega⟩ ⟨128 * h + d.val, by omega⟩ = xqR xr i hi ⟨64 * h + r.val, by omega⟩ d := by
  unfold xqR
  have e1 : (⟨64 * i + (64 * h + r.val) % 64, by omega⟩ : Fin 896) = ⟨64 * i + r.val, by omega⟩ := Fin.ext (by show 64 * i + (64 * h + r.val) % 64 = 64 * i + r.val; omega)
  have e2 : (⟨128 * ((64 * h + r.val) / 64) + d.val, by omega⟩ : Fin 512) = ⟨128 * h + d.val, by omega⟩ := Fin.ext (by show 128 * ((64 * h + r.val) / 64) + d.val = 128 * h + d.val; omega)
  exact (congrArg₂ xr e1 e2).symm

theorem xsT64_at (B : BlockVals m c t kr vr xr sl) (q : Fin 256) (d : Fin 128) :
    xsT64 m c t (ix2 q d) = ((xqR xr 0 (by norm_num) q d : ℝ) : EReal) := by
  unfold xsT64
  exact cat_at _ _ _ _ (xqR xr 0 (by norm_num))
    (fun r d => (xs_at B 0 0 _ r d (by omega) (by omega)).trans (congrArg _ ((xqR_at 0 0 (by norm_num) (by norm_num) r d).trans (congrArg (fun z => xqR xr 0 (by norm_num) z d) (Fin.ext (by show 64 * 0 + r.val = r.val; omega))))))
    (fun r d => (xs_at B 0 1 _ r d (by omega) (by omega)).trans (congrArg _ ((xqR_at 0 1 (by norm_num) (by norm_num) r d).trans (congrArg (fun z => xqR xr 0 (by norm_num) z d) (Fin.ext (by show 64 * 1 + r.val = 64 + r.val; omega))))))
    (fun r d => (xs_at B 0 2 _ r d (by omega) (by omega)).trans (congrArg _ ((xqR_at 0 2 (by norm_num) (by norm_num) r d).trans (congrArg (fun z => xqR xr 0 (by norm_num) z d) (Fin.ext (by show 64 * 2 + r.val = 128 + r.val; omega))))))
    (fun r d => (xs_at B 0 3 _ r d (by omega) (by omega)).trans (congrArg _ ((xqR_at 0 3 (by norm_num) (by norm_num) r d).trans (congrArg (fun z => xqR xr 0 (by norm_num) z d) (Fin.ext (by show 64 * 3 + r.val = 192 + r.val; omega)))))) q d

theorem bsT64_at (B : BlockVals m c t kr vr xr sl) (j : Fin 16) (q : Fin 256) :
    bsT64 m c t (ix4 0 0 j q) = ((biasR (sl ⟨q.val / 64, by omega⟩) 0 j.val : ℝ) : EReal) := by
  unfold bsT64
  refine (View.ld_unit_apply_of (Val := Elt Ideal) (S := S1x14x16x256) _ ![0, 0, 0, 0] _ _ (ix4 0 0 j q) (ix4 0 0 j q) (fun a => by fin_cases a <;> simp)).trans ?_
  exact B.hb 0 j q

theorem tile64_is (B : BlockVals m c t kr vr xr sl) : TileIs64 m c t (attG kr vr xr sl) := by
  intro q d
  choose ve h1 h2 he hc using fun k => amax_spec (n := 128) (by norm_num) (vr k) (B.bv k)
  have hq := col_64 (kxT64 m c t) (qxT64 m c t) (viT64 m c t) (vtT64 m c t) q d
    (fun k => scoreR (xqR xr 0 (by norm_num) q) (kr (Fin.castLE (by norm_num) k)) (sl ⟨q.val / 64, by omega⟩) 0 k.val (ve (Fin.castLE (by norm_num) k)))
    _ (fun k => vr (Fin.castLE (by norm_num) k) d) (fun k => ve (Fin.castLE (by norm_num) k)) (fun k => h1 _) (fun k => h2 _)
    (fun k => score_log2 _ _ _ 0 k.val _)
    (fun k => dot_val (fun x => kxT64 m c t (ix2 k x)) (fun x => qxT64 m c t (ix2 x q)) _ _ _ 0 k.val _
      (fun d' => (kxT64_at m c t k _).trans ((dif_pos d'.isLt).trans (kxL_at _ kr (keysB_at B) B.bk _ _)))
      (fun j => (kxT64_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT64_lo m c t d' q).trans (mxQ_at _ _ (xsT64_at B) (fun k d => B.bx _ _) q d'))
      (fun j => (qxT64_mid m c t j q).trans ((bias_at _ q j).trans (bsT64_at B j q))))
    (fun k j => (viT64_at m c t k j).trans (vinv_at _ vr (valsB_at B) ve h1 h2 he _ j))
    (fun k => (vtT64_at m c t _ d).trans (vt_at _ vr (valsB_at B) ve h1 h2 he hc _ d))
  refine hq.trans ?_
  refine Eq.trans ?_ (attG_at ⟨0 + q.val % 64, by omega⟩ ⟨q.val / 64, by omega⟩ d).symm
  exact congrArg _ (tile_att 64 0 (by norm_num) (by norm_num) kr vr xr sl ⟨q.val / 64, by omega⟩ (q.val % 64) (by omega) d)

theorem xsT128_at (B : BlockVals m c t kr vr xr sl) (q : Fin 256) (d : Fin 128) :
    xsT128 m c t (ix2 q d) = ((xqR xr 1 (by norm_num) q d : ℝ) : EReal) := by
  unfold xsT128
  exact cat_at _ _ _ _ (xqR xr 1 (by norm_num))
    (fun r d => (xs_at B 1 0 _ r d (by omega) (by omega)).trans (congrArg _ ((xqR_at 1 0 (by norm_num) (by norm_num) r d).trans (congrArg (fun z => xqR xr 1 (by norm_num) z d) (Fin.ext (by show 64 * 0 + r.val = r.val; omega))))))
    (fun r d => (xs_at B 1 1 _ r d (by omega) (by omega)).trans (congrArg _ ((xqR_at 1 1 (by norm_num) (by norm_num) r d).trans (congrArg (fun z => xqR xr 1 (by norm_num) z d) (Fin.ext (by show 64 * 1 + r.val = 64 + r.val; omega))))))
    (fun r d => (xs_at B 1 2 _ r d (by omega) (by omega)).trans (congrArg _ ((xqR_at 1 2 (by norm_num) (by norm_num) r d).trans (congrArg (fun z => xqR xr 1 (by norm_num) z d) (Fin.ext (by show 64 * 2 + r.val = 128 + r.val; omega))))))
    (fun r d => (xs_at B 1 3 _ r d (by omega) (by omega)).trans (congrArg _ ((xqR_at 1 3 (by norm_num) (by norm_num) r d).trans (congrArg (fun z => xqR xr 1 (by norm_num) z d) (Fin.ext (by show 64 * 3 + r.val = 192 + r.val; omega)))))) q d

theorem bsT128_at (B : BlockVals m c t kr vr xr sl) (j : Fin 16) (q : Fin 256) :
    bsT128 m c t (ix4 0 0 j q) = ((biasR (sl ⟨q.val / 64, by omega⟩) 1 j.val : ℝ) : EReal) := by
  unfold bsT128
  refine (View.ld_unit_apply_of (Val := Elt Ideal) (S := S1x14x16x256) _ ![0, 1, 0, 0] _ _ (ix4 0 0 j q) (ix4 0 1 j q) (fun a => by fin_cases a <;> simp)).trans ?_
  exact B.hb 1 j q

theorem tile128_is (B : BlockVals m c t kr vr xr sl) : TileIs128 m c t (attG kr vr xr sl) := by
  intro q d
  choose ve h1 h2 he hc using fun k => amax_spec (n := 128) (by norm_num) (vr k) (B.bv k)
  have hq := col_128 (kxT128 m c t) (qxT128 m c t) (viT128 m c t) (vtT128 m c t) q d
    (fun k => scoreR (xqR xr 1 (by norm_num) q) (kr (Fin.castLE (by norm_num) k)) (sl ⟨q.val / 64, by omega⟩) 1 k.val (ve (Fin.castLE (by norm_num) k)))
    _ (fun k => vr (Fin.castLE (by norm_num) k) d) (fun k => ve (Fin.castLE (by norm_num) k)) (fun k => h1 _) (fun k => h2 _)
    (fun k => score_log2 _ _ _ 1 k.val _)
    (fun k => dot_val (fun x => kxT128 m c t (ix2 k x)) (fun x => qxT128 m c t (ix2 x q)) _ _ _ 1 k.val _
      (fun d' => (kxT128_at m c t k _).trans ((dif_pos d'.isLt).trans (kxL_at _ kr (keysB_at B) B.bk _ _)))
      (fun j => (kxT128_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT128_lo m c t d' q).trans (mxQ_at _ _ (xsT128_at B) (fun k d => B.bx _ _) q d'))
      (fun j => (qxT128_mid m c t j q).trans ((bias_at _ q j).trans (bsT128_at B j q))))
    (fun k j => (viT128_at m c t k j).trans (vinv_at _ vr (valsB_at B) ve h1 h2 he _ j))
    (fun k => (vtT128_at m c t _ d).trans (vt_at _ vr (valsB_at B) ve h1 h2 he hc _ d))
  refine hq.trans ?_
  refine Eq.trans ?_ (attG_at ⟨64 + q.val % 64, by omega⟩ ⟨q.val / 64, by omega⟩ d).symm
  exact congrArg _ (tile_att 128 1 (by norm_num) (by norm_num) kr vr xr sl ⟨q.val / 64, by omega⟩ (q.val % 64) (by omega) d)

theorem xsT192_at (B : BlockVals m c t kr vr xr sl) (q : Fin 256) (d : Fin 128) :
    xsT192 m c t (ix2 q d) = ((xqR xr 2 (by norm_num) q d : ℝ) : EReal) := by
  unfold xsT192
  exact cat_at _ _ _ _ (xqR xr 2 (by norm_num))
    (fun r d => (xs_at B 2 0 _ r d (by omega) (by omega)).trans (congrArg _ ((xqR_at 2 0 (by norm_num) (by norm_num) r d).trans (congrArg (fun z => xqR xr 2 (by norm_num) z d) (Fin.ext (by show 64 * 0 + r.val = r.val; omega))))))
    (fun r d => (xs_at B 2 1 _ r d (by omega) (by omega)).trans (congrArg _ ((xqR_at 2 1 (by norm_num) (by norm_num) r d).trans (congrArg (fun z => xqR xr 2 (by norm_num) z d) (Fin.ext (by show 64 * 1 + r.val = 64 + r.val; omega))))))
    (fun r d => (xs_at B 2 2 _ r d (by omega) (by omega)).trans (congrArg _ ((xqR_at 2 2 (by norm_num) (by norm_num) r d).trans (congrArg (fun z => xqR xr 2 (by norm_num) z d) (Fin.ext (by show 64 * 2 + r.val = 128 + r.val; omega))))))
    (fun r d => (xs_at B 2 3 _ r d (by omega) (by omega)).trans (congrArg _ ((xqR_at 2 3 (by norm_num) (by norm_num) r d).trans (congrArg (fun z => xqR xr 2 (by norm_num) z d) (Fin.ext (by show 64 * 3 + r.val = 192 + r.val; omega)))))) q d

theorem bsT192_at (B : BlockVals m c t kr vr xr sl) (j : Fin 16) (q : Fin 256) :
    bsT192 m c t (ix4 0 0 j q) = ((biasR (sl ⟨q.val / 64, by omega⟩) 2 j.val : ℝ) : EReal) := by
  unfold bsT192
  refine (View.ld_unit_apply_of (Val := Elt Ideal) (S := S1x14x16x256) _ ![0, 2, 0, 0] _ _ (ix4 0 0 j q) (ix4 0 2 j q) (fun a => by fin_cases a <;> simp)).trans ?_
  exact B.hb 2 j q

theorem tile192_is (B : BlockVals m c t kr vr xr sl) : TileIs192 m c t (attG kr vr xr sl) := by
  intro q d
  choose ve h1 h2 he hc using fun k => amax_spec (n := 128) (by norm_num) (vr k) (B.bv k)
  have hq := col_192 (kxT192 m c t) (qxT192 m c t) (viT192 m c t) (vtT192 m c t) q d
    (fun k => scoreR (xqR xr 2 (by norm_num) q) (kr (Fin.castLE (by norm_num) k)) (sl ⟨q.val / 64, by omega⟩) 2 k.val (ve (Fin.castLE (by norm_num) k)))
    _ (fun k => vr (Fin.castLE (by norm_num) k) d) (fun k => ve (Fin.castLE (by norm_num) k)) (fun k => h1 _) (fun k => h2 _)
    (fun k => score_log2 _ _ _ 2 k.val _)
    (fun k => dot_val (fun x => kxT192 m c t (ix2 k x)) (fun x => qxT192 m c t (ix2 x q)) _ _ _ 2 k.val _
      (fun d' => (kxT192_at m c t k _).trans ((dif_pos d'.isLt).trans (kxL_at _ kr (keysB_at B) B.bk _ _)))
      (fun j => (kxT192_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT192_lo m c t d' q).trans (mxQ_at _ _ (xsT192_at B) (fun k d => B.bx _ _) q d'))
      (fun j => (qxT192_mid m c t j q).trans ((bias_at _ q j).trans (bsT192_at B j q))))
    (fun k j => (viT192_at m c t k j).trans (vinv_at _ vr (valsB_at B) ve h1 h2 he _ j))
    (fun k => (vtT192_at m c t _ d).trans (vt_at _ vr (valsB_at B) ve h1 h2 he hc _ d))
  refine hq.trans ?_
  refine Eq.trans ?_ (attG_at ⟨128 + q.val % 64, by omega⟩ ⟨q.val / 64, by omega⟩ d).symm
  exact congrArg _ (tile_att 192 2 (by norm_num) (by norm_num) kr vr xr sl ⟨q.val / 64, by omega⟩ (q.val % 64) (by omega) d)

theorem xsT256_at (B : BlockVals m c t kr vr xr sl) (q : Fin 256) (d : Fin 128) :
    xsT256 m c t (ix2 q d) = ((xqR xr 3 (by norm_num) q d : ℝ) : EReal) := by
  unfold xsT256
  exact cat_at _ _ _ _ (xqR xr 3 (by norm_num))
    (fun r d => (xs_at B 3 0 _ r d (by omega) (by omega)).trans (congrArg _ ((xqR_at 3 0 (by norm_num) (by norm_num) r d).trans (congrArg (fun z => xqR xr 3 (by norm_num) z d) (Fin.ext (by show 64 * 0 + r.val = r.val; omega))))))
    (fun r d => (xs_at B 3 1 _ r d (by omega) (by omega)).trans (congrArg _ ((xqR_at 3 1 (by norm_num) (by norm_num) r d).trans (congrArg (fun z => xqR xr 3 (by norm_num) z d) (Fin.ext (by show 64 * 1 + r.val = 64 + r.val; omega))))))
    (fun r d => (xs_at B 3 2 _ r d (by omega) (by omega)).trans (congrArg _ ((xqR_at 3 2 (by norm_num) (by norm_num) r d).trans (congrArg (fun z => xqR xr 3 (by norm_num) z d) (Fin.ext (by show 64 * 2 + r.val = 128 + r.val; omega))))))
    (fun r d => (xs_at B 3 3 _ r d (by omega) (by omega)).trans (congrArg _ ((xqR_at 3 3 (by norm_num) (by norm_num) r d).trans (congrArg (fun z => xqR xr 3 (by norm_num) z d) (Fin.ext (by show 64 * 3 + r.val = 192 + r.val; omega)))))) q d

theorem bsT256_at (B : BlockVals m c t kr vr xr sl) (j : Fin 16) (q : Fin 256) :
    bsT256 m c t (ix4 0 0 j q) = ((biasR (sl ⟨q.val / 64, by omega⟩) 3 j.val : ℝ) : EReal) := by
  unfold bsT256
  refine (View.ld_unit_apply_of (Val := Elt Ideal) (S := S1x14x16x256) _ ![0, 3, 0, 0] _ _ (ix4 0 0 j q) (ix4 0 3 j q) (fun a => by fin_cases a <;> simp)).trans ?_
  exact B.hb 3 j q

theorem tile256_is (B : BlockVals m c t kr vr xr sl) : TileIs256 m c t (attG kr vr xr sl) := by
  intro q d
  choose ve h1 h2 he hc using fun k => amax_spec (n := 128) (by norm_num) (vr k) (B.bv k)
  have hq := col_256 (kxT256 m c t) (qxT256 m c t) (viT256 m c t) (vtT256 m c t) q d
    (fun k => scoreR (xqR xr 3 (by norm_num) q) (kr (Fin.castLE (by norm_num) k)) (sl ⟨q.val / 64, by omega⟩) 3 k.val (ve (Fin.castLE (by norm_num) k)))
    _ (fun k => vr (Fin.castLE (by norm_num) k) d) (fun k => ve (Fin.castLE (by norm_num) k)) (fun k => h1 _) (fun k => h2 _)
    (fun k => score_log2 _ _ _ 3 k.val _)
    (fun k => dot_val (fun x => kxT256 m c t (ix2 k x)) (fun x => qxT256 m c t (ix2 x q)) _ _ _ 3 k.val _
      (fun d' => (kxT256_at m c t k _).trans ((dif_pos d'.isLt).trans (kxL_at _ kr (keysB_at B) B.bk _ _)))
      (fun j => (kxT256_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT256_lo m c t d' q).trans (mxQ_at _ _ (xsT256_at B) (fun k d => B.bx _ _) q d'))
      (fun j => (qxT256_mid m c t j q).trans ((bias_at _ q j).trans (bsT256_at B j q))))
    (fun k j => (viT256_at m c t k j).trans (vinv_at _ vr (valsB_at B) ve h1 h2 he _ j))
    (fun k => (vtT256_at m c t _ d).trans (vt_at _ vr (valsB_at B) ve h1 h2 he hc _ d))
  refine hq.trans ?_
  refine Eq.trans ?_ (attG_at ⟨192 + q.val % 64, by omega⟩ ⟨q.val / 64, by omega⟩ d).symm
  exact congrArg _ (tile_att 256 3 (by norm_num) (by norm_num) kr vr xr sl ⟨q.val / 64, by omega⟩ (q.val % 64) (by omega) d)

theorem xsT320_at (B : BlockVals m c t kr vr xr sl) (q : Fin 256) (d : Fin 128) :
    xsT320 m c t (ix2 q d) = ((xqR xr 4 (by norm_num) q d : ℝ) : EReal) := by
  unfold xsT320
  exact cat_at _ _ _ _ (xqR xr 4 (by norm_num))
    (fun r d => (xs_at B 4 0 _ r d (by omega) (by omega)).trans (congrArg _ ((xqR_at 4 0 (by norm_num) (by norm_num) r d).trans (congrArg (fun z => xqR xr 4 (by norm_num) z d) (Fin.ext (by show 64 * 0 + r.val = r.val; omega))))))
    (fun r d => (xs_at B 4 1 _ r d (by omega) (by omega)).trans (congrArg _ ((xqR_at 4 1 (by norm_num) (by norm_num) r d).trans (congrArg (fun z => xqR xr 4 (by norm_num) z d) (Fin.ext (by show 64 * 1 + r.val = 64 + r.val; omega))))))
    (fun r d => (xs_at B 4 2 _ r d (by omega) (by omega)).trans (congrArg _ ((xqR_at 4 2 (by norm_num) (by norm_num) r d).trans (congrArg (fun z => xqR xr 4 (by norm_num) z d) (Fin.ext (by show 64 * 2 + r.val = 128 + r.val; omega))))))
    (fun r d => (xs_at B 4 3 _ r d (by omega) (by omega)).trans (congrArg _ ((xqR_at 4 3 (by norm_num) (by norm_num) r d).trans (congrArg (fun z => xqR xr 4 (by norm_num) z d) (Fin.ext (by show 64 * 3 + r.val = 192 + r.val; omega)))))) q d

theorem bsT320_at (B : BlockVals m c t kr vr xr sl) (j : Fin 16) (q : Fin 256) :
    bsT320 m c t (ix4 0 0 j q) = ((biasR (sl ⟨q.val / 64, by omega⟩) 4 j.val : ℝ) : EReal) := by
  unfold bsT320
  refine (View.ld_unit_apply_of (Val := Elt Ideal) (S := S1x14x16x256) _ ![0, 4, 0, 0] _ _ (ix4 0 0 j q) (ix4 0 4 j q) (fun a => by fin_cases a <;> simp)).trans ?_
  exact B.hb 4 j q

theorem tile320_is (B : BlockVals m c t kr vr xr sl) : TileIs320 m c t (attG kr vr xr sl) := by
  intro q d
  choose ve h1 h2 he hc using fun k => amax_spec (n := 128) (by norm_num) (vr k) (B.bv k)
  have hq := col_320 (kxT320 m c t) (qxT320 m c t) (viT320 m c t) (vtT320 m c t) q d
    (fun k => scoreR (xqR xr 4 (by norm_num) q) (kr (Fin.castLE (by norm_num) k)) (sl ⟨q.val / 64, by omega⟩) 4 k.val (ve (Fin.castLE (by norm_num) k)))
    _ (fun k => vr (Fin.castLE (by norm_num) k) d) (fun k => ve (Fin.castLE (by norm_num) k)) (fun k => h1 _) (fun k => h2 _)
    (fun k => score_log2 _ _ _ 4 k.val _)
    (fun k => dot_val (fun x => kxT320 m c t (ix2 k x)) (fun x => qxT320 m c t (ix2 x q)) _ _ _ 4 k.val _
      (fun d' => (kxT320_at m c t k _).trans ((dif_pos d'.isLt).trans (kxL_at _ kr (keysB_at B) B.bk _ _)))
      (fun j => (kxT320_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT320_lo m c t d' q).trans (mxQ_at _ _ (xsT320_at B) (fun k d => B.bx _ _) q d'))
      (fun j => (qxT320_mid m c t j q).trans ((bias_at _ q j).trans (bsT320_at B j q))))
    (fun k j => (viT320_at m c t k j).trans (vinv_at _ vr (valsB_at B) ve h1 h2 he _ j))
    (fun k => (vtT320_at m c t _ d).trans (vt_at _ vr (valsB_at B) ve h1 h2 he hc _ d))
  refine hq.trans ?_
  refine Eq.trans ?_ (attG_at ⟨256 + q.val % 64, by omega⟩ ⟨q.val / 64, by omega⟩ d).symm
  exact congrArg _ (tile_att 320 4 (by norm_num) (by norm_num) kr vr xr sl ⟨q.val / 64, by omega⟩ (q.val % 64) (by omega) d)

theorem xsT384_at (B : BlockVals m c t kr vr xr sl) (q : Fin 256) (d : Fin 128) :
    xsT384 m c t (ix2 q d) = ((xqR xr 5 (by norm_num) q d : ℝ) : EReal) := by
  unfold xsT384
  exact cat_at _ _ _ _ (xqR xr 5 (by norm_num))
    (fun r d => (xs_at B 5 0 _ r d (by omega) (by omega)).trans (congrArg _ ((xqR_at 5 0 (by norm_num) (by norm_num) r d).trans (congrArg (fun z => xqR xr 5 (by norm_num) z d) (Fin.ext (by show 64 * 0 + r.val = r.val; omega))))))
    (fun r d => (xs_at B 5 1 _ r d (by omega) (by omega)).trans (congrArg _ ((xqR_at 5 1 (by norm_num) (by norm_num) r d).trans (congrArg (fun z => xqR xr 5 (by norm_num) z d) (Fin.ext (by show 64 * 1 + r.val = 64 + r.val; omega))))))
    (fun r d => (xs_at B 5 2 _ r d (by omega) (by omega)).trans (congrArg _ ((xqR_at 5 2 (by norm_num) (by norm_num) r d).trans (congrArg (fun z => xqR xr 5 (by norm_num) z d) (Fin.ext (by show 64 * 2 + r.val = 128 + r.val; omega))))))
    (fun r d => (xs_at B 5 3 _ r d (by omega) (by omega)).trans (congrArg _ ((xqR_at 5 3 (by norm_num) (by norm_num) r d).trans (congrArg (fun z => xqR xr 5 (by norm_num) z d) (Fin.ext (by show 64 * 3 + r.val = 192 + r.val; omega)))))) q d

theorem bsT384_at (B : BlockVals m c t kr vr xr sl) (j : Fin 16) (q : Fin 256) :
    bsT384 m c t (ix4 0 0 j q) = ((biasR (sl ⟨q.val / 64, by omega⟩) 5 j.val : ℝ) : EReal) := by
  unfold bsT384
  refine (View.ld_unit_apply_of (Val := Elt Ideal) (S := S1x14x16x256) _ ![0, 5, 0, 0] _ _ (ix4 0 0 j q) (ix4 0 5 j q) (fun a => by fin_cases a <;> simp)).trans ?_
  exact B.hb 5 j q

theorem tile384_is (B : BlockVals m c t kr vr xr sl) : TileIs384 m c t (attG kr vr xr sl) := by
  intro q d
  choose ve h1 h2 he hc using fun k => amax_spec (n := 128) (by norm_num) (vr k) (B.bv k)
  have hq := col_384 (kxT384 m c t) (qxT384 m c t) (viT384 m c t) (vtT384 m c t) q d
    (fun k => scoreR (xqR xr 5 (by norm_num) q) (kr (Fin.castLE (by norm_num) k)) (sl ⟨q.val / 64, by omega⟩) 5 k.val (ve (Fin.castLE (by norm_num) k)))
    _ (fun k => vr (Fin.castLE (by norm_num) k) d) (fun k => ve (Fin.castLE (by norm_num) k)) (fun k => h1 _) (fun k => h2 _)
    (fun k => score_log2 _ _ _ 5 k.val _)
    (fun k => dot_val (fun x => kxT384 m c t (ix2 k x)) (fun x => qxT384 m c t (ix2 x q)) _ _ _ 5 k.val _
      (fun d' => (kxT384_at m c t k _).trans ((dif_pos d'.isLt).trans (kxL_at _ kr (keysB_at B) B.bk _ _)))
      (fun j => (kxT384_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT384_lo m c t d' q).trans (mxQ_at _ _ (xsT384_at B) (fun k d => B.bx _ _) q d'))
      (fun j => (qxT384_mid m c t j q).trans ((bias_at _ q j).trans (bsT384_at B j q))))
    (fun k j => (viT384_at m c t k j).trans (vinv_at _ vr (valsB_at B) ve h1 h2 he _ j))
    (fun k => (vtT384_at m c t _ d).trans (vt_at _ vr (valsB_at B) ve h1 h2 he hc _ d))
  refine hq.trans ?_
  refine Eq.trans ?_ (attG_at ⟨320 + q.val % 64, by omega⟩ ⟨q.val / 64, by omega⟩ d).symm
  exact congrArg _ (tile_att 384 5 (by norm_num) (by norm_num) kr vr xr sl ⟨q.val / 64, by omega⟩ (q.val % 64) (by omega) d)

theorem xsT448_at (B : BlockVals m c t kr vr xr sl) (q : Fin 256) (d : Fin 128) :
    xsT448 m c t (ix2 q d) = ((xqR xr 6 (by norm_num) q d : ℝ) : EReal) := by
  unfold xsT448
  exact cat_at _ _ _ _ (xqR xr 6 (by norm_num))
    (fun r d => (xs_at B 6 0 _ r d (by omega) (by omega)).trans (congrArg _ ((xqR_at 6 0 (by norm_num) (by norm_num) r d).trans (congrArg (fun z => xqR xr 6 (by norm_num) z d) (Fin.ext (by show 64 * 0 + r.val = r.val; omega))))))
    (fun r d => (xs_at B 6 1 _ r d (by omega) (by omega)).trans (congrArg _ ((xqR_at 6 1 (by norm_num) (by norm_num) r d).trans (congrArg (fun z => xqR xr 6 (by norm_num) z d) (Fin.ext (by show 64 * 1 + r.val = 64 + r.val; omega))))))
    (fun r d => (xs_at B 6 2 _ r d (by omega) (by omega)).trans (congrArg _ ((xqR_at 6 2 (by norm_num) (by norm_num) r d).trans (congrArg (fun z => xqR xr 6 (by norm_num) z d) (Fin.ext (by show 64 * 2 + r.val = 128 + r.val; omega))))))
    (fun r d => (xs_at B 6 3 _ r d (by omega) (by omega)).trans (congrArg _ ((xqR_at 6 3 (by norm_num) (by norm_num) r d).trans (congrArg (fun z => xqR xr 6 (by norm_num) z d) (Fin.ext (by show 64 * 3 + r.val = 192 + r.val; omega)))))) q d

theorem bsT448_at (B : BlockVals m c t kr vr xr sl) (j : Fin 16) (q : Fin 256) :
    bsT448 m c t (ix4 0 0 j q) = ((biasR (sl ⟨q.val / 64, by omega⟩) 6 j.val : ℝ) : EReal) := by
  unfold bsT448
  refine (View.ld_unit_apply_of (Val := Elt Ideal) (S := S1x14x16x256) _ ![0, 6, 0, 0] _ _ (ix4 0 0 j q) (ix4 0 6 j q) (fun a => by fin_cases a <;> simp)).trans ?_
  exact B.hb 6 j q

theorem tile448_is (B : BlockVals m c t kr vr xr sl) : TileIs448 m c t (attG kr vr xr sl) := by
  intro q d
  choose ve h1 h2 he hc using fun k => amax_spec (n := 128) (by norm_num) (vr k) (B.bv k)
  have hq := col_448 (kxT448 m c t) (qxT448 m c t) (viT448 m c t) (vtT448 m c t) q d
    (fun k => scoreR (xqR xr 6 (by norm_num) q) (kr (Fin.castLE (by norm_num) k)) (sl ⟨q.val / 64, by omega⟩) 6 k.val (ve (Fin.castLE (by norm_num) k)))
    _ (fun k => vr (Fin.castLE (by norm_num) k) d) (fun k => ve (Fin.castLE (by norm_num) k)) (fun k => h1 _) (fun k => h2 _)
    (fun k => score_log2 _ _ _ 6 k.val _)
    (fun k => dot_val (fun x => kxT448 m c t (ix2 k x)) (fun x => qxT448 m c t (ix2 x q)) _ _ _ 6 k.val _
      (fun d' => (kxT448_at m c t k _).trans ((dif_pos d'.isLt).trans (kxL_at _ kr (keysB_at B) B.bk _ _)))
      (fun j => (kxT448_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT448_lo m c t d' q).trans (mxQ_at _ _ (xsT448_at B) (fun k d => B.bx _ _) q d'))
      (fun j => (qxT448_mid m c t j q).trans ((bias_at _ q j).trans (bsT448_at B j q))))
    (fun k j => (viT448_at m c t k j).trans (vinv_at _ vr (valsB_at B) ve h1 h2 he _ j))
    (fun k => (vtT448_at m c t _ d).trans (vt_at _ vr (valsB_at B) ve h1 h2 he hc _ d))
  refine hq.trans ?_
  refine Eq.trans ?_ (attG_at ⟨384 + q.val % 64, by omega⟩ ⟨q.val / 64, by omega⟩ d).symm
  exact congrArg _ (tile_att 448 6 (by norm_num) (by norm_num) kr vr xr sl ⟨q.val / 64, by omega⟩ (q.val % 64) (by omega) d)

theorem xsT512_at (B : BlockVals m c t kr vr xr sl) (q : Fin 256) (d : Fin 128) :
    xsT512 m c t (ix2 q d) = ((xqR xr 7 (by norm_num) q d : ℝ) : EReal) := by
  unfold xsT512
  exact cat_at _ _ _ _ (xqR xr 7 (by norm_num))
    (fun r d => (xs_at B 7 0 _ r d (by omega) (by omega)).trans (congrArg _ ((xqR_at 7 0 (by norm_num) (by norm_num) r d).trans (congrArg (fun z => xqR xr 7 (by norm_num) z d) (Fin.ext (by show 64 * 0 + r.val = r.val; omega))))))
    (fun r d => (xs_at B 7 1 _ r d (by omega) (by omega)).trans (congrArg _ ((xqR_at 7 1 (by norm_num) (by norm_num) r d).trans (congrArg (fun z => xqR xr 7 (by norm_num) z d) (Fin.ext (by show 64 * 1 + r.val = 64 + r.val; omega))))))
    (fun r d => (xs_at B 7 2 _ r d (by omega) (by omega)).trans (congrArg _ ((xqR_at 7 2 (by norm_num) (by norm_num) r d).trans (congrArg (fun z => xqR xr 7 (by norm_num) z d) (Fin.ext (by show 64 * 2 + r.val = 128 + r.val; omega))))))
    (fun r d => (xs_at B 7 3 _ r d (by omega) (by omega)).trans (congrArg _ ((xqR_at 7 3 (by norm_num) (by norm_num) r d).trans (congrArg (fun z => xqR xr 7 (by norm_num) z d) (Fin.ext (by show 64 * 3 + r.val = 192 + r.val; omega)))))) q d

theorem bsT512_at (B : BlockVals m c t kr vr xr sl) (j : Fin 16) (q : Fin 256) :
    bsT512 m c t (ix4 0 0 j q) = ((biasR (sl ⟨q.val / 64, by omega⟩) 7 j.val : ℝ) : EReal) := by
  unfold bsT512
  refine (View.ld_unit_apply_of (Val := Elt Ideal) (S := S1x14x16x256) _ ![0, 7, 0, 0] _ _ (ix4 0 0 j q) (ix4 0 7 j q) (fun a => by fin_cases a <;> simp)).trans ?_
  exact B.hb 7 j q

theorem tile512_is (B : BlockVals m c t kr vr xr sl) : TileIs512 m c t (attG kr vr xr sl) := by
  intro q d
  choose ve h1 h2 he hc using fun k => amax_spec (n := 128) (by norm_num) (vr k) (B.bv k)
  have hq := col_512 (kxT512 m c t) (qxT512 m c t) (viT512 m c t) (vtT512 m c t) q d
    (fun k => scoreR (xqR xr 7 (by norm_num) q) (kr (Fin.castLE (by norm_num) k)) (sl ⟨q.val / 64, by omega⟩) 7 k.val (ve (Fin.castLE (by norm_num) k)))
    _ (fun k => vr (Fin.castLE (by norm_num) k) d) (fun k => ve (Fin.castLE (by norm_num) k)) (fun k => h1 _) (fun k => h2 _)
    (fun k => score_log2 _ _ _ 7 k.val _)
    (fun k => dot_val (fun x => kxT512 m c t (ix2 k x)) (fun x => qxT512 m c t (ix2 x q)) _ _ _ 7 k.val _
      (fun d' => (kxT512_at m c t k _).trans ((dif_pos d'.isLt).trans (kxL_at _ kr (keysB_at B) B.bk _ _)))
      (fun j => (kxT512_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT512_lo m c t d' q).trans (mxQ_at _ _ (xsT512_at B) (fun k d => B.bx _ _) q d'))
      (fun j => (qxT512_mid m c t j q).trans ((bias_at _ q j).trans (bsT512_at B j q))))
    (fun k j => (viT512_at m c t k j).trans (vinv_at _ vr (valsB_at B) ve h1 h2 he _ j))
    (fun k => (vtT512_at m c t _ d).trans (vt_at _ vr (valsB_at B) ve h1 h2 he hc _ d))
  refine hq.trans ?_
  refine Eq.trans ?_ (attG_at ⟨448 + q.val % 64, by omega⟩ ⟨q.val / 64, by omega⟩ d).symm
  exact congrArg _ (tile_att 512 7 (by norm_num) (by norm_num) kr vr xr sl ⟨q.val / 64, by omega⟩ (q.val % 64) (by omega) d)

theorem xsT576_at (B : BlockVals m c t kr vr xr sl) (q : Fin 256) (d : Fin 128) :
    xsT576 m c t (ix2 q d) = ((xqR xr 8 (by norm_num) q d : ℝ) : EReal) := by
  unfold xsT576
  exact cat_at _ _ _ _ (xqR xr 8 (by norm_num))
    (fun r d => (xs_at B 8 0 _ r d (by omega) (by omega)).trans (congrArg _ ((xqR_at 8 0 (by norm_num) (by norm_num) r d).trans (congrArg (fun z => xqR xr 8 (by norm_num) z d) (Fin.ext (by show 64 * 0 + r.val = r.val; omega))))))
    (fun r d => (xs_at B 8 1 _ r d (by omega) (by omega)).trans (congrArg _ ((xqR_at 8 1 (by norm_num) (by norm_num) r d).trans (congrArg (fun z => xqR xr 8 (by norm_num) z d) (Fin.ext (by show 64 * 1 + r.val = 64 + r.val; omega))))))
    (fun r d => (xs_at B 8 2 _ r d (by omega) (by omega)).trans (congrArg _ ((xqR_at 8 2 (by norm_num) (by norm_num) r d).trans (congrArg (fun z => xqR xr 8 (by norm_num) z d) (Fin.ext (by show 64 * 2 + r.val = 128 + r.val; omega))))))
    (fun r d => (xs_at B 8 3 _ r d (by omega) (by omega)).trans (congrArg _ ((xqR_at 8 3 (by norm_num) (by norm_num) r d).trans (congrArg (fun z => xqR xr 8 (by norm_num) z d) (Fin.ext (by show 64 * 3 + r.val = 192 + r.val; omega)))))) q d

theorem bsT576_at (B : BlockVals m c t kr vr xr sl) (j : Fin 16) (q : Fin 256) :
    bsT576 m c t (ix4 0 0 j q) = ((biasR (sl ⟨q.val / 64, by omega⟩) 8 j.val : ℝ) : EReal) := by
  unfold bsT576
  refine (View.ld_unit_apply_of (Val := Elt Ideal) (S := S1x14x16x256) _ ![0, 8, 0, 0] _ _ (ix4 0 0 j q) (ix4 0 8 j q) (fun a => by fin_cases a <;> simp)).trans ?_
  exact B.hb 8 j q

theorem tile576_is (B : BlockVals m c t kr vr xr sl) : TileIs576 m c t (attG kr vr xr sl) := by
  intro q d
  choose ve h1 h2 he hc using fun k => amax_spec (n := 128) (by norm_num) (vr k) (B.bv k)
  have hq := col_576 (kxT576 m c t) (qxT576 m c t) (viT576 m c t) (vtT576 m c t) q d
    (fun k => scoreR (xqR xr 8 (by norm_num) q) (kr (Fin.castLE (by norm_num) k)) (sl ⟨q.val / 64, by omega⟩) 8 k.val (ve (Fin.castLE (by norm_num) k)))
    _ (fun k => vr (Fin.castLE (by norm_num) k) d) (fun k => ve (Fin.castLE (by norm_num) k)) (fun k => h1 _) (fun k => h2 _)
    (fun k => score_log2 _ _ _ 8 k.val _)
    (fun k => dot_val (fun x => kxT576 m c t (ix2 k x)) (fun x => qxT576 m c t (ix2 x q)) _ _ _ 8 k.val _
      (fun d' => (kxT576_at m c t k _).trans ((dif_pos d'.isLt).trans (kxL_at _ kr (keysB_at B) B.bk _ _)))
      (fun j => (kxT576_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT576_lo m c t d' q).trans (mxQ_at _ _ (xsT576_at B) (fun k d => B.bx _ _) q d'))
      (fun j => (qxT576_mid m c t j q).trans ((bias_at _ q j).trans (bsT576_at B j q))))
    (fun k j => (viT576_at m c t k j).trans (vinv_at _ vr (valsB_at B) ve h1 h2 he _ j))
    (fun k => (vtT576_at m c t _ d).trans (vt_at _ vr (valsB_at B) ve h1 h2 he hc _ d))
  refine hq.trans ?_
  refine Eq.trans ?_ (attG_at ⟨512 + q.val % 64, by omega⟩ ⟨q.val / 64, by omega⟩ d).symm
  exact congrArg _ (tile_att 576 8 (by norm_num) (by norm_num) kr vr xr sl ⟨q.val / 64, by omega⟩ (q.val % 64) (by omega) d)

theorem xsT640_at (B : BlockVals m c t kr vr xr sl) (q : Fin 256) (d : Fin 128) :
    xsT640 m c t (ix2 q d) = ((xqR xr 9 (by norm_num) q d : ℝ) : EReal) := by
  unfold xsT640
  exact cat_at _ _ _ _ (xqR xr 9 (by norm_num))
    (fun r d => (xs_at B 9 0 _ r d (by omega) (by omega)).trans (congrArg _ ((xqR_at 9 0 (by norm_num) (by norm_num) r d).trans (congrArg (fun z => xqR xr 9 (by norm_num) z d) (Fin.ext (by show 64 * 0 + r.val = r.val; omega))))))
    (fun r d => (xs_at B 9 1 _ r d (by omega) (by omega)).trans (congrArg _ ((xqR_at 9 1 (by norm_num) (by norm_num) r d).trans (congrArg (fun z => xqR xr 9 (by norm_num) z d) (Fin.ext (by show 64 * 1 + r.val = 64 + r.val; omega))))))
    (fun r d => (xs_at B 9 2 _ r d (by omega) (by omega)).trans (congrArg _ ((xqR_at 9 2 (by norm_num) (by norm_num) r d).trans (congrArg (fun z => xqR xr 9 (by norm_num) z d) (Fin.ext (by show 64 * 2 + r.val = 128 + r.val; omega))))))
    (fun r d => (xs_at B 9 3 _ r d (by omega) (by omega)).trans (congrArg _ ((xqR_at 9 3 (by norm_num) (by norm_num) r d).trans (congrArg (fun z => xqR xr 9 (by norm_num) z d) (Fin.ext (by show 64 * 3 + r.val = 192 + r.val; omega)))))) q d

theorem bsT640_at (B : BlockVals m c t kr vr xr sl) (j : Fin 16) (q : Fin 256) :
    bsT640 m c t (ix4 0 0 j q) = ((biasR (sl ⟨q.val / 64, by omega⟩) 9 j.val : ℝ) : EReal) := by
  unfold bsT640
  refine (View.ld_unit_apply_of (Val := Elt Ideal) (S := S1x14x16x256) _ ![0, 9, 0, 0] _ _ (ix4 0 0 j q) (ix4 0 9 j q) (fun a => by fin_cases a <;> simp)).trans ?_
  exact B.hb 9 j q

theorem tile640_is (B : BlockVals m c t kr vr xr sl) : TileIs640 m c t (attG kr vr xr sl) := by
  intro q d
  choose ve h1 h2 he hc using fun k => amax_spec (n := 128) (by norm_num) (vr k) (B.bv k)
  have hq := col_640 (kxT640 m c t) (qxT640 m c t) (viT640 m c t) (vtT640 m c t) q d
    (fun k => scoreR (xqR xr 9 (by norm_num) q) (kr (Fin.castLE (by norm_num) k)) (sl ⟨q.val / 64, by omega⟩) 9 k.val (ve (Fin.castLE (by norm_num) k)))
    _ (fun k => vr (Fin.castLE (by norm_num) k) d) (fun k => ve (Fin.castLE (by norm_num) k)) (fun k => h1 _) (fun k => h2 _)
    (fun k => score_log2 _ _ _ 9 k.val _)
    (fun k => dot_val (fun x => kxT640 m c t (ix2 k x)) (fun x => qxT640 m c t (ix2 x q)) _ _ _ 9 k.val _
      (fun d' => (kxT640_at m c t k _).trans ((dif_pos d'.isLt).trans (kxL_at _ kr (keysB_at B) B.bk _ _)))
      (fun j => (kxT640_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT640_lo m c t d' q).trans (mxQ_at _ _ (xsT640_at B) (fun k d => B.bx _ _) q d'))
      (fun j => (qxT640_mid m c t j q).trans ((bias_at _ q j).trans (bsT640_at B j q))))
    (fun k j => (viT640_at m c t k j).trans (vinv_at _ vr (valsB_at B) ve h1 h2 he _ j))
    (fun k => (vtT640_at m c t _ d).trans (vt_at _ vr (valsB_at B) ve h1 h2 he hc _ d))
  refine hq.trans ?_
  refine Eq.trans ?_ (attG_at ⟨576 + q.val % 64, by omega⟩ ⟨q.val / 64, by omega⟩ d).symm
  exact congrArg _ (tile_att 640 9 (by norm_num) (by norm_num) kr vr xr sl ⟨q.val / 64, by omega⟩ (q.val % 64) (by omega) d)

theorem xsT704_at (B : BlockVals m c t kr vr xr sl) (q : Fin 256) (d : Fin 128) :
    xsT704 m c t (ix2 q d) = ((xqR xr 10 (by norm_num) q d : ℝ) : EReal) := by
  unfold xsT704
  exact cat_at _ _ _ _ (xqR xr 10 (by norm_num))
    (fun r d => (xs_at B 10 0 _ r d (by omega) (by omega)).trans (congrArg _ ((xqR_at 10 0 (by norm_num) (by norm_num) r d).trans (congrArg (fun z => xqR xr 10 (by norm_num) z d) (Fin.ext (by show 64 * 0 + r.val = r.val; omega))))))
    (fun r d => (xs_at B 10 1 _ r d (by omega) (by omega)).trans (congrArg _ ((xqR_at 10 1 (by norm_num) (by norm_num) r d).trans (congrArg (fun z => xqR xr 10 (by norm_num) z d) (Fin.ext (by show 64 * 1 + r.val = 64 + r.val; omega))))))
    (fun r d => (xs_at B 10 2 _ r d (by omega) (by omega)).trans (congrArg _ ((xqR_at 10 2 (by norm_num) (by norm_num) r d).trans (congrArg (fun z => xqR xr 10 (by norm_num) z d) (Fin.ext (by show 64 * 2 + r.val = 128 + r.val; omega))))))
    (fun r d => (xs_at B 10 3 _ r d (by omega) (by omega)).trans (congrArg _ ((xqR_at 10 3 (by norm_num) (by norm_num) r d).trans (congrArg (fun z => xqR xr 10 (by norm_num) z d) (Fin.ext (by show 64 * 3 + r.val = 192 + r.val; omega)))))) q d

theorem bsT704_at (B : BlockVals m c t kr vr xr sl) (j : Fin 16) (q : Fin 256) :
    bsT704 m c t (ix4 0 0 j q) = ((biasR (sl ⟨q.val / 64, by omega⟩) 10 j.val : ℝ) : EReal) := by
  unfold bsT704
  refine (View.ld_unit_apply_of (Val := Elt Ideal) (S := S1x14x16x256) _ ![0, 10, 0, 0] _ _ (ix4 0 0 j q) (ix4 0 10 j q) (fun a => by fin_cases a <;> simp)).trans ?_
  exact B.hb 10 j q

theorem tile704_is (B : BlockVals m c t kr vr xr sl) : TileIs704 m c t (attG kr vr xr sl) := by
  intro q d
  choose ve h1 h2 he hc using fun k => amax_spec (n := 128) (by norm_num) (vr k) (B.bv k)
  have hq := col_704 (kxT704 m c t) (qxT704 m c t) (viT704 m c t) (vtT704 m c t) q d
    (fun k => scoreR (xqR xr 10 (by norm_num) q) (kr (Fin.castLE (by norm_num) k)) (sl ⟨q.val / 64, by omega⟩) 10 k.val (ve (Fin.castLE (by norm_num) k)))
    _ (fun k => vr (Fin.castLE (by norm_num) k) d) (fun k => ve (Fin.castLE (by norm_num) k)) (fun k => h1 _) (fun k => h2 _)
    (fun k => score_log2 _ _ _ 10 k.val _)
    (fun k => dot_val (fun x => kxT704 m c t (ix2 k x)) (fun x => qxT704 m c t (ix2 x q)) _ _ _ 10 k.val _
      (fun d' => (kxT704_at m c t k _).trans ((dif_pos d'.isLt).trans (kxL_at _ kr (keysB_at B) B.bk _ _)))
      (fun j => (kxT704_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT704_lo m c t d' q).trans (mxQ_at _ _ (xsT704_at B) (fun k d => B.bx _ _) q d'))
      (fun j => (qxT704_mid m c t j q).trans ((bias_at _ q j).trans (bsT704_at B j q))))
    (fun k j => (viT704_at m c t k j).trans (vinv_at _ vr (valsB_at B) ve h1 h2 he _ j))
    (fun k => (vtT704_at m c t _ d).trans (vt_at _ vr (valsB_at B) ve h1 h2 he hc _ d))
  refine hq.trans ?_
  refine Eq.trans ?_ (attG_at ⟨640 + q.val % 64, by omega⟩ ⟨q.val / 64, by omega⟩ d).symm
  exact congrArg _ (tile_att 704 10 (by norm_num) (by norm_num) kr vr xr sl ⟨q.val / 64, by omega⟩ (q.val % 64) (by omega) d)

theorem xsT768_at (B : BlockVals m c t kr vr xr sl) (q : Fin 256) (d : Fin 128) :
    xsT768 m c t (ix2 q d) = ((xqR xr 11 (by norm_num) q d : ℝ) : EReal) := by
  unfold xsT768
  exact cat_at _ _ _ _ (xqR xr 11 (by norm_num))
    (fun r d => (xs_at B 11 0 _ r d (by omega) (by omega)).trans (congrArg _ ((xqR_at 11 0 (by norm_num) (by norm_num) r d).trans (congrArg (fun z => xqR xr 11 (by norm_num) z d) (Fin.ext (by show 64 * 0 + r.val = r.val; omega))))))
    (fun r d => (xs_at B 11 1 _ r d (by omega) (by omega)).trans (congrArg _ ((xqR_at 11 1 (by norm_num) (by norm_num) r d).trans (congrArg (fun z => xqR xr 11 (by norm_num) z d) (Fin.ext (by show 64 * 1 + r.val = 64 + r.val; omega))))))
    (fun r d => (xs_at B 11 2 _ r d (by omega) (by omega)).trans (congrArg _ ((xqR_at 11 2 (by norm_num) (by norm_num) r d).trans (congrArg (fun z => xqR xr 11 (by norm_num) z d) (Fin.ext (by show 64 * 2 + r.val = 128 + r.val; omega))))))
    (fun r d => (xs_at B 11 3 _ r d (by omega) (by omega)).trans (congrArg _ ((xqR_at 11 3 (by norm_num) (by norm_num) r d).trans (congrArg (fun z => xqR xr 11 (by norm_num) z d) (Fin.ext (by show 64 * 3 + r.val = 192 + r.val; omega)))))) q d

theorem bsT768_at (B : BlockVals m c t kr vr xr sl) (j : Fin 16) (q : Fin 256) :
    bsT768 m c t (ix4 0 0 j q) = ((biasR (sl ⟨q.val / 64, by omega⟩) 11 j.val : ℝ) : EReal) := by
  unfold bsT768
  refine (View.ld_unit_apply_of (Val := Elt Ideal) (S := S1x14x16x256) _ ![0, 11, 0, 0] _ _ (ix4 0 0 j q) (ix4 0 11 j q) (fun a => by fin_cases a <;> simp)).trans ?_
  exact B.hb 11 j q

theorem tile768_is (B : BlockVals m c t kr vr xr sl) : TileIs768 m c t (attG kr vr xr sl) := by
  intro q d
  choose ve h1 h2 he hc using fun k => amax_spec (n := 128) (by norm_num) (vr k) (B.bv k)
  have hq := col_768 (kxT768 m c t) (qxT768 m c t) (viT768 m c t) (vtT768 m c t) q d
    (fun k => scoreR (xqR xr 11 (by norm_num) q) (kr (Fin.castLE (by norm_num) k)) (sl ⟨q.val / 64, by omega⟩) 11 k.val (ve (Fin.castLE (by norm_num) k)))
    _ (fun k => vr (Fin.castLE (by norm_num) k) d) (fun k => ve (Fin.castLE (by norm_num) k)) (fun k => h1 _) (fun k => h2 _)
    (fun k => score_log2 _ _ _ 11 k.val _)
    (fun k => dot_val (fun x => kxT768 m c t (ix2 k x)) (fun x => qxT768 m c t (ix2 x q)) _ _ _ 11 k.val _
      (fun d' => (kxT768_at m c t k _).trans ((dif_pos d'.isLt).trans (kxL_at _ kr (keysB_at B) B.bk _ _)))
      (fun j => (kxT768_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT768_lo m c t d' q).trans (mxQ_at _ _ (xsT768_at B) (fun k d => B.bx _ _) q d'))
      (fun j => (qxT768_mid m c t j q).trans ((bias_at _ q j).trans (bsT768_at B j q))))
    (fun k j => (viT768_at m c t k j).trans (vinv_at _ vr (valsB_at B) ve h1 h2 he _ j))
    (fun k => (vtT768_at m c t _ d).trans (vt_at _ vr (valsB_at B) ve h1 h2 he hc _ d))
  refine hq.trans ?_
  refine Eq.trans ?_ (attG_at ⟨704 + q.val % 64, by omega⟩ ⟨q.val / 64, by omega⟩ d).symm
  exact congrArg _ (tile_att 768 11 (by norm_num) (by norm_num) kr vr xr sl ⟨q.val / 64, by omega⟩ (q.val % 64) (by omega) d)

theorem xsT832_at (B : BlockVals m c t kr vr xr sl) (q : Fin 256) (d : Fin 128) :
    xsT832 m c t (ix2 q d) = ((xqR xr 12 (by norm_num) q d : ℝ) : EReal) := by
  unfold xsT832
  exact cat_at _ _ _ _ (xqR xr 12 (by norm_num))
    (fun r d => (xs_at B 12 0 _ r d (by omega) (by omega)).trans (congrArg _ ((xqR_at 12 0 (by norm_num) (by norm_num) r d).trans (congrArg (fun z => xqR xr 12 (by norm_num) z d) (Fin.ext (by show 64 * 0 + r.val = r.val; omega))))))
    (fun r d => (xs_at B 12 1 _ r d (by omega) (by omega)).trans (congrArg _ ((xqR_at 12 1 (by norm_num) (by norm_num) r d).trans (congrArg (fun z => xqR xr 12 (by norm_num) z d) (Fin.ext (by show 64 * 1 + r.val = 64 + r.val; omega))))))
    (fun r d => (xs_at B 12 2 _ r d (by omega) (by omega)).trans (congrArg _ ((xqR_at 12 2 (by norm_num) (by norm_num) r d).trans (congrArg (fun z => xqR xr 12 (by norm_num) z d) (Fin.ext (by show 64 * 2 + r.val = 128 + r.val; omega))))))
    (fun r d => (xs_at B 12 3 _ r d (by omega) (by omega)).trans (congrArg _ ((xqR_at 12 3 (by norm_num) (by norm_num) r d).trans (congrArg (fun z => xqR xr 12 (by norm_num) z d) (Fin.ext (by show 64 * 3 + r.val = 192 + r.val; omega)))))) q d

theorem bsT832_at (B : BlockVals m c t kr vr xr sl) (j : Fin 16) (q : Fin 256) :
    bsT832 m c t (ix4 0 0 j q) = ((biasR (sl ⟨q.val / 64, by omega⟩) 12 j.val : ℝ) : EReal) := by
  unfold bsT832
  refine (View.ld_unit_apply_of (Val := Elt Ideal) (S := S1x14x16x256) _ ![0, 12, 0, 0] _ _ (ix4 0 0 j q) (ix4 0 12 j q) (fun a => by fin_cases a <;> simp)).trans ?_
  exact B.hb 12 j q

theorem tile832_is (B : BlockVals m c t kr vr xr sl) : TileIs832 m c t (attG kr vr xr sl) := by
  intro q d
  choose ve h1 h2 he hc using fun k => amax_spec (n := 128) (by norm_num) (vr k) (B.bv k)
  have hq := col_832 (kxT832 m c t) (qxT832 m c t) (viT832 m c t) (vtT832 m c t) q d
    (fun k => scoreR (xqR xr 12 (by norm_num) q) (kr (Fin.castLE (by norm_num) k)) (sl ⟨q.val / 64, by omega⟩) 12 k.val (ve (Fin.castLE (by norm_num) k)))
    _ (fun k => vr (Fin.castLE (by norm_num) k) d) (fun k => ve (Fin.castLE (by norm_num) k)) (fun k => h1 _) (fun k => h2 _)
    (fun k => score_log2 _ _ _ 12 k.val _)
    (fun k => dot_val (fun x => kxT832 m c t (ix2 k x)) (fun x => qxT832 m c t (ix2 x q)) _ _ _ 12 k.val _
      (fun d' => (kxT832_at m c t k _).trans ((dif_pos d'.isLt).trans (kxL_at _ kr (keysB_at B) B.bk _ _)))
      (fun j => (kxT832_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT832_lo m c t d' q).trans (mxQ_at _ _ (xsT832_at B) (fun k d => B.bx _ _) q d'))
      (fun j => (qxT832_mid m c t j q).trans ((bias_at _ q j).trans (bsT832_at B j q))))
    (fun k j => (viT832_at m c t k j).trans (vinv_at _ vr (valsB_at B) ve h1 h2 he _ j))
    (fun k => (vtT832_at m c t _ d).trans (vt_at _ vr (valsB_at B) ve h1 h2 he hc _ d))
  refine hq.trans ?_
  refine Eq.trans ?_ (attG_at ⟨768 + q.val % 64, by omega⟩ ⟨q.val / 64, by omega⟩ d).symm
  exact congrArg _ (tile_att 832 12 (by norm_num) (by norm_num) kr vr xr sl ⟨q.val / 64, by omega⟩ (q.val % 64) (by omega) d)

theorem xsT896_at (B : BlockVals m c t kr vr xr sl) (q : Fin 256) (d : Fin 128) :
    xsT896 m c t (ix2 q d) = ((xqR xr 13 (by norm_num) q d : ℝ) : EReal) := by
  unfold xsT896
  exact cat_at _ _ _ _ (xqR xr 13 (by norm_num))
    (fun r d => (xs_at B 13 0 _ r d (by omega) (by omega)).trans (congrArg _ ((xqR_at 13 0 (by norm_num) (by norm_num) r d).trans (congrArg (fun z => xqR xr 13 (by norm_num) z d) (Fin.ext (by show 64 * 0 + r.val = r.val; omega))))))
    (fun r d => (xs_at B 13 1 _ r d (by omega) (by omega)).trans (congrArg _ ((xqR_at 13 1 (by norm_num) (by norm_num) r d).trans (congrArg (fun z => xqR xr 13 (by norm_num) z d) (Fin.ext (by show 64 * 1 + r.val = 64 + r.val; omega))))))
    (fun r d => (xs_at B 13 2 _ r d (by omega) (by omega)).trans (congrArg _ ((xqR_at 13 2 (by norm_num) (by norm_num) r d).trans (congrArg (fun z => xqR xr 13 (by norm_num) z d) (Fin.ext (by show 64 * 2 + r.val = 128 + r.val; omega))))))
    (fun r d => (xs_at B 13 3 _ r d (by omega) (by omega)).trans (congrArg _ ((xqR_at 13 3 (by norm_num) (by norm_num) r d).trans (congrArg (fun z => xqR xr 13 (by norm_num) z d) (Fin.ext (by show 64 * 3 + r.val = 192 + r.val; omega)))))) q d

theorem bsT896_at (B : BlockVals m c t kr vr xr sl) (j : Fin 16) (q : Fin 256) :
    bsT896 m c t (ix4 0 0 j q) = ((biasR (sl ⟨q.val / 64, by omega⟩) 13 j.val : ℝ) : EReal) := by
  unfold bsT896
  refine (View.ld_unit_apply_of (Val := Elt Ideal) (S := S1x14x16x256) _ ![0, 13, 0, 0] _ _ (ix4 0 0 j q) (ix4 0 13 j q) (fun a => by fin_cases a <;> simp)).trans ?_
  exact B.hb 13 j q

theorem tile896_is (B : BlockVals m c t kr vr xr sl) : TileIs896 m c t (attG kr vr xr sl) := by
  intro q d
  choose ve h1 h2 he hc using fun k => amax_spec (n := 128) (by norm_num) (vr k) (B.bv k)
  have hq := col_896 (kxT896 m c t) (qxT896 m c t) (viT896 m c t) (vtT896 m c t) q d
    (fun k => scoreR (xqR xr 13 (by norm_num) q) (kr (Fin.castLE (by norm_num) k)) (sl ⟨q.val / 64, by omega⟩) 13 k.val (ve (Fin.castLE (by norm_num) k)))
    _ (fun k => vr (Fin.castLE (by norm_num) k) d) (fun k => ve (Fin.castLE (by norm_num) k)) (fun k => h1 _) (fun k => h2 _)
    (fun k => score_log2 _ _ _ 13 k.val _)
    (fun k => dot_val (fun x => kxT896 m c t (ix2 k x)) (fun x => qxT896 m c t (ix2 x q)) _ _ _ 13 k.val _
      (fun d' => (kxT896_at m c t k _).trans ((dif_pos d'.isLt).trans (kxL_at _ kr (keysB_at B) B.bk _ _)))
      (fun j => (kxT896_at m c t k _).trans ((dif_neg (by simp)).trans (by
        have e1 : (⟨128 + j.val - 128, by omega⟩ : Fin 128) = j := Fin.ext (by show 128 + j.val - 128 = j.val; omega)
        show kxRA (valsB m c t) (extB m c t) (ix2 _ ⟨128 + j.val - 128, _⟩) = _
        rw [e1, kxR_at _ _ vr (valsB_at B) ve h1 h2 he, extB_at B]
        rfl)))
      (fun d' => (qxT896_lo m c t d' q).trans (mxQ_at _ _ (xsT896_at B) (fun k d => B.bx _ _) q d'))
      (fun j => (qxT896_mid m c t j q).trans ((bias_at _ q j).trans (bsT896_at B j q))))
    (fun k j => (viT896_at m c t k j).trans (vinv_at _ vr (valsB_at B) ve h1 h2 he _ j))
    (fun k => (vtT896_at m c t _ d).trans (vt_at _ vr (valsB_at B) ve h1 h2 he hc _ d))
  refine hq.trans ?_
  refine Eq.trans ?_ (attG_at ⟨832 + q.val % 64, by omega⟩ ⟨q.val / 64, by omega⟩ d).symm
  exact congrArg _ (tile_att 896 13 (by norm_num) (by norm_num) kr vr xr sl ⟨q.val / 64, by omega⟩ (q.val % 64) (by omega) d)

/-- The block of `out`. -/
theorem outAt_val (B : BlockVals m c t kr vr xr sl) (y : S1x896x512.Idx) : outAt0_5 m c t y = attG kr vr xr sl y :=
  outAt_of m c t (attG kr vr xr sl) (tile64_is B) (tile128_is B) (tile192_is B) (tile256_is B) (tile320_is B) (tile384_is B) (tile448_is B) (tile512_is B) (tile576_is B) (tile640_is B) (tile704_is B) (tile768_is B) (tile832_is B) (tile896_is B) y

end Cert.KernelIdeal.Gen

end
-- ==== Proof.KTab.lean ====
module

public import proofs.«01_k».proof.Proof.Gen.KernelIdeal.Frame
public import proofs.«01_k».proof.Proof.Dot
public import Idealize.ShloMosaic.Lib.StableHlo.Run
public import Idealize.ShloMosaic.Lib.StableHlo.RunRead
public import Idealize.ShloMosaic.Lib.Pointwise

/-! The two tables the kernel's host part makes, entry by entry. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Cert.Attn Pointwise

section
variable {F : FTy → Type} [FloatOps F] [hN : Named F]

def hv17 : (⟨S896x128, .bf16⟩ : BufTy).Contents (Elt F) :=
  ((truncf .bf16 ((select) ((cmpi .eq) ((broadcastInDim S896x128 ![1] bcast_S128_S896x128_1) (fun i => lit0 (S128.rowMajor i))) ((broadcastInDim S896x128 ![] bcast_S_S896x128) (constantI S_ 32 0#32))) ((sitofp .f32) ((andi) (iotaInDim S896x128 32 0) ((broadcastInDim S896x128 ![] bcast_S_S896x128) (constantI S_ 32 4294967232#32)))) ((select) ((cmpi .eq) ((broadcastInDim S896x128 ![1] bcast_S128_S896x128_1) (fun i => lit0 (S128.rowMajor i))) ((broadcastInDim S896x128 ![] bcast_S_S896x128) (constantI S_ 32 3#32))) ((sitofp .f32) ((andi) (iotaInDim S896x128 32 0) ((broadcastInDim S896x128 ![] bcast_S_S896x128) (constantI S_ 32 63#32)))) ((uitofp .f32) ((cmpi .eq) ((broadcastInDim S896x128 ![1] bcast_S128_S896x128_1) (fun i => lit0 (S128.rowMajor i))) ((broadcastInDim S896x128 ![] bcast_S_S896x128) (constantI S_ 32 1#32)))))) bitsLt_bf16_f32))

def hv35 : (⟨S8x14x16x256, .f32⟩ : BufTy).Contents (Elt F) :=
  ((mulf) ((Host.exp) ((mulf) ((broadcastInDim S8x14x16x256 ![] bcast_S_S8x14x16x256) (constant S_ .f32 0x3F317218#32)) ((mulf) ((broadcastInDim S8x14x16x256 ![] bcast_S_S8x14x16x256) (constant S_ .f32 0xBE800000#32)) ((sitofp .f32) ((addi) ((addi) ((muli) (iotaInDim S8x14x16x256 32 0) ((broadcastInDim S8x14x16x256 ![] bcast_S_S8x14x16x256) (constantI S_ 32 4#32))) ((Host.shrsi) (iotaInDim S8x14x16x256 32 3) ((broadcastInDim S8x14x16x256 ![] bcast_S_S8x14x16x256) (constantI S_ 32 6#32)))) ((broadcastInDim S8x14x16x256 ![] bcast_S_S8x14x16x256) (constantI S_ 32 1#32))))))) ((broadcastInDim S8x14x16x256 ![] bcast_S_S8x14x16x256) ((Host.sqrt) (constant S_ .f32 0x43000000#32))))

def hv53 : (⟨S8x14x16x256, .f32⟩ : BufTy).Contents (Elt F) :=
  ((mulf) ((Host.negf) hv35) ((sitofp .f32) ((muli) (iotaInDim S8x14x16x256 32 1) ((broadcastInDim S8x14x16x256 ![] bcast_S_S8x14x16x256) (constantI S_ 32 64#32)))))

def hv43 : (⟨S8x14x16x256, .f32⟩ : BufTy).Contents (Elt F) :=
  ((broadcastInDim S8x14x16x256 ![] bcast_S_S8x14x16x256) ((mulf) ((Host.sqrt) (constant S_ .f32 0x43000000#32)) ((Host.log) (constant S_ .f32 0x40000000#32))))

def hv59 : (⟨S8x14x16x256, .f32⟩ : BufTy).Contents (Elt F) :=
  ((select) ((ori) ((cmpi .eq) ((broadcastInDim S8x14x16x256 ![2] bcast_S16_S8x14x16x256_2) (fun i => lit1 (S16.rowMajor i))) ((broadcastInDim S8x14x16x256 ![] bcast_S_S8x14x16x256) (constantI S_ 32 0#32))) ((cmpi .eq) ((broadcastInDim S8x14x16x256 ![2] bcast_S16_S8x14x16x256_2) (fun i => lit1 (S16.rowMajor i))) ((broadcastInDim S8x14x16x256 ![] bcast_S_S8x14x16x256) (constantI S_ 32 3#32)))) hv35 ((select) ((cmpi .eq) ((broadcastInDim S8x14x16x256 ![2] bcast_S16_S8x14x16x256_2) (fun i => lit1 (S16.rowMajor i))) ((broadcastInDim S8x14x16x256 ![] bcast_S_S8x14x16x256) (constantI S_ 32 1#32))) hv53 ((select) ((cmpi .eq) ((broadcastInDim S8x14x16x256 ![2] bcast_S16_S8x14x16x256_2) (fun i => lit1 (S16.rowMajor i))) ((broadcastInDim S8x14x16x256 ![] bcast_S_S8x14x16x256) (constantI S_ 32 2#32))) hv43 ((broadcastInDim S8x14x16x256 ![] bcast_S_S8x14x16x256) (constant S_ .f32 0x00000000#32)))))

def hv62 : (⟨S8x14x16x256, .f32⟩ : BufTy).Contents (Elt F) :=
  ((subf) hv59 ((extf .f32 ((truncf .bf16 hv59 bitsLt_bf16_f32)) bitsLt_bf16_f32)))

def hv65 : (⟨S8x14x16x256, .f32⟩ : BufTy).Contents (Elt F) :=
  ((subf) hv62 ((extf .f32 ((truncf .bf16 hv62 bitsLt_bf16_f32)) bitsLt_bf16_f32)))

def hv75 : (⟨S8x14x16x256, .bf16⟩ : BufTy).Contents (Elt F) :=
  ((select) ((cmpi .eq) ((broadcastInDim S8x14x16x256 ![2] bcast_S16_S8x14x16x256_2) (fun i => lit2 (S16.rowMajor i))) ((broadcastInDim S8x14x16x256 ![] bcast_S_S8x14x16x256) (constantI S_ 32 0#32))) ((truncf .bf16 hv59 bitsLt_bf16_f32)) ((select) ((cmpi .eq) ((broadcastInDim S8x14x16x256 ![2] bcast_S16_S8x14x16x256_2) (fun i => lit2 (S16.rowMajor i))) ((broadcastInDim S8x14x16x256 ![] bcast_S_S8x14x16x256) (constantI S_ 32 1#32))) ((truncf .bf16 hv62 bitsLt_bf16_f32)) ((truncf .bf16 hv65 bitsLt_bf16_f32))))

variable (m : (ℓ : Loc nD τ sig) → Buf (Elt F) ℓ) (c : Dev nD)

set_option maxHeartbeats 4000000 in
theorem V_keys : V m c main_v17 = hv17 (F := F) := by
  show StableHlo.after hostOps0 (fun b => m (c, b)) (Proc.devRef .tc main_v17) = _
  after_reads_simp
  rfl

set_option maxHeartbeats 4000000 in
theorem V_queries : V m c main_v75 = hv75 (F := F) := by
  show StableHlo.after hostOps0 (fun b => m (c, b)) (Proc.devRef .tc main_v75) = _
  after_reads_simp
  rfl
end

end Cert.KernelIdeal.Gen

end
-- ==== Proof.KTabI.lean ====
module

public import proofs.«01_k».proof.Proof.KTab
public import proofs.«01_k».proof.Proof.KStage
public import Idealize.ShloMosaic.Lib.Pointwise

/-! The entries of the two tables over the reals. -/

@[expose] public section

set_option maxRecDepth 16384

noncomputable section

namespace Cert.KernelIdeal.Gen

open Idealize.ShloMosaic Cert.Attn Pointwise

theorem rm128 (j : Fin 128) : S128.rowMajor (ix1 j) = j := Fin.ext (Shape.rowMajor_val_one _)
theorem rm16 (j : Fin 16) : S16.rowMajor (ix1 j) = j := Fin.ext (Shape.rowMajor_val_one _)

theorem lit0_val : ∀ j : Fin 128, lit0 j = if j.val < 3 then 0#32 else if 4 ≤ j.val ∧ j.val < 7 then 1#32
    else if 8 ≤ j.val ∧ j.val < 11 then 2#32 else if 11 ≤ j.val ∧ j.val < 14 then 3#32 else 4#32 := by
  decide +kernel

theorem keys_tile : ∀ k : Fin 896, (IntOp.andi (BitVec.ofNat 32 k.val) 4294967232#32).toInt = ((64 * (k.val / 64) : ℕ) : ℤ) := by
  decide +kernel

theorem keys_off : ∀ k : Fin 896, (IntOp.andi (BitVec.ofNat 32 k.val) 63#32).toInt = ((k.val % 64 : ℕ) : ℤ) := by
  decide +kernel

theorem head_word : ∀ (g : Fin 8) (q : Fin 256), (IntOp.addi (IntOp.addi (IntOp.muli (BitVec.ofNat 32 g.val) 4#32)
    (IntOp.shrsi ArithUnit.host (BitVec.ofNat 32 q.val) 6#32)) 1#32).toInt = ((4 * g.val + q.val / 64 + 1 : ℕ) : ℤ) := by
  decide +kernel

theorem start_word : ∀ i : Fin 14, (IntOp.muli (BitVec.ofNat 32 i.val) 64#32).toInt = ((64 * i.val : ℕ) : ℤ) := by
  decide +kernel

theorem sitofp_nat (w : BitVec 32) (n : ℕ) (h : w.toInt = (n : ℤ)) :
    FloatOps.sitofp (F := Ideal) FTy.f32 w = ((n : ℝ) : EReal) := by
  show ((w.toInt : ℝ) : EReal) = _
  rw [h]; simp

theorem sel_eq (a b : BitVec 32) {α : Type} (x y : α) :
    Scalar.select (IntOp.cmpi CmpIPredicate.eq a b) x y = if a = b then x else y := by
  unfold Scalar.select IntOp.cmpi
  by_cases h : a = b
  · simp [h]
  · have h' : (a == b) = false := by simpa using h
    rw [if_neg h, if_neg]
    show ¬ BitVec.ofBool (a == b) = 1#1
    rw [h']; decide

theorem keys_at (k : Fin 896) (j : Fin 128) : hv17 (F := Ideal) (ix2 k j) = ((extR k.val j.val : ℝ) : EReal) := by
  pointwise [hv17]
  rw [rm128, sitofp_nat _ _ (keys_tile k), sitofp_nat _ _ (keys_off k), sel_eq, sel_eq, lit0_val]
  unfold extR
  by_cases h1 : j.val < 3
  · simp [h1]
  by_cases h2 : 4 ≤ j.val ∧ j.val < 7
  · simp only [if_neg h1, if_pos h2, show ¬ (1#32 = 0#32) by decide, show ¬ (1#32 = 3#32) by decide, if_false]
    show ((((IntOp.cmpi CmpIPredicate.eq (1#32) (1#32)).toNat : ℝ)) : EReal) = _
    rw [show (IntOp.cmpi CmpIPredicate.eq (1#32) (1#32)).toNat = 1 by decide]; simp
  by_cases h3 : 8 ≤ j.val ∧ j.val < 11
  · have h4 : ¬ (11 ≤ j.val ∧ j.val < 14) := by omega
    simp only [if_neg h1, if_neg h2, if_pos h3, if_neg h4, show ¬ (2#32 = 0#32) by decide, show ¬ (2#32 = 3#32) by decide, if_false]
    show ((((IntOp.cmpi CmpIPredicate.eq (2#32) (1#32)).toNat : ℝ)) : EReal) = _
    rw [show (IntOp.cmpi CmpIPredicate.eq (2#32) (1#32)).toNat = 0 by decide]; simp
  by_cases h4 : 11 ≤ j.val ∧ j.val < 14
  · simp only [if_neg h1, if_neg h2, if_neg h3, if_pos h4, show ¬ (3#32 = 0#32) by decide, if_false, if_true]
  · simp only [if_neg h1, if_neg h2, if_neg h3, if_neg h4, show ¬ (4#32 = 0#32) by decide, show ¬ (4#32 = 3#32) by decide, if_false]
    show ((((IntOp.cmpi CmpIPredicate.eq (4#32) (1#32)).toNat : ℝ)) : EReal) = _
    rw [show (IntOp.cmpi CmpIPredicate.eq (4#32) (1#32)).toNat = 0 by decide]; simp

/-- The logarithm of two, as the programs write it. -/
def logTwo : ℝ := 11629080 * (2 : ℝ) ^ (-24 : ℤ)

/-- The slope of head `H`. -/
def slopeR (H : ℕ) : ℝ := Real.exp (logTwo * (-(1 / 4) * ((H + 1 : ℕ) : ℝ)))

theorem ofBits_logTwo : Ideal.ofBits FTy.f32 1060205080#32 = ((logTwo : ℝ) : EReal) := by
  unfold logTwo
  simp [Ideal.ofBits, Ideal.ieee, -EReal.coe_mul, -EReal.coe_neg]

theorem ofBits_quarter : Ideal.ofBits FTy.f32 3196059648#32 = ((-(1 / 4) : ℝ) : EReal) := by
  simp [Ideal.ofBits, Ideal.ieee, -EReal.coe_mul, -EReal.coe_neg]
  norm_num

theorem ofBits_128 : Ideal.ofBits FTy.f32 1124073472#32 = ((128 : ℝ) : EReal) := by
  simp [Ideal.ofBits, Ideal.ieee, -EReal.coe_mul, -EReal.coe_neg]
  norm_num

theorem ofBits_2 : Ideal.ofBits FTy.f32 1073741824#32 = ((2 : ℝ) : EReal) := by
  simp [Ideal.ofBits, Ideal.ieee, -EReal.coe_mul, -EReal.coe_neg]
  norm_num

theorem sqrt_128 : Ideal.sqrt (Ideal.ofBits FTy.f32 1124073472#32) = ((Real.sqrt 128 : ℝ) : EReal) := by
  rw [ofBits_128, Ideal.sqrt_coe, if_neg (by norm_num)]

theorem log_2 : Ideal.log (Ideal.ofBits FTy.f32 1073741824#32) = ((Real.log 2 : ℝ) : EReal) := by
  rw [ofBits_2, Ideal.log_coe, if_neg (by norm_num)]

theorem slope_val (g : Fin 8) (q : Fin 256) :
    Ideal.exp (Ideal.ofBits FTy.f32 1060205080#32 * (Ideal.ofBits FTy.f32 3196059648#32 *
      FloatOps.sitofp (F := Ideal) FTy.f32 (IntOp.addi (IntOp.addi (IntOp.muli (BitVec.ofNat 32 g.val) 4#32)
        (IntOp.shrsi ArithUnit.host (BitVec.ofNat 32 q.val) 6#32)) 1#32)))
      = ((slopeR (4 * g.val + q.val / 64) : ℝ) : EReal) := by
  rw [sitofp_nat _ _ (head_word g q), ofBits_logTwo, ofBits_quarter, ← EReal.coe_mul, ← EReal.coe_mul]
  rfl

theorem lit1_val : ∀ j : Fin 16, lit1 j = if j.val < 3 then 0#32 else if 4 ≤ j.val ∧ j.val < 7 then 1#32
    else if 8 ≤ j.val ∧ j.val < 11 then 2#32 else if 11 ≤ j.val ∧ j.val < 14 then 3#32 else 4#32 := by
  decide +kernel

theorem lit2_val : ∀ j : Fin 16, lit2 j = if j.val = 1 ∨ j.val = 5 ∨ j.val = 9 ∨ j.val = 12 then 1#32
    else if j.val = 2 ∨ j.val = 6 ∨ j.val = 10 ∨ j.val = 13 then 2#32 else 0#32 := by
  decide +kernel

/-- The table's entries before they are cut into pieces. -/
def wholeR (s : ℝ) (i j : ℕ) : ℝ :=
  if j < 3 ∨ (11 ≤ j ∧ j < 14) then s * Real.sqrt 128
  else if 4 ≤ j ∧ j < 7 then -(s * Real.sqrt 128) * (64 * (i : ℝ))
  else if 8 ≤ j ∧ j < 11 then Real.sqrt 128 * Real.log 2 else 0

theorem sel_or (a b c : BitVec 32) {α : Type} (x y : α) :
    Scalar.select (IntOp.ori (IntOp.cmpi CmpIPredicate.eq a b) (IntOp.cmpi CmpIPredicate.eq a c)) x y = if a = b ∨ a = c then x else y := by
  have e : ∀ p q : Bool, (BitVec.ofBool p ||| BitVec.ofBool q = 1#1) ↔ (p = true ∨ q = true) := by decide
  show (if BitVec.ofBool (a == b) ||| BitVec.ofBool (a == c) = 1#1 then x else y) = _
  exact if_congr ((e _ _).trans (by simp)) rfl rfl

theorem v59_at (g : Fin 8) (i : Fin 14) (j : Fin 16) (q : Fin 256) :
    hv59 (F := Ideal) (ix4 g i j q) = ((wholeR (slopeR (4 * g.val + q.val / 64)) i.val j.val : ℝ) : EReal) := by
  pointwise [hv59, hv35, hv53, hv43]
  rw [rm16, slope_val, sqrt_128, log_2, sitofp_nat _ _ (start_word i), sel_or, sel_eq, sel_eq, lit1_val,
    ← EReal.coe_mul, ← EReal.coe_neg, ← EReal.coe_mul, ← EReal.coe_mul]
  unfold wholeR
  by_cases h1 : j.val < 3
  · simp [h1]
  by_cases h2 : 4 ≤ j.val ∧ j.val < 7
  · have h4 : ¬ (11 ≤ j.val ∧ j.val < 14) := by omega
    simp [h1, h2, h4]
  by_cases h3 : 8 ≤ j.val ∧ j.val < 11
  · have h4 : ¬ (11 ≤ j.val ∧ j.val < 14) := by omega
    simp [h1, h2, h3, h4]
  by_cases h4 : 11 ≤ j.val ∧ j.val < 14
  · simp [h1, h2, h3, h4]
  · simp [h1, h2, h3, h4]

theorem queries_at (g : Fin 8) (i : Fin 14) (j : Fin 16) (q : Fin 256) :
    hv75 (F := Ideal) (ix4 g i j q) = ((biasR (slopeR (4 * g.val + q.val / 64)) i.val j.val : ℝ) : EReal) := by
  pointwise [hv75, hv65, hv62]
  rw [v59_at, rm16, sel_eq, sel_eq, ← EReal.coe_sub, ← EReal.coe_sub, sub_self, sub_self, ite_self, lit2_val]
  unfold wholeR biasR
  fin_cases j <;> simp
end Cert.KernelIdeal.Gen

end
-- ==== Proof.RMath.lean ====
module

public import proofs.«01_k».proof.Proof.KTabI
public import proofs.«01_k».proof.Proof.Softmax

/-! The reference's quantiser and its softmax over the reals, one row at a time. -/

@[expose] public section

noncomputable section

namespace Cert.Attn

open Idealize.ShloMosaic Cert.KernelIdeal.Gen

/-- The exponent of a block whose largest magnitude is `a`. -/
def refE (a : EReal) : EReal :=
  Scalar.select (Ideal.cmp .oeq a (Ideal.ofBits FTy.f32 0#32)) (Ideal.ofBits FTy.f32 0#32)
    (Ideal.liftRound Int.floor (Ideal.div (Ideal.log (a * Ideal.ofBits FTy.f32 991054117#32))
      (Ideal.log (Ideal.ofBits FTy.f32 1073741824#32))) + Ideal.ofBits FTy.f32 1065353216#32)

/-- Two to the power `e`. -/
def refP (e : EReal) : EReal := Ideal.exp (e * Ideal.log (Ideal.ofBits FTy.f32 1073741824#32))

/-- The code of `x` under the exponent `e`. -/
def refC (x e : EReal) : EReal :=
  min (Ideal.ofBits FTy.f32 1138753536#32) (max (Ideal.ofBits FTy.f32 3286237184#32) (x * refP (-e)))

theorem ofBits_zero : Ideal.ofBits FTy.f32 0#32 = ((0 : ℝ) : EReal) := by
  simp [Ideal.ofBits, Ideal.ieee]

theorem ofBits_one : Ideal.ofBits FTy.f32 1065353216#32 = ((1 : ℝ) : EReal) := by
  simp [Ideal.ofBits, Ideal.ieee, -EReal.coe_mul, -EReal.coe_neg]
  try norm_num

theorem log_pos2 : 0 < Real.log 2 := Real.log_pos (by norm_num)

theorem refP_int (e : ℤ) : refP ((e : ℝ) : EReal) = (((2 : ℝ) ^ e : ℝ) : EReal) := by
  unfold refP
  rw [log_2, ← EReal.coe_mul, Ideal.exp_coe, mul_comm, Real.exp_mul, Real.exp_log (by norm_num), Real.rpow_intCast]

theorem refP_neg (e : ℤ) : refP (-((e : ℝ) : EReal)) = (((2 : ℝ) ^ (-e) : ℝ) : EReal) := by
  rw [← EReal.coe_neg, show (-(e : ℝ)) = ((-e : ℤ) : ℝ) by push_cast; rfl, refP_int]

theorem refE_spec (r : ℝ) (h0 : 0 ≤ r) : ∃ e : ℤ, refE (r : EReal) = ((e : ℝ) : EReal) ∧ r * kap < (2 : ℝ) ^ e := by
  by_cases h : r = 0
  · refine ⟨0, ?_, by rw [h]; norm_num⟩
    unfold refE
    rw [h, ofBits_zero]
    simp [Ideal.cmp, Scalar.select]
  · have hp : 0 < r := lt_of_le_of_ne h0 (Ne.symm h)
    have hk : 0 < r * kap := mul_pos hp kap_pos
    refine ⟨⌊Real.log (r * kap) * (1 / Real.log 2)⌋ + 1, ?_, ?_⟩
    · unfold refE
      rw [log_2, ofBits_kap, ← EReal.coe_mul, Ideal.log_coe, if_neg (not_le.mpr hk), Ideal.div_coe log_pos2.ne', ← EReal.coe_mul,
        ofBits_zero, ofBits_one]
      have hc : Ideal.cmp .oeq (r : EReal) ((0 : ℝ) : EReal) = 0#1 := by
        show BitVec.ofBool (decide ((r : EReal) = ((0 : ℝ) : EReal))) = 0#1
        rw [decide_eq_false (by exact_mod_cast h)]; rfl
      rw [hc]
      show (((⌊Real.log (r * kap) * (1 / Real.log 2)⌋ : ℤ) : ℝ) : EReal) + ((1 : ℝ) : EReal) = _
      rw [← EReal.coe_add]; push_cast; rfl
    · have h1 := Int.lt_floor_add_one (Real.log (r * kap) * (1 / Real.log 2))
      have h2 : Real.log (r * kap) < ((⌊Real.log (r * kap) * (1 / Real.log 2)⌋ + 1 : ℤ) : ℝ) * Real.log 2 := by
        push_cast
        have := mul_lt_mul_of_pos_right h1 log_pos2
        have h3 : Real.log (r * kap) * (1 / Real.log 2) * Real.log 2 = Real.log (r * kap) := by
          rw [mul_assoc, one_div, inv_mul_cancel₀ log_pos2.ne', mul_one]
        rwa [h3] at this
      rw [← Real.log_zpow] at h2
      exact (Real.log_lt_log_iff hk (by positivity)).mp h2

/-- The exponent of a family of numbers, and what it does to each of them. -/
theorem ref_quant {n : ℕ} (hn : 0 < n) (f : Fin n → ℝ) :
    ∃ e : ℤ, refE (amax f) = ((e : ℝ) : EReal)
      ∧ ∀ k, refC ((f k : ℝ) : EReal) ((e : ℝ) : EReal) = ((f k * (2 : ℝ) ^ (-e) : ℝ) : EReal) := by
  obtain ⟨M, hM, hle, k0, hk0⟩ := fold_max_abs hn f
  have hA : amax f = (M : EReal) := by
    unfold amax
    simp only [absf_coe, ofBits_bot]
    exact hM
  obtain ⟨e, he, hlt⟩ := refE_spec M (hk0 ▸ abs_nonneg _)
  refine ⟨e, by rw [hA, he], fun k => ?_⟩
  unfold refC
  rw [refP_neg]
  exact clip_id _ M e (hle k) hlt

/-- A number quantised with its family and scaled back is the number. -/
theorem ref_mx {n : ℕ} (hn : 0 < n) (f : Fin n → ℝ) (k : Fin n) :
    refC ((f k : ℝ) : EReal) (refE (amax f)) * refP (refE (amax f)) = ((f k : ℝ) : EReal) := by
  obtain ⟨e, he, hc⟩ := ref_quant hn f
  rw [he, hc, refP_int, ← EReal.coe_mul, mul_assoc, ← zpow_add₀ (by norm_num)]
  simp

/-- One row of the attention as the reference computes it. -/
theorem ref_row {n : ℕ} (hn : 0 < n) (vis : Fin n → Prop) [DecidablePred vis] (hv : ∃ k, vis k) (sc v : Fin n → ℝ) (ve : Fin n → ℤ)
    (S T W : Fin n → EReal)
    (hS : ∀ k, S k = if vis k then (sc k : EReal) else ⊥)
    (hT : ∀ k, T k = Ideal.exp (S k - max (Ideal.ofBits FTy.f32 4286578688#32) (Finset.fold max (Ideal.ofBits FTy.f32 4286578688#32) S Finset.univ)))
    (hW : ∀ k, W k = Ideal.div (T k) (∑ k, T k) * (((2 : ℝ) ^ ve k : ℝ) : EReal)) :
    (∑ k, ((v k * (2 : ℝ) ^ (-ve k) : ℝ) : EReal) * refC (W k)
        (refE (Finset.fold max (Ideal.ofBits FTy.f32 4286578688#32) (fun k => FloatOps.absf (F := Ideal) (φ := .f32) (W k)) Finset.univ)))
      * refP (refE (Finset.fold max (Ideal.ofBits FTy.f32 4286578688#32) (fun k => FloatOps.absf (F := Ideal) (φ := .f32) (W k)) Finset.univ))
      = ((wmean vis sc v : ℝ) : EReal) := by
  obtain ⟨M, hM, hle, k0, hk0, hk0M⟩ := fold_max_vis vis hv sc
  have hS' : S = fun k => if vis k then (sc k : EReal) else ⊥ := funext hS
  have hT' : ∀ k, T k = (((if vis k then Real.exp (sc k - M) else 0 : ℝ)) : EReal) := by
    intro k
    rw [hT, ofBits_bot, hS', hM, max_eq_right bot_le]
    by_cases hk : vis k
    · simp only [if_pos hk]
      rw [← EReal.coe_sub, Ideal.exp_coe]
    · simp only [if_neg hk]
      rw [EReal.bot_sub, Ideal.exp_bot]; rfl
  set D : ℝ := ∑ k, if vis k then Real.exp (sc k - M) else 0 with hD
  have hDp : 0 < D := by
    rw [hD]
    refine Finset.sum_pos' (fun k _ => by split_ifs <;> positivity) ⟨k0, Finset.mem_univ _, ?_⟩
    rw [if_pos hk0]; positivity
  have hsum : ∑ k, T k = (D : EReal) := by
    rw [Finset.sum_congr rfl fun k _ => hT' k, coe_sum]
  have hW' : ∀ k, W k = (((if vis k then Real.exp (sc k - M) else 0) * (1 / D) * (2 : ℝ) ^ ve k : ℝ) : EReal) := by
    intro k
    rw [hW, hsum, hT', Ideal.div_coe hDp.ne', ← EReal.coe_mul, ← EReal.coe_mul]
  have hWf : W = fun k => (((if vis k then Real.exp (sc k - M) else 0) * (1 / D) * (2 : ℝ) ^ ve k : ℝ) : EReal) := funext hW'
  obtain ⟨e, he, hc⟩ := ref_quant hn (fun k => (if vis k then Real.exp (sc k - M) else 0) * (1 / D) * (2 : ℝ) ^ ve k)
  rw [hWf]
  change (∑ k, _ * refC _ (refE (amax _))) * refP (refE (amax _)) = _
  rw [he]
  simp only [hc, refP_int, ← EReal.coe_mul, coe_sum]
  congr 1
  rw [Finset.sum_mul]
  have hz : ∀ k, v k * (2 : ℝ) ^ (-ve k) * ((if vis k then Real.exp (sc k - M) else 0) * (1 / D) * (2 : ℝ) ^ ve k * (2 : ℝ) ^ (-e)) * (2 : ℝ) ^ e
      = (if vis k then Real.exp (sc k - M) * v k else 0) / D := by
    intro k
    have e1 : (2 : ℝ) ^ (-ve k) * (2 : ℝ) ^ ve k = 1 := by rw [← zpow_add₀ (by norm_num)]; simp
    have e2 : (2 : ℝ) ^ (-e) * (2 : ℝ) ^ e = 1 := by rw [← zpow_add₀ (by norm_num)]; simp
    have : v k * (2 : ℝ) ^ (-ve k) * ((if vis k then Real.exp (sc k - M) else 0) * (1 / D) * (2 : ℝ) ^ ve k * (2 : ℝ) ^ (-e)) * (2 : ℝ) ^ e
        = v k * (if vis k then Real.exp (sc k - M) else 0) / D * ((2 : ℝ) ^ (-ve k) * (2 : ℝ) ^ ve k) * ((2 : ℝ) ^ (-e) * (2 : ℝ) ^ e) := by ring
    rw [this, e1, e2, mul_one, mul_one]
    split_ifs <;> ring
  rw [Finset.sum_congr rfl fun k _ => hz k, ← Finset.sum_div, hD]
  exact (wmean_shift vis (fun k => sc k - M) sc v (-M) (fun k _ => by ring))

end Cert.Attn

end
-- ==== Proof.RRead.lean ====
module

public import proofs.«01_k».proof.Proof.Gen.ReferenceIdeal.Read
public import proofs.«01_k».proof.Proof.RMath
public import Idealize.ShloMosaic.Lib.Pointwise

/-! The reference's stages read at an index over the reals. -/

@[expose] public section

set_option maxRecDepth 16384

noncomputable section

namespace Cert.ReferenceIdeal.Read

open Cert.ReferenceIdeal Cert.ReferenceIdeal.Gen Idealize.ShloMosaic Pointwise
open Cert.Attn (refE refP refC)
open Cert.KernelIdeal.Gen (amax)

theorem v19_exp (x0 : (⟨S2x896x4096, .bf16⟩ : BufTy).Contents (Elt Ideal)) (i : S2x896x32x4x1.Idx) : val_main_v19 x0 i = refE (val_main_v7 x0 i) := by
  rw [val_main_v19_apply, val_main_v18_apply, val_main_v17_apply, val_main_v16_apply, val_main_v15_apply, val_main_v14_apply, val_main_v13_apply, val_main_v12_apply, val_main_v11_apply, val_main_v10_apply, val_main_v9_apply, val_main_v8_apply, val_main_call0_v1_apply, val_main_call0_v0_apply, val_main_cst_0_apply, val_main_cst_1_apply, val_main_cst_2_apply, val_main_cst_3_apply, val_main_cst_4_apply]
  generalize val_main_v7 x0 i = e0
  rfl

theorem v46_exp (x1 : (⟨S2x896x1024, .bf16⟩ : BufTy).Contents (Elt Ideal)) (i : S2x896x8x4x1.Idx) : val_main_v46 x1 i = refE (val_main_v34 x1 i) := by
  rw [val_main_v46_apply, val_main_v45_apply, val_main_v44_apply, val_main_v43_apply, val_main_v42_apply, val_main_v41_apply, val_main_v40_apply, val_main_v39_apply, val_main_v38_apply, val_main_v37_apply, val_main_v36_apply, val_main_v35_apply, val_main_call2_v1_apply, val_main_call2_v0_apply, val_main_cst_9_apply, val_main_cst_10_apply, val_main_cst_11_apply, val_main_cst_12_apply, val_main_cst_13_apply]
  generalize val_main_v34 x1 i = e0
  rfl

theorem v72_exp (x2 : (⟨S2x896x1024, .bf16⟩ : BufTy).Contents (Elt Ideal)) (i : S2x896x8x1.Idx) : val_main_v72 x2 i = refE (val_main_v60 x2 i) := by
  rw [val_main_v72_apply, val_main_v71_apply, val_main_v70_apply, val_main_v69_apply, val_main_v68_apply, val_main_v67_apply, val_main_v66_apply, val_main_v65_apply, val_main_v64_apply, val_main_v63_apply, val_main_v62_apply, val_main_v61_apply, val_main_call4_v1_apply, val_main_call4_v0_apply, val_main_cst_18_apply, val_main_cst_19_apply, val_main_cst_20_apply, val_main_cst_21_apply, val_main_cst_22_apply]
  generalize val_main_v60 x2 i = e0
  rfl

theorem v168_exp (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (i : S2x8x4x896x1.Idx) : val_main_v168 x0 x1 x2 i = refE (val_main_v156 x0 x1 x2 i) := by
  rw [val_main_v168_apply, val_main_v167_apply, val_main_v166_apply, val_main_v165_apply, val_main_v164_apply, val_main_v163_apply, val_main_v162_apply, val_main_v161_apply, val_main_v160_apply, val_main_v159_apply, val_main_v158_apply, val_main_v157_apply, val_main_call7_v1_apply, val_main_call7_v0_apply, val_main_cst_38_apply, val_main_cst_39_apply, val_main_cst_40_apply, val_main_cst_41_apply, val_main_cst_42_apply]
  generalize val_main_v156 x0 x1 x2 i = e0
  rfl

theorem v27_code (x0 : (⟨S2x896x4096, .bf16⟩ : BufTy).Contents (Elt Ideal)) (i : S2x896x32x4x32.Idx) : val_main_v27 x0 i = refC (val_main_v4 x0 i) (val_main_v19 x0 (idx_main_v25 i)) := by
  rw [val_main_v27_apply, val_main_call1_v4_apply, val_main_call1_v3_apply, val_main_call1_v2_apply, val_main_call1_v1_apply, val_main_call1_v0_apply, val_main_cst_6_apply, val_main_cst_7_apply, val_main_v26_apply, val_main_v25_apply, val_main_v24_apply, val_main_v23_apply, val_main_v22_apply, val_main_v21_apply, val_main_v20_apply, val_main_cst_5_apply]
  generalize val_main_v4 x0 i = e0
  generalize val_main_v19 x0 (idx_main_v25 i) = e1
  rfl

theorem v54_code (x1 : (⟨S2x896x1024, .bf16⟩ : BufTy).Contents (Elt Ideal)) (i : S2x896x8x4x32.Idx) : val_main_v54 x1 i = refC (val_main_v31 x1 i) (val_main_v46 x1 (idx_main_v52 i)) := by
  rw [val_main_v54_apply, val_main_call3_v4_apply, val_main_call3_v3_apply, val_main_call3_v2_apply, val_main_call3_v1_apply, val_main_call3_v0_apply, val_main_cst_15_apply, val_main_cst_16_apply, val_main_v53_apply, val_main_v52_apply, val_main_v51_apply, val_main_v50_apply, val_main_v49_apply, val_main_v48_apply, val_main_v47_apply, val_main_cst_14_apply]
  generalize val_main_v31 x1 i = e0
  generalize val_main_v46 x1 (idx_main_v52 i) = e1
  rfl

theorem v80_code (x2 : (⟨S2x896x1024, .bf16⟩ : BufTy).Contents (Elt Ideal)) (i : S2x896x8x128.Idx) : val_main_v80 x2 i = refC (val_main_v57 x2 i) (val_main_v72 x2 (idx_main_v78 i)) := by
  rw [val_main_v80_apply, val_main_call5_v4_apply, val_main_call5_v3_apply, val_main_call5_v2_apply, val_main_call5_v1_apply, val_main_call5_v0_apply, val_main_cst_24_apply, val_main_cst_25_apply, val_main_v79_apply, val_main_v78_apply, val_main_v77_apply, val_main_v76_apply, val_main_v75_apply, val_main_v74_apply, val_main_v73_apply, val_main_cst_23_apply]
  generalize val_main_v57 x2 i = e0
  generalize val_main_v72 x2 (idx_main_v78 i) = e1
  rfl

theorem v176_code (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (i : S2x8x4x896x896.Idx) : val_main_v176 x0 x1 x2 i = refC (val_main_v153 x0 x1 x2 i) (val_main_v168 x0 x1 x2 (idx_main_v174 i)) := by
  rw [val_main_v176_apply, val_main_call8_v4_apply, val_main_call8_v3_apply, val_main_call8_v2_apply, val_main_call8_v1_apply, val_main_call8_v0_apply, val_main_cst_44_apply, val_main_cst_45_apply, val_main_v175_apply, val_main_v174_apply, val_main_v173_apply, val_main_v172_apply, val_main_v171_apply, val_main_v170_apply, val_main_v169_apply, val_main_cst_43_apply]
  generalize val_main_v153 x0 x1 x2 i = e0
  generalize val_main_v168 x0 x1 x2 (idx_main_v174 i) = e1
  rfl

theorem v90_pow (x0 : (⟨S2x896x4096, .bf16⟩ : BufTy).Contents (Elt Ideal)) (i : S2x896x32x4.Idx) : val_main_v90 x0 i = refP (val_main_v29 x0 i) := by
  rw [val_main_v90_apply, val_main_v89_apply, val_main_v88_apply, val_main_v87_apply, val_main_v86_apply, val_main_cst_27_apply]
  generalize val_main_v29 x0 i = e0
  rfl

theorem v100_pow (x1 : (⟨S2x896x1024, .bf16⟩ : BufTy).Contents (Elt Ideal)) (i : S2x896x8x4.Idx) : val_main_v100 x1 i = refP (val_main_v56 x1 i) := by
  rw [val_main_v100_apply, val_main_v99_apply, val_main_v98_apply, val_main_v97_apply, val_main_v96_apply, val_main_cst_28_apply]
  generalize val_main_v56 x1 i = e0
  rfl

theorem v84_pow (x2 : (⟨S2x896x1024, .bf16⟩ : BufTy).Contents (Elt Ideal)) (i : S2x896x8x1.Idx) : val_main_v84 x2 i = refP (val_main_v72 x2 i) := by
  rw [val_main_v84_apply, val_main_v83_apply, val_main_v82_apply, val_main_v81_apply, val_main_cst_26_apply]
  generalize val_main_v72 x2 i = e0
  rfl

theorem v180_pow (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (i : S2x8x4x896x1.Idx) : val_main_v180 x0 x1 x2 i = refP (val_main_v168 x0 x1 x2 i) := by
  rw [val_main_v180_apply, val_main_v179_apply, val_main_v178_apply, val_main_v177_apply, val_main_cst_46_apply]
  generalize val_main_v168 x0 x1 x2 i = e0
  rfl

theorem v6_at (x0 : (⟨S2x896x4096, .bf16⟩ : BufTy).Contents (Elt Ideal)) (b : Fin 2) (s : Fin 896) (h : Fin 32) (j : Fin 4) (f : Fin 32 → ℝ)
    (hf : ∀ x : Fin 32, x0 (ix3 b s ⟨h.val * 128 + (j.val * 32 + x.val), by omega⟩) = ((f x : ℝ) : EReal)) :
    val_main_v6 x0 (ix4 b s h j) = amax f := by
  pointwise [val_main_v6, val_main_v5, val_main_v4, val_main_v3, val_main_v0, val_main_cst]
  simp only [hf]
  rfl

theorem v33_at (x1 : (⟨S2x896x1024, .bf16⟩ : BufTy).Contents (Elt Ideal)) (b : Fin 2) (s : Fin 896) (h : Fin 8) (j : Fin 4) (f : Fin 32 → ℝ)
    (hf : ∀ x : Fin 32, x1 (ix3 b s ⟨h.val * 128 + (j.val * 32 + x.val), by omega⟩) = ((f x : ℝ) : EReal)) :
    val_main_v33 x1 (ix4 b s h j) = amax f := by
  pointwise [val_main_v33, val_main_v32, val_main_v31, val_main_v30, val_main_v1, val_main_cst_8]
  simp only [hf]
  rfl

theorem v59_at (x2 : (⟨S2x896x1024, .bf16⟩ : BufTy).Contents (Elt Ideal)) (b : Fin 2) (s : Fin 896) (h : Fin 8) (f : Fin 128 → ℝ)
    (hf : ∀ x : Fin 128, x2 (ix3 b s ⟨h.val * 128 + x.val, by omega⟩) = ((f x : ℝ) : EReal)) :
    val_main_v59 x2 (ix3 b s h) = amax f := by
  pointwise [val_main_v59, val_main_v58, val_main_v57, val_main_v2, val_main_cst_17]
  simp only [hf]
  rfl

end Cert.ReferenceIdeal.Read

end
-- ==== Proof.RVal.lean ====
module

public import proofs.«01_k».proof.Proof.RRead
public import Idealize.ShloMosaic.Lib.Pointwise

/-! The reference's quantised and dequantised inputs, and its scores, over the reals. -/

@[expose] public section

set_option maxRecDepth 16384

noncomputable section

namespace Cert.ReferenceIdeal.Read

open Cert.ReferenceIdeal Cert.ReferenceIdeal.Gen Idealize.ShloMosaic Pointwise
open Cert.Attn (refE refP refC ref_mx ref_quant refP_int)
open Cert.KernelIdeal.Gen (amax)

theorem v94_split (x0 : (⟨S2x896x4096, .bf16⟩ : BufTy).Contents (Elt Ideal)) (b : Fin 2) (s : Fin 896) (h : Fin 32) (d : Fin 128) :
    val_main_v94 (F := Ideal) x0 (ix4 b s h d) = val_main_v27 (F := Ideal) x0 (ix5 b s h ⟨d.val / 32, by omega⟩ ⟨d.val % 32, by omega⟩)
      * val_main_v90 (F := Ideal) x0 (ix4 b s h ⟨d.val / 32, by omega⟩) := by
  have ha : val_main_v28 (F := Ideal) x0 (ix4 b s h d) = val_main_v27 (F := Ideal) x0 (ix5 b s h ⟨d.val / 32, by omega⟩ ⟨d.val % 32, by omega⟩) := by
    unfold val_main_v28
    generalize val_main_v27 (F := Ideal) x0 = y
    pointwise []
  have hb : val_main_v93 (F := Ideal) x0 (ix4 b s h d) = val_main_v90 (F := Ideal) x0 (ix4 b s h ⟨d.val / 32, by omega⟩) := by
    unfold val_main_v93 val_main_v92
    generalize val_main_v90 (F := Ideal) x0 = z
    pointwise []
  rw [← ha, ← hb, val_main_v94_apply, val_main_v91_apply]
  generalize val_main_v28 (F := Ideal) x0 (ix4 b s h d) = y
  generalize val_main_v93 (F := Ideal) x0 (ix4 b s h d) = z
  rfl

theorem v29_at (x0 : (⟨S2x896x4096, .bf16⟩ : BufTy).Contents (Elt Ideal)) (b : Fin 2) (s : Fin 896) (h : Fin 32) (j : Fin 4) :
    val_main_v29 (F := Ideal) x0 (ix4 b s h j) = val_main_v19 (F := Ideal) x0 (ix5 b s h j 0) := by
  unfold val_main_v29
  generalize val_main_v19 (F := Ideal) x0 = y
  pointwise []

theorem v7_at (x0 : (⟨S2x896x4096, .bf16⟩ : BufTy).Contents (Elt Ideal)) (b : Fin 2) (s : Fin 896) (h : Fin 32) (j : Fin 4) :
    val_main_v7 (F := Ideal) x0 (ix5 b s h j 0) = val_main_v6 (F := Ideal) x0 (ix4 b s h j) := by
  unfold val_main_v7
  generalize val_main_v6 (F := Ideal) x0 = y
  pointwise []

theorem v4_at (x0 : (⟨S2x896x4096, .bf16⟩ : BufTy).Contents (Elt Ideal)) (b : Fin 2) (s : Fin 896) (h : Fin 32) (j : Fin 4) (e : Fin 32) :
    val_main_v4 (F := Ideal) x0 (ix5 b s h j e) = x0 (ix3 b s ⟨h.val * 128 + (j.val * 32 + e.val), by omega⟩) := by
  pointwise [val_main_v4, val_main_v3, val_main_v0]

theorem idx_v25 (b : Fin 2) (s : Fin 896) (h : Fin 32) (j : Fin 4) (e : Fin 32) :
    idx_main_v25 (ix5 b s h j e) = ix5 b s h j 0 := by
  funext a; fin_cases a <;> rfl

theorem v94_at (x0 : (⟨S2x896x4096, .bf16⟩ : BufTy).Contents (Elt Ideal)) (xa : Fin 2 → Fin 896 → Fin 4096 → ℝ) (hx : ∀ b s j, x0 (ix3 b s j) = ((xa b s j : ℝ) : EReal))
    (b : Fin 2) (s : Fin 896) (h : Fin 32) (d : Fin 128) :
    val_main_v94 (F := Ideal) x0 (ix4 b s h d) = ((xa b s ⟨h.val * 128 + d.val, by omega⟩ : ℝ) : EReal) := by
  have hE : val_main_v19 (F := Ideal) x0 (ix5 b s h ⟨d.val / 32, by omega⟩ 0)
      = refE (amax fun e : Fin 32 => xa b s ⟨h.val * 128 + (d.val / 32 * 32 + e.val), by omega⟩) := by
    rw [v19_exp, v7_at, v6_at x0 b s h ⟨d.val / 32, by omega⟩ (fun e : Fin 32 => xa b s ⟨h.val * 128 + (d.val / 32 * 32 + e.val), by omega⟩) (fun e => hx _ _ _)]
  rw [v94_split, v27_code, v90_pow, v29_at, idx_v25, hE, v4_at, hx]
  have h2 := ref_mx (by norm_num : 0 < 32) (fun e : Fin 32 => xa b s ⟨h.val * 128 + (d.val / 32 * 32 + e.val), by omega⟩) ⟨d.val % 32, by omega⟩
  refine h2.trans (congrArg (fun z => ((xa b s z : ℝ) : EReal)) (Fin.ext ?_))
  show h.val * 128 + (d.val / 32 * 32 + d.val % 32) = h.val * 128 + d.val
  omega

theorem v104_split (x1 : (⟨S2x896x1024, .bf16⟩ : BufTy).Contents (Elt Ideal)) (b : Fin 2) (s : Fin 896) (h : Fin 8) (d : Fin 128) :
    val_main_v104 (F := Ideal) x1 (ix4 b s h d) = val_main_v54 (F := Ideal) x1 (ix5 b s h ⟨d.val / 32, by omega⟩ ⟨d.val % 32, by omega⟩)
      * val_main_v100 (F := Ideal) x1 (ix4 b s h ⟨d.val / 32, by omega⟩) := by
  have ha : val_main_v55 (F := Ideal) x1 (ix4 b s h d) = val_main_v54 (F := Ideal) x1 (ix5 b s h ⟨d.val / 32, by omega⟩ ⟨d.val % 32, by omega⟩) := by
    unfold val_main_v55
    generalize val_main_v54 (F := Ideal) x1 = y
    pointwise []
  have hb : val_main_v103 (F := Ideal) x1 (ix4 b s h d) = val_main_v100 (F := Ideal) x1 (ix4 b s h ⟨d.val / 32, by omega⟩) := by
    unfold val_main_v103 val_main_v102
    generalize val_main_v100 (F := Ideal) x1 = z
    pointwise []
  rw [← ha, ← hb, val_main_v104_apply, val_main_v101_apply]
  generalize val_main_v55 (F := Ideal) x1 (ix4 b s h d) = y
  generalize val_main_v103 (F := Ideal) x1 (ix4 b s h d) = z
  rfl

theorem v56_at (x1 : (⟨S2x896x1024, .bf16⟩ : BufTy).Contents (Elt Ideal)) (b : Fin 2) (s : Fin 896) (h : Fin 8) (j : Fin 4) :
    val_main_v56 (F := Ideal) x1 (ix4 b s h j) = val_main_v46 (F := Ideal) x1 (ix5 b s h j 0) := by
  unfold val_main_v56
  generalize val_main_v46 (F := Ideal) x1 = y
  pointwise []

theorem v34_at (x1 : (⟨S2x896x1024, .bf16⟩ : BufTy).Contents (Elt Ideal)) (b : Fin 2) (s : Fin 896) (h : Fin 8) (j : Fin 4) :
    val_main_v34 (F := Ideal) x1 (ix5 b s h j 0) = val_main_v33 (F := Ideal) x1 (ix4 b s h j) := by
  unfold val_main_v34
  generalize val_main_v33 (F := Ideal) x1 = y
  pointwise []

theorem v31_at (x1 : (⟨S2x896x1024, .bf16⟩ : BufTy).Contents (Elt Ideal)) (b : Fin 2) (s : Fin 896) (h : Fin 8) (j : Fin 4) (e : Fin 32) :
    val_main_v31 (F := Ideal) x1 (ix5 b s h j e) = x1 (ix3 b s ⟨h.val * 128 + (j.val * 32 + e.val), by omega⟩) := by
  pointwise [val_main_v31, val_main_v30, val_main_v1]

theorem idx_v52 (b : Fin 2) (s : Fin 896) (h : Fin 8) (j : Fin 4) (e : Fin 32) :
    idx_main_v52 (ix5 b s h j e) = ix5 b s h j 0 := by
  funext a; fin_cases a <;> rfl

theorem v104_at (x1 : (⟨S2x896x1024, .bf16⟩ : BufTy).Contents (Elt Ideal)) (xa : Fin 2 → Fin 896 → Fin 1024 → ℝ) (hx : ∀ b s j, x1 (ix3 b s j) = ((xa b s j : ℝ) : EReal))
    (b : Fin 2) (s : Fin 896) (h : Fin 8) (d : Fin 128) :
    val_main_v104 (F := Ideal) x1 (ix4 b s h d) = ((xa b s ⟨h.val * 128 + d.val, by omega⟩ : ℝ) : EReal) := by
  have hE : val_main_v46 (F := Ideal) x1 (ix5 b s h ⟨d.val / 32, by omega⟩ 0)
      = refE (amax fun e : Fin 32 => xa b s ⟨h.val * 128 + (d.val / 32 * 32 + e.val), by omega⟩) := by
    rw [v46_exp, v34_at, v33_at x1 b s h ⟨d.val / 32, by omega⟩ (fun e : Fin 32 => xa b s ⟨h.val * 128 + (d.val / 32 * 32 + e.val), by omega⟩) (fun e => hx _ _ _)]
  rw [v104_split, v54_code, v100_pow, v56_at, idx_v52, hE, v31_at, hx]
  have h2 := ref_mx (by norm_num : 0 < 32) (fun e : Fin 32 => xa b s ⟨h.val * 128 + (d.val / 32 * 32 + e.val), by omega⟩) ⟨d.val % 32, by omega⟩
  refine h2.trans (congrArg (fun z => ((xa b s z : ℝ) : EReal)) (Fin.ext ?_))
  show h.val * 128 + (d.val / 32 * 32 + d.val % 32) = h.val * 128 + d.val
  omega

theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

theorem v95_at (x0 : (⟨S2x896x4096, .bf16⟩ : BufTy).Contents (Elt Ideal)) (b : Fin 2) (s : Fin 896) (h : Fin 8) (g : Fin 4) (d : Fin 128) :
    val_main_v95 (F := Ideal) x0 (ix5 b s h g d) = val_main_v94 (F := Ideal) x0 (ix4 b s ⟨h.val * 4 + g.val, by omega⟩ d) := by
  unfold val_main_v95
  generalize val_main_v94 (F := Ideal) x0 = y
  pointwise []

theorem v60_at (x2 : (⟨S2x896x1024, .bf16⟩ : BufTy).Contents (Elt Ideal)) (b : Fin 2) (s : Fin 896) (h : Fin 8) :
    val_main_v60 (F := Ideal) x2 (ix4 b s h 0) = val_main_v59 (F := Ideal) x2 (ix3 b s h) := by
  unfold val_main_v60
  generalize val_main_v59 (F := Ideal) x2 = y
  pointwise []

theorem v57_at (x2 : (⟨S2x896x1024, .bf16⟩ : BufTy).Contents (Elt Ideal)) (b : Fin 2) (s : Fin 896) (h : Fin 8) (d : Fin 128) :
    val_main_v57 (F := Ideal) x2 (ix4 b s h d) = x2 (ix3 b s ⟨h.val * 128 + d.val, by omega⟩) := by
  pointwise [val_main_v57, val_main_v2]

theorem idx_v78 (b : Fin 2) (s : Fin 896) (h : Fin 8) (d : Fin 128) : idx_main_v78 (ix4 b s h d) = ix4 b s h 0 := by
  funext a; fin_cases a <;> rfl

theorem v152_at (x2 : (⟨S2x896x1024, .bf16⟩ : BufTy).Contents (Elt Ideal)) (b : Fin 2) (h : Fin 8) (g : Fin 4) (s k : Fin 896) :
    val_main_v152 (F := Ideal) x2 (ix5 b h g s k) = val_main_v84 (F := Ideal) x2 (ix4 b k h 0) := by
  unfold val_main_v152 val_main_v151 val_main_v150 val_main_v85
  generalize val_main_v84 (F := Ideal) x2 = y
  pointwise []

theorem idx_v174 (b : Fin 2) (h : Fin 8) (g : Fin 4) (s k : Fin 896) : idx_main_v174 (ix5 b h g s k) = ix5 b h g s 0 := by
  funext a; fin_cases a <;> rfl

theorem v156_at (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (b : Fin 2) (h : Fin 8) (g : Fin 4) (s : Fin 896) :
    val_main_v156 (F := Ideal) x0 x1 x2 (ix5 b h g s 0)
      = Finset.fold max (Ideal.ofBits FTy.f32 4286578688#32) (fun k => FloatOps.absf (F := Ideal) (φ := .f32) (val_main_v153 (F := Ideal) x0 x1 x2 (ix5 b h g s k))) Finset.univ := by
  unfold val_main_v156 val_main_v155 val_main_v154 val_main_cst_37
  generalize val_main_v153 (F := Ideal) x0 x1 x2 = y
  pointwise []

theorem v189_at (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (b : Fin 2) (s : Fin 896) (d : Fin 4096) :
    val_main_v189 (F := Ideal) x0 x1 x2 (ix3 b s d)
      = (∑ k, val_main_v80 (F := Ideal) x2 (ix4 b k ⟨d.val / 512, by omega⟩ ⟨d.val % 128, by omega⟩)
          * val_main_v176 (F := Ideal) x0 x1 x2 (ix5 b ⟨d.val / 512, by omega⟩ ⟨d.val / 128 % 4, by omega⟩ s k))
        * val_main_v180 (F := Ideal) x0 x1 x2 (ix5 b ⟨d.val / 512, by omega⟩ ⟨d.val / 128 % 4, by omega⟩ s 0) := by
  unfold val_main_v189 val_main_v188 val_main_v187 val_main_v186 val_main_v185 val_main_v184 val_main_v183 val_main_v182 val_main_v181
  generalize val_main_v80 (F := Ideal) x2 = y1
  generalize val_main_v176 (F := Ideal) x0 x1 x2 = y2
  generalize val_main_v180 (F := Ideal) x0 x1 x2 = y3
  pointwise []

theorem v113_at (h : Fin 8) (g : Fin 4) :
    val_main_v113 (F := Ideal) (ix2 h g) = ((Cert.KernelIdeal.Gen.slopeR (4 * h.val + g.val) : ℝ) : EReal) := by
  pointwise [val_main_v113, val_main_v112, val_main_v111, val_main_v110, val_main_v109, val_main_v108, val_main_v107, val_main_v106, val_main_v105, val_main_cst_29, val_main_cst_30, val_main_cst_31]
  rw [Cert.KernelIdeal.Gen.sitofp_nat _ _ (toInt_small (h.val * 4 + g.val) (by omega)), Cert.KernelIdeal.Gen.ofBits_logTwo, Cert.KernelIdeal.Gen.ofBits_quarter,
    ← EReal.coe_one, ← EReal.coe_add, ← EReal.coe_mul, ← EReal.coe_mul, Ideal.exp_coe]
  unfold Cert.KernelIdeal.Gen.slopeR
  congr 3
  push_cast
  ring

theorem v138_split (x0 : (⟨S2x896x4096, .bf16⟩ : BufTy).Contents (Elt Ideal)) (x1 : (⟨S2x896x1024, .bf16⟩ : BufTy).Contents (Elt Ideal)) (b : Fin 2) (h : Fin 8) (g : Fin 4) (s k : Fin 896) :
    val_main_v138 (F := Ideal) x0 x1 (ix5 b h g s k)
      = Scalar.select (IntOp.cmpi CmpIPredicate.sgt (BitVec.ofNat 32 k.val) (BitVec.ofNat 32 s.val)) (Ideal.ofBits FTy.f32 4286578688#32)
        (Ideal.div (∑ x, val_main_v104 (F := Ideal) x1 (ix4 b k h x) * val_main_v95 (F := Ideal) x0 (ix5 b s h g x))
            (Ideal.sqrt (Ideal.ofBits FTy.f32 1124073472#32))
          - val_main_v113 (F := Ideal) (ix2 h g) * FloatOps.sitofp FTy.f32 (IntOp.subi (BitVec.ofNat 32 s.val) (BitVec.ofNat 32 k.val))) := by
  unfold val_main_v138 val_main_call6_v1 val_main_call6_v2 val_main_call6_v0 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_cst_32 val_main_cst_33
  generalize val_main_v104 (F := Ideal) x1 = y1
  generalize val_main_v95 (F := Ideal) x0 = y2
  generalize val_main_v113 (F := Ideal) = y3
  pointwise []
  rfl

theorem idx_v143 (b : Fin 2) (h : Fin 8) (g : Fin 4) (s k : Fin 896) : idx_main_v143 (ix5 b h g s k) = ix5 b h g s 0 := by
  funext a; fin_cases a <;> rfl

theorem v139_at (x0 : (⟨S2x896x4096, .bf16⟩ : BufTy).Contents (Elt Ideal)) (x1 : (⟨S2x896x1024, .bf16⟩ : BufTy).Contents (Elt Ideal)) (b : Fin 2) (h : Fin 8) (g : Fin 4) (s : Fin 896) :
    val_main_v139 (F := Ideal) x0 x1 (ix4 b h g s) = Finset.fold max (Ideal.ofBits FTy.f32 4286578688#32) (fun k => val_main_v138 (F := Ideal) x0 x1 (ix5 b h g s k)) Finset.univ := by
  unfold val_main_v139 val_main_cst_34
  generalize val_main_v138 (F := Ideal) x0 x1 = y
  pointwise []

theorem v143_at (x0 : (⟨S2x896x4096, .bf16⟩ : BufTy).Contents (Elt Ideal)) (x1 : (⟨S2x896x1024, .bf16⟩ : BufTy).Contents (Elt Ideal)) (b : Fin 2) (h : Fin 8) (g : Fin 4) (s k : Fin 896) :
    val_main_v143 (F := Ideal) x0 x1 (ix5 b h g s k) = max (Ideal.ofBits FTy.f32 4286578688#32) (val_main_v139 (F := Ideal) x0 x1 (ix4 b h g s)) := by
  have ha : val_main_v143 (F := Ideal) x0 x1 (ix5 b h g s k) = val_main_v141 (F := Ideal) x0 x1 (ix4 b h g s) := by
    unfold val_main_v143 val_main_v142
    generalize val_main_v141 (F := Ideal) x0 x1 = y
    pointwise []
  have hb : val_main_v140 (F := Ideal) (ix4 b h g s) = Ideal.ofBits FTy.f32 4286578688#32 := by
    pointwise [val_main_v140, val_main_cst_35]
  rw [ha, val_main_v141_apply, hb]
  generalize val_main_v139 (F := Ideal) x0 x1 (ix4 b h g s) = y
  rfl

theorem v145_at (x0 : (⟨S2x896x4096, .bf16⟩ : BufTy).Contents (Elt Ideal)) (x1 : (⟨S2x896x1024, .bf16⟩ : BufTy).Contents (Elt Ideal)) (b : Fin 2) (h : Fin 8) (g : Fin 4) (s k : Fin 896) :
    val_main_v145 (F := Ideal) x0 x1 (ix5 b h g s k) = Ideal.exp (val_main_v138 (F := Ideal) x0 x1 (ix5 b h g s k) - val_main_v143 (F := Ideal) x0 x1 (ix5 b h g s k)) := by
  unfold val_main_v145 val_main_v144
  generalize val_main_v138 (F := Ideal) x0 x1 = y
  generalize val_main_v143 (F := Ideal) x0 x1 = z
  pointwise []

theorem v148_at (x0 : (⟨S2x896x4096, .bf16⟩ : BufTy).Contents (Elt Ideal)) (x1 : (⟨S2x896x1024, .bf16⟩ : BufTy).Contents (Elt Ideal)) (b : Fin 2) (h : Fin 8) (g : Fin 4) (s k : Fin 896) :
    val_main_v148 (F := Ideal) x0 x1 (ix5 b h g s k) = ∑ k', val_main_v145 (F := Ideal) x0 x1 (ix5 b h g s k') := by
  unfold val_main_v148 val_main_v147 val_main_v146 val_main_cst_36
  generalize val_main_v145 (F := Ideal) x0 x1 = y
  pointwise []

theorem v153_at (x0 : (⟨S2x896x4096, .bf16⟩ : BufTy).Contents (Elt Ideal)) (x1 : (⟨S2x896x1024, .bf16⟩ : BufTy).Contents (Elt Ideal)) (x2 : (⟨S2x896x1024, .bf16⟩ : BufTy).Contents (Elt Ideal)) (b : Fin 2) (h : Fin 8) (g : Fin 4) (s k : Fin 896) :
    val_main_v153 (F := Ideal) x0 x1 x2 (ix5 b h g s k) = Ideal.div (val_main_v145 (F := Ideal) x0 x1 (ix5 b h g s k)) (val_main_v148 (F := Ideal) x0 x1 (ix5 b h g s k))
      * val_main_v152 (F := Ideal) x2 (ix5 b h g s k) := by
  unfold val_main_v153 val_main_v149
  generalize val_main_v145 (F := Ideal) x0 x1 = y
  generalize val_main_v148 (F := Ideal) x0 x1 = z
  generalize val_main_v152 (F := Ideal) x2 = w
  pointwise []

end Cert.ReferenceIdeal.Read

end
-- ==== Proof.RFin.lean ====
module

public import proofs.«01_k».proof.Proof.RVal
public import proofs.«01_k».proof.Proof.Dot
public import Idealize.ShloMosaic.Lib.Pointwise

/-! The reference's result over the reals: an entry of the causal attention with linear biases. -/

@[expose] public section

set_option maxRecDepth 16384

noncomputable section

namespace Cert.ReferenceIdeal.Read

open Cert.ReferenceIdeal Cert.ReferenceIdeal.Gen Idealize.ShloMosaic Pointwise
open Cert.Attn (refE refP refC ref_mx ref_quant refP_int)
open Cert.KernelIdeal.Gen (amax slopeR)
open Cert.Attn (wmean attK ref_row ofBits_bot coe_sum)

variable {x0 : (⟨S2x896x4096, .bf16⟩ : BufTy).Contents (Elt Ideal)} {x1 x2 : (⟨S2x896x1024, .bf16⟩ : BufTy).Contents (Elt Ideal)}
variable (xa : Fin 2 → Fin 896 → Fin 4096 → ℝ) (ka va : Fin 2 → Fin 896 → Fin 1024 → ℝ)

/-- The keys and values of one head. -/
def headR (ka : Fin 2 → Fin 896 → Fin 1024 → ℝ) (b : Fin 2) (h : Fin 8) (k : Fin 896) (d : Fin 128) : ℝ := ka b k ⟨h.val * 128 + d.val, by omega⟩
/-- The queries of the four heads that share the keys of head `h`. -/
def groupR (xa : Fin 2 → Fin 896 → Fin 4096 → ℝ) (b : Fin 2) (h : Fin 8) (s : Fin 896) (j : Fin 512) : ℝ := xa b s ⟨h.val * 512 + j.val, by omega⟩

/-- A score before the mask. -/
def scR (b : Fin 2) (h : Fin 8) (g : Fin 4) (s k : Fin 896) : ℝ :=
  (∑ d' : Fin 128, headR ka b h k d' * groupR xa b h s ⟨128 * g.val + d'.val, by omega⟩) / Real.sqrt 128 - slopeR (4 * h.val + g.val) * ((s.val : ℝ) - (k.val : ℝ))

theorem sel_sgt (s k : Fin 896) {α : Type} (x y : α) :
    Scalar.select (IntOp.cmpi CmpIPredicate.sgt (BitVec.ofNat 32 k.val) (BitVec.ofNat 32 s.val)) x y = if k.val ≤ s.val then y else x := by
  have e : IntOp.cmpi CmpIPredicate.sgt (BitVec.ofNat 32 k.val) (BitVec.ofNat 32 s.val) = BitVec.ofBool (decide (s.val < k.val)) := by
    show BitVec.ofBool (BitVec.slt (BitVec.ofNat 32 s.val) (BitVec.ofNat 32 k.val)) = _
    congr 1
    rw [BitVec.slt, toInt_small _ (by omega), toInt_small _ (by omega)]
    simp
  rw [e]
  unfold Scalar.select
  by_cases h : k.val ≤ s.val
  · rw [if_pos h, if_neg]
    rw [decide_eq_false (by omega)]; decide
  · rw [if_neg h, if_pos]
    rw [decide_eq_true (by omega)]; decide

theorem dist_val (s k : Fin 896) (h : k.val ≤ s.val) :
    FloatOps.sitofp (F := Ideal) FTy.f32 (IntOp.subi (BitVec.ofNat 32 s.val) (BitVec.ofNat 32 k.val)) = (((s.val : ℝ) - (k.val : ℝ) : ℝ) : EReal) := by
  have e : IntOp.subi (BitVec.ofNat 32 s.val) (BitVec.ofNat 32 k.val) = BitVec.ofNat 32 (s.val - k.val) := by
    show BitVec.ofNat 32 s.val - BitVec.ofNat 32 k.val = _
    apply BitVec.eq_of_toNat_eq
    rw [BitVec.toNat_sub, BitVec.toNat_ofNat, BitVec.toNat_ofNat, BitVec.toNat_ofNat]
    omega
  rw [e, Cert.KernelIdeal.Gen.sitofp_nat _ _ (toInt_small _ (by omega)), Nat.cast_sub h]

variable (hx : ∀ b s j, x0 (ix3 b s j) = ((xa b s j : ℝ) : EReal)) (hk : ∀ b s j, x1 (ix3 b s j) = ((ka b s j : ℝ) : EReal))
  (hv : ∀ b s j, x2 (ix3 b s j) = ((va b s j : ℝ) : EReal))
include hx hk

theorem v138_at (b : Fin 2) (h : Fin 8) (g : Fin 4) (s k : Fin 896) :
    val_main_v138 (F := Ideal) x0 x1 (ix5 b h g s k) = if k.val ≤ s.val then ((scR xa ka b h g s k : ℝ) : EReal) else ⊥ := by
  rw [v138_split, sel_sgt]
  by_cases hks : k.val ≤ s.val
  · rw [if_pos hks, if_pos hks, dist_val s k hks, v113_at, Cert.KernelIdeal.Gen.sqrt_128,
      Finset.sum_congr rfl fun d _ => by rw [v104_at x1 ka hk, v95_at, v94_at x0 xa hx, ← EReal.coe_mul], coe_sum,
      Ideal.div_coe (by positivity), ← EReal.coe_mul, ← EReal.coe_mul, ← EReal.coe_sub]
    unfold scR headR groupR
    rw [div_eq_mul_one_div (∑ d' : Fin 128, _)]
    have e : ∀ d : Fin 128, (⟨h.val * 512 + (128 * g.val + d.val), by omega⟩ : Fin 4096) = ⟨(h.val * 4 + g.val) * 128 + d.val, by omega⟩ :=
      fun d => Fin.ext (by show h.val * 512 + (128 * g.val + d.val) = (h.val * 4 + g.val) * 128 + d.val; omega)
    simp only [e]
  · rw [if_neg hks, if_neg hks, ofBits_bot]

include hv

/-- The reference's result. -/
theorem v189_val (b : Fin 2) (s : Fin 896) (h : Fin 8) (g : Fin 4) (d : Fin 128) (D : Fin 4096) (hD : D.val = h.val * 512 + g.val * 128 + d.val) :
    val_main_v189 (F := Ideal) x0 x1 x2 (ix3 b s D)
      = ((attK (headR ka b h) (headR va b h) (groupR xa b h) (fun g => slopeR (4 * h.val + g.val)) s g d : ℝ) : EReal) := by
  have hq : ∀ k, ∃ e : ℤ, refE (amax (headR va b h k)) = ((e : ℝ) : EReal) ∧ ∀ d, refC ((headR va b h k d : ℝ) : EReal) ((e : ℝ) : EReal) = ((headR va b h k d * (2 : ℝ) ^ (-e) : ℝ) : EReal) :=
    fun k => ref_quant (by norm_num) (headR va b h k)
  choose ve he hc using hq
  have h72 : ∀ k, val_main_v72 (F := Ideal) x2 (ix4 b k h 0) = ((ve k : ℝ) : EReal) := fun k => by
    rw [v72_exp, v60_at, v59_at x2 b k h (headR va b h k) (fun d => hv _ _ _), he]
  have h80 : ∀ k, val_main_v80 (F := Ideal) x2 (ix4 b k h d) = ((headR va b h k d * (2 : ℝ) ^ (-ve k) : ℝ) : EReal) := fun k => by
    rw [v80_code, idx_v78, h72, v57_at, hv]
    exact hc k d
  have h152 : ∀ k, val_main_v152 (F := Ideal) x2 (ix5 b h g s k) = (((2 : ℝ) ^ ve k : ℝ) : EReal) := fun k => by
    rw [v152_at, v84_pow, h72, refP_int]
  have eh : (⟨D.val / 512, by omega⟩ : Fin 8) = h := Fin.ext (by show D.val / 512 = h.val; omega)
  have eg : (⟨D.val / 128 % 4, by omega⟩ : Fin 4) = g := Fin.ext (by show D.val / 128 % 4 = g.val; omega)
  have ed : (⟨D.val % 128, by omega⟩ : Fin 128) = d := Fin.ext (by show D.val % 128 = d.val; omega)
  have h168 : val_main_v168 (F := Ideal) x0 x1 x2 (ix5 b h g s 0)
      = refE (Finset.fold max (Ideal.ofBits FTy.f32 4286578688#32) (fun k => FloatOps.absf (F := Ideal) (φ := .f32) (val_main_v153 (F := Ideal) x0 x1 x2 (ix5 b h g s k))) Finset.univ) := by
    rw [v168_exp, v156_at]
  rw [v189_at, eh, eg, ed, v180_pow, h168]
  refine Eq.trans (congrArg₂ (· * ·) (Finset.sum_congr rfl fun k _ => ?_) rfl)
    (ref_row (n := 896) (by norm_num) (fun k => k.val ≤ s.val) ⟨s, le_refl _⟩ (scR xa ka b h g s) (fun k => headR va b h k d) ve
      (fun k => val_main_v138 (F := Ideal) x0 x1 (ix5 b h g s k)) (fun k => val_main_v145 (F := Ideal) x0 x1 (ix5 b h g s k))
      (fun k => val_main_v153 (F := Ideal) x0 x1 x2 (ix5 b h g s k))
      (fun k => v138_at xa ka hx hk b h g s k) (fun k => ?_) (fun k => ?_))
  · rw [h80, v176_code, idx_v174, h168]
  · show val_main_v145 (F := Ideal) x0 x1 (ix5 b h g s k) = _
    rw [v145_at, v143_at, v139_at]
  · show val_main_v153 (F := Ideal) x0 x1 x2 (ix5 b h g s k) = _
    rw [v153_at, v148_at, h152]

end Cert.ReferenceIdeal.Read

end
-- ==== Proof.KIn.lean ====
module

public import proofs.«01_k».proof.Proof.KBlk
public import proofs.«01_k».proof.Proof.KTabI
public import Idealize.ShloMosaic.Lib.Pipeline.ValueKit
public import proofs.«01_k».proof.Proof.RFin

/-! What the blocks of the inputs hold at a grid point, and the whole of `out` after the run. -/

@[expose] public section

set_option maxRecDepth 16384

noncomputable section

namespace Cert.KernelIdeal.Gen

open Idealize.ShloMosaic Cert.Attn Idealize.ShloMosaic.Pipeline
open Pointwise
open Cert.ReferenceIdeal.Read (headR groupR)

variable (m : (ℓ : Loc nD τ sig) → Buf (Elt Ideal) ℓ) (c : Dev nD)

/-- The batch and the key head of a grid point. -/
def bOf (t : Fin cfg0.N) : Fin 2 := ⟨(grid0.coords t 0).val, (grid0.coords t 0).isLt⟩
def hOf (t : Fin cfg0.N) : Fin 8 := ⟨(grid0.coords t 1).val, (grid0.coords t 1).isLt⟩

theorem ix_0 : ∀ t : Fin cfg0.N, win0_0.index t = ![(bOf t).val, 0, (hOf t).val] :=
  (by decide +kernel : ∀ t : Fin grid0.N, win0_0.index t = ![(grid0.coords t 0).val, 0, (grid0.coords t 1).val])
theorem ix_1 : ∀ t : Fin cfg0.N, win0_1.index t = ![(bOf t).val, 0, (hOf t).val] :=
  (by decide +kernel : ∀ t : Fin grid0.N, win0_1.index t = ![(grid0.coords t 0).val, 0, (grid0.coords t 1).val])
theorem ix_2 : ∀ t : Fin cfg0.N, win0_2.index t = ![(bOf t).val, 0, (hOf t).val] :=
  (by decide +kernel : ∀ t : Fin grid0.N, win0_2.index t = ![(grid0.coords t 0).val, 0, (grid0.coords t 1).val])
theorem ix_3 : ∀ t : Fin cfg0.N, win0_3.index t = ![0, 0] :=
  (by decide +kernel : ∀ t : Fin grid0.N, win0_3.index t = ![0, 0])
theorem ix_4 : ∀ t : Fin cfg0.N, win0_4.index t = ![(hOf t).val, 0, 0, 0] :=
  (by decide +kernel : ∀ t : Fin grid0.N, win0_4.index t = ![(grid0.coords t 1).val, 0, 0, 0])
theorem ix_5 : ∀ t : Fin cfg0.N, win0_5.index t = ![(bOf t).val, 0, (hOf t).val] :=
  (by decide +kernel : ∀ t : Fin grid0.N, win0_5.index t = ![(grid0.coords t 0).val, 0, (grid0.coords t 1).val])

variable (t : Fin cfg0.N)

theorem iblk0_at (s : Fin 896) (j : Fin 512) : (iblk m c 0 t : S1x896x512.Idx → Elt Ideal .bf16) (ix3 0 s j)
    = m ((c.tc : Thread nD τ).loc main_arg0) (ix3 (bOf t) s ⟨(hOf t).val * 512 + j.val, by omega⟩) := by
  have h : (iblk m c 0 t : S1x896x512.Idx → Elt Ideal .bf16) (ix3 0 s j)
      = V m c main_arg0 (((cfg0.win 0).blk t).view.emb (ix3 0 s j)) := rfl
  rw [h, V_main_arg0]
  congr 1
  funext a
  apply Fin.ext
  blk_simp [ix_0 t]
  fin_cases a <;> simp

theorem iblk1_at (s : Fin 896) (j : Fin 128) : (iblk m c 1 t : S1x896x128.Idx → Elt Ideal .bf16) (ix3 0 s j)
    = m ((c.tc : Thread nD τ).loc main_arg1) (ix3 (bOf t) s ⟨(hOf t).val * 128 + j.val, by omega⟩) := by
  have h : (iblk m c 1 t : S1x896x128.Idx → Elt Ideal .bf16) (ix3 0 s j)
      = V m c main_arg1 (((cfg0.win 1).blk t).view.emb (ix3 0 s j)) := rfl
  rw [h, V_main_arg1]
  congr 1
  funext a
  apply Fin.ext
  blk_simp [ix_1 t]
  fin_cases a <;> simp

theorem iblk2_at (s : Fin 896) (j : Fin 128) : (iblk m c 2 t : S1x896x128.Idx → Elt Ideal .bf16) (ix3 0 s j)
    = m ((c.tc : Thread nD τ).loc main_arg2) (ix3 (bOf t) s ⟨(hOf t).val * 128 + j.val, by omega⟩) := by
  have h : (iblk m c 2 t : S1x896x128.Idx → Elt Ideal .bf16) (ix3 0 s j)
      = V m c main_arg2 (((cfg0.win 2).blk t).view.emb (ix3 0 s j)) := rfl
  rw [h, V_main_arg2]
  congr 1
  funext a
  apply Fin.ext
  blk_simp [ix_2 t]
  fin_cases a <;> simp

theorem iblk3_at (s : Fin 896) (j : Fin 128) : (iblk m c 3 t : S896x128.Idx → Elt Ideal .bf16) (ix2 s j)
    = hv17 (F := Ideal) (ix2 s j) := by
  have h : (iblk m c 3 t : S896x128.Idx → Elt Ideal .bf16) (ix2 s j)
      = V m c main_v17 (((cfg0.win 3).blk t).view.emb (ix2 s j)) := rfl
  rw [h, V_keys]
  congr 1
  funext a
  apply Fin.ext
  blk_simp [ix_3 t]
  fin_cases a <;> simp

theorem iblk4_at (i : Fin 14) (j : Fin 16) (q : Fin 256) : (iblk m c 4 t : S1x14x16x256.Idx → Elt Ideal .bf16) (ix4 0 i j q)
    = hv75 (F := Ideal) (ix4 (hOf t) i j q) := by
  have h : (iblk m c 4 t : S1x14x16x256.Idx → Elt Ideal .bf16) (ix4 0 i j q)
      = V m c main_v75 (((cfg0.win 4).blk t).view.emb (ix4 0 i j q)) := rfl
  rw [h, V_queries]
  congr 1
  funext a
  apply Fin.ext
  blk_simp [ix_4 t]
  fin_cases a <;> simp

section
variable (xa : Fin 2 → Fin 896 → Fin 4096 → ℝ) (ka va : Fin 2 → Fin 896 → Fin 1024 → ℝ)

/-- The arguments hold real numbers below `2 ^ 128`. -/
structure ArgVals : Prop where
  hx : ∀ b s j, (m ((c.tc : Thread nD τ).loc main_arg0) : S2x896x4096.Idx → Elt Ideal .bf16) (ix3 b s j) = ((xa b s j : ℝ) : EReal)
  hk : ∀ b s j, (m ((c.tc : Thread nD τ).loc main_arg1) : S2x896x1024.Idx → Elt Ideal .bf16) (ix3 b s j) = ((ka b s j : ℝ) : EReal)
  hv : ∀ b s j, (m ((c.tc : Thread nD τ).loc main_arg2) : S2x896x1024.Idx → Elt Ideal .bf16) (ix3 b s j) = ((va b s j : ℝ) : EReal)
  bx : ∀ b s j, |xa b s j| < (2 : ℝ) ^ (128 : ℤ)
  bk : ∀ b s j, |ka b s j| < (2 : ℝ) ^ (128 : ℤ)
  bv : ∀ b s j, |va b s j| < (2 : ℝ) ^ (128 : ℤ)

variable {m c xa ka va}

theorem blockVals (A : ArgVals m c xa ka va) :
    BlockVals m c t (headR ka (bOf t) (hOf t)) (headR va (bOf t) (hOf t)) (groupR xa (bOf t) (hOf t)) (fun g => slopeR (4 * (hOf t).val + g.val)) where
  hx := fun s j => (iblk0_at m c t s j).trans (A.hx _ _ _)
  hk := fun s j => (iblk1_at m c t s j).trans (A.hk _ _ _)
  hv := fun s j => (iblk2_at m c t s j).trans (A.hv _ _ _)
  he := fun k j => (iblk3_at m c t k j).trans (keys_at k j)
  hb := fun i j q => (iblk4_at m c t i j q).trans (queries_at _ i j q)
  bx := fun s j => A.bx _ _ _
  bk := fun s j => A.bk _ _ _
  bv := fun s j => A.bv _ _ _

/-- The whole of `out`: every entry as the attention's. -/
def outG (xa : Fin 2 → Fin 896 → Fin 4096 → ℝ) (ka va : Fin 2 → Fin 896 → Fin 1024 → ℝ) (b : Fin 2) (s : Fin 896) (D : Fin 4096) : EReal :=
  ((attK (headR ka b ⟨D.val / 512, by omega⟩) (headR va b ⟨D.val / 512, by omega⟩) (groupR xa b ⟨D.val / 512, by omega⟩)
    (fun g => slopeR (4 * (D.val / 512) + g.val)) s ⟨D.val % 512 / 128, by omega⟩ ⟨D.val % 512 % 128, by omega⟩ : ℝ) : EReal)

theorem outG_block (b : Fin 2) (h : Fin 8) (y : S1x896x512.Idx) (D : Fin 4096) (hD : D.val = h.val * 512 + (y 2).val) (s : Fin 896) (hs : s = y 1) :
    attG (headR ka b h) (headR va b h) (groupR xa b h) (fun g => slopeR (4 * h.val + g.val)) y = outG xa ka va b s D := by
  have hy : (y 2).val < 512 := (y 2).isLt
  have e1 : (⟨D.val / 512, by omega⟩ : Fin 8) = h := Fin.ext (by show D.val / 512 = h.val; omega)
  have e2 : D.val / 512 = h.val := by omega
  have e3 : (⟨D.val % 512 / 128, by omega⟩ : Fin 4) = ⟨(y 2).val / 128, by omega⟩ := Fin.ext (by show D.val % 512 / 128 = (y 2).val / 128; omega)
  have e4 : (⟨D.val % 512 % 128, by omega⟩ : Fin 128) = ⟨(y 2).val % 128, by omega⟩ := Fin.ext (by show D.val % 512 % 128 = (y 2).val % 128; omega)
  unfold attG outG
  rw [e1, e2, e3, e4, hs]

end

end Cert.KernelIdeal.Gen

end
-- ==== Proof.KFin.lean ====
module

public import proofs.«01_k».proof.Proof.KIn
public import proofs.«01_k».proof.Proof.KTabI
public import Idealize.ShloMosaic.Lib.Pipeline.ValueKit
public import proofs.«01_k».proof.Proof.RFin

/-! The whole of `out` after the run. -/

@[expose] public section

set_option maxRecDepth 16384

noncomputable section

namespace Cert.KernelIdeal.Gen

open Idealize.ShloMosaic Cert.Attn Idealize.ShloMosaic.Pipeline
open Pointwise
open Cert.ReferenceIdeal.Read (headR groupR)

variable {m : (ℓ : Loc nD τ sig) → Buf (Elt Ideal) ℓ} {c : Dev nD}
variable {xa : Fin 2 → Fin 896 → Fin 4096 → ℝ} {ka va : Fin 2 → Fin 896 → Fin 1024 → ℝ}

theorem covers5 : (cfg0.win 5).Covers := by decide +kernel

/-- Where an index of a block of `out` stands in the array. -/
def at5 (t : Fin cfg0.N) (y : S1x896x512.Idx) : S2x896x4096.Idx :=
  ix3 (bOf t) (show Fin 896 from y 1) ⟨(hOf t).val * 512 + (y 2).val, by have : (y 2).val < 512 := (y 2).isLt; omega⟩

theorem emb5 (t : Fin cfg0.N) (y : S1x896x512.Idx) : ((cfg0.win 5).blk t).view.emb y = at5 t y := by
  have h0 : (y 0).val < 1 := (y 0).isLt
  funext a
  apply Fin.ext
  blk_simp [ix_5 t]
  fin_cases a
  · simp [at5]
  · simp [at5]
  · simp [at5]

/-- The array that the run leaves. -/
def arrG (xa : Fin 2 → Fin 896 → Fin 4096 → ℝ) (ka va : Fin 2 → Fin 896 → Fin 1024 → ℝ) : S2x896x4096.Idx → Elt Ideal .bf16 :=
  fun i => outG xa ka va (i 0) (i 1) (i 2)

theorem after5 (A : ArgVals m c xa ka va) (t : Fin cfg0.N) (y : S1x896x512.Idx) : (dats m 0 c).after 5 t y = arrG xa ka va (at5 t y) := by
  rw [after0_5]
  exact (outAt_val (blockVals t A) y).trans (outG_block _ _ y _ rfl _ rfl)

theorem arr5 (A : ArgVals m c xa ka va) : (dats m 0 c).arrAt 5 cfg0.N = arrG xa ka va := by
  refine (dats m 0 c).arrAt_eq_of_covers 5 (arrG xa ka va) covers5 fun t hf y => ?_
  rw [emb5 t y]
  exact after5 A t y

/-- The run, with `out` named and the arguments unchanged. -/
theorem run_out (ρ) (A : ∀ c, ∃ xa ka va, ArgVals m c xa ka va) :
    θ_run defs (onTc (τ := τ) (main (F := Ideal))) ⟨m, fun _ => 0, ρ⟩ (fun r => ∀ c : Dev nD,
      (∀ xa ka va, ArgVals m c xa ka va → r.2.mem ((c.tc : Thread nD τ).loc main_v76_0) = arrG xa ka va)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨fun xa ka va hA => by
      have h5 := (h.1 c).1 5
      have h6 := ((dats m 0 c).toRForget_arrAt_iff (fgt := forgets0) (w := 5) rfl cfg0.N _).mp h5
      exact h6.trans (arr5 hA), h.2 c⟩)
    (θ_run_and (run_main m ρ) (unchanged m ρ))

end Cert.KernelIdeal.Gen

end
-- ==== Proof.PreFin.lean ====
module

public import proofs.«01_k».proof.Pre_finite
public import Idealize.ShloMosaic.Lib.ReduceAll
public import Idealize.ShloMosaic.Lib.Exec
public import Idealize.ShloMosaic.PureOps.Ideal

/-! The precondition read back: the arguments hold real numbers below `2 ^ 128`. -/

@[expose] public section

set_option maxRecDepth 16384

noncomputable section

namespace Cert.Pre_finite

open Idealize.ShloMosaic

theorem facts : Facts where
  bcast_S_S2x896x4096 := by decide
  reducesTo_S2x896x4096_S_d0_1_2 := by decide
  h_S_ := by decide
  bcast_S_S2x896x1024 := by decide
  reducesTo_S2x896x1024_S_d0_1_2 := by decide

theorem top_val : Ideal.ofBits FTy.bf16 0x7F7F#16 = ((255 * (2 : ℝ) ^ (120 : ℤ) : ℝ) : EReal) := by
  simp [Ideal.ofBits, Ideal.ieee, -EReal.coe_mul, -EReal.coe_neg]

theorem real_of_le (x : EReal) (h : Ideal.cmp .ole (max x (-x)) (Ideal.ofBits FTy.bf16 0x7F7F#16) = 1#1) :
    ∃ r : ℝ, x = (r : EReal) ∧ |r| < (2 : ℝ) ^ (128 : ℤ) := by
  have h' : max x (-x) ≤ ((255 * (2 : ℝ) ^ (120 : ℤ) : ℝ) : EReal) := by
    rw [top_val] at h
    generalize (255 * (2 : ℝ) ^ (120 : ℤ)) = M at h ⊢
    by_contra hn
    have e : Ideal.cmp .ole (max x (-x)) (M : EReal) = BitVec.ofBool (decide (max x (-x) ≤ (M : EReal))) := rfl
    rw [e, decide_eq_false hn] at h
    exact absurd h (by decide)
  induction x using EReal.rec with
  | bot => exact absurd ((le_max_right _ _).trans h') (by rw [EReal.neg_bot]; exact not_le.2 (EReal.coe_lt_top _))
  | top => exact absurd ((le_max_left _ _).trans h') (not_le.2 (EReal.coe_lt_top _))
  | coe r =>
    refine ⟨r, rfl, ?_⟩
    have h1 : r ≤ 255 * (2 : ℝ) ^ (120 : ℤ) := by exact_mod_cast (le_max_left _ _).trans h'
    have h2 : -r ≤ 255 * (2 : ℝ) ^ (120 : ℤ) := by exact_mod_cast (le_max_right _ _).trans h'
    refine (abs_le.2 ⟨by linarith, h1⟩ : |r| ≤ 255 * (2 : ℝ) ^ (120 : ℤ)).trans_lt ?_
    norm_num

theorem reals [Facts] (x : FVec Ideal S2x896x4096 .bf16) (k v : FVec Ideal S2x896x1024 .bf16) (h : fn x k v = fun _ => 1#1) :
    (∀ i, ∃ r : ℝ, x i = (r : EReal) ∧ |r| < (2 : ℝ) ^ (128 : ℤ)) ∧ (∀ i, ∃ r : ℝ, k i = (r : EReal) ∧ |r| < (2 : ℝ) ^ (128 : ℤ))
      ∧ ∀ i, ∃ r : ℝ, v i = (r : EReal) ∧ |r| < (2 : ℝ) ^ (128 : ℤ) := by
  have hs : Subsingleton S_.Idx := ⟨fun a b => funext fun i => i.elim0⟩
  have h0 := congrFun h (fun a => a.elim0 : S_.Idx)
  obtain ⟨h1, hv⟩ := IntOp.andi_eq_one.1 h0
  obtain ⟨hx, hk⟩ := IntOp.andi_eq_one.1 h1
  refine ⟨fun i => real_of_le _ ?_, fun i => real_of_le _ ?_, fun i => real_of_le _ ?_⟩
  · exact Host.reduce_andi_all _ _ _ _ _ hx i
  · exact Host.reduce_andi_all _ _ _ _ _ hk i
  · exact Host.reduce_andi_all _ _ _ _ _ hv i

end Cert.Pre_finite

end
-- ==== Proof.Alg.lean ====
module

public import proofs.«01_k».proof.Defs
public import proofs.«01_k».proof.Proof.KFin
public import proofs.«01_k».proof.Proof.RFin
public import proofs.«01_k».proof.Proof.PreFin
public import proofs.«01_k».proof.Proof.Gen.ReferenceIdeal.Run
public import proofs.«01_k».proof.Proof.Gen.ReferenceIdeal.Read

/-! The frame of the reference, and the kernel's result equal to the reference's over the reals. -/

@[expose] public section

set_option maxRecDepth 16384

noncomputable section

namespace Cert.Attn

open Idealize.ShloMosaic Pointwise
open Cert.KernelIdeal.Gen (ArgVals arrG outG)
open Cert.ReferenceIdeal.Read (headR groupR)

/-- The reference runs, leaves its arguments alone, and has no semaphore. -/
theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the arguments are reals below `2 ^ 128`. -/
theorem argVals (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    ∃ xa ka va, ArgVals m c xa ka va := by
  haveI := Cert.Pre_finite.facts
  obtain ⟨hx, hk, hv⟩ := Cert.Pre_finite.reals _ _ _ (h c)
  choose X hX using hx
  choose K hK using hk
  choose V hV using hv
  exact ⟨fun b s j => X (ix3 b s j), fun b s j => K (ix3 b s j), fun b s j => V (ix3 b s j),
    ⟨fun _ _ _ => (hX _).1, fun _ _ _ => (hK _).1, fun _ _ _ => (hV _).1, fun _ _ _ => (hX _).2, fun _ _ _ => (hK _).2, fun _ _ _ => (hV _).2⟩⟩

/-- The reference's result as an array. -/
theorem ref_arr (x0 : (⟨Cert.ReferenceIdeal.S2x896x4096, .bf16⟩ : BufTy).Contents (Elt Ideal)) (x1 x2 : (⟨Cert.ReferenceIdeal.S2x896x1024, .bf16⟩ : BufTy).Contents (Elt Ideal))
    (xa : Fin 2 → Fin 896 → Fin 4096 → ℝ) (ka va : Fin 2 → Fin 896 → Fin 1024 → ℝ)
    (hx : ∀ b s j, x0 (ix3 b s j) = ((xa b s j : ℝ) : EReal)) (hk : ∀ b s j, x1 (ix3 b s j) = ((ka b s j : ℝ) : EReal))
    (hv : ∀ b s j, x2 (ix3 b s j) = ((va b s j : ℝ) : EReal)) (i : Cert.ReferenceIdeal.S2x896x4096.Idx) :
    Cert.ReferenceIdeal.Read.val_main_v189 (F := Ideal) x0 x1 x2 i = outG xa ka va (i 0) (i 1) (i 2) := by
  have hi : i = ix3 (i 0) (i 1) (i 2) := by
    funext a
    fin_cases a <;> rfl
  have h2 : (i 2).val < 4096 := (i 2).isLt
  rw [hi]
  exact Cert.ReferenceIdeal.Read.v189_val xa ka va hx hk hv (i 0) (i 1) ⟨(i 2).val / 512, by omega⟩ ⟨(i 2).val % 512 / 128, by omega⟩
    ⟨(i 2).val % 512 % 128, by omega⟩ (i 2) (by show (i 2).val = (i 2).val / 512 * 512 + (i 2).val % 512 / 128 * 128 + (i 2).val % 512 % 128; omega)

/-- The two programs' results are equal over the reals. -/
theorem algebraic : Cert.algebraic_KernelIdeal_ReferenceIdeal_pre_finite (hPre_finite := Cert.Pre_finite.facts) := by
  intro m ρ m' ρ' hpre hargs
  have A := argVals m hpre
  choose xa ka va hA using A
  refine ⟨fun c => arrG (xa c) (ka c) (va c), ?_, ?_⟩
  · exact (θ_run Cert.KernelIdeal.defs _ _).mono (fun r h c => ⟨(h c).1 _ _ _ (hA c), (h c).2⟩)
      (Cert.KernelIdeal.Gen.run_out ρ fun c => ⟨_, _, _, hA c⟩)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v189_eq]
    obtain ⟨e0, e1, e2⟩ := hargs c
    funext i
    exact ref_arr _ _ _ (xa c) (ka c) (va c) (fun b s j => (congrFun e0 _).trans ((hA c).hx b s j)) (fun b s j => (congrFun e1 _).trans ((hA c).hk b s j))
      (fun b s j => (congrFun e2 _).trans ((hA c).hv b s j)) i

end Cert.Attn

end
-- ==== Proof.lean ====
module

public import proofs.«01_k».proof.Defs
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal.Run
public import proofs.«01_k».proof.Proof.Gen.ReferenceIdeal.Read
public import proofs.«01_k».proof.Proof.PFrame
public import proofs.«01_k».proof.Proof.KFrame
public import proofs.«01_k».proof.Proof.Alg

@[expose] public section

open Idealize.ShloMosaic

/-- The frames of the kernel, of the kernel over the reals and of the reference; what the two named constants stand for;
    and the equality of the attention output over the reals for finite arguments. -/
theorem Cert.Proof.claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    Cert.Attn.ref_frame,
    fun m ρ _ => Cert.Attn.ref_frame m ρ trivial,
    ⟨IdealRules.named_const.statement Cert.KernelIdeal.κ "mask" .f32 0xF149F2CA#32 ⊥ rfl,
      IdealRules.named_const.statement Cert.KernelIdeal.κ "score_to_log2" .f32 0x3E0293EE#32 _ rfl⟩,
    Cert.Attn.algebraic⟩
